-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite [hPre_mla_finite : Cert.Pre_mla_finite.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_GqaProj (m : (ℓ : Loc Cert.GqaProj.nD Cert.GqaProj.τ Cert.GqaProj.sig) → Buf (Elt Bits) ℓ) : Prop :=
  True

def Pre_GqaProjIdeal (m : (ℓ : Loc Cert.GqaProjIdeal.nD Cert.GqaProjIdeal.τ Cert.GqaProjIdeal.sig) → Buf (Elt Ideal) ℓ) : Prop :=
  True

def Pre_GqaProjRefIdeal (m : (ℓ : Loc Cert.GqaProjRefIdeal.nD Cert.GqaProjRefIdeal.τ Cert.GqaProjRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_mla_finite [hMlaIdeal : Cert.MlaIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_GqaProj [hGqaProj : Cert.GqaProj.Facts] : Prop :=
  ∀ (m : (ℓ : Loc Cert.GqaProj.nD Cert.GqaProj.τ Cert.GqaProj.sig) → Buf (Elt Bits) ℓ) (g : Dev Cert.GqaProj.nD → PrngReg), Pre_GqaProj m →
    θ_run (Cert.GqaProj.defs (F := Bits)) (onTc (τ := Cert.GqaProj.τ) (Cert.GqaProj.main (F := Bits))) ⟨m, fun _ => 0, g⟩ (fun r => (∀ c : Dev Cert.GqaProj.nD,
      r.2.mem ((c.tc : Thread Cert.GqaProj.nD Cert.GqaProj.τ).loc Cert.GqaProj.main_arg0) = m ((c.tc : Thread Cert.GqaProj.nD Cert.GqaProj.τ).loc Cert.GqaProj.main_arg0)
      ∧ r.2.mem ((c.tc : Thread Cert.GqaProj.nD Cert.GqaProj.τ).loc Cert.GqaProj.main_arg1) = m ((c.tc : Thread Cert.GqaProj.nD Cert.GqaProj.τ).loc Cert.GqaProj.main_arg1)
      ∧ r.2.mem ((c.tc : Thread Cert.GqaProj.nD Cert.GqaProj.τ).loc Cert.GqaProj.main_arg2) = m ((c.tc : Thread Cert.GqaProj.nD Cert.GqaProj.τ).loc Cert.GqaProj.main_arg2)
      ∧ r.2.mem ((c.tc : Thread Cert.GqaProj.nD Cert.GqaProj.τ).loc Cert.GqaProj.main_arg3) = m ((c.tc : Thread Cert.GqaProj.nD Cert.GqaProj.τ).loc Cert.GqaProj.main_arg3)
      ∧ r.2.mem ((c.tc : Thread Cert.GqaProj.nD Cert.GqaProj.τ).loc Cert.GqaProj.main_arg4) = m ((c.tc : Thread Cert.GqaProj.nD Cert.GqaProj.τ).loc Cert.GqaProj.main_arg4)
      ∧ r.2.mem ((c.tc : Thread Cert.GqaProj.nD Cert.GqaProj.τ).loc Cert.GqaProj.main_arg5) = m ((c.tc : Thread Cert.GqaProj.nD Cert.GqaProj.τ).loc Cert.GqaProj.main_arg5))
      ∧ r.2.sem = fun _ => 0)

def quiescent_GqaProjIdeal [hGqaProjIdeal : Cert.GqaProjIdeal.Facts] : Prop :=
  ∀ (m : (ℓ : Loc Cert.GqaProjIdeal.nD Cert.GqaProjIdeal.τ Cert.GqaProjIdeal.sig) → Buf (Elt Ideal) ℓ) (g : Dev Cert.GqaProjIdeal.nD → PrngReg), Pre_GqaProjIdeal m →
    θ_run (Cert.GqaProjIdeal.defs (F := Ideal)) (onTc (τ := Cert.GqaProjIdeal.τ) (Cert.GqaProjIdeal.main (F := Ideal))) ⟨m, fun _ => 0, g⟩ (fun r => (∀ c : Dev Cert.GqaProjIdeal.nD,
      r.2.mem ((c.tc : Thread Cert.GqaProjIdeal.nD Cert.GqaProjIdeal.τ).loc Cert.GqaProjIdeal.main_arg0) = m ((c.tc : Thread Cert.GqaProjIdeal.nD Cert.GqaProjIdeal.τ).loc Cert.GqaProjIdeal.main_arg0)
      ∧ r.2.mem ((c.tc : Thread Cert.GqaProjIdeal.nD Cert.GqaProjIdeal.τ).loc Cert.GqaProjIdeal.main_arg1) = m ((c.tc : Thread Cert.GqaProjIdeal.nD Cert.GqaProjIdeal.τ).loc Cert.GqaProjIdeal.main_arg1)
      ∧ r.2.mem ((c.tc : Thread Cert.GqaProjIdeal.nD Cert.GqaProjIdeal.τ).loc Cert.GqaProjIdeal.main_arg2) = m ((c.tc : Thread Cert.GqaProjIdeal.nD Cert.GqaProjIdeal.τ).loc Cert.GqaProjIdeal.main_arg2)
      ∧ r.2.mem ((c.tc : Thread Cert.GqaProjIdeal.nD Cert.GqaProjIdeal.τ).loc Cert.GqaProjIdeal.main_arg3) = m ((c.tc : Thread Cert.GqaProjIdeal.nD Cert.GqaProjIdeal.τ).loc Cert.GqaProjIdeal.main_arg3)
      ∧ r.2.mem ((c.tc : Thread Cert.GqaProjIdeal.nD Cert.GqaProjIdeal.τ).loc Cert.GqaProjIdeal.main_arg4) = m ((c.tc : Thread Cert.GqaProjIdeal.nD Cert.GqaProjIdeal.τ).loc Cert.GqaProjIdeal.main_arg4)
      ∧ r.2.mem ((c.tc : Thread Cert.GqaProjIdeal.nD Cert.GqaProjIdeal.τ).loc Cert.GqaProjIdeal.main_arg5) = m ((c.tc : Thread Cert.GqaProjIdeal.nD Cert.GqaProjIdeal.τ).loc Cert.GqaProjIdeal.main_arg5))
      ∧ r.2.sem = fun _ => 0)

def quiescent_GqaProjRefIdeal [hGqaProjRefIdeal : Cert.GqaProjRefIdeal.Facts] : Prop :=
  ∀ (m : (ℓ : Loc Cert.GqaProjRefIdeal.nD Cert.GqaProjRefIdeal.τ Cert.GqaProjRefIdeal.sig) → Buf (Elt Ideal) ℓ) (g : Dev Cert.GqaProjRefIdeal.nD → PrngReg), Pre_GqaProjRefIdeal m →
    θ_run (Cert.GqaProjRefIdeal.defs (F := Ideal)) (onTc (τ := Cert.GqaProjRefIdeal.τ) (Cert.GqaProjRefIdeal.main (F := Ideal))) ⟨m, fun _ => 0, g⟩ (fun r => (∀ c : Dev Cert.GqaProjRefIdeal.nD,
      r.2.mem ((c.tc : Thread Cert.GqaProjRefIdeal.nD Cert.GqaProjRefIdeal.τ).loc Cert.GqaProjRefIdeal.main_arg0) = m ((c.tc : Thread Cert.GqaProjRefIdeal.nD Cert.GqaProjRefIdeal.τ).loc Cert.GqaProjRefIdeal.main_arg0)
      ∧ r.2.mem ((c.tc : Thread Cert.GqaProjRefIdeal.nD Cert.GqaProjRefIdeal.τ).loc Cert.GqaProjRefIdeal.main_arg1) = m ((c.tc : Thread Cert.GqaProjRefIdeal.nD Cert.GqaProjRefIdeal.τ).loc Cert.GqaProjRefIdeal.main_arg1)
      ∧ r.2.mem ((c.tc : Thread Cert.GqaProjRefIdeal.nD Cert.GqaProjRefIdeal.τ).loc Cert.GqaProjRefIdeal.main_arg2) = m ((c.tc : Thread Cert.GqaProjRefIdeal.nD Cert.GqaProjRefIdeal.τ).loc Cert.GqaProjRefIdeal.main_arg2)
      ∧ r.2.mem ((c.tc : Thread Cert.GqaProjRefIdeal.nD Cert.GqaProjRefIdeal.τ).loc Cert.GqaProjRefIdeal.main_arg3) = m ((c.tc : Thread Cert.GqaProjRefIdeal.nD Cert.GqaProjRefIdeal.τ).loc Cert.GqaProjRefIdeal.main_arg3)
      ∧ r.2.mem ((c.tc : Thread Cert.GqaProjRefIdeal.nD Cert.GqaProjRefIdeal.τ).loc Cert.GqaProjRefIdeal.main_arg4) = m ((c.tc : Thread Cert.GqaProjRefIdeal.nD Cert.GqaProjRefIdeal.τ).loc Cert.GqaProjRefIdeal.main_arg4)
      ∧ r.2.mem ((c.tc : Thread Cert.GqaProjRefIdeal.nD Cert.GqaProjRefIdeal.τ).loc Cert.GqaProjRefIdeal.main_arg5) = m ((c.tc : Thread Cert.GqaProjRefIdeal.nD Cert.GqaProjRefIdeal.τ).loc Cert.GqaProjRefIdeal.main_arg5))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
      ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5)
      ∧ r.2.mem ((c.tc : Thread Cert.MlaProjRefIdeal.nD Cert.MlaProjRefIdeal.τ).loc Cert.MlaProjRefIdeal.main_arg6) = m ((c.tc : Thread Cert.MlaProjRefIdeal.nD Cert.MlaProjRefIdeal.τ).loc Cert.MlaProjRefIdeal.main_arg6)
      ∧ r.2.mem ((c.tc : Thread Cert.MlaProjRefIdeal.nD Cert.MlaProjRefIdeal.τ).loc Cert.MlaProjRefIdeal.main_arg7) = m ((c.tc : Thread Cert.MlaProjRefIdeal.nD Cert.MlaProjRefIdeal.τ).loc Cert.MlaProjRefIdeal.main_arg7)
      ∧ r.2.mem ((c.tc : Thread Cert.MlaProjRefIdeal.nD Cert.MlaProjRefIdeal.τ).loc Cert.MlaProjRefIdeal.main_arg8) = m ((c.tc : Thread Cert.MlaProjRefIdeal.nD Cert.MlaProjRefIdeal.τ).loc Cert.MlaProjRefIdeal.main_arg8))
      ∧ r.2.sem = fun _ => 0)

def preserves_Mla_MlaIdeal : Prop :=
  True

def algebraic_MlaIdeal_MlaRefIdeal_pre_mla_finite [hMlaIdeal : Cert.MlaIdeal.Facts] [hMlaRefIdeal : Cert.MlaRefIdeal.Facts] [hPre_mla_finite : Cert.Pre_mla_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v3)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v3) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v51) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v3)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v3) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v51) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v66) = v0 c
          ∧ r.2.mem ((c.tc : Thread Cert.ConvRefIdeal.nD Cert.ConvRefIdeal.τ).loc Cert.ConvRefIdeal.main_v69) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_GqaProj_GqaProjIdeal : Prop :=
  IdealRules.named_const.Statement Cert.GqaProjIdeal.κ "scale" .f32 0x3E0293EE#32 (((Real.sqrt 128)⁻¹ * (Real.log 2)⁻¹ : ℝ) : EReal)

def algebraic_GqaProjIdeal_GqaProjRefIdeal [hGqaProjIdeal : Cert.GqaProjIdeal.Facts] [hGqaProjRefIdeal : Cert.GqaProjRefIdeal.Facts] : Prop :=
  ∀ (m : (ℓ : Loc Cert.GqaProjIdeal.nD Cert.GqaProjIdeal.τ Cert.GqaProjIdeal.sig) → Buf (Elt Ideal) ℓ) (g : Dev Cert.GqaProjIdeal.nD → PrngReg)
    (m' : (ℓ : Loc Cert.GqaProjRefIdeal.nD Cert.GqaProjRefIdeal.τ Cert.GqaProjRefIdeal.sig) → Buf (Elt Ideal) ℓ) (g' : Dev Cert.GqaProjRefIdeal.nD → PrngReg), Pre_GqaProjIdeal m →
    (∀ c : Dev Cert.GqaProjIdeal.nD,
      m' ((c.tc : Thread Cert.GqaProjRefIdeal.nD Cert.GqaProjRefIdeal.τ).loc Cert.GqaProjRefIdeal.main_arg0) = m ((c.tc : Thread Cert.GqaProjIdeal.nD Cert.GqaProjIdeal.τ).loc Cert.GqaProjIdeal.main_arg0)
      ∧ m' ((c.tc : Thread Cert.GqaProjRefIdeal.nD Cert.GqaProjRefIdeal.τ).loc Cert.GqaProjRefIdeal.main_arg1) = m ((c.tc : Thread Cert.GqaProjIdeal.nD Cert.GqaProjIdeal.τ).loc Cert.GqaProjIdeal.main_arg1)
      ∧ m' ((c.tc : Thread Cert.GqaProjRefIdeal.nD Cert.GqaProjRefIdeal.τ).loc Cert.GqaProjRefIdeal.main_arg2) = m ((c.tc : Thread Cert.GqaProjIdeal.nD Cert.GqaProjIdeal.τ).loc Cert.GqaProjIdeal.main_arg2)
      ∧ m' ((c.tc : Thread Cert.GqaProjRefIdeal.nD Cert.GqaProjRefIdeal.τ).loc Cert.GqaProjRefIdeal.main_arg3) = m ((c.tc : Thread Cert.GqaProjIdeal.nD Cert.GqaProjIdeal.τ).loc Cert.GqaProjIdeal.main_arg3)
      ∧ m' ((c.tc : Thread Cert.GqaProjRefIdeal.nD Cert.GqaProjRefIdeal.τ).loc Cert.GqaProjRefIdeal.main_arg4) = m ((c.tc : Thread Cert.GqaProjIdeal.nD Cert.GqaProjIdeal.τ).loc Cert.GqaProjIdeal.main_arg4)
      ∧ m' ((c.tc : Thread Cert.GqaProjRefIdeal.nD Cert.GqaProjRefIdeal.τ).loc Cert.GqaProjRefIdeal.main_arg5) = m ((c.tc : Thread Cert.GqaProjIdeal.nD Cert.GqaProjIdeal.τ).loc Cert.GqaProjIdeal.main_arg5)) →
    ∃ (v0 : (c : Dev Cert.GqaProjIdeal.nD) → Buf (Elt Ideal) ((c.tc : Thread Cert.GqaProjIdeal.nD Cert.GqaProjIdeal.τ).loc Cert.GqaProjIdeal.main_v63_0)) (v1 : (c : Dev Cert.GqaProjIdeal.nD) → Buf (Elt Ideal) ((c.tc : Thread Cert.GqaProjIdeal.nD Cert.GqaProjIdeal.τ).loc Cert.GqaProjIdeal.main_v63_1)) (v2 : (c : Dev Cert.GqaProjIdeal.nD) → Buf (Elt Ideal) ((c.tc : Thread Cert.GqaProjIdeal.nD Cert.GqaProjIdeal.τ).loc Cert.GqaProjIdeal.main_v63_2)),
      θ_run (Cert.GqaProjIdeal.defs (F := Ideal)) (onTc (τ := Cert.GqaProjIdeal.τ) (Cert.GqaProjIdeal.main (F := Ideal))) ⟨m, fun _ => 0, g⟩ (fun r => ∀ c : Dev Cert.GqaProjIdeal.nD,
          r.2.mem ((c.tc : Thread Cert.GqaProjIdeal.nD Cert.GqaProjIdeal.τ).loc Cert.GqaProjIdeal.main_v63_0) = v0 c
          ∧ r.2.mem ((c.tc : Thread Cert.GqaProjIdeal.nD Cert.GqaProjIdeal.τ).loc Cert.GqaProjIdeal.main_v63_1) = v1 c
          ∧ r.2.mem ((c.tc : Thread Cert.GqaProjIdeal.nD Cert.GqaProjIdeal.τ).loc Cert.GqaProjIdeal.main_v63_2) = v2 c
          ∧ r.2.mem ((c.tc : Thread Cert.GqaProjIdeal.nD Cert.GqaProjIdeal.τ).loc Cert.GqaProjIdeal.main_arg0) = m ((c.tc : Thread Cert.GqaProjIdeal.nD Cert.GqaProjIdeal.τ).loc Cert.GqaProjIdeal.main_arg0)
          ∧ r.2.mem ((c.tc : Thread Cert.GqaProjIdeal.nD Cert.GqaProjIdeal.τ).loc Cert.GqaProjIdeal.main_arg1) = m ((c.tc : Thread Cert.GqaProjIdeal.nD Cert.GqaProjIdeal.τ).loc Cert.GqaProjIdeal.main_arg1)
          ∧ r.2.mem ((c.tc : Thread Cert.GqaProjIdeal.nD Cert.GqaProjIdeal.τ).loc Cert.GqaProjIdeal.main_arg2) = m ((c.tc : Thread Cert.GqaProjIdeal.nD Cert.GqaProjIdeal.τ).loc Cert.GqaProjIdeal.main_arg2)
          ∧ r.2.mem ((c.tc : Thread Cert.GqaProjIdeal.nD Cert.GqaProjIdeal.τ).loc Cert.GqaProjIdeal.main_arg3) = m ((c.tc : Thread Cert.GqaProjIdeal.nD Cert.GqaProjIdeal.τ).loc Cert.GqaProjIdeal.main_arg3)
          ∧ r.2.mem ((c.tc : Thread Cert.GqaProjIdeal.nD Cert.GqaProjIdeal.τ).loc Cert.GqaProjIdeal.main_arg4) = m ((c.tc : Thread Cert.GqaProjIdeal.nD Cert.GqaProjIdeal.τ).loc Cert.GqaProjIdeal.main_arg4)
          ∧ r.2.mem ((c.tc : Thread Cert.GqaProjIdeal.nD Cert.GqaProjIdeal.τ).loc Cert.GqaProjIdeal.main_arg5) = m ((c.tc : Thread Cert.GqaProjIdeal.nD Cert.GqaProjIdeal.τ).loc Cert.GqaProjIdeal.main_arg5))
      ∧ θ_run (Cert.GqaProjRefIdeal.defs (F := Ideal)) (onTc (τ := Cert.GqaProjRefIdeal.τ) (Cert.GqaProjRefIdeal.main (F := Ideal))) ⟨m', fun _ => 0, g'⟩ (fun r => ∀ c : Dev Cert.GqaProjRefIdeal.nD,
          r.2.mem ((c.tc : Thread Cert.GqaProjRefIdeal.nD Cert.GqaProjRefIdeal.τ).loc Cert.GqaProjRefIdeal.main_v316) = v0 c
          ∧ r.2.mem ((c.tc : Thread Cert.GqaProjRefIdeal.nD Cert.GqaProjRefIdeal.τ).loc Cert.GqaProjRefIdeal.main_v319) = v1 c
          ∧ r.2.mem ((c.tc : Thread Cert.GqaProjRefIdeal.nD Cert.GqaProjRefIdeal.τ).loc Cert.GqaProjRefIdeal.main_v322) = v2 c
          ∧ r.2.mem ((c.tc : Thread Cert.GqaProjRefIdeal.nD Cert.GqaProjRefIdeal.τ).loc Cert.GqaProjRefIdeal.main_arg0) = m' ((c.tc : Thread Cert.GqaProjRefIdeal.nD Cert.GqaProjRefIdeal.τ).loc Cert.GqaProjRefIdeal.main_arg0)
          ∧ r.2.mem ((c.tc : Thread Cert.GqaProjRefIdeal.nD Cert.GqaProjRefIdeal.τ).loc Cert.GqaProjRefIdeal.main_arg1) = m' ((c.tc : Thread Cert.GqaProjRefIdeal.nD Cert.GqaProjRefIdeal.τ).loc Cert.GqaProjRefIdeal.main_arg1)
          ∧ r.2.mem ((c.tc : Thread Cert.GqaProjRefIdeal.nD Cert.GqaProjRefIdeal.τ).loc Cert.GqaProjRefIdeal.main_arg2) = m' ((c.tc : Thread Cert.GqaProjRefIdeal.nD Cert.GqaProjRefIdeal.τ).loc Cert.GqaProjRefIdeal.main_arg2)
          ∧ r.2.mem ((c.tc : Thread Cert.GqaProjRefIdeal.nD Cert.GqaProjRefIdeal.τ).loc Cert.GqaProjRefIdeal.main_arg3) = m' ((c.tc : Thread Cert.GqaProjRefIdeal.nD Cert.GqaProjRefIdeal.τ).loc Cert.GqaProjRefIdeal.main_arg3)
          ∧ r.2.mem ((c.tc : Thread Cert.GqaProjRefIdeal.nD Cert.GqaProjRefIdeal.τ).loc Cert.GqaProjRefIdeal.main_arg4) = m' ((c.tc : Thread Cert.GqaProjRefIdeal.nD Cert.GqaProjRefIdeal.τ).loc Cert.GqaProjRefIdeal.main_arg4)
          ∧ r.2.mem ((c.tc : Thread Cert.GqaProjRefIdeal.nD Cert.GqaProjRefIdeal.τ).loc Cert.GqaProjRefIdeal.main_arg5) = m' ((c.tc : Thread Cert.GqaProjRefIdeal.nD Cert.GqaProjRefIdeal.τ).loc Cert.GqaProjRefIdeal.main_arg5))

def preserves_MlaProj_MlaProjIdeal : Prop :=
  IdealRules.named_const.Statement Cert.MlaProjIdeal.κ "scale" .f32 0x3DD53B95#32 (((Real.sqrt 192)⁻¹ * (Real.log 2)⁻¹ : ℝ) : EReal)

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)
      ∧ m' ((c.tc : Thread Cert.MlaProjRefIdeal.nD Cert.MlaProjRefIdeal.τ).loc Cert.MlaProjRefIdeal.main_arg6) = m ((c.tc : Thread Cert.MlaProjIdeal.nD Cert.MlaProjIdeal.τ).loc Cert.MlaProjIdeal.main_arg6)
      ∧ m' ((c.tc : Thread Cert.MlaProjRefIdeal.nD Cert.MlaProjRefIdeal.τ).loc Cert.MlaProjRefIdeal.main_arg7) = m ((c.tc : Thread Cert.MlaProjIdeal.nD Cert.MlaProjIdeal.τ).loc Cert.MlaProjIdeal.main_arg7)
      ∧ m' ((c.tc : Thread Cert.MlaProjRefIdeal.nD Cert.MlaProjRefIdeal.τ).loc Cert.MlaProjRefIdeal.main_arg8) = m ((c.tc : Thread Cert.MlaProjIdeal.nD Cert.MlaProjIdeal.τ).loc Cert.MlaProjIdeal.main_arg8)) →
    ∃ (v0 : (c : Dev Cert.MlaProjIdeal.nD) → Buf (Elt Ideal) ((c.tc : Thread Cert.MlaProjIdeal.nD Cert.MlaProjIdeal.τ).loc Cert.MlaProjIdeal.main_v69_0)) (v1 : (c : Dev Cert.MlaProjIdeal.nD) → Buf (Elt Ideal) ((c.tc : Thread Cert.MlaProjIdeal.nD Cert.MlaProjIdeal.τ).loc Cert.MlaProjIdeal.main_v69_1)) (v2 : (c : Dev Cert.MlaProjIdeal.nD) → Buf (Elt Ideal) ((c.tc : Thread Cert.MlaProjIdeal.nD Cert.MlaProjIdeal.τ).loc Cert.MlaProjIdeal.main_v69_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v69_0) = v0 c
          ∧ r.2.mem ((c.tc : Thread Cert.MlaProjIdeal.nD Cert.MlaProjIdeal.τ).loc Cert.MlaProjIdeal.main_v69_1) = v1 c
          ∧ r.2.mem ((c.tc : Thread Cert.MlaProjIdeal.nD Cert.MlaProjIdeal.τ).loc Cert.MlaProjIdeal.main_v69_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
          ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v334) = v0 c
          ∧ r.2.mem ((c.tc : Thread Cert.MlaProjRefIdeal.nD Cert.MlaProjRefIdeal.τ).loc Cert.MlaProjRefIdeal.main_v337) = v1 c
          ∧ r.2.mem ((c.tc : Thread Cert.MlaProjRefIdeal.nD Cert.MlaProjRefIdeal.τ).loc Cert.MlaProjRefIdeal.main_v340) = v2 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5)
          ∧ r.2.mem ((c.tc : Thread Cert.MlaProjRefIdeal.nD Cert.MlaProjRefIdeal.τ).loc Cert.MlaProjRefIdeal.main_arg6) = m' ((c.tc : Thread Cert.MlaProjRefIdeal.nD Cert.MlaProjRefIdeal.τ).loc Cert.MlaProjRefIdeal.main_arg6)
          ∧ r.2.mem ((c.tc : Thread Cert.MlaProjRefIdeal.nD Cert.MlaProjRefIdeal.τ).loc Cert.MlaProjRefIdeal.main_arg7) = m' ((c.tc : Thread Cert.MlaProjRefIdeal.nD Cert.MlaProjRefIdeal.τ).loc Cert.MlaProjRefIdeal.main_arg7)
          ∧ r.2.mem ((c.tc : Thread Cert.MlaProjRefIdeal.nD Cert.MlaProjRefIdeal.τ).loc Cert.MlaProjRefIdeal.main_arg8) = m' ((c.tc : Thread Cert.MlaProjRefIdeal.nD Cert.MlaProjRefIdeal.τ).loc Cert.MlaProjRefIdeal.main_arg8))

def Claim : Prop :=
  ∃ (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hConv : Cert.Conv.Facts) (hConvIdeal : Cert.ConvIdeal.Facts) (hConvRefIdeal : Cert.ConvRefIdeal.Facts) (hGqaProj : Cert.GqaProj.Facts) (hGqaProjIdeal : Cert.GqaProjIdeal.Facts) (hGqaProjRefIdeal : Cert.GqaProjRefIdeal.Facts) (hMlaProj : Cert.MlaProj.Facts) (hMlaProjIdeal : Cert.MlaProjIdeal.Facts) (hMlaProjRefIdeal : Cert.MlaProjRefIdeal.Facts) (hPre_mla_finite : Cert.Pre_mla_finite.Facts) (hPre_gqa_finite : Cert.Pre_gqa_finite.Facts),
    quiescent_Mla (hMla := hMla)
    ∧ quiescent_MlaIdeal (hMlaIdeal := hMlaIdeal)
    ∧ quiescent_MlaIdeal_pre_mla_finite (hMlaIdeal := hMlaIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Conv (hConv := hConv)
    ∧ quiescent_ConvIdeal (hConvIdeal := hConvIdeal)
    ∧ quiescent_ConvRefIdeal (hConvRefIdeal := hConvRefIdeal)
    ∧ quiescent_GqaProj (hGqaProj := hGqaProj)
    ∧ quiescent_GqaProjIdeal (hGqaProjIdeal := hGqaProjIdeal)
    ∧ quiescent_GqaProjRefIdeal (hGqaProjRefIdeal := hGqaProjRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ preserves_Mla_MlaIdeal
    ∧ algebraic_MlaIdeal_MlaRefIdeal_pre_mla_finite (hMlaIdeal := hMlaIdeal) (hMlaRefIdeal := hMlaRefIdeal) (hPre_mla_finite := hPre_mla_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Conv_ConvIdeal
    ∧ algebraic_ConvIdeal_ConvRefIdeal (hConvIdeal := hConvIdeal) (hConvRefIdeal := hConvRefIdeal)
    ∧ preserves_GqaProj_GqaProjIdeal
    ∧ algebraic_GqaProjIdeal_GqaProjRefIdeal (hGqaProjIdeal := hGqaProjIdeal) (hGqaProjRefIdeal := hGqaProjRefIdeal)
    ∧ preserves_MlaProj_MlaProjIdeal
    ∧ algebraic_MlaProjIdeal_MlaProjRefIdeal (hMlaProjIdeal := hMlaProjIdeal) (hMlaProjRefIdeal := hMlaProjRefIdeal)
-- ==== Pre_gqa_finite.lean ====
abbrev S17408x2048 : Shape := ⟨2, ![17408, 2048]⟩
abbrev S17408x1024 : Shape := ⟨2, ![17408, 1024]⟩
abbrev S_ : Shape := ⟨0, ![]⟩

class Facts : Prop where
  bcast_S_S17408x2048 : S_.BroadcastsInDim S17408x2048 (![] : Fin 0 → Fin S17408x2048.rank)
  reducesTo_S17408x2048_S_d0_1 : S17408x2048.ReducesTo [0, 1] S_
  h_S_ : 0 < S_.numel
  bcast_S_S17408x1024 : S_.BroadcastsInDim S17408x1024 (![] : Fin 0 → Fin S17408x1024.rank)
  reducesTo_S17408x1024_S_d0_1 : S17408x1024.ReducesTo [0, 1] S_

variable [Facts]

def fn {F : FTy → Type} [FloatOps F] (main_arg0 : FVec F S17408x2048 .bf16) (main_arg1 : FVec F S17408x1024 .bf16) (main_arg2 : FVec F S17408x1024 .bf16) : IVec S_ 1 :=
  let main_v0 : FVec F S17408x2048 .bf16 := Host.absf main_arg0
  let main_cst : FVec F S_ .bf16 := constant S_ .bf16 0x7F80#16
  let main_v1 : FVec F S17408x2048 .bf16 := broadcastInDim S17408x2048 ![] bcast_S_S17408x2048 main_cst
  let main_v2 : IVec S17408x2048 1 := cmpf .olt main_v0 main_v1
  let main_c : IVec S_ 1 := constantI S_ 1 1#1
  let main_v3 : IVec S_ 1 := (fun x v => Host.reduce IntOp.andi x v reducesTo_S17408x2048_S_d0_1 h_S_) main_v2 main_c
  let main_v4 : FVec F S17408x1024 .bf16 := Host.absf main_arg1
  let main_cst_0 : FVec F S_ .bf16 := constant S_ .bf16 0x7F80#16
  let main_v5 : FVec F S17408x1024 .bf16 := broadcastInDim S17408x1024 ![] bcast_S_S17408x1024 main_cst_0
  let main_v6 : IVec S17408x1024 1 := cmpf .olt main_v4 main_v5
  let main_c_1 : IVec S_ 1 := constantI S_ 1 1#1
  let main_v7 : IVec S_ 1 := (fun x v => Host.reduce IntOp.andi x v reducesTo_S17408x1024_S_d0_1 h_S_) main_v6 main_c_1
  let main_v8 : IVec S_ 1 := andi main_v3 main_v7
  main_v8
-- ==== Pre_mla_finite.lean ====
abbrev S17408x2048 : Shape := ⟨2, ![17408, 2048]⟩
abbrev S17408x1024 : Shape := ⟨2, ![17408, 1024]⟩
abbrev S_ : Shape := ⟨0, ![]⟩

class Facts : Prop where
  bcast_S_S17408x2048 : S_.BroadcastsInDim S17408x2048 (![] : Fin 0 → Fin S17408x2048.rank)
  reducesTo_S17408x2048_S_d0_1 : S17408x2048.ReducesTo [0, 1] S_
  h_S_ : 0 < S_.numel

variable [Facts]

def fn {F : FTy → Type} [FloatOps F] (main_arg0 : FVec F S17408x2048 .bf16) (main_arg1 : FVec F S17408x2048 .bf16) (main_arg2 : FVec F S17408x1024 .bf16) : IVec S_ 1 :=
  let main_v0 : FVec F S17408x2048 .bf16 := Host.absf main_arg0
  let main_cst : FVec F S_ .bf16 := constant S_ .bf16 0x7F80#16
  let main_v1 : FVec F S17408x2048 .bf16 := broadcastInDim S17408x2048 ![] bcast_S_S17408x2048 main_cst
  let main_v2 : IVec S17408x2048 1 := cmpf .olt main_v0 main_v1
  let main_c : IVec S_ 1 := constantI S_ 1 1#1
  let main_v3 : IVec S_ 1 := (fun x v => Host.reduce IntOp.andi x v reducesTo_S17408x2048_S_d0_1 h_S_) main_v2 main_c
  let main_v4 : FVec F S17408x2048 .bf16 := Host.absf main_arg1
  let main_cst_0 : FVec F S_ .bf16 := constant S_ .bf16 0x7F80#16
  let main_v5 : FVec F S17408x2048 .bf16 := broadcastInDim S17408x2048 ![] bcast_S_S17408x2048 main_cst_0
  let main_v6 : IVec S17408x2048 1 := cmpf .olt main_v4 main_v5
  let main_c_1 : IVec S_ 1 := constantI S_ 1 1#1
  let main_v7 : IVec S_ 1 := (fun x v => Host.reduce IntOp.andi x v reducesTo_S17408x2048_S_d0_1 h_S_) main_v6 main_c_1
  let main_v8 : IVec S_ 1 := andi main_v3 main_v7
  main_v8
-- ==== Mla.lean ====
abbrev S17408x2048 : Shape := ⟨2, ![17408, 2048]⟩
abbrev S17408x1024 : Shape := ⟨2, ![17408, 1024]⟩
abbrev S4x4352x2048 : Shape := ⟨3, ![4, 4352, 2048]⟩
abbrev S4x4352x1024 : Shape := ⟨3, ![4, 4352, 1024]⟩
abbrev S1x256x1024 : Shape := ⟨3, ![1, 256, 1024]⟩
abbrev S1x4352x1024 : Shape := ⟨3, ![1, 4352, 1024]⟩
abbrev S1x4352x512 : Shape := ⟨3, ![1, 4352, 512]⟩
abbrev S1x256x512 : Shape := ⟨3, ![1, 256, 512]⟩
abbrev S4x256x4352 : Shape := ⟨3, ![4, 256, 4352]⟩
abbrev S1x256x256 : Shape := ⟨3, ![1, 256, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 7
  | .vmem => 9
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x1024, .bf16⟩
  | .hbm, ⟨3, _⟩ => ⟨S4x4352x2048, .bf16⟩
  | .hbm, ⟨4, _⟩ => ⟨S4x4352x2048, .bf16⟩
  | .hbm, ⟨5, _⟩ => ⟨S4x4352x1024, .bf16⟩
  | .hbm, ⟨6, _⟩ => ⟨S4x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4352x1024, .bf16⟩
  | .local _ .vmem, ⟨3, _⟩ => ⟨S1x4352x1024, .bf16⟩
  | .local _ .vmem, ⟨4, _⟩ => ⟨S1x4352x512, .bf16⟩
  | .local _ .vmem, ⟨5, _⟩ => ⟨S1x4352x512, .bf16⟩
  | .local _ .vmem, ⟨6, _⟩ => ⟨S1x256x512, .bf16⟩
  | .local _ .vmem, ⟨7, _⟩ => ⟨S1x256x512, .bf16⟩
  | .local _ .vmem, ⟨8, _⟩ => ⟨S4x256x4352, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S17408x2048 : Shape := ⟨2, ![17408, 2048]⟩
abbrev S17408x1024 : Shape := ⟨2, ![17408, 1024]⟩
abbrev S4x4352x8x256 : Shape := ⟨4, ![4, 4352, 8, 256]⟩
abbrev S4x4352x8x128 : Shape := ⟨4, ![4, 4352, 8, 128]⟩
abbrev S4x256x8x256 : Shape := ⟨4, ![4, 256, 8, 256]⟩
abbrev S4x256x8x128 : Shape := ⟨4, ![4, 256, 8, 128]⟩
abbrev S4x256x8x1x256 : Shape := ⟨5, ![4, 256, 8, 1, 256]⟩
abbrev S4x8x256x256x1 : Shape := ⟨5, ![4, 8, 256, 256, 1]⟩
abbrev S4x8x1x256x256 : Shape := ⟨5, ![4, 8, 1, 256, 256]⟩
abbrev S_ : Shape := ⟨0, ![]⟩
abbrev S4x8x1x256 : Shape := ⟨4, ![4, 8, 1, 256]⟩
abbrev S4x8x1x256x1 : Shape := ⟨5, ![4, 8, 1, 256, 1]⟩
abbrev S4x8x128x1x256 : Shape := ⟨5, ![4, 8, 128, 1, 256]⟩
abbrev S4x256x8x1x128 : Shape := ⟨5, ![4, 256, 8, 1, 128]⟩
abbrev S4x256x1024 : Shape := ⟨3, ![4, 256, 1024]⟩
abbrev S4x4096x8x256 : Shape := ⟨4, ![4, 4096, 8, 256]⟩
abbrev S4x4096x8x1x256 : Shape := ⟨5, ![4, 4096, 8, 1, 256]⟩
abbrev S4x8x4352x4096x1 : Shape := ⟨5, ![4, 8, 4352, 4096, 1]⟩
abbrev S4x8x1x4096x4352 : Shape := ⟨5, ![4, 8, 1, 4096, 4352]⟩
abbrev S4x8x1x4096 : Shape := ⟨4, ![4, 8, 1, 4096]⟩
abbrev S4x8x1x4096x1 : Shape := ⟨5, ![4, 8, 1, 4096, 1]⟩
abbrev S4x8x128x1x4096 : Shape := ⟨5, ![4, 8, 128, 1, 4096]⟩
abbrev S4x4096x8x1x128 : Shape := ⟨5, ![4, 4096, 8, 1, 128]⟩
abbrev S4x4096x1024 : Shape := ⟨3, ![4, 4096, 1024]⟩
abbrev S4x4352x1024 : Shape := ⟨3, ![4, 4352, 1024]⟩

abbrev nBuf : Space → Nat
  | .hbm => 63
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x1024, .bf16⟩
  | .hbm, ⟨3, _⟩ => ⟨S17408x2048, .f32⟩
  | .hbm, ⟨4, _⟩ => ⟨S4x4352x8x256, .f32⟩
  | .hbm, ⟨5, _⟩ => ⟨S17408x2048, .f32⟩
  | .hbm, ⟨6, _⟩ => ⟨S4x4352x8x256, .f32⟩
  | .hbm, ⟨7, _⟩ => ⟨S17408x1024, .f32⟩
  | .hbm, ⟨8, _⟩ => ⟨S4x4352x8x128, .f32⟩
  | .hbm, ⟨9, _⟩ => ⟨S4x256x8x256, .f32⟩
  | .hbm, ⟨10, _⟩ => ⟨S4x256x8x256, .f32⟩
  | .hbm, ⟨11, _⟩ => ⟨S4x256x8x128, .f32⟩
  | .hbm, ⟨12, _⟩ => ⟨S4x256x8x1x256, .f32⟩
  | .hbm, ⟨13, _⟩ => ⟨S4x8x256x256x1, .f32⟩
  | .hbm, ⟨14, _⟩ => ⟨S4x8x1x256x256, .f32⟩
  | .hbm, ⟨15, _⟩ => ⟨S_, .f32⟩
  | .hbm, ⟨16, _⟩ => ⟨S_, .f32⟩
  | .hbm, ⟨17, _⟩ => ⟨S4x8x1x256x256, .f32⟩
  | .hbm, ⟨18, _⟩ => ⟨S4x8x1x256x256, .f32⟩
  | .hbm, ⟨19, _⟩ => ⟨S_, .f32⟩
  | .hbm, ⟨20, _⟩ => ⟨S4x8x1x256, .f32⟩
  | .hbm, ⟨21, _⟩ => ⟨S_, .f32⟩
  | .hbm, ⟨22, _⟩ => ⟨S4x8x1x256, .f32⟩
  | .hbm, ⟨23, _⟩ => ⟨S4x8x1x256, .f32⟩
  | .hbm, ⟨24, _⟩ => ⟨S4x8x1x256x1, .f32⟩
  | .hbm, ⟨25, _⟩ => ⟨S4x8x1x256x256, .f32⟩
  | .hbm, ⟨26, _⟩ => ⟨S4x8x1x256x256, .f32⟩
  | .hbm, ⟨27, _⟩ => ⟨S4x8x1x256x256, .f32⟩
  | .hbm, ⟨28, _⟩ => ⟨S_, .f32⟩
  | .hbm, ⟨29, _⟩ => ⟨S4x8x1x256, .f32⟩
  | .hbm, ⟨30, _⟩ => ⟨S4x8x1x256x1, .f32⟩
  | .hbm, ⟨31, _⟩ => ⟨S4x8x1x256x256, .f32⟩
  | .hbm, ⟨32, _⟩ => ⟨S4x8x1x256x256, .f32⟩
  | .hbm, ⟨33, _⟩ => ⟨S4x8x128x1x256, .f32⟩
  | .hbm, ⟨34, _⟩ => ⟨S4x256x8x1x128, .f32⟩
  | .hbm, ⟨35, _⟩ => ⟨S4x256x1024, .f32⟩
  | .hbm, ⟨36, _⟩ => ⟨S4x4096x8x256, .f32⟩
  | .hbm, ⟨37, _⟩ => ⟨S4x4096x8x1x256, .f32⟩
  | .hbm, ⟨38, _⟩ => ⟨S4x8x4352x4096x1, .f32⟩
  | .hbm, ⟨39, _⟩ => ⟨S4x8x1x4096x4352, .f32⟩
  | .hbm, ⟨40, _⟩ => ⟨S_, .f32⟩
  | .hbm, ⟨41, _⟩ => ⟨S_, .f32⟩
  | .hbm, ⟨42, _⟩ => ⟨S4x8x1x4096x4352, .f32⟩
  | .hbm, ⟨43, _⟩ => ⟨S4x8x1x4096x4352, .f32⟩
  | .hbm, ⟨44, _⟩ => ⟨S_, .f32⟩
  | .hbm, ⟨45, _⟩ => ⟨S4x8x1x4096, .f32⟩
  | .hbm, ⟨46, _⟩ => ⟨S_, .f32⟩
  | .hbm, ⟨47, _⟩ => ⟨S4x8x1x4096, .f32⟩
  | .hbm, ⟨48, _⟩ => ⟨S4x8x1x4096, .f32⟩
  | .hbm, ⟨49, _⟩ => ⟨S4x8x1x4096x1, .f32⟩
  | .hbm, ⟨50, _⟩ => ⟨S4x8x1x4096x4352, .f32⟩
  | .hbm, ⟨51, _⟩ => ⟨S4x8x1x4096x4352, .f32⟩
  | .hbm, ⟨52, _⟩ => ⟨S4x8x1x4096x4352, .f32⟩
  | .hbm, ⟨53, _⟩ => ⟨S_, .f32⟩
  | .hbm, ⟨54, _⟩ => ⟨S4x8x1x4096, .f32⟩
  | .hbm, ⟨55, _⟩ => ⟨S4x8x1x4096x1, .f32⟩
  | .hbm, ⟨56, _⟩ => ⟨S4x8x1x4096x4352, .f32⟩
  | .hbm, ⟨57, _⟩ => ⟨S4x8x1x4096x4352, .f32⟩
  | .hbm, ⟨58, _⟩ => ⟨S4x8x128x1x4096, .f32⟩
  | .hbm, ⟨59, _⟩ => ⟨S4x4096x8x1x128, .f32⟩
  | .hbm, ⟨60, _⟩ => ⟨S4x4096x1024, .f32⟩
  | .hbm, ⟨61, _⟩ => ⟨S4x4352x1024, .f32⟩
  | .hbm, ⟨62, _⟩ => ⟨S4x4352x1024, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Gqa.lean ====
abbrev S17408x2048 : Shape := ⟨2, ![17408, 2048]⟩
abbrev S17408x1024 : Shape := ⟨2, ![17408, 1024]⟩
abbrev S4x4352x2048 : Shape := ⟨3, ![4, 4352, 2048]⟩
abbrev S4x4352x1024 : Shape := ⟨3, ![4, 4352, 1024]⟩
abbrev S1x256x512 : Shape := ⟨3, ![1, 256, 512]⟩
abbrev S1x4352x256 : Shape := ⟨3, ![1, 4352, 256]⟩
abbrev S4x256x4352 : Shape := ⟨3, ![4, 256, 4352]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S17408x2048, .bf16⟩
  | .hbm, ⟨1, _⟩ => ⟨S17408x1024, .bf16⟩
  | .hbm, ⟨2, _⟩ => ⟨S17408x1024, .bf16⟩
  | .hbm, ⟨3, _⟩ => ⟨S4x4352x2048, .bf16⟩
  | .hbm, ⟨4, _⟩ => ⟨S4x4352x1024, .bf16⟩
  | .hbm, ⟨5, _⟩ => ⟨S4x4352x1024, .bf16⟩
  | .hbm, ⟨6, _⟩ => ⟨S4x4352x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x256x512, .bf16⟩
  | .local _ .vmem, ⟨7, _⟩ => ⟨S1x256x512, .bf16⟩
  | .local _ .vmem, ⟨8, _⟩ => ⟨S4x256x4352, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 17], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S17408x2048 : Shape := ⟨2, ![17408, 2048]⟩
abbrev S17408x1024 : Shape := ⟨2, ![17408, 1024]⟩
abbrev S4x4352x16x128 : Shape := ⟨4, ![4, 4352, 16, 128]⟩
abbrev S4x4352x8x128 : Shape := ⟨4, ![4, 4352, 8, 128]⟩
abbrev S4x256x16x128 : Shape := ⟨4, ![4, 256, 16, 128]⟩
abbrev S4x256x8x128 : Shape := ⟨4, ![4, 256, 8, 128]⟩
abbrev S4x256x8x2x128 : Shape := ⟨5, ![4, 256, 8, 2, 128]⟩
abbrev S4x8x256x256x2 : Shape := ⟨5, ![4, 8, 256, 256, 2]⟩
abbrev S4x8x2x256x256 : Shape := ⟨5, ![4, 8, 2, 256, 256]⟩
abbrev S_ : Shape := ⟨0, ![]⟩
abbrev S4x8x2x256 : Shape := ⟨4, ![4, 8, 2, 256]⟩
abbrev S4x8x2x256x1 : Shape := ⟨5, ![4, 8, 2, 256, 1]⟩
abbrev S4x8x128x2x256 : Shape := ⟨5, ![4, 8, 128, 2, 256]⟩
abbrev S4x256x2048 : Shape := ⟨3, ![4, 256, 2048]⟩
abbrev S4x4096x16x128 : Shape := ⟨4, ![4, 4096, 16, 128]⟩
abbrev S4x4096x8x2x128 : Shape := ⟨5, ![4, 4096, 8, 2, 128]⟩
abbrev S4x8x4352x4096x2 : Shape := ⟨5, ![4, 8, 4352, 4096, 2]⟩
abbrev S4x8x2x4096x4352 : Shape := ⟨5, ![4, 8, 2, 4096, 4352]⟩
abbrev S4x8x2x4096 : Shape := ⟨4, ![4, 8, 2, 4096]⟩
abbrev S4x8x2x4096x1 : Shape := ⟨5, ![4, 8, 2, 4096, 1]⟩
abbrev S4x8x128x2x4096 : Shape := ⟨5, ![4, 8, 128, 2, 4096]⟩
abbrev S4x4096x2048 : Shape := ⟨3, ![4, 4096, 2048]⟩
abbrev S4x4352x2048 : Shape := ⟨3, ![4, 4352, 2048]⟩

abbrev nBuf : Space → Nat
  | .hbm => 63
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x1024, .bf16⟩
  | .hbm, ⟨2, _⟩ => ⟨S17408x1024, .bf16⟩
  | .hbm, ⟨3, _⟩ => ⟨S17408x2048, .f32⟩
  | .hbm, ⟨4, _⟩ => ⟨S4x4352x16x128, .f32⟩
  | .hbm, ⟨5, _⟩ => ⟨S17408x1024, .f32⟩
  | .hbm, ⟨6, _⟩ => ⟨S4x4352x8x128, .f32⟩
  | .hbm, ⟨7, _⟩ => ⟨S17408x1024, .f32⟩
  | .hbm, ⟨8, _⟩ => ⟨S4x4352x8x128, .f32⟩
  | .hbm, ⟨9, _⟩ => ⟨S4x256x16x128, .f32⟩
  | .hbm, ⟨10, _⟩ => ⟨S4x256x8x128, .f32⟩
  | .hbm, ⟨11, _⟩ => ⟨S4x256x8x128, .f32⟩
  | .hbm, ⟨12, _⟩ => ⟨S4x256x8x2x128, .f32⟩
  | .hbm, ⟨13, _⟩ => ⟨S4x8x256x256x2, .f32⟩
  | .hbm, ⟨14, _⟩ => ⟨S4x8x2x256x256, .f32⟩
  | .hbm, ⟨15, _⟩ => ⟨S_, .f32⟩
  | .hbm, ⟨16, _⟩ => ⟨S_, .f32⟩
  | .hbm, ⟨17, _⟩ => ⟨S4x8x2x256x256, .f32⟩
  | .hbm, ⟨18, _⟩ => ⟨S4x8x2x256x256, .f32⟩
  | .hbm, ⟨19, _⟩ => ⟨S_, .f32⟩
  | .hbm, ⟨20, _⟩ => ⟨S4x8x2x256, .f32⟩
  | .hbm, ⟨21, _⟩ => ⟨S_, .f32⟩
  | .hbm, ⟨22, _⟩ => ⟨S4x8x2x256, .f32⟩
  | .hbm, ⟨23, _⟩ => ⟨S4x8x2x256, .f32⟩
  | .hbm, ⟨24, _⟩ => ⟨S4x8x2x256x1, .f32⟩
  | .hbm, ⟨25, _⟩ => ⟨S4x8x2x256x256, .f32⟩
  | .hbm, ⟨26, _⟩ => ⟨S4x8x2x256x256, .f32⟩
  | .hbm, ⟨27, _⟩ => ⟨S4x8x2x256x256, .f32⟩
  | .hbm, ⟨28, _⟩ => ⟨S_, .f32⟩
  | .hbm, ⟨29, _⟩ => ⟨S4x8x2x256, .f32⟩
  | .hbm, ⟨30, _⟩ => ⟨S4x8x2x256x1, .f32⟩
  | .hbm, ⟨31, _⟩ => ⟨S4x8x2x256x256, .f32⟩
  | .hbm, ⟨32, _⟩ => ⟨S4x8x2x256x256, .f32⟩
  | .hbm, ⟨33, _⟩ => ⟨S4x8x128x2x256, .f32⟩
  | .hbm, ⟨34, _⟩ => ⟨S4x256x8x2x128, .f32⟩
  | .hbm, ⟨35, _⟩ => ⟨S4x256x2048, .f32⟩
  | .hbm, ⟨36, _⟩ => ⟨S4x4096x16x128, .f32⟩
  | .hbm, ⟨37, _⟩ => ⟨S4x4096x8x2x128, .f32⟩
  | .hbm, ⟨38, _⟩ => ⟨S4x8x4352x4096x2, .f32⟩
  | .hbm, ⟨39, _⟩ => ⟨S4x8x2x4096x4352, .f32⟩
  | .hbm, ⟨40, _⟩ => ⟨S_, .f32⟩
  | .hbm, ⟨41, _⟩ => ⟨S_, .f32⟩
  | .hbm, ⟨42, _⟩ => ⟨S4x8x2x4096x4352, .f32⟩
  | .hbm, ⟨43, _⟩ => ⟨S4x8x2x4096x4352, .f32⟩
  | .hbm, ⟨44, _⟩ => ⟨S_, .f32⟩
  | .hbm, ⟨45, _⟩ => ⟨S4x8x2x4096, .f32⟩
  | .hbm, ⟨46, _⟩ => ⟨S_, .f32⟩
  | .hbm, ⟨47, _⟩ => ⟨S4x8x2x4096, .f32⟩
  | .hbm, ⟨48, _⟩ => ⟨S4x8x2x4096, .f32⟩
  | .hbm, ⟨49, _⟩ => ⟨S4x8x2x4096x1, .f32⟩
  | .hbm, ⟨50, _⟩ => ⟨S4x8x2x4096x4352, .f32⟩
  | .hbm, ⟨51, _⟩ => ⟨S4x8x2x4096x4352, .f32⟩
  | .hbm, ⟨52, _⟩ => ⟨S4x8x2x4096x4352, .f32⟩
  | .hbm, ⟨53, _⟩ => ⟨S_, .f32⟩
  | .hbm, ⟨54, _⟩ => ⟨S4x8x2x4096, .f32⟩
  | .hbm, ⟨55, _⟩ => ⟨S4x8x2x4096x1, .f32⟩
  | .hbm, ⟨56, _⟩ => ⟨S4x8x2x4096x4352, .f32⟩
  | .hbm, ⟨57, _⟩ => ⟨S4x8x2x4096x4352, .f32⟩
  | .hbm, ⟨58, _⟩ => ⟨S4x8x128x2x4096, .f32⟩
  | .hbm, ⟨59, _⟩ => ⟨S4x4096x8x2x128, .f32⟩
  | .hbm, ⟨60, _⟩ => ⟨S4x4096x2048, .f32⟩
  | .hbm, ⟨61, _⟩ => ⟨S4x4352x2048, .f32⟩
  | .hbm, ⟨62, _⟩ => ⟨S4x4352x2048, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Conv.lean ====
abbrev S17408x1024 : Shape := ⟨2, ![17408, 1024]⟩
abbrev S48x1x1024 : Shape := ⟨3, ![48, 1, 1024]⟩
abbrev S1024 : Shape := ⟨1, ![1024]⟩
abbrev S1024x3072 : Shape := ⟨2, ![1024, 3072]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x3072 : Shape := ⟨2, ![256, 3072]⟩

abbrev nBuf : Space → Nat
  | .hbm => 8
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S48x1x1024, .f32⟩
  | .hbm, ⟨2, _⟩ => ⟨S1024, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S17408x1024, .bf16⟩
  | .hbm, ⟨7, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c67_i32 : BitVec 32 := 67#32
  let v0 : BitVec 32 := Scalar.minsi arg0 c67_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c17_i32_4 : BitVec 32 := 17#32
  let v12 : BitVec 32 := Scalar.divsi v0 c17_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c17_i32_4 c0_i32_7
  let v19 : BitVec 32 := Scalar.extui v18
  let c0_i32_8 : BitVec 32 := 0#32
  let v20 : BitVec 1 := Scalar.cmpi .slt c17_i32_4 c0_i32_8
  let v21 : BitVec 32 := Scalar.extui v20
  let v22 : BitVec 32 := Scalar.subi v19 v21
  let v23 : BitVec 1 := Scalar.cmpi .ne v17 v22
  let v24 : BitVec 32 := Scalar.remsi v0 c17_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.select v11 c4_i32 v28
  let c6_i32 : BitVec 32 := 6#32
  let v30 : BitVec 32 := Scalar.muli v29 c6_i32
  let c0_i32_11 : BitVec 32 := 0#32
  let v31 : BitVec 32 := Scalar.addi v30 c0_i32_11
  let c0_i32_12 : BitVec 32 := 0#32
  let c0_i32_13 : BitVec 32 := 0#32
  let c0_i32_14 : BitVec 32 := 0#32
  ![v31.toNat, c0_i32_12.toNat, c0_i32_13.toNat]

def cc0_transform_2 (i : grid0.Coords) : Fin 3 → Nat :=
  let arg0 : BitVec 32 := BitVec.ofNat 32 (i 0).val
  let c67_i32 : BitVec 32 := 67#32
  let v0 : BitVec 32 := Scalar.minsi arg0 c67_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c17_i32_4 : BitVec 32 := 17#32
  let v12 : BitVec 32 := Scalar.divsi v0 c17_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c17_i32_4 c0_i32_7
  let v19 : BitVec 32 := Scalar.extui v18
  let c0_i32_8 : BitVec 32 := 0#32
  let v20 : BitVec 1 := Scalar.cmpi .slt c17_i32_4 c0_i32_8
  let v21 : BitVec 32 := Scalar.extui v20
  let v22 : BitVec 32 := Scalar.subi v19 v21
  let v23 : BitVec 1 := Scalar.cmpi .ne v17 v22
  let v24 : BitVec 32 := Scalar.remsi v0 c17_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.select v11 c4_i32 v28
  let c6_i32 : BitVec 32 := 6#32
  let v30 : BitVec 32 := Scalar.muli v29 c6_i32
  let c1_i32_11 : BitVec 32 := 1#32
  let v31 : BitVec 32 := Scalar.addi v30 c1_i32_11
  let c0_i32_12 : BitVec 32 := 0#32
  let c0_i32_13 : BitVec 32 := 0#32
  let c0_i32_14 : BitVec 32 := 0#32
  ![v31.toNat, c0_i32_12.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvRefIdeal.lean ====
abbrev S17408x1024 : Shape := ⟨2, ![17408, 1024]⟩
abbrev S48x1x1024 : Shape := ⟨3, ![48, 1, 1024]⟩
abbrev S1024 : Shape := ⟨1, ![1024]⟩
abbrev S1024x3072 : Shape := ⟨2, ![1024, 3072]⟩
abbrev S8x6x1024 : Shape := ⟨3, ![8, 6, 1024]⟩
abbrev S4x4352x1024 : Shape := ⟨3, ![4, 4352, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256x1024 : Shape := ⟨3, ![4, 256, 1024]⟩
abbrev S4x256 : Shape := ⟨2, ![4, 256]⟩
abbrev S4x256x1 : Shape := ⟨3, ![4, 256, 1]⟩
abbrev S4x256x3072 : Shape := ⟨3, ![4, 256, 3072]⟩
abbrev S4x4096x3072 : Shape := ⟨3, ![4, 4096, 3072]⟩

abbrev nBuf : Space → Nat
  | .hbm => 82
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S48x1x1024, .f32⟩
  | .hbm, ⟨2, _⟩ => ⟨S1024, .f32⟩
  | .hbm, ⟨3, _⟩ => ⟨S1024x3072, .f32⟩
  | .hbm, ⟨4, _⟩ => ⟨S8x6x1024, .f32⟩
  | .hbm, ⟨5, _⟩ => ⟨S4x4352x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x1x1024, .f32⟩
  | .hbm, ⟨24, _⟩ => ⟨S4x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x1x1024, .f32⟩
  | .hbm, ⟨32, _⟩ => ⟨S4x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256, .f32⟩
  | .hbm, ⟨40, _⟩ => ⟨S4x256x1, .f32⟩
  | .hbm, ⟨41, _⟩ => ⟨S_, .f32⟩
  | .hbm, ⟨42, _⟩ => ⟨S4x256x1, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S4x256x1, .f32⟩
  | .hbm, ⟨48, _⟩ => ⟨S4x256x1024, .f32⟩
  | .hbm, ⟨49, _⟩ => ⟨S4x256x1024, .f32⟩
  | .hbm, ⟨50, _⟩ => ⟨S1x1x1024, .f32⟩
  | .hbm, ⟨51, _⟩ => ⟨S4x256x1024, .f32⟩
  | .hbm, ⟨52, _⟩ => ⟨S4x256x1024, .f32⟩
  | .hbm, ⟨53, _⟩ => ⟨S1x1x1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1x1x1024, .f32⟩
  | .hbm, ⟨59, _⟩ => ⟨S4x256x1024, .f32⟩
  | .hbm, ⟨60, _⟩ => ⟨S4x256x1024, .f32⟩
  | .hbm, ⟨61, _⟩ => ⟨S1x1x1024, .f32⟩
  | .hbm, ⟨62, _⟩ => ⟨S1024, .f32⟩
  | .hbm, ⟨63, _⟩ => ⟨S1x1x1024, .f32⟩
  | .hbm, ⟨64, _⟩ => ⟨S4x256x1024, .f32⟩
  | .hbm, ⟨65, _⟩ => ⟨S4x256x1024, .f32⟩
  | .hbm, ⟨66, _⟩ => ⟨S4x256x3072, .f32⟩
  | .hbm, ⟨67, _⟩ => ⟨S4x256x1024, .f32⟩
  | .hbm, ⟨68, _⟩ => ⟨S4x256x1024, .f32⟩
  | .hbm, ⟨69, _⟩ => ⟨S4x256x1024, .f32⟩
  | .hbm, ⟨70, _⟩ => ⟨S4x256x1024, .f32⟩
  | .hbm, ⟨71, _⟩ => ⟨S4x4096x3072, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4352x1024, .f32⟩
  | .hbm, ⟨77, _⟩ => ⟨S17408x1024, .f32⟩
  | .hbm, ⟨78, _⟩ => ⟨S17408x1024, .bf16⟩
  | .hbm, ⟨79, _⟩ => ⟨S4x4352x1024, .f32⟩
  | .hbm, ⟨80, _⟩ => ⟨S17408x1024, .f32⟩
  | .hbm, ⟨81, _⟩ => ⟨S17408x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩

abbrev nD : Nat := 1
abbrev τ : Topo := Topo.v7x

variable {F : FTy → Type} [FloatOps F]
-- ==== GqaProj.lean ====
abbrev S17408x1024 : Shape := ⟨2, ![17408, 1024]⟩
abbrev S48x1x1024 : Shape := ⟨3, ![48, 1, 1024]⟩
abbrev S1024 : Shape := ⟨1, ![1024]⟩
abbrev S1024x4096 : Shape := ⟨2, ![1024, 4096]⟩
abbrev S128 : Shape := ⟨1, ![128]⟩
abbrev S1024x3072 : Shape := ⟨2, ![1024, 3072]⟩
abbrev S1024x24x128 : Shape := ⟨3, ![1024, 24, 128]⟩
abbrev S1024x24x2x2x32 : Shape := ⟨5, ![1024, 24, 2, 2, 32]⟩
abbrev S1024x24x2x64 : Shape := ⟨4, ![1024, 24, 2, 64]⟩
abbrev S_ : Shape := ⟨0, ![]⟩
abbrev S1024x1024 : Shape := ⟨2, ![1024, 1024]⟩
abbrev S1x1024 : Shape := ⟨2, ![1, 1024]⟩
abbrev S1x128 : Shape := ⟨2, ![1, 128]⟩
abbrev S1x2x2x32 : Shape := ⟨4, ![1, 2, 2, 32]⟩
abbrev S1x2x64 : Shape := ⟨3, ![1, 2, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x0 : Shape := ⟨2, ![4096, 0]⟩
abbrev S4096x64 : Shape := ⟨2, ![4096, 64]⟩
abbrev S4096x128 : Shape := ⟨2, ![4096, 128]⟩
abbrev S256x128 : Shape := ⟨2, ![256, 128]⟩
abbrev S4352x128 : Shape := ⟨2, ![4352, 128]⟩
abbrev S17408x2048 : Shape := ⟨2, ![17408, 2048]⟩
abbrev S256x1024 : Shape := ⟨2, ![256, 1024]⟩
abbrev S1x1x1024 : Shape := ⟨3, ![1, 1, 1024]⟩
abbrev S256x2048 : Shape := ⟨2, ![256, 2048]⟩
abbrev S256 : Shape := ⟨1, ![256]⟩
abbrev S256x1 : Shape := ⟨2, ![256, 1]⟩
abbrev S256x4096 : Shape := ⟨2, ![256, 4096]⟩

abbrev nBuf : Space → Nat
  | .hbm => 121
  | .vmem => 20
  | .smem => 0
  | _ => 0

abbrev bufTy : (tb : Table) → Fin (tcTables nBuf tb) → BufTy
  | .hbm, ⟨0, _⟩ => ⟨S17408x1024, .f32⟩
  | .hbm, ⟨1, _⟩ => ⟨S48x1x1024, .f32⟩
  | .hbm, ⟨2, _⟩ => ⟨S1024, .f32⟩
  | .hbm, ⟨3, _⟩ => ⟨S1024x4096, .f32⟩
  | .hbm, ⟨4, _⟩ => ⟨S128, .f32⟩
  | .hbm, ⟨5, _⟩ => ⟨S128, .f32⟩
  | .hbm, ⟨6, _⟩ => ⟨S1024x3072, .f32⟩
  | .hbm, ⟨7, _⟩ => ⟨S1024x24x128, .f32⟩
  | .hbm, ⟨8, _⟩ => ⟨S1024x24x2x2x32, .f32⟩
  | .hbm, ⟨9, _⟩ => ⟨S1024x24x2x2x32, .f32⟩
  | .hbm, ⟨10, _⟩ => ⟨S1024x24x2x64, .f32⟩
  | .hbm, ⟨11, _⟩ => ⟨S_, .i32⟩
  | .hbm, ⟨12, _⟩ => ⟨S_, .f32⟩
  | .hbm, ⟨13, _⟩ => ⟨S1024x24x2x64, .f32⟩
  | .hbm, ⟨14, _⟩ => ⟨S1024x24x128, .f32⟩
  | .hbm, ⟨15, _⟩ => ⟨S1024x3072, .f32⟩
  | .hbm, ⟨16, _⟩ => ⟨S1024x1024, .f32⟩
  | .hbm, ⟨17, _⟩ => ⟨S1024x4096, .f32⟩
  | .hbm, ⟨18, _⟩ => ⟨S1024x4096, .bf16⟩
  | .hbm, ⟨19, _⟩ => ⟨S1x1024, .f32⟩
  | .hbm, ⟨20, _⟩ => ⟨S1x128, .f32⟩
  | .hbm, ⟨21, _⟩ => ⟨S1x2x2x32, .f32⟩
  | .hbm, ⟨22, _⟩ => ⟨S1x2x2x32, .f32⟩
  | .hbm, ⟨23, _⟩ => ⟨S1x2x64, .f32⟩
  | .hbm, ⟨24, _⟩ => ⟨S_, .i32⟩
  | .hbm, ⟨25, _⟩ => ⟨S_, .f32⟩
  | .hbm, ⟨26, _⟩ => ⟨S1x2x64, .f32⟩
  | .hbm, ⟨27, _⟩ => ⟨S1x128, .f32⟩
  | .hbm, ⟨28, _⟩ => ⟨S1x128, .f32⟩
  | .hbm, ⟨29, _⟩ => ⟨S1x2x2x32, .f32⟩
  | .hbm, ⟨30, _⟩ => ⟨S1x2x2x32, .f32⟩
  | .hbm, ⟨31, _⟩ => ⟨S1x2x64, .f32⟩
  | .hbm, ⟨32, _⟩ => ⟨S_, .i32⟩
  | .hbm, ⟨33, _⟩ => ⟨S_, .f32⟩
  | .hbm, ⟨34, _⟩ => ⟨S1x2x64, .f32⟩
  | .hbm, ⟨35, _⟩ => ⟨S1x128, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S4096, .i32⟩
  | .hbm, ⟨45, _⟩ => ⟨S_, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S_, .i32⟩
  | .hbm, ⟨78, _⟩ => ⟨S4096, .i32⟩
  | .hbm, ⟨79, _⟩ => ⟨S4096, .i1⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S_, .i32⟩
  | .hbm, ⟨84, _⟩ => ⟨S_, .i1⟩
  | .hbm, ⟨85, _⟩ => ⟨S4096, .i1⟩
  | .hbm, ⟨86, _⟩ => ⟨S4096, .i1⟩
  | .hbm, ⟨87, _⟩ => ⟨S4096, .i1⟩
  | .hbm, ⟨88, _⟩ => ⟨S4096, .i32⟩
  | .hbm, ⟨89, _⟩ => ⟨S4096, .i32⟩
  | .hbm, ⟨90, _⟩ => ⟨S4096, .i32⟩
  | .hbm, ⟨91, _⟩ => ⟨S4096, .f32⟩
  | .hbm, ⟨92, _⟩ => ⟨S4096x1, .f32⟩
  | .hbm, ⟨93, _⟩ => ⟨S1x32, .f32⟩
  | .hbm, ⟨94, _⟩ => ⟨S4096x32, .f32⟩
  | .hbm, ⟨95, _⟩ => ⟨S4096x32, .f32⟩
  | .hbm, ⟨96, _⟩ => ⟨S4096x32, .f32⟩
  | .hbm, ⟨97, _⟩ => ⟨S_, .f32⟩
  | .hbm, ⟨98, _⟩ => ⟨S4096x0, .f32⟩
  | .hbm, ⟨99, _⟩ => ⟨S4096x32, .f32⟩
  | .hbm, ⟨100, _⟩ => ⟨S4096x32, .f32⟩
  | .hbm, ⟨101, _⟩ => ⟨S4096x64, .f32⟩
  | .hbm, ⟨102, _⟩ => ⟨S4096x32, .f32⟩
  | .hbm, ⟨103, _⟩ => ⟨S4096x32, .f32⟩
  | .hbm, ⟨104, _⟩ => ⟨S4096x64, .f32⟩
  | .hbm, ⟨105, _⟩ => ⟨S4096x128, .f32⟩
  | .hbm, ⟨106, _⟩ => ⟨S4096x64, .f32⟩
  | .hbm, ⟨107, _⟩ => ⟨S4096x128, .f32⟩
  | .hbm, ⟨108, _⟩ => ⟨S1x128, .f32⟩
  | .hbm, ⟨109, _⟩ => ⟨S_, .f32⟩
  | .hbm, ⟨110, _⟩ => ⟨S1x128, .f32⟩
  | .hbm, ⟨111, _⟩ => ⟨S1x128, .i1⟩
  | .hbm, ⟨112, _⟩ => ⟨S1x128, .f32⟩
  | .hbm, ⟨113, _⟩ => ⟨S256x128, .f32⟩
  | .hbm, ⟨114, _⟩ => ⟨S_, .f32⟩
  | .hbm, ⟨115, _⟩ => ⟨S256x128, .f32⟩
  | .hbm, ⟨116, _⟩ => ⟨S4352x128, .f32⟩
  | .hbm, ⟨117, _⟩ => ⟨S4352x128, .f32⟩
  | .hbm, ⟨118, _⟩ => ⟨S17408x2048, .bf16⟩
  | .hbm, ⟨119, _⟩ => ⟨S17408x1024, .bf16⟩
  | .hbm, ⟨120, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4096, .bf16⟩
  | .local _ .vmem, ⟨8, _⟩ => ⟨S1x128, .f32⟩
  | .local _ .vmem, ⟨9, _⟩ => ⟨S1x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call2_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_c : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_c_0 : Ref sig .tc := ⟨.hbm, 59, rfl⟩
abbrev main_call3_v12 : Ref sig .tc := ⟨.hbm, 60, rfl⟩
abbrev main_call3_v13 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_4 : Ref sig .tc := ⟨.hbm, 69, rfl⟩
abbrev main_call4_v0 : Ref sig .tc := ⟨.hbm, 70, rfl⟩
abbrev main_call4_c : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_c_1 : Ref sig .tc := ⟨.hbm, 77, rfl⟩
abbrev main_call4_v5 : Ref sig .tc := ⟨.hbm, 78, rfl⟩
abbrev main_call4_v6 : Ref sig .tc := ⟨.hbm, 79, rfl⟩
abbrev main_call4_c_2 : Ref sig .tc := ⟨.hbm, 80, rfl⟩
abbrev main_call4_v7 : Ref sig .tc := ⟨.hbm, 81, rfl⟩
abbrev main_call4_v8 : Ref sig .tc := ⟨.hbm, 82, rfl⟩
abbrev main_call4_c_3 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_5 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_6 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_cst_7 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63_0 : Ref sig .tc := ⟨.hbm, 118, rfl⟩
abbrev main_v63_1 : Ref sig .tc := ⟨.hbm, 119, rfl⟩
abbrev main_v63_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c67_i32 : BitVec 32 := 67#32
  let v0 : BitVec 32 := Scalar.minsi arg0 c67_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c17_i32_4 : BitVec 32 := 17#32
  let v12 : BitVec 32 := Scalar.divsi v0 c17_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c17_i32_4 c0_i32_7
  let v19 : BitVec 32 := Scalar.extui v18
  let c0_i32_8 : BitVec 32 := 0#32
  let v20 : BitVec 1 := Scalar.cmpi .slt c17_i32_4 c0_i32_8
  let v21 : BitVec 32 := Scalar.extui v20
  let v22 : BitVec 32 := Scalar.subi v19 v21
  let v23 : BitVec 1 := Scalar.cmpi .ne v17 v22
  let v24 : BitVec 32 := Scalar.remsi v0 c17_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.select v11 c4_i32 v28
  let c6_i32 : BitVec 32 := 6#32
  let v30 : BitVec 32 := Scalar.muli v29 c6_i32
  let c0_i32_11 : BitVec 32 := 0#32
  let v31 : BitVec 32 := Scalar.addi v30 c0_i32_11
  let c0_i32_12 : BitVec 32 := 0#32
  let c0_i32_13 : BitVec 32 := 0#32
  let c0_i32_14 : BitVec 32 := 0#32
  ![v31.toNat, c0_i32_12.toNat, c0_i32_13.toNat]

def cc0_transform_2 (i : grid0.Coords) : Fin 3 → Nat :=
  let arg0 : BitVec 32 := BitVec.ofNat 32 (i 0).val
  let c67_i32 : BitVec 32 := 67#32
  let v0 : BitVec 32 := Scalar.minsi arg0 c67_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c17_i32_4 : BitVec 32 := 17#32
  let v12 : BitVec 32 := Scalar.divsi v0 c17_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c17_i32_4 c0_i32_7
  let v19 : BitVec 32 := Scalar.extui v18
  let c0_i32_8 : BitVec 32 := 0#32
  let v20 : BitVec 1 := Scalar.cmpi .slt c17_i32_4 c0_i32_8
  let v21 : BitVec 32 := Scalar.extui v20
  let v22 : BitVec 32 := Scalar.subi v19 v21
  let v23 : BitVec 1 := Scalar.cmpi .ne v17 v22
  let v24 : BitVec 32 := Scalar.remsi v0 c17_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.select v11 c4_i32 v28
  let c6_i32 : BitVec 32 := 6#32
  let v30 : BitVec 32 := Scalar.muli v29 c6_i32
  let c1_i32_11 : BitVec 32 := 1#32
  let v31 : BitVec 32 := Scalar.addi v30 c1_i32_11
  let c0_i32_12 : BitVec 32 := 0#32
  let c0_i32_13 : BitVec 32 := 0#32
  let c0_i32_14 : BitVec 32 := 0#32
  ![v31.toNat, c0_i32_12.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GqaProjIdeal.lean ====
variable {F : FTy → Type} [FloatOps F] [Named F]
def κ : String → Option EReal := fun
  | "scale" => some (((Real.sqrt 128)⁻¹ * (Real.log 2)⁻¹ : ℝ) : EReal)
  | _ => none
-- ==== GqaProjRefIdeal.lean ====
abbrev S17408x1024 : Shape := ⟨2, ![17408, 1024]⟩
abbrev S48x1x1024 : Shape := ⟨3, ![48, 1, 1024]⟩
abbrev S1024 : Shape := ⟨1, ![1024]⟩
abbrev S1024x4096 : Shape := ⟨2, ![1024, 4096]⟩
abbrev S128 : Shape := ⟨1, ![128]⟩
abbrev S8x6x1024 : Shape := ⟨3, ![8, 6, 1024]⟩
abbrev S4x4352x1024 : Shape := ⟨3, ![4, 4352, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256x1024 : Shape := ⟨3, ![4, 256, 1024]⟩
abbrev S4x256 : Shape := ⟨2, ![4, 256]⟩
abbrev S4x256x1 : Shape := ⟨3, ![4, 256, 1]⟩
abbrev S1024x2048 : Shape := ⟨2, ![1024, 2048]⟩
abbrev S4x256x2048 : Shape := ⟨3, ![4, 256, 2048]⟩
abbrev S4x256x16x128 : Shape := ⟨4, ![4, 256, 16, 128]⟩
abbrev S4x256x16 : Shape := ⟨3, ![4, 256, 16]⟩
abbrev S4x256x16x1 : Shape := ⟨4, ![4, 256, 16, 1]⟩
abbrev S1x1x1x128 : Shape := ⟨4, ![1, 1, 1, 128]⟩
abbrev S4x256x8x128 : Shape := ⟨4, ![4, 256, 8, 128]⟩
abbrev S4x256x8 : Shape := ⟨3, ![4, 256, 8]⟩
abbrev S4x256x8x1 : Shape := ⟨4, ![4, 256, 8, 1]⟩
abbrev S4x256x16x0 : Shape := ⟨4, ![4, 256, 16, 0]⟩
abbrev S4x256x16x32 : Shape := ⟨4, ![4, 256, 16, 32]⟩
abbrev S4x256x8x0 : Shape := ⟨4, ![4, 256, 8, 0]⟩
abbrev S4x256x8x32 : Shape := ⟨4, ![4, 256, 8, 32]⟩
abbrev S4x4096x2048 : Shape := ⟨3, ![4, 4096, 2048]⟩
abbrev S4x4096x16x128 : Shape := ⟨4, ![4, 4096, 16, 128]⟩
abbrev S4x4096x16 : Shape := ⟨3, ![4, 4096, 16]⟩
abbrev S4x4096x16x1 : Shape := ⟨4, ![4, 4096, 16, 1]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4x4096x16x64 : Shape := ⟨4, ![4, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x4096x8x64 : Shape := ⟨4, ![4, 4096, 8, 64]⟩
abbrev S4x4096x8x32 : Shape := ⟨4, ![4, 4096, 8, 32]⟩
abbrev S4x4096x16x0 : Shape := ⟨4, ![4, 4096, 16, 0]⟩
abbrev S4x4096x8x0 : Shape := ⟨4, ![4, 4096, 8, 0]⟩
abbrev S4x4352x2048 : Shape := ⟨3, ![4, 4352, 2048]⟩
abbrev S17408x2048 : Shape := ⟨2, ![17408, 2048]⟩

abbrev nBuf : Space → Nat
  | .hbm => 365
  | .vmem => 0
  | .smem => 0
  | _ => 0

abbrev hbmTy0_0 (i : Nat) : BufTy := match i % 128 with
  | 0 => ⟨S17408x1024, .f32⟩
  | 1 => ⟨S48x1x1024, .f32⟩
  | 2 => ⟨S1024, .f32⟩
  | 3 => ⟨S1024x4096, .f32⟩
  | 4 => ⟨S128, .f32⟩
  | 5 => ⟨S128, .f32⟩
  | 6 => ⟨S8x6x1024, .f32⟩
  | 7 => ⟨S4x4352x1024, .f32⟩
  | 8 => ⟨S4x4096x1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S4x1x1024, .f32⟩
  | 26 => ⟨S4x1024, .f32⟩
  | 27 => ⟨S4x1x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x1x1024, .f32⟩
  | 34 => ⟨S4x1024, .f32⟩
  | 35 => ⟨S4x1x1024, .f32⟩
  | 36 => ⟨S4x4096x1024, .f32⟩
  | 37 => ⟨S4x4096x1024, .f32⟩
  | 38 => ⟨S4x256x1024, .f32⟩
  | 39 => ⟨S4x256x1024, .f32⟩
  | 40 => ⟨S_, .f32⟩
  | 41 => ⟨S4x256, .f32⟩
  | 42 => ⟨S4x256x1, .f32⟩
  | 43 => ⟨S_, .f32⟩
  | 44 => ⟨S4x256x1, .f32⟩
  | 45 => ⟨S4x256x1, .f32⟩
  | 46 => ⟨S_, .f32⟩
  | 47 => ⟨S4x256x1, .f32⟩
  | 48 => ⟨S4x256x1, .f32⟩
  | 49 => ⟨S4x256x1, .f32⟩
  | 50 => ⟨S4x256x1024, .f32⟩
  | 51 => ⟨S4x256x1024, .f32⟩
  | 52 => ⟨S1x1x1024, .f32⟩
  | 53 => ⟨S4x256x1024, .f32⟩
  | 54 => ⟨S4x256x1024, .f32⟩
  | 55 => ⟨S1x1x1024, .f32⟩
  | 56 => ⟨S1024, .f32⟩
  | 57 => ⟨S_, .f32⟩
  | 58 => ⟨S1024, .f32⟩
  | 59 => ⟨S1024, .f32⟩
  | 60 => ⟨S1x1x1024, .f32⟩
  | 61 => ⟨S4x256x1024, .f32⟩
  | 62 => ⟨S4x256x1024, .f32⟩
  | 63 => ⟨S1x1x1024, .f32⟩
  | 64 => ⟨S1024, .f32⟩
  | 65 => ⟨S1x1x1024, .f32⟩
  | 66 => ⟨S4x256x1024, .f32⟩
  | 67 => ⟨S4x256x1024, .f32⟩
  | 68 => ⟨S1024x2048, .f32⟩
  | 69 => ⟨S4x256x2048, .f32⟩
  | 70 => ⟨S4x256x16x128, .f32⟩
  | 71 => ⟨S4x256x16x128, .f32⟩
  | 72 => ⟨S_, .f32⟩
  | 73 => ⟨S4x256x16, .f32⟩
  | 74 => ⟨S4x256x16x1, .f32⟩
  | 75 => ⟨S_, .f32⟩
  | 76 => ⟨S4x256x16x1, .f32⟩
  | 77 => ⟨S4x256x16x1, .f32⟩
  | 78 => ⟨S_, .f32⟩
  | 79 => ⟨S4x256x16x1, .f32⟩
  | 80 => ⟨S4x256x16x1, .f32⟩
  | 81 => ⟨S4x256x16x1, .f32⟩
  | 82 => ⟨S4x256x16x128, .f32⟩
  | 83 => ⟨S4x256x16x128, .f32⟩
  | 84 => ⟨S1x1x1x128, .f32⟩
  | 85 => ⟨S4x256x16x128, .f32⟩
  | 86 => ⟨S4x256x16x128, .f32⟩
  | 87 => ⟨S1024x2048, .f32⟩
  | 88 => ⟨S4x256x2048, .f32⟩
  | 89 => ⟨S4x256x1024, .f32⟩
  | 90 => ⟨S4x256x8x128, .f32⟩
  | 91 => ⟨S4x256x8x128, .f32⟩
  | 92 => ⟨S_, .f32⟩
  | 93 => ⟨S4x256x8, .f32⟩
  | 94 => ⟨S4x256x8x1, .f32⟩
  | 95 => ⟨S_, .f32⟩
  | 96 => ⟨S4x256x8x1, .f32⟩
  | 97 => ⟨S4x256x8x1, .f32⟩
  | 98 => ⟨S_, .f32⟩
  | 99 => ⟨S4x256x8x1, .f32⟩
  | 100 => ⟨S4x256x8x1, .f32⟩
  | 101 => ⟨S4x256x8x1, .f32⟩
  | 102 => ⟨S4x256x8x128, .f32⟩
  | 103 => ⟨S4x256x8x128, .f32⟩
  | 104 => ⟨S1x1x1x128, .f32⟩
  | 105 => ⟨S4x256x8x128, .f32⟩
  | 106 => ⟨S4x256x8x128, .f32⟩
  | 107 => ⟨S_, .f32⟩
  | 108 => ⟨S_, .f32⟩
  | 109 => ⟨S4x256x16x128, .f32⟩
  | 110 => ⟨S4x256x16x128, .f32⟩
  | 111 => ⟨S_, .f32⟩
  | 112 => ⟨S_, .f32⟩
  | 113 => ⟨S4x256x16x128, .f32⟩
  | 114 => ⟨S4x256x16x128, .f32⟩
  | 115 => ⟨S_, .f32⟩
  | 116 => ⟨S4x256x16x0, .f32⟩
  | 117 => ⟨S4x256x16x32, .f32⟩
  | 118 => ⟨S4x256x16x32, .f32⟩
  | 119 => ⟨S4x256x16x32, .f32⟩
  | 120 => ⟨S4x256x16x32, .f32⟩
  | 121 => ⟨S4x256x16x128, .f32⟩
  | 122 => ⟨S4x256x2048, .f32⟩
  | 123 => ⟨S_, .f32⟩
  | 124 => ⟨S4x256x8x0, .f32⟩
  | 125 => ⟨S4x256x8x32, .f32⟩
  | 126 => ⟨S4x256x8x32, .f32⟩
  | 127 => ⟨S4x256x8x32, .f32⟩
  | _ => ⟨S17408x1024, .f32⟩

abbrev hbmTy0_1 (i : Nat) : BufTy := match i % 128 with
  | 0 => ⟨S4x256x8x32, .f32⟩
  | 1 => ⟨S4x256x8x128, .f32⟩
  | 2 => ⟨S4x256x1024, .f32⟩
  | 3 => ⟨S4x256x1024, .f32⟩
  | 4 => ⟨S1024x2048, .f32⟩
  | 5 => ⟨S4x4096x2048, .f32⟩
  | 6 => ⟨S4x4096x16x128, .f32⟩
  | 7 => ⟨S4x4096x16x128, .f32⟩
  | 8 => ⟨S_, .f32⟩
  | 9 => ⟨S4x4096x16, .f32⟩
  | 10 => ⟨S4x4096x16x1, .f32⟩
  | 11 => ⟨S_, .f32⟩
  | 12 => ⟨S4x4096x16x1, .f32⟩
  | 13 => ⟨S4x4096x16x1, .f32⟩
  | 14 => ⟨S_, .f32⟩
  | 15 => ⟨S4x4096x16x1, .f32⟩
  | 16 => ⟨S4x4096x16x1, .f32⟩
  | 17 => ⟨S4x4096x16x1, .f32⟩
  | 18 => ⟨S4x4096x16x128, .f32⟩
  | 19 => ⟨S4x4096x16x128, .f32⟩
  | 20 => ⟨S1x1x1x128, .f32⟩
  | 21 => ⟨S4x4096x16x128, .f32⟩
  | 22 => ⟨S4x4096x16x128, .f32⟩
  | 23 => ⟨S1024x2048, .f32⟩
  | 24 => ⟨S4x4096x2048, .f32⟩
  | 25 => ⟨S4x4096x1024, .f32⟩
  | 26 => ⟨S4x4096x8x128, .f32⟩
  | 27 => ⟨S4x4096x8x128, .f32⟩
  | 28 => ⟨S_, .f32⟩
  | 29 => ⟨S4x4096x8, .f32⟩
  | 30 => ⟨S4x4096x8x1, .f32⟩
  | 31 => ⟨S_, .f32⟩
  | 32 => ⟨S4x4096x8x1, .f32⟩
  | 33 => ⟨S4x4096x8x1, .f32⟩
  | 34 => ⟨S_, .f32⟩
  | 35 => ⟨S4x4096x8x1, .f32⟩
  | 36 => ⟨S4x4096x8x1, .f32⟩
  | 37 => ⟨S4x4096x8x1, .f32⟩
  | 38 => ⟨S4x4096x8x128, .f32⟩
  | 39 => ⟨S4x4096x8x128, .f32⟩
  | 40 => ⟨S1x1x1x128, .f32⟩
  | 41 => ⟨S4x4096x8x128, .f32⟩
  | 42 => ⟨S4x4096x8x128, .f32⟩
  | 43 => ⟨S64, .i32⟩
  | 44 => ⟨S64x64, .i32⟩
  | 45 => ⟨S4096, .i32⟩
  | 46 => ⟨S64, .i32⟩
  | 47 => ⟨S1x64, .i32⟩
  | 48 => ⟨S64x64, .i32⟩
  | 49 => ⟨S4096, .i32⟩
  | 50 => ⟨S4x4096x16x64, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S4096, .f32⟩
  | 60 => ⟨S4096x1, .f32⟩
  | 61 => ⟨S1x32, .f32⟩
  | 62 => ⟨S4096x32, .f32⟩
  | 63 => ⟨S4096x32, .f32⟩
  | 64 => ⟨S4096x32, .f32⟩
  | 65 => ⟨S4096x32, .f32⟩
  | 66 => ⟨S4096x1x32, .f32⟩
  | 67 => ⟨S4096x32, .f32⟩
  | 68 => ⟨S4096x1x32, .f32⟩
  | 69 => ⟨S4x4096x16x32, .f32⟩
  | 70 => ⟨S4x4096x16x32, .f32⟩
  | 71 => ⟨S1x4096x1x32, .f32⟩
  | 72 => ⟨S4x4096x16x32, .f32⟩
  | 73 => ⟨S4x4096x16x32, .f32⟩
  | 74 => ⟨S1x4096x1x32, .f32⟩
  | 75 => ⟨S4x4096x16x32, .f32⟩
  | 76 => ⟨S4x4096x16x32, .f32⟩
  | 77 => ⟨S4x4096x16x32, .f32⟩
  | 78 => ⟨S1x4096x1x32, .f32⟩
  | 79 => ⟨S4x4096x16x32, .f32⟩
  | 80 => ⟨S4x4096x16x32, .f32⟩
  | 81 => ⟨S1x4096x1x32, .f32⟩
  | 82 => ⟨S4x4096x16x32, .f32⟩
  | 83 => ⟨S4x4096x16x32, .f32⟩
  | 84 => ⟨S4x4096x16x32, .f32⟩
  | 85 => ⟨S4x4096x16x64, .f32⟩
  | 86 => ⟨S4x4096x16x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S4096, .f32⟩
  | 96 => ⟨S4096x1, .f32⟩
  | 97 => ⟨S1x32, .f32⟩
  | 98 => ⟨S4096x32, .f32⟩
  | 99 => ⟨S4096x32, .f32⟩
  | 100 => ⟨S4096x32, .f32⟩
  | 101 => ⟨S4096x32, .f32⟩
  | 102 => ⟨S4096x1x32, .f32⟩
  | 103 => ⟨S4096x32, .f32⟩
  | 104 => ⟨S4096x1x32, .f32⟩
  | 105 => ⟨S4x4096x16x32, .f32⟩
  | 106 => ⟨S4x4096x16x32, .f32⟩
  | 107 => ⟨S1x4096x1x32, .f32⟩
  | 108 => ⟨S4x4096x16x32, .f32⟩
  | 109 => ⟨S4x4096x16x32, .f32⟩
  | 110 => ⟨S1x4096x1x32, .f32⟩
  | 111 => ⟨S4x4096x16x32, .f32⟩
  | 112 => ⟨S4x4096x16x32, .f32⟩
  | 113 => ⟨S4x4096x16x32, .f32⟩
  | 114 => ⟨S1x4096x1x32, .f32⟩
  | 115 => ⟨S4x4096x16x32, .f32⟩
  | 116 => ⟨S4x4096x16x32, .f32⟩
  | 117 => ⟨S1x4096x1x32, .f32⟩
  | 118 => ⟨S4x4096x16x32, .f32⟩
  | 119 => ⟨S4x4096x16x32, .f32⟩
  | 120 => ⟨S4x4096x16x32, .f32⟩
  | 121 => ⟨S4x4096x16x64, .f32⟩
  | 122 => ⟨S4x4096x16x128, .f32⟩
  | 123 => ⟨S64, .i32⟩
  | 124 => ⟨S64x64, .i32⟩
  | 125 => ⟨S4096, .i32⟩
  | 126 => ⟨S64, .i32⟩
  | 127 => ⟨S1x64, .i32⟩
  | _ => ⟨S17408x1024, .f32⟩

abbrev hbmTy0_2 (i : Nat) : BufTy := match i % 128 with
  | 0 => ⟨S64x64, .i32⟩
  | 1 => ⟨S4096, .i32⟩
  | 2 => ⟨S4x4096x8x64, .f32⟩
  | 3 => ⟨S32, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S4096, .f32⟩
  | 12 => ⟨S4096x1, .f32⟩
  | 13 => ⟨S1x32, .f32⟩
  | 14 => ⟨S4096x32, .f32⟩
  | 15 => ⟨S4096x32, .f32⟩
  | 16 => ⟨S4096x32, .f32⟩
  | 17 => ⟨S4096x32, .f32⟩
  | 18 => ⟨S4096x1x32, .f32⟩
  | 19 => ⟨S4096x32, .f32⟩
  | 20 => ⟨S4096x1x32, .f32⟩
  | 21 => ⟨S4x4096x8x32, .f32⟩
  | 22 => ⟨S4x4096x8x32, .f32⟩
  | 23 => ⟨S1x4096x1x32, .f32⟩
  | 24 => ⟨S4x4096x8x32, .f32⟩
  | 25 => ⟨S4x4096x8x32, .f32⟩
  | 26 => ⟨S1x4096x1x32, .f32⟩
  | 27 => ⟨S4x4096x8x32, .f32⟩
  | 28 => ⟨S4x4096x8x32, .f32⟩
  | 29 => ⟨S4x4096x8x32, .f32⟩
  | 30 => ⟨S1x4096x1x32, .f32⟩
  | 31 => ⟨S4x4096x8x32, .f32⟩
  | 32 => ⟨S4x4096x8x32, .f32⟩
  | 33 => ⟨S1x4096x1x32, .f32⟩
  | 34 => ⟨S4x4096x8x32, .f32⟩
  | 35 => ⟨S4x4096x8x32, .f32⟩
  | 36 => ⟨S4x4096x8x32, .f32⟩
  | 37 => ⟨S4x4096x8x64, .f32⟩
  | 38 => ⟨S4x4096x8x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S4096, .f32⟩
  | 48 => ⟨S4096x1, .f32⟩
  | 49 => ⟨S1x32, .f32⟩
  | 50 => ⟨S4096x32, .f32⟩
  | 51 => ⟨S4096x32, .f32⟩
  | 52 => ⟨S4096x32, .f32⟩
  | 53 => ⟨S4096x32, .f32⟩
  | 54 => ⟨S4096x1x32, .f32⟩
  | 55 => ⟨S4096x32, .f32⟩
  | 56 => ⟨S4096x1x32, .f32⟩
  | 57 => ⟨S4x4096x8x32, .f32⟩
  | 58 => ⟨S4x4096x8x32, .f32⟩
  | 59 => ⟨S1x4096x1x32, .f32⟩
  | 60 => ⟨S4x4096x8x32, .f32⟩
  | 61 => ⟨S4x4096x8x32, .f32⟩
  | 62 => ⟨S1x4096x1x32, .f32⟩
  | 63 => ⟨S4x4096x8x32, .f32⟩
  | 64 => ⟨S4x4096x8x32, .f32⟩
  | 65 => ⟨S4x4096x8x32, .f32⟩
  | 66 => ⟨S1x4096x1x32, .f32⟩
  | 67 => ⟨S4x4096x8x32, .f32⟩
  | 68 => ⟨S4x4096x8x32, .f32⟩
  | 69 => ⟨S1x4096x1x32, .f32⟩
  | 70 => ⟨S4x4096x8x32, .f32⟩
  | 71 => ⟨S4x4096x8x32, .f32⟩
  | 72 => ⟨S4x4096x8x32, .f32⟩
  | 73 => ⟨S4x4096x8x64, .f32⟩
  | 74 => ⟨S4x4096x8x128, .f32⟩
  | 75 => ⟨S_, .f32⟩
  | 76 => ⟨S_, .f32⟩
  | 77 => ⟨S4x4096x16x128, .f32⟩
  | 78 => ⟨S4x4096x16x128, .f32⟩
  | 79 => ⟨S_, .f32⟩
  | 80 => ⟨S_, .f32⟩
  | 81 => ⟨S4x4096x16x128, .f32⟩
  | 82 => ⟨S4x4096x16x128, .f32⟩
  | 83 => ⟨S_, .f32⟩
  | 84 => ⟨S4x4096x16x0, .f32⟩
  | 85 => ⟨S4x4096x16x32, .f32⟩
  | 86 => ⟨S4x4096x16x32, .f32⟩
  | 87 => ⟨S4x4096x16x32, .f32⟩
  | 88 => ⟨S4x4096x16x32, .f32⟩
  | 89 => ⟨S4x4096x16x128, .f32⟩
  | 90 => ⟨S4x4096x2048, .f32⟩
  | 91 => ⟨S_, .f32⟩
  | 92 => ⟨S4x4096x8x0, .f32⟩
  | 93 => ⟨S4x4096x8x32, .f32⟩
  | 94 => ⟨S4x4096x8x32, .f32⟩
  | 95 => ⟨S4x4096x8x32, .f32⟩
  | 96 => ⟨S4x4096x8x32, .f32⟩
  | 97 => ⟨S4x4096x8x128, .f32⟩
  | 98 => ⟨S4x4096x1024, .f32⟩
  | 99 => ⟨S4x4096x1024, .f32⟩
  | 100 => ⟨S4x4352x2048, .f32⟩
  | 101 => ⟨S17408x2048, .f32⟩
  | 102 => ⟨S17408x2048, .bf16⟩
  | 103 => ⟨S4x4352x1024, .f32⟩
  | 104 => ⟨S17408x1024, .f32⟩
  | 105 => ⟨S17408x1024, .bf16⟩
  | 106 => ⟨S4x4352x1024, .f32⟩
  | 107 => ⟨S17408x1024, .f32⟩
  | 108 => ⟨S17408x1024, .bf16⟩
  | _ => ⟨S17408x1024, .f32⟩

abbrev hbmTy (i : Nat) : BufTy := match i / 128 with
  | 0 => hbmTy0_0 i
  | 1 => hbmTy0_1 i
  | 2 => hbmTy0_2 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_10 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_13 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_cst_14 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_15 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_16 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_17 : Ref sig .tc := ⟨.hbm, 136, rfl⟩
abbrev main_v112 : Ref sig .tc := ⟨.hbm, 137, rfl⟩
abbrev main_v113 : Ref sig .tc := ⟨.hbm, 138, rfl⟩
abbrev main_cst_18 : Ref sig .tc := ⟨.hbm, 139, rfl⟩
abbrev main_v114 : Ref sig .tc := ⟨.hbm, 140, rfl⟩
abbrev main_v115 : Ref sig .tc := ⟨.hbm, 141, rfl⟩
abbrev main_cst_19 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_20 : Ref sig .tc := ⟨.hbm, 156, rfl⟩
abbrev main_v129 : Ref sig .tc := ⟨.hbm, 157, rfl⟩
abbrev main_v130 : Ref sig .tc := ⟨.hbm, 158, rfl⟩
abbrev main_cst_21 : Ref sig .tc := ⟨.hbm, 159, rfl⟩
abbrev main_v131 : Ref sig .tc := ⟨.hbm, 160, rfl⟩
abbrev main_v132 : Ref sig .tc := ⟨.hbm, 161, rfl⟩
abbrev main_cst_22 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_cst_23 : Ref sig .tc := ⟨.hbm, 181, rfl⟩
abbrev main_v151 : Ref sig .tc := ⟨.hbm, 182, rfl⟩
abbrev main_v152 : Ref sig .tc := ⟨.hbm, 183, rfl⟩
abbrev main_cst_24 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_cst_25 : Ref sig .tc := ⟨.hbm, 217, rfl⟩
abbrev main_v185 : Ref sig .tc := ⟨.hbm, 218, rfl⟩
abbrev main_v186 : Ref sig .tc := ⟨.hbm, 219, rfl⟩
abbrev main_cst_26 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_cst_27 : Ref sig .tc := ⟨.hbm, 261, rfl⟩
abbrev main_v227 : Ref sig .tc := ⟨.hbm, 262, rfl⟩
abbrev main_v228 : Ref sig .tc := ⟨.hbm, 263, rfl⟩
abbrev main_cst_28 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_cst_29 : Ref sig .tc := ⟨.hbm, 297, rfl⟩
abbrev main_v261 : Ref sig .tc := ⟨.hbm, 298, rfl⟩
abbrev main_v262 : Ref sig .tc := ⟨.hbm, 299, rfl⟩
abbrev main_cst_30 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_cst_31 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_cst_32 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_cst_33 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_cst_34 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_v316 : Ref sig .tc := ⟨.hbm, 358, rfl⟩
abbrev main_v317 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩

abbrev nD : Nat := 1
abbrev τ : Topo := Topo.v7x

variable {F : FTy → Type} [FloatOps F]
-- ==== MlaProj.lean ====
abbrev S17408x1024 : Shape := ⟨2, ![17408, 1024]⟩
abbrev S48x1x1024 : Shape := ⟨3, ![48, 1, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x320 : Shape := ⟨2, ![1024, 320]⟩
abbrev S256 : Shape := ⟨1, ![256]⟩
abbrev S256x2048 : Shape := ⟨2, ![256, 2048]⟩
abbrev S1024x256 : Shape := ⟨2, ![1024, 256]⟩
abbrev S1024x64 : Shape := ⟨2, ![1024, 64]⟩
abbrev S1024x2x2x16 : Shape := ⟨4, ![1024, 2, 2, 16]⟩
abbrev S1024x2x32 : Shape := ⟨3, ![1024, 2, 32]⟩
abbrev S_ : Shape := ⟨0, ![]⟩
abbrev S1024x2x64 : Shape := ⟨3, ![1024, 2, 64]⟩
abbrev S1024x128 : Shape := ⟨2, ![1024, 128]⟩
abbrev S1024x896 : Shape := ⟨2, ![1024, 896]⟩
abbrev S512x8x192 : Shape := ⟨3, ![512, 8, 192]⟩
abbrev S512x8x128 : Shape := ⟨3, ![512, 8, 128]⟩
abbrev S512x8x64 : Shape := ⟨3, ![512, 8, 64]⟩
abbrev S512x8x2x2x16 : Shape := ⟨5, ![512, 8, 2, 2, 16]⟩
abbrev S512x8x2x32 : Shape := ⟨4, ![512, 8, 2, 32]⟩
abbrev S512x8x2x64 : Shape := ⟨4, ![512, 8, 2, 64]⟩
abbrev S512x8x256 : Shape := ⟨3, ![512, 8, 256]⟩
abbrev S512x2048 : Shape := ⟨2, ![512, 2048]⟩
abbrev S256x8x256 : Shape := ⟨3, ![256, 8, 256]⟩
abbrev S256x8x128 : Shape := ⟨3, ![256, 8, 128]⟩
abbrev S256x1024 : Shape := ⟨2, ![256, 1024]⟩
abbrev S1x1024 : Shape := ⟨2, ![1, 1024]⟩
abbrev S1x512 : Shape := ⟨2, ![1, 512]⟩
abbrev S1x256 : Shape := ⟨2, ![1, 256]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S1x128 : Shape := ⟨2, ![1, 128]⟩
abbrev S256x128 : Shape := ⟨2, ![256, 128]⟩
abbrev S4352x128 : Shape := ⟨2, ![4352, 128]⟩
abbrev S17408x2048 : Shape := ⟨2, ![17408, 2048]⟩
abbrev S1x1x1024 : Shape := ⟨3, ![1, 1, 1024]⟩
abbrev S256x1 : Shape := ⟨2, ![256, 1]⟩
abbrev S256x896 : Shape := ⟨2, ![256, 896]⟩
abbrev S256x512 : Shape := ⟨2, ![256, 512]⟩
abbrev S256x256 : Shape := ⟨2, ![256, 256]⟩

abbrev nBuf : Space → Nat
  | .hbm => 128
  | .vmem => 22
  | .smem => 0
  | _ => 0

abbrev bufTy : (tb : Table) → Fin (tcTables nBuf tb) → BufTy
  | .hbm, ⟨0, _⟩ => ⟨S17408x1024, .f32⟩
  | .hbm, ⟨1, _⟩ => ⟨S48x1x1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S512x1536, .f32⟩
  | .hbm, ⟨6, _⟩ => ⟨S1024x320, .f32⟩
  | .hbm, ⟨7, _⟩ => ⟨S256, .f32⟩
  | .hbm, ⟨8, _⟩ => ⟨S256x2048, .f32⟩
  | .hbm, ⟨9, _⟩ => ⟨S1024x256, .f32⟩
  | .hbm, ⟨10, _⟩ => ⟨S1024x64, .f32⟩
  | .hbm, ⟨11, _⟩ => ⟨S1024x2x2x16, .f32⟩
  | .hbm, ⟨12, _⟩ => ⟨S1024x2x2x16, .f32⟩
  | .hbm, ⟨13, _⟩ => ⟨S1024x2x32, .f32⟩
  | .hbm, ⟨14, _⟩ => ⟨S_, .i32⟩
  | .hbm, ⟨15, _⟩ => ⟨S_, .f32⟩
  | .hbm, ⟨16, _⟩ => ⟨S1024x2x64, .f32⟩
  | .hbm, ⟨17, _⟩ => ⟨S1024x128, .f32⟩
  | .hbm, ⟨18, _⟩ => ⟨S1024x896, .f32⟩
  | .hbm, ⟨19, _⟩ => ⟨S1024x896, .bf16⟩
  | .hbm, ⟨20, _⟩ => ⟨S512x8x192, .f32⟩
  | .hbm, ⟨21, _⟩ => ⟨S512x8x128, .f32⟩
  | .hbm, ⟨22, _⟩ => ⟨S512x8x64, .f32⟩
  | .hbm, ⟨23, _⟩ => ⟨S512x8x2x2x16, .f32⟩
  | .hbm, ⟨24, _⟩ => ⟨S512x8x2x2x16, .f32⟩
  | .hbm, ⟨25, _⟩ => ⟨S512x8x2x32, .f32⟩
  | .hbm, ⟨26, _⟩ => ⟨S_, .i32⟩
  | .hbm, ⟨27, _⟩ => ⟨S_, .f32⟩
  | .hbm, ⟨28, _⟩ => ⟨S512x8x2x64, .f32⟩
  | .hbm, ⟨29, _⟩ => ⟨S512x8x128, .f32⟩
  | .hbm, ⟨30, _⟩ => ⟨S512x8x256, .f32⟩
  | .hbm, ⟨31, _⟩ => ⟨S512x2048, .f32⟩
  | .hbm, ⟨32, _⟩ => ⟨S512x2048, .bf16⟩
  | .hbm, ⟨33, _⟩ => ⟨S256x8x256, .f32⟩
  | .hbm, ⟨34, _⟩ => ⟨S256x8x128, .f32⟩
  | .hbm, ⟨35, _⟩ => ⟨S256x1024, .f32⟩
  | .hbm, ⟨36, _⟩ => ⟨S256x8x128, .f32⟩
  | .hbm, ⟨37, _⟩ => ⟨S256x1024, .f32⟩
  | .hbm, ⟨38, _⟩ => ⟨S256x2048, .f32⟩
  | .hbm, ⟨39, _⟩ => ⟨S256x2048, .bf16⟩
  | .hbm, ⟨40, _⟩ => ⟨S1x1024, .f32⟩
  | .hbm, ⟨41, _⟩ => ⟨S1x512, .f32⟩
  | .hbm, ⟨42, _⟩ => ⟨S1x256, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S4096, .i32⟩
  | .hbm, ⟨52, _⟩ => ⟨S_, .i32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096, .f32⟩
  | .hbm, ⟨71, _⟩ => ⟨S4096x1, .f32⟩
  | .hbm, ⟨72, _⟩ => ⟨S1x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S4096, .i32⟩
  | .hbm, ⟨83, _⟩ => ⟨S4096, .i32⟩
  | .hbm, ⟨84, _⟩ => ⟨S_, .i32⟩
  | .hbm, ⟨85, _⟩ => ⟨S4096, .i32⟩
  | .hbm, ⟨86, _⟩ => ⟨S4096, .i1⟩
  | .hbm, ⟨87, _⟩ => ⟨S_, .i32⟩
  | .hbm, ⟨88, _⟩ => ⟨S4096, .i32⟩
  | .hbm, ⟨89, _⟩ => ⟨S4096, .i1⟩
  | .hbm, ⟨90, _⟩ => ⟨S_, .i32⟩
  | .hbm, ⟨91, _⟩ => ⟨S_, .i1⟩
  | .hbm, ⟨92, _⟩ => ⟨S4096, .i1⟩
  | .hbm, ⟨93, _⟩ => ⟨S4096, .i1⟩
  | .hbm, ⟨94, _⟩ => ⟨S4096, .i1⟩
  | .hbm, ⟨95, _⟩ => ⟨S4096, .i32⟩
  | .hbm, ⟨96, _⟩ => ⟨S4096, .i32⟩
  | .hbm, ⟨97, _⟩ => ⟨S4096, .i32⟩
  | .hbm, ⟨98, _⟩ => ⟨S4096, .f32⟩
  | .hbm, ⟨99, _⟩ => ⟨S4096x1, .f32⟩
  | .hbm, ⟨100, _⟩ => ⟨S1x16, .f32⟩
  | .hbm, ⟨101, _⟩ => ⟨S4096x16, .f32⟩
  | .hbm, ⟨102, _⟩ => ⟨S4096x16, .f32⟩
  | .hbm, ⟨103, _⟩ => ⟨S4096x16, .f32⟩
  | .hbm, ⟨104, _⟩ => ⟨S_, .f32⟩
  | .hbm, ⟨105, _⟩ => ⟨S4096x32, .f32⟩
  | .hbm, ⟨106, _⟩ => ⟨S4096x16, .f32⟩
  | .hbm, ⟨107, _⟩ => ⟨S4096x16, .f32⟩
  | .hbm, ⟨108, _⟩ => ⟨S4096x64, .f32⟩
  | .hbm, ⟨109, _⟩ => ⟨S4096x16, .f32⟩
  | .hbm, ⟨110, _⟩ => ⟨S4096x16, .f32⟩
  | .hbm, ⟨111, _⟩ => ⟨S4096x64, .f32⟩
  | .hbm, ⟨112, _⟩ => ⟨S4096x128, .f32⟩
  | .hbm, ⟨113, _⟩ => ⟨S4096x64, .f32⟩
  | .hbm, ⟨114, _⟩ => ⟨S4096x128, .f32⟩
  | .hbm, ⟨115, _⟩ => ⟨S1x128, .f32⟩
  | .hbm, ⟨116, _⟩ => ⟨S_, .f32⟩
  | .hbm, ⟨117, _⟩ => ⟨S1x128, .f32⟩
  | .hbm, ⟨118, _⟩ => ⟨S1x128, .i1⟩
  | .hbm, ⟨119, _⟩ => ⟨S1x128, .f32⟩
  | .hbm, ⟨120, _⟩ => ⟨S256x128, .f32⟩
  | .hbm, ⟨121, _⟩ => ⟨S_, .f32⟩
  | .hbm, ⟨122, _⟩ => ⟨S256x128, .f32⟩
  | .hbm, ⟨123, _⟩ => ⟨S4352x128, .f32⟩
  | .hbm, ⟨124, _⟩ => ⟨S4352x128, .f32⟩
  | .hbm, ⟨125, _⟩ => ⟨S17408x2048, .bf16⟩
  | .hbm, ⟨126, _⟩ => ⟨S17408x2048, .bf16⟩
  | .hbm, ⟨127, _⟩ => ⟨S17408x1024, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x896, .bf16⟩
  | .local _ .vmem, ⟨8, _⟩ => ⟨S1x512, .f32⟩
  | .local _ .vmem, ⟨9, _⟩ => ⟨S1x256, .f32⟩
  | .local _ .vmem, ⟨10, _⟩ => ⟨S512x2048, .bf16⟩
  | .local _ .vmem, ⟨11, _⟩ => ⟨S256x2048, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x1024, .bf16⟩
  | .local _ .vmem, ⟨21, _⟩ => ⟨S256x1024, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_2 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_3 : Ref sig .tc := ⟨.hbm, 76, rfl⟩
abbrev main_call3_v0 : Ref sig .tc := ⟨.hbm, 77, rfl⟩
abbrev main_call3_c : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_c_1 : Ref sig .tc := ⟨.hbm, 84, rfl⟩
abbrev main_call3_v5 : Ref sig .tc := ⟨.hbm, 85, rfl⟩
abbrev main_call3_v6 : Ref sig .tc := ⟨.hbm, 86, rfl⟩
abbrev main_call3_c_2 : Ref sig .tc := ⟨.hbm, 87, rfl⟩
abbrev main_call3_v7 : Ref sig .tc := ⟨.hbm, 88, rfl⟩
abbrev main_call3_v8 : Ref sig .tc := ⟨.hbm, 89, rfl⟩
abbrev main_call3_c_3 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_cst_4 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_5 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_6 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69_0 : Ref sig .tc := ⟨.hbm, 125, rfl⟩
abbrev main_v69_1 : Ref sig .tc := ⟨.hbm, 126, rfl⟩
abbrev main_v69_2 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c67_i32 : BitVec 32 := 67#32
  let v0 : BitVec 32 := Scalar.minsi arg0 c67_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c17_i32_4 : BitVec 32 := 17#32
  let v12 : BitVec 32 := Scalar.divsi v0 c17_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c17_i32_4 c0_i32_7
  let v19 : BitVec 32 := Scalar.extui v18
  let c0_i32_8 : BitVec 32 := 0#32
  let v20 : BitVec 1 := Scalar.cmpi .slt c17_i32_4 c0_i32_8
  let v21 : BitVec 32 := Scalar.extui v20
  let v22 : BitVec 32 := Scalar.subi v19 v21
  let v23 : BitVec 1 := Scalar.cmpi .ne v17 v22
  let v24 : BitVec 32 := Scalar.remsi v0 c17_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.select v11 c4_i32 v28
  let c6_i32 : BitVec 32 := 6#32
  let v30 : BitVec 32 := Scalar.muli v29 c6_i32
  let c0_i32_11 : BitVec 32 := 0#32
  let v31 : BitVec 32 := Scalar.addi v30 c0_i32_11
  let c0_i32_12 : BitVec 32 := 0#32
  let c0_i32_13 : BitVec 32 := 0#32
  let c0_i32_14 : BitVec 32 := 0#32
  ![v31.toNat, c0_i32_12.toNat, c0_i32_13.toNat]

def cc0_transform_2 (i : grid0.Coords) : Fin 3 → Nat :=
  let arg0 : BitVec 32 := BitVec.ofNat 32 (i 0).val
  let c67_i32 : BitVec 32 := 67#32
  let v0 : BitVec 32 := Scalar.minsi arg0 c67_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 1 := Scalar.cmpi .eq v10 c0_i32_3
  let c17_i32_4 : BitVec 32 := 17#32
  let v12 : BitVec 32 := Scalar.divsi v0 c17_i32_4
  let c0_i32_5 : BitVec 32 := 0#32
  let v13 : BitVec 1 := Scalar.cmpi .sgt v0 c0_i32_5
  let v14 : BitVec 32 := Scalar.extui v13
  let c0_i32_6 : BitVec 32 := 0#32
  let v15 : BitVec 1 := Scalar.cmpi .slt v0 c0_i32_6
  let v16 : BitVec 32 := Scalar.extui v15
  let v17 : BitVec 32 := Scalar.subi v14 v16
  let c0_i32_7 : BitVec 32 := 0#32
  let v18 : BitVec 1 := Scalar.cmpi .sgt c17_i32_4 c0_i32_7
  let v19 : BitVec 32 := Scalar.extui v18
  let c0_i32_8 : BitVec 32 := 0#32
  let v20 : BitVec 1 := Scalar.cmpi .slt c17_i32_4 c0_i32_8
  let v21 : BitVec 32 := Scalar.extui v20
  let v22 : BitVec 32 := Scalar.subi v19 v21
  let v23 : BitVec 1 := Scalar.cmpi .ne v17 v22
  let v24 : BitVec 32 := Scalar.remsi v0 c17_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c4_i32 : BitVec 32 := 4#32
  let v29 : BitVec 32 := Scalar.select v11 c4_i32 v28
  let c6_i32 : BitVec 32 := 6#32
  let v30 : BitVec 32 := Scalar.muli v29 c6_i32
  let c1_i32_11 : BitVec 32 := 1#32
  let v31 : BitVec 32 := Scalar.addi v30 c1_i32_11
  let c0_i32_12 : BitVec 32 := 0#32
  let c0_i32_13 : BitVec 32 := 0#32
  let c0_i32_14 : BitVec 32 := 0#32
  ![v31.toNat, c0_i32_12.toNat, c0_i32_13.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MlaProjIdeal.lean ====
variable {F : FTy → Type} [FloatOps F] [Named F]
def κ : String → Option EReal := fun
  | "scale" => some (((Real.sqrt 192)⁻¹ * (Real.log 2)⁻¹ : ℝ) : EReal)
  | _ => none
-- ==== MlaProjRefIdeal.lean ====
abbrev S17408x1024 : Shape := ⟨2, ![17408, 1024]⟩
abbrev S48x1x1024 : Shape := ⟨3, ![48, 1, 1024]⟩
abbrev S1024 : Shape := ⟨1, ![1024]⟩
abbrev S1024x512 : Shape := ⟨2, ![1024, 512]⟩
abbrev S512 : Shape := ⟨1, ![512]⟩
abbrev S512x1536 : Shape := ⟨2, ![512, 1536]⟩
abbrev S1024x320 : Shape := ⟨2, ![1024, 320]⟩
abbrev S256 : Shape := ⟨1, ![256]⟩
abbrev S256x2048 : Shape := ⟨2, ![256, 2048]⟩
abbrev S8x6x1024 : Shape := ⟨3, ![8, 6, 1024]⟩
abbrev S4x4352x1024 : Shape := ⟨3, ![4, 4352, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x1024 : Shape := ⟨2, ![4, 1024]⟩
abbrev S4x256x1024 : Shape := ⟨3, ![4, 256, 1024]⟩
abbrev S4x256 : Shape := ⟨2, ![4, 256]⟩
abbrev S4x256x1 : Shape := ⟨3, ![4, 256, 1]⟩
abbrev S4x256x320 : Shape := ⟨3, ![4, 256, 320]⟩
abbrev S4x256x64 : Shape := ⟨3, ![4, 256, 64]⟩
abbrev S4x256x1x64 : Shape := ⟨4, ![4, 256, 1, 64]⟩
abbrev S4x256x256 : Shape := ⟨3, ![4, 256, 256]⟩
abbrev S1x1x256 : Shape := ⟨3, ![1, 1, 256]⟩
abbrev S4x256x2048 : Shape := ⟨3, ![4, 256, 2048]⟩
abbrev S4x256x8x256 : Shape := ⟨4, ![4, 256, 8, 256]⟩
abbrev S4x256x512 : Shape := ⟨3, ![4, 256, 512]⟩
abbrev S1x1x512 : Shape := ⟨3, ![1, 1, 512]⟩
abbrev S4x256x1536 : Shape := ⟨3, ![4, 256, 1536]⟩
abbrev S4x256x8x192 : Shape := ⟨4, ![4, 256, 8, 192]⟩
abbrev S4x256x8x64 : Shape := ⟨4, ![4, 256, 8, 64]⟩
abbrev S4x256x1x32 : Shape := ⟨4, ![4, 256, 1, 32]⟩
abbrev S4x256x1x16 : Shape := ⟨4, ![4, 256, 1, 16]⟩
abbrev S4x256x1x128 : Shape := ⟨4, ![4, 256, 1, 128]⟩
abbrev S4x256x8x128 : Shape := ⟨4, ![4, 256, 8, 128]⟩
abbrev S4x256x8x32 : Shape := ⟨4, ![4, 256, 8, 32]⟩
abbrev S4x256x8x16 : Shape := ⟨4, ![4, 256, 8, 16]⟩
abbrev S4x4096x320 : Shape := ⟨3, ![4, 4096, 320]⟩
abbrev S4x4096x64 : Shape := ⟨3, ![4, 4096, 64]⟩
abbrev S4x4096x1x64 : Shape := ⟨4, ![4, 4096, 1, 64]⟩
abbrev S4x4096x256 : Shape := ⟨3, ![4, 4096, 256]⟩
abbrev S4x4096x2048 : Shape := ⟨3, ![4, 4096, 2048]⟩
abbrev S4x4096x8x256 : Shape := ⟨4, ![4, 4096, 8, 256]⟩
abbrev S4x4096x512 : Shape := ⟨3, ![4, 4096, 512]⟩
abbrev S4x4096x1536 : Shape := ⟨3, ![4, 4096, 1536]⟩
abbrev S4x4096x8x192 : Shape := ⟨4, ![4, 4096, 8, 192]⟩
abbrev S4x4096x8x64 : Shape := ⟨4, ![4, 4096, 8, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4x4096x8x32 : Shape := ⟨4, ![4, 4096, 8, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S4x4096x8x16 : Shape := ⟨4, ![4, 4096, 8, 16]⟩
abbrev S1x4096x1x16 : Shape := ⟨4, ![1, 4096, 1, 16]⟩
abbrev S4x4096x1x32 : Shape := ⟨4, ![4, 4096, 1, 32]⟩
abbrev S4x4096x1x16 : Shape := ⟨4, ![4, 4096, 1, 16]⟩
abbrev S4x4096x1x128 : Shape := ⟨4, ![4, 4096, 1, 128]⟩
abbrev S4x4096x8x128 : Shape := ⟨4, ![4, 4096, 8, 128]⟩
abbrev S4x4352x2048 : Shape := ⟨3, ![4, 4352, 2048]⟩
abbrev S17408x2048 : Shape := ⟨2, ![17408, 2048]⟩

abbrev nBuf : Space → Nat
  | .hbm => 386
  | .vmem => 0
  | .smem => 0
  | _ => 0

abbrev hbmTy0_0 (i : Nat) : BufTy := match i % 128 with
  | 0 => ⟨S17408x1024, .f32⟩
  | 1 => ⟨S48x1x1024, .f32⟩
  | 2 => ⟨S1024, .f32⟩
  | 3 => ⟨S1024x512, .f32⟩
  | 4 => ⟨S512, .f32⟩
  | 5 => ⟨S512x1536, .f32⟩
  | 6 => ⟨S1024x320, .f32⟩
  | 7 => ⟨S256, .f32⟩
  | 8 => ⟨S256x2048, .f32⟩
  | 9 => ⟨S8x6x1024, .f32⟩
  | 10 => ⟨S4x4352x1024, .f32⟩
  | 11 => ⟨S4x4096x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S4x1x1024, .f32⟩
  | 29 => ⟨S4x1024, .f32⟩
  | 30 => ⟨S4x1x1024, .f32⟩
  | 31 => ⟨S_, .f32⟩
  | 32 => ⟨S4x1x1024, .f32⟩
  | 33 => ⟨S4x1x1024, .f32⟩
  | 34 => ⟨S4x4096x1024, .f32⟩
  | 35 => ⟨S4x4096x1024, .f32⟩
  | 36 => ⟨S4x1x1024, .f32⟩
  | 37 => ⟨S4x1024, .f32⟩
  | 38 => ⟨S4x1x1024, .f32⟩
  | 39 => ⟨S4x4096x1024, .f32⟩
  | 40 => ⟨S4x4096x1024, .f32⟩
  | 41 => ⟨S4x256x1024, .f32⟩
  | 42 => ⟨S4x256x1024, .f32⟩
  | 43 => ⟨S_, .f32⟩
  | 44 => ⟨S4x256, .f32⟩
  | 45 => ⟨S4x256x1, .f32⟩
  | 46 => ⟨S_, .f32⟩
  | 47 => ⟨S4x256x1, .f32⟩
  | 48 => ⟨S4x256x1, .f32⟩
  | 49 => ⟨S_, .f32⟩
  | 50 => ⟨S4x256x1, .f32⟩
  | 51 => ⟨S4x256x1, .f32⟩
  | 52 => ⟨S4x256x1, .f32⟩
  | 53 => ⟨S4x256x1024, .f32⟩
  | 54 => ⟨S4x256x1024, .f32⟩
  | 55 => ⟨S1x1x1024, .f32⟩
  | 56 => ⟨S4x256x1024, .f32⟩
  | 57 => ⟨S4x256x1024, .f32⟩
  | 58 => ⟨S1x1x1024, .f32⟩
  | 59 => ⟨S1024, .f32⟩
  | 60 => ⟨S_, .f32⟩
  | 61 => ⟨S1024, .f32⟩
  | 62 => ⟨S1024, .f32⟩
  | 63 => ⟨S1x1x1024, .f32⟩
  | 64 => ⟨S4x256x1024, .f32⟩
  | 65 => ⟨S4x256x1024, .f32⟩
  | 66 => ⟨S1x1x1024, .f32⟩
  | 67 => ⟨S1024, .f32⟩
  | 68 => ⟨S1x1x1024, .f32⟩
  | 69 => ⟨S4x256x1024, .f32⟩
  | 70 => ⟨S4x256x1024, .f32⟩
  | 71 => ⟨S4x256x320, .f32⟩
  | 72 => ⟨S4x256x64, .f32⟩
  | 73 => ⟨S4x256x1x64, .f32⟩
  | 74 => ⟨S4x256x256, .f32⟩
  | 75 => ⟨S4x256x256, .f32⟩
  | 76 => ⟨S_, .f32⟩
  | 77 => ⟨S4x256, .f32⟩
  | 78 => ⟨S4x256x1, .f32⟩
  | 79 => ⟨S_, .f32⟩
  | 80 => ⟨S4x256x1, .f32⟩
  | 81 => ⟨S4x256x1, .f32⟩
  | 82 => ⟨S_, .f32⟩
  | 83 => ⟨S4x256x1, .f32⟩
  | 84 => ⟨S4x256x1, .f32⟩
  | 85 => ⟨S4x256x1, .f32⟩
  | 86 => ⟨S4x256x256, .f32⟩
  | 87 => ⟨S4x256x256, .f32⟩
  | 88 => ⟨S1x1x256, .f32⟩
  | 89 => ⟨S4x256x256, .f32⟩
  | 90 => ⟨S4x256x256, .f32⟩
  | 91 => ⟨S4x256x2048, .f32⟩
  | 92 => ⟨S4x256x8x256, .f32⟩
  | 93 => ⟨S4x256x512, .f32⟩
  | 94 => ⟨S4x256x512, .f32⟩
  | 95 => ⟨S_, .f32⟩
  | 96 => ⟨S4x256, .f32⟩
  | 97 => ⟨S4x256x1, .f32⟩
  | 98 => ⟨S_, .f32⟩
  | 99 => ⟨S4x256x1, .f32⟩
  | 100 => ⟨S4x256x1, .f32⟩
  | 101 => ⟨S_, .f32⟩
  | 102 => ⟨S4x256x1, .f32⟩
  | 103 => ⟨S4x256x1, .f32⟩
  | 104 => ⟨S4x256x1, .f32⟩
  | 105 => ⟨S4x256x512, .f32⟩
  | 106 => ⟨S4x256x512, .f32⟩
  | 107 => ⟨S1x1x512, .f32⟩
  | 108 => ⟨S4x256x512, .f32⟩
  | 109 => ⟨S4x256x512, .f32⟩
  | 110 => ⟨S4x256x1536, .f32⟩
  | 111 => ⟨S4x256x8x192, .f32⟩
  | 112 => ⟨S4x256x8x64, .f32⟩
  | 113 => ⟨S_, .f32⟩
  | 114 => ⟨S4x256x1x32, .f32⟩
  | 115 => ⟨S4x256x1x16, .f32⟩
  | 116 => ⟨S4x256x1x16, .f32⟩
  | 117 => ⟨S4x256x1x16, .f32⟩
  | 118 => ⟨S4x256x1x16, .f32⟩
  | 119 => ⟨S4x256x1x128, .f32⟩
  | 120 => ⟨S4x256x8x128, .f32⟩
  | 121 => ⟨S4x256x8x128, .f32⟩
  | 122 => ⟨S4x256x8x256, .f32⟩
  | 123 => ⟨S4x256x8x128, .f32⟩
  | 124 => ⟨S_, .f32⟩
  | 125 => ⟨S4x256x8x32, .f32⟩
  | 126 => ⟨S4x256x8x16, .f32⟩
  | 127 => ⟨S4x256x8x16, .f32⟩
  | _ => ⟨S17408x1024, .f32⟩

abbrev hbmTy0_1 (i : Nat) : BufTy := match i % 128 with
  | 0 => ⟨S4x256x8x16, .f32⟩
  | 1 => ⟨S4x256x8x16, .f32⟩
  | 2 => ⟨S4x256x8x128, .f32⟩
  | 3 => ⟨S4x256x8x256, .f32⟩
  | 4 => ⟨S_, .f32⟩
  | 5 => ⟨S_, .f32⟩
  | 6 => ⟨S4x256x8x256, .f32⟩
  | 7 => ⟨S4x256x8x256, .f32⟩
  | 8 => ⟨S_, .f32⟩
  | 9 => ⟨S_, .f32⟩
  | 10 => ⟨S4x256x8x256, .f32⟩
  | 11 => ⟨S4x256x8x256, .f32⟩
  | 12 => ⟨S4x256x2048, .f32⟩
  | 13 => ⟨S4x256x2048, .f32⟩
  | 14 => ⟨S4x256x8x128, .f32⟩
  | 15 => ⟨S4x256x1024, .f32⟩
  | 16 => ⟨S4x4096x320, .f32⟩
  | 17 => ⟨S4x4096x64, .f32⟩
  | 18 => ⟨S4x4096x1x64, .f32⟩
  | 19 => ⟨S4x4096x256, .f32⟩
  | 20 => ⟨S4x4096x256, .f32⟩
  | 21 => ⟨S_, .f32⟩
  | 22 => ⟨S4x4096, .f32⟩
  | 23 => ⟨S4x4096x1, .f32⟩
  | 24 => ⟨S_, .f32⟩
  | 25 => ⟨S4x4096x1, .f32⟩
  | 26 => ⟨S4x4096x1, .f32⟩
  | 27 => ⟨S_, .f32⟩
  | 28 => ⟨S4x4096x1, .f32⟩
  | 29 => ⟨S4x4096x1, .f32⟩
  | 30 => ⟨S4x4096x1, .f32⟩
  | 31 => ⟨S4x4096x256, .f32⟩
  | 32 => ⟨S4x4096x256, .f32⟩
  | 33 => ⟨S1x1x256, .f32⟩
  | 34 => ⟨S4x4096x256, .f32⟩
  | 35 => ⟨S4x4096x256, .f32⟩
  | 36 => ⟨S4x4096x2048, .f32⟩
  | 37 => ⟨S4x4096x8x256, .f32⟩
  | 38 => ⟨S4x4096x512, .f32⟩
  | 39 => ⟨S4x4096x512, .f32⟩
  | 40 => ⟨S_, .f32⟩
  | 41 => ⟨S4x4096, .f32⟩
  | 42 => ⟨S4x4096x1, .f32⟩
  | 43 => ⟨S_, .f32⟩
  | 44 => ⟨S4x4096x1, .f32⟩
  | 45 => ⟨S4x4096x1, .f32⟩
  | 46 => ⟨S_, .f32⟩
  | 47 => ⟨S4x4096x1, .f32⟩
  | 48 => ⟨S4x4096x1, .f32⟩
  | 49 => ⟨S4x4096x1, .f32⟩
  | 50 => ⟨S4x4096x512, .f32⟩
  | 51 => ⟨S4x4096x512, .f32⟩
  | 52 => ⟨S1x1x512, .f32⟩
  | 53 => ⟨S4x4096x512, .f32⟩
  | 54 => ⟨S4x4096x512, .f32⟩
  | 55 => ⟨S4x4096x1536, .f32⟩
  | 56 => ⟨S4x4096x8x192, .f32⟩
  | 57 => ⟨S4x4096x8x64, .f32⟩
  | 58 => ⟨S64, .i32⟩
  | 59 => ⟨S64x64, .i32⟩
  | 60 => ⟨S4096, .i32⟩
  | 61 => ⟨S64, .i32⟩
  | 62 => ⟨S1x64, .i32⟩
  | 63 => ⟨S64x64, .i32⟩
  | 64 => ⟨S4096, .i32⟩
  | 65 => ⟨S4x4096x8x32, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S4096, .f32⟩
  | 75 => ⟨S4096x1, .f32⟩
  | 76 => ⟨S1x16, .f32⟩
  | 77 => ⟨S4096x16, .f32⟩
  | 78 => ⟨S4096x16, .f32⟩
  | 79 => ⟨S4096x16, .f32⟩
  | 80 => ⟨S4096x16, .f32⟩
  | 81 => ⟨S4096x1x16, .f32⟩
  | 82 => ⟨S4096x16, .f32⟩
  | 83 => ⟨S4096x1x16, .f32⟩
  | 84 => ⟨S4x4096x8x16, .f32⟩
  | 85 => ⟨S4x4096x8x16, .f32⟩
  | 86 => ⟨S1x4096x1x16, .f32⟩
  | 87 => ⟨S4x4096x8x16, .f32⟩
  | 88 => ⟨S4x4096x8x16, .f32⟩
  | 89 => ⟨S1x4096x1x16, .f32⟩
  | 90 => ⟨S4x4096x8x16, .f32⟩
  | 91 => ⟨S4x4096x8x16, .f32⟩
  | 92 => ⟨S4x4096x8x16, .f32⟩
  | 93 => ⟨S1x4096x1x16, .f32⟩
  | 94 => ⟨S4x4096x8x16, .f32⟩
  | 95 => ⟨S4x4096x8x16, .f32⟩
  | 96 => ⟨S1x4096x1x16, .f32⟩
  | 97 => ⟨S4x4096x8x16, .f32⟩
  | 98 => ⟨S4x4096x8x16, .f32⟩
  | 99 => ⟨S4x4096x8x16, .f32⟩
  | 100 => ⟨S4x4096x8x32, .f32⟩
  | 101 => ⟨S4x4096x8x32, .f32⟩
  | 102 => ⟨S16, .f32⟩
  | 103 => ⟨S16, .f32⟩
  | 104 => ⟨S_, .f32⟩
  | 105 => ⟨S16, .f32⟩
  | 106 => ⟨S16, .f32⟩
  | 107 => ⟨S_, .f32⟩
  | 108 => ⟨S16, .f32⟩
  | 109 => ⟨S16, .f32⟩
  | 110 => ⟨S4096, .f32⟩
  | 111 => ⟨S4096x1, .f32⟩
  | 112 => ⟨S1x16, .f32⟩
  | 113 => ⟨S4096x16, .f32⟩
  | 114 => ⟨S4096x16, .f32⟩
  | 115 => ⟨S4096x16, .f32⟩
  | 116 => ⟨S4096x16, .f32⟩
  | 117 => ⟨S4096x1x16, .f32⟩
  | 118 => ⟨S4096x16, .f32⟩
  | 119 => ⟨S4096x1x16, .f32⟩
  | 120 => ⟨S4x4096x8x16, .f32⟩
  | 121 => ⟨S4x4096x8x16, .f32⟩
  | 122 => ⟨S1x4096x1x16, .f32⟩
  | 123 => ⟨S4x4096x8x16, .f32⟩
  | 124 => ⟨S4x4096x8x16, .f32⟩
  | 125 => ⟨S1x4096x1x16, .f32⟩
  | 126 => ⟨S4x4096x8x16, .f32⟩
  | 127 => ⟨S4x4096x8x16, .f32⟩
  | _ => ⟨S17408x1024, .f32⟩

abbrev hbmTy0_2 (i : Nat) : BufTy := match i % 128 with
  | 0 => ⟨S4x4096x8x16, .f32⟩
  | 1 => ⟨S1x4096x1x16, .f32⟩
  | 2 => ⟨S4x4096x8x16, .f32⟩
  | 3 => ⟨S4x4096x8x16, .f32⟩
  | 4 => ⟨S1x4096x1x16, .f32⟩
  | 5 => ⟨S4x4096x8x16, .f32⟩
  | 6 => ⟨S4x4096x8x16, .f32⟩
  | 7 => ⟨S4x4096x8x16, .f32⟩
  | 8 => ⟨S4x4096x8x32, .f32⟩
  | 9 => ⟨S4x4096x8x64, .f32⟩
  | 10 => ⟨S64, .i32⟩
  | 11 => ⟨S64x64, .i32⟩
  | 12 => ⟨S4096, .i32⟩
  | 13 => ⟨S64, .i32⟩
  | 14 => ⟨S1x64, .i32⟩
  | 15 => ⟨S64x64, .i32⟩
  | 16 => ⟨S4096, .i32⟩
  | 17 => ⟨S4x4096x1x32, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4096, .f32⟩
  | 27 => ⟨S4096x1, .f32⟩
  | 28 => ⟨S1x16, .f32⟩
  | 29 => ⟨S4096x16, .f32⟩
  | 30 => ⟨S4096x16, .f32⟩
  | 31 => ⟨S4096x16, .f32⟩
  | 32 => ⟨S4096x16, .f32⟩
  | 33 => ⟨S4096x1x16, .f32⟩
  | 34 => ⟨S4096x16, .f32⟩
  | 35 => ⟨S4096x1x16, .f32⟩
  | 36 => ⟨S4x4096x1x16, .f32⟩
  | 37 => ⟨S4x4096x1x16, .f32⟩
  | 38 => ⟨S1x4096x1x16, .f32⟩
  | 39 => ⟨S4x4096x1x16, .f32⟩
  | 40 => ⟨S4x4096x1x16, .f32⟩
  | 41 => ⟨S1x4096x1x16, .f32⟩
  | 42 => ⟨S4x4096x1x16, .f32⟩
  | 43 => ⟨S4x4096x1x16, .f32⟩
  | 44 => ⟨S4x4096x1x16, .f32⟩
  | 45 => ⟨S1x4096x1x16, .f32⟩
  | 46 => ⟨S4x4096x1x16, .f32⟩
  | 47 => ⟨S4x4096x1x16, .f32⟩
  | 48 => ⟨S1x4096x1x16, .f32⟩
  | 49 => ⟨S4x4096x1x16, .f32⟩
  | 50 => ⟨S4x4096x1x16, .f32⟩
  | 51 => ⟨S4x4096x1x16, .f32⟩
  | 52 => ⟨S4x4096x1x32, .f32⟩
  | 53 => ⟨S4x4096x1x32, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S4096, .f32⟩
  | 63 => ⟨S4096x1, .f32⟩
  | 64 => ⟨S1x16, .f32⟩
  | 65 => ⟨S4096x16, .f32⟩
  | 66 => ⟨S4096x16, .f32⟩
  | 67 => ⟨S4096x16, .f32⟩
  | 68 => ⟨S4096x16, .f32⟩
  | 69 => ⟨S4096x1x16, .f32⟩
  | 70 => ⟨S4096x16, .f32⟩
  | 71 => ⟨S4096x1x16, .f32⟩
  | 72 => ⟨S4x4096x1x16, .f32⟩
  | 73 => ⟨S4x4096x1x16, .f32⟩
  | 74 => ⟨S1x4096x1x16, .f32⟩
  | 75 => ⟨S4x4096x1x16, .f32⟩
  | 76 => ⟨S4x4096x1x16, .f32⟩
  | 77 => ⟨S1x4096x1x16, .f32⟩
  | 78 => ⟨S4x4096x1x16, .f32⟩
  | 79 => ⟨S4x4096x1x16, .f32⟩
  | 80 => ⟨S4x4096x1x16, .f32⟩
  | 81 => ⟨S1x4096x1x16, .f32⟩
  | 82 => ⟨S4x4096x1x16, .f32⟩
  | 83 => ⟨S4x4096x1x16, .f32⟩
  | 84 => ⟨S1x4096x1x16, .f32⟩
  | 85 => ⟨S4x4096x1x16, .f32⟩
  | 86 => ⟨S4x4096x1x16, .f32⟩
  | 87 => ⟨S4x4096x1x16, .f32⟩
  | 88 => ⟨S4x4096x1x32, .f32⟩
  | 89 => ⟨S4x4096x1x64, .f32⟩
  | 90 => ⟨S_, .f32⟩
  | 91 => ⟨S4x4096x1x32, .f32⟩
  | 92 => ⟨S4x4096x1x16, .f32⟩
  | 93 => ⟨S4x4096x1x16, .f32⟩
  | 94 => ⟨S4x4096x1x16, .f32⟩
  | 95 => ⟨S4x4096x1x16, .f32⟩
  | 96 => ⟨S4x4096x1x128, .f32⟩
  | 97 => ⟨S4x4096x8x128, .f32⟩
  | 98 => ⟨S4x4096x8x128, .f32⟩
  | 99 => ⟨S4x4096x8x256, .f32⟩
  | 100 => ⟨S4x4096x8x128, .f32⟩
  | 101 => ⟨S_, .f32⟩
  | 102 => ⟨S4x4096x8x32, .f32⟩
  | 103 => ⟨S4x4096x8x16, .f32⟩
  | 104 => ⟨S4x4096x8x16, .f32⟩
  | 105 => ⟨S4x4096x8x16, .f32⟩
  | 106 => ⟨S4x4096x8x16, .f32⟩
  | 107 => ⟨S4x4096x8x128, .f32⟩
  | 108 => ⟨S4x4096x8x256, .f32⟩
  | 109 => ⟨S_, .f32⟩
  | 110 => ⟨S_, .f32⟩
  | 111 => ⟨S4x4096x8x256, .f32⟩
  | 112 => ⟨S4x4096x8x256, .f32⟩
  | 113 => ⟨S_, .f32⟩
  | 114 => ⟨S_, .f32⟩
  | 115 => ⟨S4x4096x8x256, .f32⟩
  | 116 => ⟨S4x4096x8x256, .f32⟩
  | 117 => ⟨S4x4096x2048, .f32⟩
  | 118 => ⟨S4x4096x2048, .f32⟩
  | 119 => ⟨S4x4096x8x128, .f32⟩
  | 120 => ⟨S4x4096x1024, .f32⟩
  | 121 => ⟨S4x4352x2048, .f32⟩
  | 122 => ⟨S17408x2048, .f32⟩
  | 123 => ⟨S17408x2048, .bf16⟩
  | 124 => ⟨S4x4352x2048, .f32⟩
  | 125 => ⟨S17408x2048, .f32⟩
  | 126 => ⟨S17408x2048, .bf16⟩
  | 127 => ⟨S4x4352x1024, .f32⟩
  | _ => ⟨S17408x1024, .f32⟩

abbrev hbmTy0_3 (i : Nat) : BufTy := match i % 128 with
  | 0 => ⟨S17408x1024, .f32⟩
  | 1 => ⟨S17408x1024, .bf16⟩
  | _ => ⟨S17408x1024, .f32⟩

abbrev hbmTy (i : Nat) : BufTy := match i / 128 with
  | 0 => hbmTy0_0 i
  | 1 => hbmTy0_1 i
  | 2 => hbmTy0_2 i
  | 3 => hbmTy0_3 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_cst_11 : Ref sig .tc := ⟨.hbm, 98, rfl⟩
abbrev main_v77 : Ref sig .tc := ⟨.hbm, 99, rfl⟩
abbrev main_v78 : Ref sig .tc := ⟨.hbm, 100, rfl⟩
abbrev main_cst_12 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_13 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_14 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_15 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_16 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_17 : Ref sig .tc := ⟨.hbm, 149, rfl⟩
abbrev main_v122 : Ref sig .tc := ⟨.hbm, 150, rfl⟩
abbrev main_v123 : Ref sig .tc := ⟨.hbm, 151, rfl⟩
abbrev main_cst_18 : Ref sig .tc := ⟨.hbm, 152, rfl⟩
abbrev main_v124 : Ref sig .tc := ⟨.hbm, 153, rfl⟩
abbrev main_v125 : Ref sig .tc := ⟨.hbm, 154, rfl⟩
abbrev main_cst_19 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_20 : Ref sig .tc := ⟨.hbm, 168, rfl⟩
abbrev main_v138 : Ref sig .tc := ⟨.hbm, 169, rfl⟩
abbrev main_v139 : Ref sig .tc := ⟨.hbm, 170, rfl⟩
abbrev main_cst_21 : Ref sig .tc := ⟨.hbm, 171, rfl⟩
abbrev main_v140 : Ref sig .tc := ⟨.hbm, 172, rfl⟩
abbrev main_v141 : Ref sig .tc := ⟨.hbm, 173, rfl⟩
abbrev main_cst_22 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_23 : Ref sig .tc := ⟨.hbm, 196, rfl⟩
abbrev main_v163 : Ref sig .tc := ⟨.hbm, 197, rfl⟩
abbrev main_v164 : Ref sig .tc := ⟨.hbm, 198, rfl⟩
abbrev main_cst_24 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_cst_25 : Ref sig .tc := ⟨.hbm, 232, rfl⟩
abbrev main_v197 : Ref sig .tc := ⟨.hbm, 233, rfl⟩
abbrev main_v198 : Ref sig .tc := ⟨.hbm, 234, rfl⟩
abbrev main_cst_26 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_cst_27 : Ref sig .tc := ⟨.hbm, 276, rfl⟩
abbrev main_v239 : Ref sig .tc := ⟨.hbm, 277, rfl⟩
abbrev main_v240 : Ref sig .tc := ⟨.hbm, 278, rfl⟩
abbrev main_cst_28 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_v267 : Ref sig .tc := ⟨.hbm, 306, rfl⟩
abbrev main_v268 : Ref sig .tc := ⟨.hbm, 307, rfl⟩
abbrev main_v269 : Ref sig .tc := ⟨.hbm, 308, rfl⟩
abbrev main_v270 : Ref sig .tc := ⟨.hbm, 309, rfl⟩
abbrev main_v271 : Ref sig .tc := ⟨.hbm, 310, rfl⟩
abbrev main_v272 : Ref sig .tc := ⟨.hbm, 311, rfl⟩
abbrev main_cst_29 : Ref sig .tc := ⟨.hbm, 312, rfl⟩
abbrev main_v273 : Ref sig .tc := ⟨.hbm, 313, rfl⟩
abbrev main_v274 : Ref sig .tc := ⟨.hbm, 314, rfl⟩
abbrev main_cst_30 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_cst_31 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_cst_32 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_cst_33 : Ref sig .tc := ⟨.hbm, 365, rfl⟩
abbrev main_v322 : Ref sig .tc := ⟨.hbm, 366, rfl⟩
abbrev main_v323 : Ref sig .tc := ⟨.hbm, 367, rfl⟩
abbrev main_v324 : Ref sig .tc := ⟨.hbm, 368, rfl⟩
abbrev main_cst_34 : Ref sig .tc := ⟨.hbm, 369, rfl⟩
abbrev main_v325 : Ref sig .tc := ⟨.hbm, 370, rfl⟩
abbrev main_v326 : Ref sig .tc := ⟨.hbm, 371, rfl⟩
abbrev main_v327 : Ref sig .tc := ⟨.hbm, 372, rfl⟩
abbrev main_v328 : Ref sig .tc := ⟨.hbm, 373, rfl⟩
abbrev main_v329 : Ref sig .tc := ⟨.hbm, 374, rfl⟩
abbrev main_v330 : Ref sig .tc := ⟨.hbm, 375, rfl⟩
abbrev main_v331 : Ref sig .tc := ⟨.hbm, 376, rfl⟩
abbrev main_v332 : Ref sig .tc := ⟨.hbm, 377, rfl⟩
abbrev main_v333 : Ref sig .tc := ⟨.hbm, 378, rfl⟩
abbrev main_v334 : Ref sig .tc := ⟨.hbm, 379, rfl⟩
abbrev main_v335 : Ref sig .tc := ⟨.hbm, 380, rfl⟩
abbrev main_v336 : Ref sig .tc := ⟨.hbm, 381, rfl⟩
abbrev main_v337 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩

abbrev nD : Nat := 1
abbrev τ : Topo := Topo.v7x

variable {F : FTy → Type} [FloatOps F]
-- ==== Proof.Head.lean ====
/-
  One head of the attention kernel, as a term of vector operations over any floats: the scores of a chunk of 256 keys,
  the running row maximum, the weights `2 ^ (score - maximum)`, the running sums of the weights and of the weighted
  values, and the quotient. The two programs (16 query heads over 8 key heads of width 128; 8 heads of width 256) print
  this term once per head and number of chunks, cut into differently named pieces.
-/
module

public import Idealize.ShloMosaic.Lib.MatmulPlain
public import Idealize.ShloMosaic.Lib.Pointwise

@[expose] public section

set_option maxRecDepth 16384

noncomputable section

namespace Cert.Attn

open Idealize.ShloMosaic

variable {F : FTy → Type} [FloatOps F]

/-- The shapes of one head, named by their extents. -/
abbrev R1 (a : ℕ) : Shape := ⟨1, ![a]⟩
abbrev R2 (a b : ℕ) : Shape := ⟨2, ![a, b]⟩
abbrev R3 (a b c : ℕ) : Shape := ⟨3, ![a, b, c]⟩

/-- `op` over `x 0, …, x n`, from the left. -/
def accum {α : Type} (op : α → α → α) : (n : ℕ) → (Fin (n + 1) → α) → α
  | 0, x => x 0
  | n + 1, x => op (accum op n fun i => x i.castSucc) (x (Fin.last (n + 1)))

/-- A row of 256 lanes folded to 128: the two halves under `op`. -/
def halves (op : FVec F (R2 256 128) .f32 → FVec F (R2 256 128) .f32 → FVec F (R2 256 128) .f32)
    (x : FVec F (R2 256 256) .f32) : FVec F (R2 256 128) .f32 :=
  op (extractStridedSlice (R2 256 128) ![0, 0] x (by decide)) (extractStridedSlice (R2 256 128) ![0, 128] x (by decide))

/-- The scores of 256 queries against a chunk of 256 keys. -/
def scores {dk : ℕ} (q k : FVec F (R2 256 dk) .bf16) : FVec F (R2 256 256) .f32 :=
  matmul (DotDims.transposedRhs 256 dk 256) none q k (constant (R2 256 256) .f32 0x00000000#32)

/-- The rows' maxima over all chunks, as a column. -/
def rowMax (n : ℕ) (sc : Fin (n + 1) → FVec F (R2 256 256) .f32) : FVec F (R2 256 1) .f32 :=
  shapeCast (R2 256 1)
    (multiReduction .maximumf [1] (R1 256) (accum maximumf n fun c => halves maximumf (sc c)) 0xFF800000#32 (by decide) (.inl rfl) rfl)
    (by decide)

/-- The weights of a chunk: `2 ^ (score - maximum)`. -/
def weights (m : FVec F (R2 256 1) .f32) (s : FVec F (R3 1 256 256) .f32) : FVec F (R2 256 256) .f32 :=
  exp2 (subf (shapeCast (R2 256 256) s (by decide)) (broadcastTo (R2 256 256) m (by decide)))

/-- One head's block of the result from its chunks' scores `sc`, the scores `ld` as read back, and the values `v`. -/
def headOut (n : ℕ) (sc : Fin (n + 1) → FVec F (R2 256 256) .f32) (ld : Fin (n + 1) → FVec F (R3 1 256 256) .f32)
    (v : Fin (n + 1) → FVec F (R3 1 256 128) .bf16) : FVec F (R3 1 256 128) .bf16 :=
  shapeCast (R3 1 256 128)
    (truncf .bf16
      (divf
        (accum addf n fun c => matmul (DotDims.plain 256 256 128) none (truncf .bf16 (weights (rowMax n sc) (ld c)) (by decide))
          (shapeCast (R2 256 128) (v c) (by decide)) (constant (R2 256 128) .f32 0x00000000#32))
        (broadcastTo (R2 256 128)
          (shapeCast (R2 256 1)
            (multiReduction .add [1] (R1 256) (accum addf n fun c => halves addf (weights (rowMax n sc) (ld c))) 0x00000000#32 (by decide) (.inl rfl) rfl)
            (by decide))
          (by decide)))
      (by decide))
    (by decide)

/-- A box of `u × w × z` elements at `(o, p, q)` lies inside a block. -/
theorem inb3 {a b c o p q u w z : ℕ} (h : o + u ≤ a ∧ p + w ≤ b ∧ q + z ≤ c) :
    ∀ x, (![o, p, q] : Fin 3 → ℕ) x + (![u, w, z] : Fin 3 → ℕ) x ≤ (R3 a b c).size x := by
  intro x
  fin_cases x
  exacts [h.1, h.2.1, h.2.2]

/-- That box. -/
abbrev box3 {a b c : ℕ} (o p q u w z : ℕ) (h : o + u ≤ a ∧ p + w ≤ b ∧ q + z ≤ c) : Rect (R3 a b c) :=
  Rect.unit ![o, p, q] ![u, w, z] (inb3 h)

/-- A load of a box of a staged block. -/
def load {sig : RefSig} {e : EltTy} {a b c : ℕ} (arg : Memref sig .tc .vmem (R3 a b c) e) (harg : arg.IsWhole)
    (x : (R3 a b c).Idx → Elt F e) (o p q u w z : ℕ) (h : o + u ≤ a ∧ p + w ≤ b ∧ q + z ≤ c) : (R3 u w z).Idx → Elt F e :=
  View.readAt (Elt F) arg.view (box3 o p q u w z h).toLoadRect (harg.unread x)

/-- A load of a box of a scratch buffer, of what the stores `L` left in it. -/
def reload {sig : RefSig} {e : EltTy} {a b c : ℕ} (arg : Memref sig .tc .vmem (R3 a b c) e)
    (L : List (View.Piece (Elt F) (R3 a b c) e)) (o p q u w z : ℕ) (h : o + u ≤ a ∧ p + w ≤ b ∧ q + z ≤ c) : (R3 u w z).Idx → Elt F e :=
  View.readCov (Val := Elt F) arg.view L (box3 o p q u w z h).toLoadRect

/-- A block of one plane as a matrix. -/
def plane {φ : FTy} {b c : ℕ} (x : FVec F (R3 1 b c) φ) : FVec F (R2 b c) φ :=
  shapeCast (R2 b c) x (by simp [Shape.ShapeCasts, Shape.numel, Fin.prod_univ_succ])

/-! ## A grid step: four heads, over `n + 1` chunks of keys -/

section Step

variable {sig : RefSig} {n : ℕ} (hn : n ≤ 16)

theorem score_bound (hn : n ≤ 16) (j : Fin 4) (c : Fin (n + 1)) :
    j.val + 1 ≤ 4 ∧ 0 + 256 ≤ 256 ∧ 256 * c.val + 256 ≤ 4352 := by omega

/-- Where the scores of head `j` and chunk `c` are kept. -/
abbrev scoreBox (j : Fin 4) (c : Fin (n + 1)) : Rect (R3 4 256 4352) :=
  box3 j.val 0 (256 * c.val) 1 256 256 (score_bound hn j c)

/-- The store of those scores. -/
def scorePiece (sc : Fin 4 → Fin (n + 1) → FVec F (R2 256 256) .f32) (j : Fin 4) (c : Fin (n + 1)) :
    View.Piece (Elt F) (R3 4 256 4352) EltTy.f32 :=
  ⟨scoreBox hn j c, shapeCast (R3 1 256 256) (sc j c) (by decide)⟩

/-- The first `i` stores of scores, the last one first: heads in order, chunks in order. -/
def stack (sc : Fin 4 → Fin (n + 1) → FVec F (R2 256 256) .f32) :
    (i : ℕ) → i ≤ 4 * (n + 1) → List (View.Piece (Elt F) (R3 4 256 4352) EltTy.f32)
  | 0, _ => []
  | i + 1, hi =>
    scorePiece hn sc ⟨i / (n + 1), Nat.div_lt_of_lt_mul (by omega)⟩ ⟨i % (n + 1), Nat.mod_lt _ (by omega)⟩
      :: stack sc i (by omega)

theorem stack_bound (j : Fin 4) : (n + 1) * (j.val + 1) ≤ 4 * (n + 1) := by
  rw [mul_comm]; exact Nat.mul_le_mul_right _ j.isLt

/-- The store of head `j`'s block of the result. -/
def outPiece (scr : Memref sig .tc .vmem (R3 4 256 4352) .f32) (sc : Fin 4 → Fin (n + 1) → FVec F (R2 256 256) .f32)
    (v : Fin 4 → Fin (n + 1) → FVec F (R3 1 256 128) .bf16) (j : Fin 4) : View.Piece (Elt F) (R3 1 256 512) EltTy.bf16 :=
  ⟨box3 0 0 (128 * j.val) 1 256 128 (by omega),
    headOut n (sc j) (fun c => reload scr (stack hn sc ((n + 1) * (j.val + 1)) (stack_bound j)) j.val 0 (256 * c.val) 1 256 256 (score_bound hn j c)) (v j)⟩

/-- All stores of the result, the last one first. -/
def outPieces (scr : Memref sig .tc .vmem (R3 4 256 4352) .f32) (sc : Fin 4 → Fin (n + 1) → FVec F (R2 256 256) .f32)
    (v : Fin 4 → Fin (n + 1) → FVec F (R3 1 256 128) .bf16) : List (View.Piece (Elt F) (R3 1 256 512) EltTy.bf16) :=
  [outPiece hn scr sc v 3, outPiece hn scr sc v 2, outPiece hn scr sc v 1, outPiece hn scr sc v 0]

/-- The scores of head `j` and chunk `c` from the staged queries and keys, `g` query heads to a key head. -/
def stepScores {wq wk dk g : ℕ} (hq : 4 * dk ≤ wq) (hk : ∀ j : Fin 4, dk * (j.val / g) + dk ≤ wk)
    (qa : Memref sig .tc .vmem (R3 1 256 wq) .bf16) (hqa : qa.IsWhole) (q : FVec F (R3 1 256 wq) .bf16)
    (ka : Memref sig .tc .vmem (R3 1 4352 wk) .bf16) (hka : ka.IsWhole) (k : FVec F (R3 1 4352 wk) .bf16)
    (j : Fin 4) (c : Fin (n + 1)) : FVec F (R2 256 256) .f32 :=
  scores (plane (load qa hqa q 0 0 (dk * j.val) 1 256 dk ⟨by omega, by omega, by nlinarith [j.isLt]⟩))
    (plane (load ka hka k 0 (256 * c.val) (dk * (j.val / g)) 1 256 dk ⟨by omega, by omega, hk j⟩))

/-- The values of head `j` and chunk `c` from the staged values. -/
def stepValues {wv g : ℕ} (hv : ∀ j : Fin 4, 128 * (j.val / g) + 128 ≤ wv)
    (va : Memref sig .tc .vmem (R3 1 4352 wv) .bf16) (hva : va.IsWhole) (v : FVec F (R3 1 4352 wv) .bf16)
    (j : Fin 4) (c : Fin (n + 1)) : FVec F (R3 1 256 128) .bf16 :=
  load va hva v 0 (256 * c.val) (128 * (j.val / g)) 1 256 128 ⟨by omega, by omega, hv j⟩

end Step

end Cert.Attn

end
-- ==== Proof.Softmax.lean ====
/-
  The softmax average over the extended reals. For finite scores the weights are `w n / ∑ w` with `w n = 2 ^ score n`,
  whatever finite number is subtracted from the scores first, and in base `e` as in base 2 after a factor `ln 2`. The
  values averaged may be infinite: a positive finite factor still distributes over a sum.
-/
module

public import Mathlib.Data.Finset.Fold
public import Idealize.ShloMosaic.Lib.Pointwise
public import Idealize.ShloMosaic.PureOps.Ideal.Laws

@[expose] public section

noncomputable section

namespace Cert.Attn

open Idealize.ShloMosaic

/-- The weight of entry `n`: `2 ^ s n` over the sum of all of them. -/
def weight {N : ℕ} (s : Fin N → ℝ) (n : Fin N) : ℝ := (2 : ℝ) ^ s n / ∑ k, (2 : ℝ) ^ s k

/-- The softmax average of `v` with scores `s` (in base 2). -/
def average {N : ℕ} (s : Fin N → ℝ) (v : Fin N → EReal) : EReal := ∑ n, (weight s n : EReal) * v n

theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

/-- A nonnegative finite factor distributes over a sum of extended reals. -/
theorem mul_sum_coe {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top c), ih]

theorem div_coe (x : EReal) {y : ℝ} (hy : y ≠ 0) : Ideal.div x (y : EReal) = ((y⁻¹ : ℝ) : EReal) * x := by
  unfold Ideal.div
  rw [if_neg (by exact_mod_cast hy), mul_comm, EReal.coe_inv]

theorem two_rpow_sum_pos {N : ℕ} (hN : 0 < N) (s : Fin N → ℝ) : 0 < ∑ k, (2 : ℝ) ^ s k :=
  Finset.sum_pos (fun k _ => Real.rpow_pos_of_pos (by norm_num) _) ⟨⟨0, hN⟩, Finset.mem_univ _⟩

theorem weight_nonneg {N : ℕ} (s : Fin N → ℝ) (n : Fin N) : 0 ≤ weight s n :=
  div_nonneg (Real.rpow_nonneg (by norm_num) _) (Finset.sum_nonneg fun _ _ => Real.rpow_nonneg (by norm_num) _)

/-- The weights do not depend on the number subtracted from every score. -/
theorem weight_shift {N : ℕ} (s : Fin N → ℝ) (μ : ℝ) (n : Fin N) :
    (∑ k, (2 : ℝ) ^ (s k - μ))⁻¹ * (2 : ℝ) ^ (s n - μ) = weight s n := by
  have e : ∀ k, (2 : ℝ) ^ (s k - μ) = (2 : ℝ) ^ s k * ((2 : ℝ) ^ μ)⁻¹ := fun k => by
    rw [Real.rpow_sub (by norm_num), div_eq_mul_inv]
  have hμ : ((2 : ℝ) ^ μ) ≠ 0 := (Real.rpow_pos_of_pos (by norm_num) _).ne'
  simp only [e, weight, ← Finset.sum_mul]
  rw [mul_inv, inv_inv]
  field_simp

/-- The sum of the weighted values over the sum of the weights. -/
theorem quotient_eq_average {N : ℕ} (hN : 0 < N) (s : Fin N → ℝ) (μ : ℝ) (v : Fin N → EReal) :
    Ideal.div (∑ n, (((2 : ℝ) ^ (s n - μ) : ℝ) : EReal) * v n) (∑ n, (((2 : ℝ) ^ (s n - μ) : ℝ) : EReal)) = average s v := by
  have hpos := two_rpow_sum_pos hN fun n => s n - μ
  rw [← coe_sum, div_coe _ hpos.ne', mul_sum_coe _ _ (inv_nonneg.mpr hpos.le)]
  refine Finset.sum_congr rfl fun n _ => ?_
  rw [← mul_assoc, ← EReal.coe_mul, weight_shift]

/-- The normalised weights in base `e` of the scores times `ln 2`. -/
theorem exp_weight {N : ℕ} (hN : 0 < N) (s : Fin N → ℝ) (μ : ℝ) (n : Fin N) :
    Ideal.div ((Real.exp (s n * Real.log 2 - μ) : ℝ) : EReal) (∑ k, ((Real.exp (s k * Real.log 2 - μ) : ℝ) : EReal))
      = (weight s n : EReal) := by
  have e : ∀ k, Real.exp (s k * Real.log 2 - μ) = (2 : ℝ) ^ (s k - μ / Real.log 2) := fun k => by
    rw [Real.rpow_def_of_pos (by norm_num)]
    congr 1
    have : Real.log 2 ≠ 0 := (Real.log_pos (by norm_num)).ne'
    field_simp
  have hpos := two_rpow_sum_pos hN fun n => s n - μ / Real.log 2
  simp only [e]
  rw [← coe_sum, div_coe _ hpos.ne', ← EReal.coe_mul, weight_shift]

/-- The maximum of finitely many finite numbers, from `-∞`, is finite. -/
theorem fold_max_coe {ι : Type} [Fintype ι] [Nonempty ι] (f : ι → EReal) (hf : ∀ i, ∃ r : ℝ, f i = r) :
    ∃ μ : ℝ, Finset.univ.fold max ⊥ f = (μ : EReal) := by
  obtain ⟨i⟩ := (inferInstance : Nonempty ι)
  have h1 : Finset.univ.fold max ⊥ f ≠ ⊤ := by
    refine ((Finset.fold_max_lt (c := (⊤ : EReal))).2 ⟨bot_lt_top, fun x _ => ?_⟩).ne
    obtain ⟨r, hr⟩ := hf x
    rw [hr]; exact EReal.coe_lt_top r
  have h2 : Finset.univ.fold max ⊥ f ≠ ⊥ := by
    obtain ⟨r, hr⟩ := hf i
    refine ((Finset.lt_fold_max (c := (⊥ : EReal))).2 (Or.inr ⟨i, Finset.mem_univ i, ?_⟩)).ne'
    rw [hr]; exact EReal.bot_lt_coe r
  exact ⟨_, (EReal.coe_toReal h1 h2).symm⟩

theorem max_coe {a b : EReal} (ha : ∃ r : ℝ, a = r) (hb : ∃ r : ℝ, b = r) : ∃ r : ℝ, max a b = r := by
  rcases max_choice a b with h | h <;> rw [h]
  exacts [ha, hb]

/-- A scalar product of finite vectors is finite. -/
theorem dot_coe {ι : Type} (t : Finset ι) (f g : ι → EReal) (hf : ∀ i, ∃ r : ℝ, f i = r) (hg : ∀ i, ∃ r : ℝ, g i = r) :
    ∃ r : ℝ, ∑ i ∈ t, f i * g i = (r : EReal) := by
  choose a ha using hf
  choose b hb using hg
  exact ⟨∑ i ∈ t, a i * b i, by rw [coe_sum]; exact Finset.sum_congr rfl fun i _ => by rw [ha, hb, EReal.coe_mul]⟩

end Cert.Attn

end
-- ==== Proof.HeadValue.lean ====
/-
  One head of the attention kernel over the extended reals: with finite scores it is the softmax average of the values,
  over the keys of all chunks in order.
-/
module

public import proofs.«01_k».proof.Proof.Head
public import proofs.«01_k».proof.Proof.Softmax

@[expose] public section

set_option maxRecDepth 16384

noncomputable section

namespace Cert.Attn

open Idealize.ShloMosaic

/-- Key `i` of chunk `c` among all keys. -/
abbrev key {n : ℕ} (c : Fin (n + 1)) (i : Fin 256) : Fin ((n + 1) * 256) := finProdFinEquiv (c, i)

theorem divNat_key {n : ℕ} (c : Fin (n + 1)) (i : Fin 256) : (key c i).divNat = c :=
  congrArg Prod.fst (finProdFinEquiv.symm_apply_apply (c, i))

theorem modNat_key {n : ℕ} (c : Fin (n + 1)) (i : Fin 256) : (key c i).modNat = i :=
  congrArg Prod.snd (finProdFinEquiv.symm_apply_apply (c, i))

theorem sum_keys {n : ℕ} (f : Fin ((n + 1) * 256) → EReal) : ∑ c : Fin (n + 1), ∑ i : Fin 256, f (key c i) = ∑ k, f k := by
  rw [← Fintype.sum_prod_type' (fun c i => f (key c i))]
  exact Fintype.sum_equiv finProdFinEquiv _ _ fun _ => rfl

theorem accum_add_apply {s : Shape} (n : ℕ) (x : Fin (n + 1) → FVec Ideal s .f32) (j : s.Idx) :
    accum addf n x j = ∑ c, x c j := by
  induction n with
  | zero => simp [accum]
  | succ n ih =>
    rw [Fin.sum_univ_castSucc, ← ih]
    rfl

theorem accum_max_apply {s : Shape} (n : ℕ) (x : Fin (n + 1) → FVec Ideal s .f32) (j : s.Idx)
    (h : ∀ c, ∃ r : ℝ, x c j = r) : ∃ r : ℝ, accum maximumf n x j = r := by
  induction n with
  | zero => exact h 0
  | succ n ih => exact max_coe (ih _ fun c => h c.castSucc) (h (Fin.last _))

theorem negInf_f32 : Ideal.ofBits .f32 0xFF800000#32 = ⊥ := by
  simp [Ideal.ofBits, Ideal.ieee]

theorem lane_lt {x : ℕ} (h : x < 128) : x < 256 := by omega
theorem lane_add_lt {x : ℕ} (h : x < 128) : 128 + x < 256 := by omega

/-- A sum over 256 lanes as the sum over the folded 128. -/
theorem sum_lanes (f : Fin 256 → EReal) : ∑ x : Fin 128, (f ⟨x, lane_lt x.2⟩ + f ⟨128 + x, lane_add_lt x.2⟩) = ∑ i, f i := by
  rw [Finset.sum_add_distrib, show (∑ i, f i) = _ from Fin.sum_univ_add (a := 128) (b := 128) f]
  rfl

theorem halves_add_apply (s : FVec Ideal (R2 256 256) .f32) (r : Fin 256) (x : Fin 128) :
    halves addf s (ix2 r x) = s (ix2 r ⟨x, lane_lt x.2⟩) + s (ix2 r ⟨128 + x, lane_add_lt x.2⟩) := by
  unfold halves
  pointwise

theorem halves_max_apply (s : FVec Ideal (R2 256 256) .f32) (r : Fin 256) (x : Fin 128) :
    halves maximumf s (ix2 r x) = max (s (ix2 r ⟨x, lane_lt x.2⟩)) (s (ix2 r ⟨128 + x, lane_add_lt x.2⟩)) := by
  unfold halves
  pointwise

theorem rowMax_coe (n : ℕ) (sc : Fin (n + 1) → FVec Ideal (R2 256 256) .f32) (r : Fin 256)
    (h : ∀ c i, ∃ x : ℝ, sc c (ix2 r i) = x) : ∃ μ : ℝ, rowMax n sc (ix2 r 0) = μ := by
  have e : rowMax n sc (ix2 r 0) = Finset.univ.fold max ⊥ fun x => accum maximumf n (fun c => halves maximumf (sc c)) (ix2 r x) := by
    unfold rowMax
    pointwise
    rw [negInf_f32]
  rw [e]
  refine fold_max_coe _ fun x => accum_max_apply _ _ _ fun c => ?_
  rw [halves_max_apply]
  exact max_coe (h _ _) (h _ _)

theorem weights_apply (m : FVec Ideal (R2 256 1) .f32) (s : FVec Ideal (R3 1 256 256) .f32) (r i : Fin 256) {x μ : ℝ}
    (hm : m (ix2 r 0) = μ) (hs : s (ix3 0 r i) = x) : weights m s (ix2 r i) = (((2 : ℝ) ^ (x - μ) : ℝ) : EReal) := by
  unfold weights
  pointwise
  rw [hm, hs, ← EReal.coe_sub]
  exact Ideal.exp2_coe _

/-- The weighted values of a chunk. -/
theorem weighted_apply (p : FVec Ideal (R2 256 256) .f32) (v : FVec Ideal (R3 1 256 128) .bf16) (r : Fin 256) (d : Fin 128)
    (h1 : FTy.bf16.bits < FTy.f32.bits) (h2 : Shape.ShapeCasts (R3 1 256 128) (R2 256 128)) :
    matmul (DotDims.plain 256 256 128) none (truncf .bf16 p h1) (shapeCast (R2 256 128) v h2)
        (constant (R2 256 128) .f32 0x00000000#32) (ix2 r d)
      = ∑ i : Fin 256, p (ix2 r i) * v (ix3 0 i d) := by
  rw [ix2_eq_valueIdx]
  refine (Ideal.matmul_plain_apply (M := 256) (K := 256) (N := 128) none _ _ _ r d).trans ?_
  have hz : constant (F := Ideal) (R2 256 128) .f32 0x00000000#32 (ValueIdx.ix2 r d) = 0 := Ideal.ofBits_zero_f32
  rw [hz, zero_add]
  refine Finset.sum_congr rfl fun i _ => ?_
  rw [← ix2_eq_valueIdx, ← ix2_eq_valueIdx]
  congr 1
  pointwise

theorem scores_apply {dk : ℕ} (q k : FVec Ideal (R2 256 dk) .bf16) (r i : Fin 256) :
    scores q k (ix2 r i) = ∑ d : Fin dk, q (ix2 r d) * k (ix2 i d) := by
  unfold scores
  rw [ix2_eq_valueIdx]
  refine (Ideal.matmul_transposedRhs_apply (M := 256) (K := dk) (N := 256) none q k _ r i).trans ?_
  have hz : constant (F := Ideal) (R2 256 256) .f32 0x00000000#32 (ValueIdx.ix2 r i) = 0 := Ideal.ofBits_zero_f32
  rw [hz, zero_add]
  refine Finset.sum_congr rfl fun i _ => ?_
  rw [← ix2_eq_valueIdx, ← ix2_eq_valueIdx]

theorem headOut_apply (n : ℕ) (sc : Fin (n + 1) → FVec Ideal (R2 256 256) .f32) (ld : Fin (n + 1) → FVec Ideal (R3 1 256 256) .f32)
    (v : Fin (n + 1) → FVec Ideal (R3 1 256 128) .bf16) (r : Fin 256) (d : Fin 128) (s : Fin ((n + 1) * 256) → ℝ)
    (hsc : ∀ c i, sc c (ix2 r i) = (s (key c i) : EReal)) (hld : ∀ c i, ld c (ix3 0 r i) = (s (key c i) : EReal)) :
    headOut n sc ld v (ix3 0 r d) = average s fun k => v k.divNat (ix3 0 k.modNat d) := by
  obtain ⟨μ, hμ⟩ := rowMax_coe n sc r fun c i => ⟨_, hsc c i⟩
  have hw : ∀ c i, weights (rowMax n sc) (ld c) (ix2 r i) = (((2 : ℝ) ^ (s (key c i) - μ) : ℝ) : EReal) := fun c i =>
    weights_apply _ _ r i hμ (hld c i)
  rw [← quotient_eq_average (by omega) s μ]
  unfold headOut
  pointwise
  refine congrArg₂ Ideal.div ?_ ?_
  · rw [accum_add_apply, ← sum_keys]
    refine Finset.sum_congr rfl fun c _ => ?_
    refine (weighted_apply _ _ _ _ _ _).trans (Finset.sum_congr rfl fun i _ => ?_)
    rw [hw, divNat_key, modNat_key]
  · simp only [accum_add_apply, halves_add_apply, hw]
    rw [Finset.sum_comm, ← sum_keys]
    exact Finset.sum_congr rfl fun c _ => sum_lanes fun i => (((2 : ℝ) ^ (s (key c i) - μ) : ℝ) : EReal)

end Cert.Attn

end
-- ==== Proof.StepValue.lean ====
/-
  One grid step of the attention kernel over the extended reals: entry `(row, 128 * head + lane)` of the block it stores
  is the softmax average of that head's values under the scalar products of the row's query with the keys.
-/
module

public import proofs.«01_k».proof.Proof.HeadValue
public import Idealize.ShloMosaic.Lib.WholeRead
public import Idealize.ShloMosaic.Lib.Pipeline.ValueKit.Tiles
public import Idealize.ShloMosaic.Lib.Pipeline.Value

@[expose] public section

set_option maxRecDepth 16384

noncomputable section

namespace Cert.Attn

open Idealize.ShloMosaic

section Boxes

variable {a b c o p q u w z : ℕ} (h : o + u ≤ a ∧ p + w ≤ b ∧ q + z ≤ c)

/-- Where entry `(x, y, t)` of a box lies in the block. -/
abbrev boxAt (x : Fin u) (y : Fin w) (t : Fin z) : (R3 a b c).Idx :=
  ix3 ⟨o + x, by omega⟩ ⟨p + y, by omega⟩ ⟨q + t, by omega⟩

theorem box3_emb (x : Fin u) (y : Fin w) (t : Fin z) : (box3 o p q u w z h).emb (ix3 x y t) = boxAt h x y t := by
  funext k
  apply Fin.ext
  match k with
  | ⟨0, _⟩ => exact congrArg (o + ·) (one_mul _)
  | ⟨1, _⟩ => exact congrArg (p + ·) (one_mul _)
  | ⟨2, _⟩ => exact congrArg (q + ·) (one_mul _)

theorem mem_box3 (x : Fin u) (y : Fin w) (t : Fin z) : boxAt h x y t ∈ (box3 o p q u w z h).set := by
  rw [← box3_emb, ← Rect.map_emb_univ]
  exact Finset.mem_map_of_mem _ (Finset.mem_univ _)

/-- Entries of two boxes at the same place: their coordinates agree. -/
theorem box3_emb_eq {o' p' q' u' w' z' : ℕ} (h' : o' + u' ≤ a ∧ p' + w' ≤ b ∧ q' + z' ≤ c) {x : Fin u} {y : Fin w} {t : Fin z}
    {x' : Fin u'} {y' : Fin w'} {t' : Fin z'} (e : (box3 o p q u w z h).emb (ix3 x y t) = boxAt h' x' y' t') :
    o + x.val = o' + x'.val ∧ p + y.val = p' + y'.val ∧ q + t.val = q' + t'.val := by
  rw [box3_emb] at e
  exact ⟨congrArg (fun i : (R3 a b c).Idx => (i 0).val) e, congrArg (fun i : (R3 a b c).Idx => (i 1).val) e,
    congrArg (fun i : (R3 a b c).Idx => (i 2).val) e⟩

theorem load_apply {sig : RefSig} {e : EltTy} (arg : Memref sig .tc .vmem (R3 a b c) e) (harg : arg.IsWhole)
    (v : (R3 a b c).Idx → Elt Ideal e) (x : Fin u) (y : Fin w) (t : Fin z) :
    load (F := Ideal) arg harg v o p q u w z h (ix3 x y t) = v (boxAt h x y t) :=
  (harg.readAt_unread v (box3 o p q u w z h).toLoadRect (ix3 x y t)).trans (congrArg v (box3_emb h x y t))

theorem reload_apply {sig : RefSig} {e : EltTy} (arg : Memref sig .tc .vmem (R3 a b c) e)
    (L : List (View.Piece (Elt Ideal) (R3 a b c) e)) (x : Fin u) (y : Fin w) (t : Fin z) :
    reload (F := Ideal) arg L o p q u w z h (ix3 x y t) = View.canon L (boxAt h x y t) :=
  (congrFun (View.readCov_eq_canon' arg.view L (box3 o p q u w z h).toLoadRect) (ix3 x y t)).trans
    (congrArg (View.canon L) (box3_emb h x y t))

end Boxes

theorem plane_apply {φ : FTy} {b c : ℕ} (x : FVec Ideal (R3 1 b c) φ) (r : Fin b) (d : Fin c) :
    plane x (ix2 r d) = x (ix3 0 r d) := by
  unfold plane
  refine (shapeCast_dropUnit_apply _ x _ (ix2 r d)).trans (congrArg x ?_)
  funext k
  match k with
  | ⟨0, _⟩ => rfl
  | ⟨1, _⟩ => rfl
  | ⟨2, _⟩ => rfl

section Step

variable {sig : RefSig} {n : ℕ} (hn : n ≤ 16)

theorem scorePiece_apply (sc : Fin 4 → Fin (n + 1) → FVec Ideal (R2 256 256) .f32) (j : Fin 4) (c : Fin (n + 1)) (r i : Fin 256) :
    (scorePiece hn sc j c).2 (ix3 0 r i) = sc j c (ix2 r i) := by
  unfold scorePiece
  dsimp only
  pointwise

theorem mem_stack (sc : Fin 4 → Fin (n + 1) → FVec Ideal (R2 256 256) .f32) (j : Fin 4) (c : Fin (n + 1)) :
    ∀ (i : ℕ) (hi : i ≤ 4 * (n + 1)), j.val * (n + 1) + c.val < i → scorePiece hn sc j c ∈ stack hn sc i hi
  | 0, _, h => absurd h (by omega)
  | i + 1, hi, h => by
    rw [stack]
    rcases Nat.lt_succ_iff_lt_or_eq.mp h with h | h
    · exact List.mem_cons_of_mem _ (mem_stack sc j c i _ h)
    · refine List.mem_cons.mpr (Or.inl ?_)
      have e1 : i / (n + 1) = j.val := by
        rw [← h, mul_comm, Nat.mul_add_div (by omega), Nat.div_eq_of_lt c.isLt, add_zero]
      have e2 : i % (n + 1) = c.val := by
        rw [← h, mul_comm, Nat.mul_add_mod, Nat.mod_eq_of_lt c.isLt]
      congr 1 <;> apply Fin.ext
      exacts [e1.symm, e2.symm]

theorem eq_of_mem_stack (sc : Fin 4 → Fin (n + 1) → FVec Ideal (R2 256 256) .f32) (p : View.Piece (Elt Ideal) (R3 4 256 4352) EltTy.f32) :
    ∀ (i : ℕ) (hi : i ≤ 4 * (n + 1)), p ∈ stack hn sc i hi → ∃ j c, p = scorePiece hn sc j c
  | 0, _, h => absurd h List.not_mem_nil
  | i + 1, hi, h => by
    rw [stack] at h
    rcases List.mem_cons.mp h with h | h
    · exact ⟨_, _, h⟩
    · exact eq_of_mem_stack sc p i _ h

/-- The scores read back are the scores stored. -/
theorem reload_stack (scr : Memref sig .tc .vmem (R3 4 256 4352) .f32) (sc : Fin 4 → Fin (n + 1) → FVec Ideal (R2 256 256) .f32)
    (i : ℕ) (hi : i ≤ 4 * (n + 1)) (j : Fin 4) (c : Fin (n + 1)) (hlt : j.val * (n + 1) + c.val < i) (r x : Fin 256) :
    reload (F := Ideal) scr (stack hn sc i hi) j.val 0 (256 * c.val) 1 256 256 (score_bound hn j c) (ix3 0 r x) = sc j c (ix2 r x) := by
  rw [reload_apply]
  refine View.canon_eq_of_allAt _ _ _ ⟨_, mem_stack hn sc j c i hi hlt, mem_box3 (score_bound hn j c) 0 r x⟩ fun p hp y hy => ?_
  obtain ⟨j', c', rfl⟩ := eq_of_mem_stack hn sc p i hi hp
  obtain ⟨y0, y1, y2, rfl⟩ : ∃ (y0 : Fin 1) (y1 y2 : Fin 256), y = ix3 y0 y1 y2 := ⟨y 0, y 1, y 2, eq_ix3 y⟩
  obtain ⟨h0, h1, h2⟩ := box3_emb_eq (score_bound hn j' c') (score_bound hn j c) hy
  have e0 : y0 = 0 := Subsingleton.elim _ _
  have e1 : y1 = r := Fin.ext (by omega)
  have e2 : y2 = x := Fin.ext (by omega)
  have e3 : j' = j := Fin.ext (by omega)
  have e4 : c' = c := Fin.ext (by omega)
  subst e0 e1 e2 e3 e4
  exact scorePiece_apply hn sc _ _ _ _

/-- The block stored, at an entry of head `j`. -/
theorem out_apply (scr : Memref sig .tc .vmem (R3 4 256 4352) .f32) (sc : Fin 4 → Fin (n + 1) → FVec Ideal (R2 256 256) .f32)
    (v : Fin 4 → Fin (n + 1) → FVec Ideal (R3 1 256 128) .bf16) (j : Fin 4) (r : Fin 256) (d : Fin 128)
    (s : Fin ((n + 1) * 256) → ℝ) (hs : ∀ c i, sc j c (ix2 r i) = (s (key c i) : EReal)) :
    View.canon (outPieces hn scr sc v) (ix3 0 r ⟨128 * j.val + d.val, by omega⟩)
      = average s fun k => v j k.divNat (ix3 0 k.modNat d) := by
  have hb : ∀ j : Fin 4, 0 + 1 ≤ 1 ∧ 0 + 256 ≤ 256 ∧ 128 * j.val + 128 ≤ 512 := fun j => by omega
  have hy : (ix3 0 r ⟨128 * j.val + d.val, by omega⟩ : (R3 1 256 512).Idx) = boxAt (hb j) 0 r d := by
    funext k
    apply Fin.ext
    match k with
    | ⟨0, _⟩ => rfl
    | ⟨1, _⟩ => exact (zero_add _).symm
    | ⟨2, _⟩ => rfl
  have hmem : outPiece hn scr sc v j ∈ outPieces hn scr sc v := by
    fin_cases j <;> simp [outPieces]
  have hall : ∀ p ∈ outPieces hn scr sc v, ∃ j, p = outPiece hn scr sc v j := fun p hp => by
    simp only [outPieces, List.mem_cons, List.not_mem_nil, or_false] at hp
    rcases hp with rfl | rfl | rfl | rfl
    exacts [⟨3, rfl⟩, ⟨2, rfl⟩, ⟨1, rfl⟩, ⟨0, rfl⟩]
  rw [hy]
  refine View.canon_eq_of_allAt _ _ _ ⟨_, hmem, mem_box3 (hb j) 0 r d⟩ fun p hp y hy => ?_
  obtain ⟨j', rfl⟩ := hall p hp
  obtain ⟨y0, y1, y2, rfl⟩ : ∃ (y0 : Fin 1) (y1 : Fin 256) (y2 : Fin 128), y = ix3 y0 y1 y2 := ⟨y 0, y 1, y 2, eq_ix3 y⟩
  obtain ⟨h0, h1, h2⟩ := box3_emb_eq (hb j') (hb j) hy
  have e0 : y0 = 0 := Subsingleton.elim _ _
  have e1 : y1 = r := Fin.ext (by omega)
  have e2 : y2 = d := Fin.ext (by omega)
  have e3 : j' = j := Fin.ext (by omega)
  subst e0 e1 e2 e3
  exact headOut_apply n _ _ _ _ _ s hs fun c i =>
    (reload_stack hn scr sc _ (stack_bound _) _ c (by have := c.isLt; nlinarith) _ _).trans (hs c i)

/-- The scores, from the staged blocks. -/
theorem stepScores_apply {wq wk dk g : ℕ} (hq : 4 * dk ≤ wq) (hk : ∀ j : Fin 4, dk * (j.val / g) + dk ≤ wk)
    (qa : Memref sig .tc .vmem (R3 1 256 wq) .bf16) (hqa : qa.IsWhole) (q : FVec Ideal (R3 1 256 wq) .bf16)
    (ka : Memref sig .tc .vmem (R3 1 4352 wk) .bf16) (hka : ka.IsWhole) (k : FVec Ideal (R3 1 4352 wk) .bf16)
    (j : Fin 4) (c : Fin (n + 1)) (r i : Fin 256) :
    stepScores hn hq hk qa hqa q ka hka k j c (ix2 r i)
      = ∑ d : Fin dk, q (ix3 0 r ⟨dk * j.val + d.val, by nlinarith [j.isLt, d.isLt]⟩)
          * k (ix3 0 ⟨256 * c.val + i.val, by omega⟩ ⟨dk * (j.val / g) + d.val, by have := hk j; omega⟩) := by
  unfold stepScores
  rw [scores_apply]
  refine Finset.sum_congr rfl fun d _ => ?_
  rw [plane_apply, plane_apply, load_apply, load_apply]
  simp only [boxAt, zero_add, Fin.val_zero, Fin.zero_eta]

theorem stepValues_apply {wv g : ℕ} (hv : ∀ j : Fin 4, 128 * (j.val / g) + 128 ≤ wv)
    (va : Memref sig .tc .vmem (R3 1 4352 wv) .bf16) (hva : va.IsWhole) (v : FVec Ideal (R3 1 4352 wv) .bf16)
    (j : Fin 4) (c : Fin (n + 1)) (i : Fin 256) (d : Fin 128) :
    stepValues hn hv va hva v j c (ix3 0 i d)
      = v (ix3 0 ⟨256 * c.val + i.val, by omega⟩ ⟨128 * (j.val / g) + d.val, by have := hv j; omega⟩) := by
  unfold stepValues
  rw [load_apply]
  simp only [boxAt, zero_add, Fin.val_zero, Fin.zero_eta]

end Step

end Cert.Attn

end
-- ==== Proof.Attention.lean ====
/-
  The attention of one layer call as a function of its queries, keys and values: 4 batches of 4352 tokens, the first 256
  of which (the context) attend to the context only and the others to all tokens of their batch; `g` query heads share a
  key head. The scores are in base 2. Then the block a grid step stores, as entries of this function.
-/
module

public import proofs.«01_k».proof.Proof.StepValue

@[expose] public section

set_option maxRecDepth 16384

noncomputable section

namespace Cert.Attn

open Idealize.ShloMosaic

/-- The softmax average of the values `v` under the scalar products of `q` with the keys `k`. -/
def attend {N dk : ℕ} (q : Fin dk → EReal) (k : Fin N → Fin dk → EReal) (v : Fin N → EReal) : EReal :=
  average (fun n => (∑ e, q e * k n e).toReal) v

theorem attend_congr {N dk : ℕ} {q q' : Fin dk → EReal} {k k' : Fin N → Fin dk → EReal} {v v' : Fin N → EReal}
    (hq : ∀ e, q e = q' e) (hk : ∀ n e, k n e = k' n e) (hv : ∀ n, v n = v' n) : attend q k v = attend q' k' v' := by
  rw [funext hq, funext fun n => funext (hk n), funext hv]

/-- All entries are finite. -/
abbrev AllReal {s : Shape} (x : FVec Ideal s .bf16) : Prop := ∀ i, ∃ r : ℝ, x i = (r : EReal)

/-- Token `r` of batch `b`. -/
abbrev token (b : Fin 4) (r : Fin 4352) : Fin 17408 := ⟨4352 * b.val + r.val, by omega⟩

section Spec

variable (dk g : ℕ) {wq wk wv wo : ℕ} (hq : ∀ x < wo, dk * (x / 128) + dk ≤ wq) (hk : ∀ x < wo, dk * (x / 128 / g) + dk ≤ wk)
  (hv : ∀ x < wo, 128 * (x / 128 / g) + 128 ≤ wv)
  (q : FVec Ideal (R2 17408 wq) .bf16) (k : FVec Ideal (R2 17408 wk) .bf16) (v : FVec Ideal (R2 17408 wv) .bf16)

/-- Column `x` of the result for token `r` of batch `b`, over the first `N` tokens of the batch. -/
def over (N : ℕ) (hN : N ≤ 4352) (b : Fin 4) (r : Fin 4352) (x : Fin wo) : EReal :=
  attend (N := N) (fun e : Fin dk => q (ix2 (token b r) ⟨dk * (x.val / 128) + e.val, by have := hq x x.isLt; omega⟩))
    (fun n e => k (ix2 (token b ⟨n.val, by omega⟩) ⟨dk * (x.val / 128 / g) + e.val, by have := hk x x.isLt; omega⟩))
    (fun n => v (ix2 (token b ⟨n.val, by omega⟩) ⟨128 * (x.val / 128 / g) + x.val % 128, by have := hv x x.isLt; omega⟩))

/-- The attention: a context token over the context, any other token over all. -/
def attention (b : Fin 4) (r : Fin 4352) (x : Fin wo) : EReal :=
  if r.val < 256 then over dk g hq hk hv q k v 256 (by decide) b r x else over dk g hq hk hv q k v 4352 (by decide) b r x

end Spec

section Step

variable {sig : RefSig} {n : ℕ} (hn : n ≤ 16)

theorem div_mod_key (k : Fin ((n + 1) * 256)) : 256 * k.divNat.val + k.modNat.val = k.val := by
  exact Nat.div_add_mod k.val 256

theorem key_val (c : Fin (n + 1)) (i : Fin 256) : (key c i).val = 256 * c.val + i.val := by
  rw [finProdFinEquiv_apply_val]; exact Nat.add_comm _ _

/-- The block stored, from the staged queries, keys and values. -/
theorem step_apply {wq wk wv dk g : ℕ} (hq : 4 * dk ≤ wq) (hk : ∀ j : Fin 4, dk * (j.val / g) + dk ≤ wk)
    (hv : ∀ j : Fin 4, 128 * (j.val / g) + 128 ≤ wv) (scr : Memref sig .tc .vmem (R3 4 256 4352) .f32)
    (qa : Memref sig .tc .vmem (R3 1 256 wq) .bf16) (hqa : qa.IsWhole) (q : FVec Ideal (R3 1 256 wq) .bf16)
    (ka : Memref sig .tc .vmem (R3 1 4352 wk) .bf16) (hka : ka.IsWhole) (k : FVec Ideal (R3 1 4352 wk) .bf16)
    (va : Memref sig .tc .vmem (R3 1 4352 wv) .bf16) (hva : va.IsWhole) (v : FVec Ideal (R3 1 4352 wv) .bf16)
    (fq : ∀ i, ∃ x : ℝ, q i = x) (fk : ∀ i, ∃ x : ℝ, k i = x) (r : Fin 256) (j : Fin 4) (d : Fin 128) :
    View.canon (outPieces hn scr (stepScores hn hq hk qa hqa q ka hka k) (stepValues hn hv va hva v))
        (ix3 0 r ⟨128 * j.val + d.val, by omega⟩)
      = attend (N := (n + 1) * 256) (fun e : Fin dk => q (ix3 0 r ⟨dk * j.val + e.val, by nlinarith [j.isLt, e.isLt]⟩))
          (fun i e => k (ix3 0 ⟨i.val, by omega⟩ ⟨dk * (j.val / g) + e.val, by have := hk j; omega⟩))
          (fun i => v (ix3 0 ⟨i.val, by omega⟩ ⟨128 * (j.val / g) + d.val, by have := hv j; omega⟩)) := by
  refine (out_apply hn scr _ _ j r d _ fun c i => (stepScores_apply hn hq hk qa hqa q ka hka k j c r i).trans ?_).trans
    (congrArg (average _) (funext fun i => (stepValues_apply hn hv va hva v j _ _ d).trans ?_))
  · obtain ⟨x, hx⟩ := dot_coe Finset.univ (fun e : Fin dk => q (ix3 0 r ⟨dk * j.val + e.val, by nlinarith [j.isLt, e.isLt]⟩))
      (fun e : Fin dk => k (ix3 0 ⟨(key c i).val, by omega⟩ ⟨dk * (j.val / g) + e.val, by have := hk j; omega⟩)) (fun _ => fq _) fun _ => fk _
    rw [hx, EReal.toReal_coe, ← hx]
    simp only [key_val]
  · simp only [div_mod_key]

/-- The same block as entries of the attention, when the staged blocks are blocks of its arguments: batch `b`, tokens
    `256 * i + …`, query heads `4 * h + …`, key heads `kh * h + …`. -/
theorem block_apply {wq wk wv wo wqs wks wvs dk g kh : ℕ} (hg : 4 = g * kh)
    (hq : ∀ x < wo, dk * (x / 128) + dk ≤ wq) (hk : ∀ x < wo, dk * (x / 128 / g) + dk ≤ wk)
    (hv : ∀ x < wo, 128 * (x / 128 / g) + 128 ≤ wv) (hqs : 4 * dk ≤ wqs) (hks : ∀ j : Fin 4, dk * (j.val / g) + dk ≤ wks)
    (hvs : ∀ j : Fin 4, 128 * (j.val / g) + 128 ≤ wvs) (eks : wks = dk * kh) (eqs : wqs = dk * 4) (evs : wvs = 128 * kh)
    (scr : Memref sig .tc .vmem (R3 4 256 4352) .f32)
    (qa : Memref sig .tc .vmem (R3 1 256 wqs) .bf16) (hqa : qa.IsWhole) (xq : FVec Ideal (R3 1 256 wqs) .bf16)
    (ka : Memref sig .tc .vmem (R3 1 4352 wks) .bf16) (hka : ka.IsWhole) (xk : FVec Ideal (R3 1 4352 wks) .bf16)
    (va : Memref sig .tc .vmem (R3 1 4352 wvs) .bf16) (hva : va.IsWhole) (xv : FVec Ideal (R3 1 4352 wvs) .bf16)
    (q : FVec Ideal (R2 17408 wq) .bf16) (k : FVec Ideal (R2 17408 wk) .bf16) (v : FVec Ideal (R2 17408 wv) .bf16)
    (fq : ∀ i, ∃ x : ℝ, q i = x) (fk : ∀ i, ∃ x : ℝ, k i = x) (b : Fin 4) (i h : ℕ) (hi : i < 17) (hh : 512 * h + 512 ≤ wo)
    (bq : ∀ (r : Fin 256) (x : Fin wqs), ∃ hx, xq (ix3 0 r x) = q (ix2 (token b ⟨256 * i + r.val, by omega⟩) ⟨wqs * h + x.val, hx⟩))
    (bk : ∀ (r : Fin 4352) (x : Fin wks), ∃ hx, xk (ix3 0 r x) = k (ix2 (token b r) ⟨wks * h + x.val, hx⟩))
    (bv : ∀ (r : Fin 4352) (x : Fin wvs), ∃ hx, xv (ix3 0 r x) = v (ix2 (token b r) ⟨wvs * h + x.val, hx⟩))
    (r : Fin 256) (x : Fin 512) :
    View.canon (outPieces hn scr (stepScores hn hqs hks qa hqa xq ka hka xk) (stepValues hn hvs va hva xv)) (ix3 0 r x)
      = over dk g hq hk hv q k v ((n + 1) * 256) (by omega) b ⟨256 * i + r.val, by omega⟩ ⟨512 * h + x.val, by omega⟩ := by
  obtain ⟨j, d, rfl⟩ : ∃ (j : Fin 4) (d : Fin 128), x = ⟨128 * j.val + d.val, by omega⟩ :=
    ⟨⟨x.val / 128, by omega⟩, ⟨x.val % 128, by omega⟩, Fin.ext (by dsimp only; omega)⟩
  have fxq : ∀ i, ∃ x : ℝ, xq i = x := fun y => by
    obtain ⟨a, r, x, rfl⟩ : ∃ (a : Fin 1) (r : Fin 256) (x : Fin wqs), y = ix3 a r x := ⟨y 0, y 1, y 2, eq_ix3 y⟩
    obtain rfl : a = 0 := Subsingleton.elim _ _
    obtain ⟨_, e⟩ := bq r x
    rw [e]; exact fq _
  have fxk : ∀ i, ∃ x : ℝ, xk i = x := fun y => by
    obtain ⟨a, r, x, rfl⟩ : ∃ (a : Fin 1) (r : Fin 4352) (x : Fin wks), y = ix3 a r x := ⟨y 0, y 1, y 2, eq_ix3 y⟩
    obtain rfl : a = 0 := Subsingleton.elim _ _
    obtain ⟨_, e⟩ := bk r x
    rw [e]; exact fk _
  have hg0 : 0 < g := Nat.pos_of_ne_zero fun h => by rw [h] at hg; omega
  have e1 : (512 * h + (128 * j.val + d.val)) / 128 = 4 * h + j.val := by omega
  have e2 : (512 * h + (128 * j.val + d.val)) % 128 = d.val := by omega
  have e3 : (4 * h + j.val) / g = kh * h + j.val / g := by
    rw [show 4 * h = g * (kh * h) by rw [← mul_assoc, ← hg], Nat.mul_add_div hg0]
  rw [step_apply hn hqs hks hvs scr qa hqa xq ka hka xk va hva xv fxq fxk r j d]
  unfold over
  congr 1
  · funext e
    obtain ⟨_, e⟩ := bq r ⟨dk * j.val + e.val, by nlinarith [j.isLt, e.isLt]⟩
    rw [e]
    refine congrArg q (congrArg (ix2 _) (Fin.ext ?_))
    dsimp only
    rw [e1, eqs]; ring
  · funext a e
    obtain ⟨_, e⟩ := bk ⟨a.val, by omega⟩ ⟨dk * (j.val / g) + e.val, by have := hks j; omega⟩
    rw [e]
    refine congrArg k (congrArg (ix2 _) (Fin.ext ?_))
    dsimp only
    rw [e1, e3, eks]; ring
  · funext a
    obtain ⟨_, e⟩ := bv ⟨a.val, by omega⟩ ⟨128 * (j.val / g) + d.val, by have := hvs j; omega⟩
    rw [e]
    refine congrArg v (congrArg (ix2 _) (Fin.ext ?_))
    dsimp only
    rw [e1, e2, e3, evs]; ring

end Step

end Cert.Attn

end
-- ==== Proof.HostSoftmax.lean ====
/-
  The reference's softmax, as a term of host operations over scores `x` of shape [4, 8, g, n, keys] scaled by `log 2`:
  `exp (s - max s) / sum (exp (s - max s))` along the keys. On real scores it is the weight `2 ^ x / sum (2 ^ x)`.
-/
module

public import proofs.«01_k».proof.Proof.Attention
public import Idealize.ShloMosaic.Lib.Pointwise
public import Idealize.ShloMosaic.Lib.IdealHost

@[expose] public section

set_option maxRecDepth 16384

noncomputable section

namespace Cert.Attn

open Idealize.ShloMosaic

abbrev R0 : Shape := ⟨0, ![]⟩
abbrev R4 (a b c d : ℕ) : Shape := ⟨4, ![a, b, c, d]⟩
abbrev R5 (a b c d e : ℕ) : Shape := ⟨5, ![a, b, c, d, e]⟩

variable {F : FTy → Type} [FloatOps F] {a b g n N : ℕ}

theorem two_f32 : Ideal.ofBits .f32 0x40000000#32 = ((2 : ℝ) : EReal) := by
  simp [Ideal.ofBits, Ideal.ieee]
  rw [← EReal.coe_mul]
  norm_num

theorem lowest_f32 : Ideal.ofBits .f32 0xFF800000#32 = ⊥ := by
  simp [Ideal.ofBits, Ideal.ieee]

/-- An entry of a matrix, its row and column named otherwise. -/
theorem entry_eq {h w : ℕ} (x : FVec F (R2 h w) .bf16) {i i' : Fin h} {j j' : Fin w} (hi : i.val = i'.val) (hj : j.val = j'.val) :
    x (ix2 i j) = x (ix2 i' j') := by
  rw [Fin.ext hi, Fin.ext hj]

section
variable (hu : 0 < R0.numel)
  (h0 : R0.BroadcastsInDim (R5 a b g n N) (![] : Fin 0 → Fin (R5 a b g n N).rank))
  (h4 : R0.BroadcastsInDim (R4 a b g n) (![] : Fin 0 → Fin (R4 a b g n).rank))
  (h1 : (R4 a b g n).BroadcastsInDim (R5 a b g n 1) (![0, 1, 2, 3] : Fin 4 → Fin (R5 a b g n 1).rank))
  (h5 : (R5 a b g n 1).BroadcastsInDim (R5 a b g n N) (![0, 1, 2, 3, 4] : Fin 5 → Fin (R5 a b g n N).rank))
  (hr : (R5 a b g n N).ReducesTo [4] (R4 a b g n))

/-- The scores times `log 2`. -/
def scaled (x : FVec F (R5 a b g n N) .f32) : FVec F (R5 a b g n N) .f32 :=
  mulf x (broadcastInDim (R5 a b g n N) ![] h0 (Host.log (constant R0 .f32 0x40000000#32)))

/-- A value per row, broadcast along the keys. -/
def column (z : FVec F (R4 a b g n) .f32) : FVec F (R5 a b g n N) .f32 :=
  broadcastInDim (R5 a b g n N) ![0, 1, 2, 3, 4] h5 (broadcastInDim (R5 a b g n 1) ![0, 1, 2, 3] h1 z)

/-- `exp` of the scores less their maximum. -/
def expShifted (s : FVec F (R5 a b g n N) .f32) : FVec F (R5 a b g n N) .f32 :=
  Host.exp (subf s (column h1 h5
    (maximumf (broadcastInDim (R4 a b g n) ![] h4 (constant R0 .f32 0xFF800000#32))
      (Host.reduce FloatOps.maximumf s (constant R0 .f32 0xFF800000#32) hr hu))))

/-- The softmax of the scaled scores. -/
def hostWeights (x : FVec F (R5 a b g n N) .f32) : FVec F (R5 a b g n N) .f32 :=
  Host.divf (expShifted hu h4 h1 h5 hr (scaled h0 x))
    (column h1 h5
      (Host.reduceAdd (expShifted hu h4 h1 h5 hr (scaled h0 x)) (constant R0 .f32 0x00000000#32) hr hu))

omit [FloatOps F] in
theorem column_apply (z : FVec F (R4 a b g n) .f32) (i : Fin a) (j : Fin b) (k : Fin g) (l : Fin n) (e : Fin N) :
    column h1 h5 z (ix5 i j k l e) = z (ix4 i j k l) := by
  have fin {c : ℕ} (i : Fin c) (h : c = 1) : i.val = 0 := by omega
  unfold column broadcastInDim
  refine congrArg z ?_
  funext q
  fin_cases q <;> apply Fin.ext <;> simp [ix4, ix5]
  · by_cases h : a = 1 <;> simp [h, fin i] <;> rfl
  · by_cases h : b = 1 <;> simp [h, fin j] <;> rfl
  · by_cases h : g = 1 <;> simp [h, fin k] <;> rfl
  · by_cases h : n = 1 <;> simp [h, fin l] <;> rfl

theorem scaled_apply (x : FVec Ideal (R5 a b g n N) .f32) (i : Fin a) (j : Fin b) (k : Fin g) (l : Fin n)
    (e : Fin N) :
    scaled h0 x (ix5 i j k l e) = x (ix5 i j k l e) * ((Real.log 2 : ℝ) : EReal) := by
  pointwise [scaled]
  rw [two_f32, Ideal.log_coe, if_neg (by norm_num)]

theorem expShifted_apply (s : FVec Ideal (R5 a b g n N) .f32) (i : Fin a) (j : Fin b) (k : Fin g) (l : Fin n) (e : Fin N) :
    expShifted hu h4 h1 h5 hr s (ix5 i j k l e) = Ideal.exp (s (ix5 i j k l e)
      - max ⊥ (Finset.univ.fold max ⊥ fun e' : Fin N => s (ix5 i j k l e'))) := by
  unfold expShifted
  pointwise [column_apply]
  rw [lowest_f32]

theorem hostWeights_apply (hN : 0 < N) (x : FVec Ideal (R5 a b g n N) .f32) (i : Fin a) (j : Fin b) (k : Fin g) (l : Fin n)
    (y : Fin N → ℝ) (hy : ∀ e, x (ix5 i j k l e) = (y e : EReal)) (e : Fin N) :
    hostWeights hu h0 h4 h1 h5 hr x (ix5 i j k l e) = (weight y e : EReal) := by
  unfold hostWeights
  pointwise [column_apply, expShifted_apply]
  simp only [scaled_apply, hy, ← EReal.coe_mul]
  haveI : Nonempty (Fin N) := ⟨⟨0, hN⟩⟩
  obtain ⟨μ, hμ⟩ := fold_max_coe (fun e => ((y e * Real.log 2 : ℝ) : EReal)) fun e => ⟨_, rfl⟩
  rw [hμ, max_eq_right bot_le]
  simp only [← EReal.coe_sub, Ideal.exp_coe]
  exact exp_weight hN y μ e

/-- A row of the reference: real queries and keys give real scores, and the values weighted by their softmax are `attend`. -/
theorem weighted_row {dk : ℕ} (hN : 0 < N) (x : FVec Ideal (R5 a b g n N) .f32) (i : Fin a) (j : Fin b) (k : Fin g) (l : Fin n)
    (qr : Fin dk → EReal) (kr : Fin N → Fin dk → EReal) (vr : Fin N → EReal) (hq : ∀ c, ∃ r : ℝ, qr c = r)
    (hk : ∀ e c, ∃ r : ℝ, kr e c = r) (hx : ∀ e, x (ix5 i j k l e) = ∑ c, kr e c * qr c) :
    ∑ e, vr e * hostWeights hu h0 h4 h1 h5 hr x (ix5 i j k l e) = attend qr kr vr := by
  refine Finset.sum_congr rfl fun e _ => ?_
  rw [hostWeights_apply hu h0 h4 h1 h5 hr hN x i j k l (fun e => (∑ c, qr c * kr e c).toReal) (fun e => ?_) e, mul_comm]
  obtain ⟨r, h⟩ := dot_coe Finset.univ qr (kr e) hq (hk e)
  rw [hx, h, EReal.toReal_coe, ← h]
  exact Finset.sum_congr rfl fun c _ => mul_comm _ _
end

end Cert.Attn
-- ==== Proof.Finite.lean ====
/-
  A precondition `all (|x| < inf)` read back: every entry of `x` is real.
-/
module

public import proofs.«01_k».proof.Proof.HostSoftmax
public import Idealize.ShloMosaic.Lib.ReduceAll

@[expose] public section

set_option maxRecDepth 16384

noncomputable section

namespace Cert.Attn

open Idealize.ShloMosaic

theorem infinity_bf16 : Ideal.ofBits .bf16 0x7F80#16 = ⊤ := by
  simp [Ideal.ofBits, Ideal.ieee]

/-- A conjunction of two truth values that is 1. -/
theorem and_one {x y : IVec R0 1} {j : R0.Idx} (h : andi x y j = 1#1) : x j = 1#1 ∧ y j = 1#1 := by
  change x j &&& y j = 1#1 at h
  generalize x j = a at h
  generalize y j = b at h
  revert a b
  decide

theorem allReal_of_all {s : Shape} (x : FVec Ideal s .bf16) (hb : R0.BroadcastsInDim s (![] : Fin 0 → Fin s.rank)) {axes : List (Fin s.rank)}
    (hr : s.ReducesTo axes R0) (hu : 0 < R0.numel) (j : R0.Idx)
    (h : Host.reduce IntOp.andi (cmpf .olt (Host.absf x) (broadcastInDim s ![] hb (constant R0 .bf16 0x7F80#16))) (constantI R0 1 1#1) hr hu j
      = 1#1) : AllReal x := fun i => by
  haveI : Subsingleton R0.Idx := ⟨fun a b => funext fun k => k.elim0⟩
  have hi := Host.reduce_andi_all _ _ hr hu j h i
  clear h
  pointwise at hi
  rw [infinity_bf16] at hi
  have lt : FloatOps.absf (x i) < (⊤ : EReal) := by
    by_contra hn
    rw [decide_eq_false hn] at hi
    exact absurd hi (by decide)
  clear hi
  rw [Ideal.absf_def] at lt
  have top : x i ≠ (⊤ : EReal) := fun h => absurd (lt_of_le_of_lt (le_max_left _ _) lt) (by rw [h]; exact lt_irrefl _)
  have bot : x i ≠ (⊥ : EReal) := fun h => absurd (lt_of_le_of_lt (le_max_right _ _) lt)
    (by rw [h]; exact fun h' => absurd h' (not_lt.2 (le_of_eq EReal.neg_bot.symm)))
  exact ⟨(show EReal from x i).toReal, (EReal.coe_toReal top bot).symm⟩

end Cert.Attn

end
-- ==== Proof.MlaValue.lean ====
/-
  What the attention kernel with 8 heads of width 256 leaves in its result: the attention of its three arguments.
-/
module

public import proofs.«01_k».proof.Proof.Attention
public import proofs.«01_k».proof.Proof.Gen.MlaIdeal.Value
public import Idealize.ShloMosaic.Lib.Claim

@[expose] public section

set_option maxRecDepth 16384

noncomputable section

namespace Cert.MlaIdeal.Attention

open Cert.MlaIdeal Cert.MlaIdeal.Gen Cert.Attn Idealize.ShloMosaic Idealize.ShloMosaic.TcCoe Idealize.SL.Sem

/-! ## The stores of a grid step -/

section Steps

variable {F : FTy → Type} [FloatOps F] (c : Dev nD) (i : grid0.Coords) (arg3 : Memref sig .tc .vmem S1x256x1024 .bf16) (harg3 : arg3.IsWhole)
  (arg4 : Memref sig .tc .vmem S1x4352x1024 .bf16) (harg4 : arg4.IsWhole) (arg5 : Memref sig .tc .vmem S1x4352x512 .bf16) (harg5 : arg5.IsWhole)
  (arg6 : Memref sig .tc .vmem S1x256x512 .bf16) (harg6 : arg6.IsWhole) (arg7 : Memref sig .tc .vmem S4x256x4352 .f32) (harg7 : arg7.IsWhole)
  (x0 : Vec F S1x256x1024 .bf16) (x1 : Vec F S1x4352x1024 .bf16) (x2 : Vec F S1x4352x512 .bf16)

/-- The stores of a step over `n + 1` chunks of keys. -/
abbrev pieces {n : ℕ} (hn : n ≤ 16) : List (View.Piece (Elt F) (R3 1 256 512) EltTy.bf16) :=
  outPieces hn arg7 (stepScores hn (dk := 256) (g := 1) (by decide) (by decide) arg3 harg3 x0 arg4 harg4 x1)
    (stepValues hn (g := 1) (by decide) arg5 harg5 x2)

/-- A step of context tokens: one chunk; -/
theorem pieces_context (hc0 : cond0_0 i) (hc1 : ¬cond0_1 i) :
    (kernelRun0_A c i arg3 harg3 arg4 harg4 arg5 harg5 arg6 harg6 arg7 harg7 hc0 hc1 x0 x1 x2).1
      = pieces arg3 harg3 arg4 harg4 arg5 harg5 arg7 x0 x1 x2 (Nat.zero_le 16) := by sl_kernel_rfl

/-- any other step: 17 chunks. -/
theorem pieces_latent (hc0 : ¬cond0_0 i) (hc1 : cond0_1 i) :
    (kernelRun0_B c i arg3 harg3 arg4 harg4 arg5 harg5 arg6 harg6 arg7 harg7 hc0 hc1 x0 x1 x2).1
      = pieces arg3 harg3 arg4 harg4 arg5 harg5 arg7 x0 x1 x2 (le_refl 16) := by sl_kernel_rfl

end Steps

variable (m : (ℓ : Loc nD τ sig) → Buf (Elt Ideal) ℓ) (ρ : Dev nD → PrngReg)

/-! ## The blocks -/

theorem index0 : ∀ t : Fin cfg0.N, win0_0.index t = ![t.val / 34, t.val % 17, t.val / 17 % 2] :=
  (by decide +kernel : ∀ t : Fin grid0.N, win0_0.index t = ![t.val / 34, t.val % 17, t.val / 17 % 2])
theorem index1 : ∀ t : Fin cfg0.N, win0_1.index t = ![t.val / 34, 0, t.val / 17 % 2] :=
  (by decide +kernel : ∀ t : Fin grid0.N, win0_1.index t = ![t.val / 34, 0, t.val / 17 % 2])
theorem index2 : ∀ t : Fin cfg0.N, win0_2.index t = ![t.val / 34, 0, t.val / 17 % 2] :=
  (by decide +kernel : ∀ t : Fin grid0.N, win0_2.index t = ![t.val / 34, 0, t.val / 17 % 2])
theorem index3 : ∀ t : Fin cfg0.N, win0_3.index t = ![t.val / 34, t.val % 17, t.val / 17 % 2] :=
  (by decide +kernel : ∀ t : Fin grid0.N, win0_3.index t = ![t.val / 34, t.val % 17, t.val / 17 % 2])

theorem point_lt (t : Fin cfg0.N) : t.val < 136 := lt_of_lt_of_eq t.isLt N_0

/-- The batch of a grid point. -/
abbrev batch (t : Fin cfg0.N) : Fin 4 := ⟨t.val / 34, by have := point_lt t; omega⟩

theorem entry_q (c : Dev nD) (b : Fin 4) (r : Fin 4352) (x : Fin 2048) :
    V m c main_v0 (ix3 b r x) = m ((c : Thread nD τ).loc main_arg0) (ix2 (token b r) x) := by
  entry_read
  pointwise
  exact congrArg (fun y => m ((c : Thread nD τ).loc main_arg0) (ix2 y x)) (Fin.ext (congrArg (· + r.val) (Nat.mul_comm _ _)))

theorem entry_k (c : Dev nD) (b : Fin 4) (r : Fin 4352) (x : Fin 2048) :
    V m c main_v1 (ix3 b r x) = m ((c : Thread nD τ).loc main_arg1) (ix2 (token b r) x) := by
  entry_read
  pointwise
  exact congrArg (fun y => m ((c : Thread nD τ).loc main_arg1) (ix2 y x)) (Fin.ext (congrArg (· + r.val) (Nat.mul_comm _ _)))

theorem entry_v (c : Dev nD) (b : Fin 4) (r : Fin 4352) (x : Fin 1024) :
    V m c main_v2 (ix3 b r x) = m ((c : Thread nD τ).loc main_arg2) (ix2 (token b r) x) := by
  entry_read
  pointwise
  exact congrArg (fun y => m ((c : Thread nD τ).loc main_arg2) (ix2 y x)) (Fin.ext (congrArg (· + r.val) (Nat.mul_comm _ _)))

/-- The queries staged at a point, -/
theorem block_q (c : Dev nD) (t : Fin cfg0.N) (r : Fin 256) (x : Fin 1024) :
    ∃ hx, iblk m c 0 t (ix3 0 r x)
      = m ((c : Thread nD τ).loc main_arg0) (ix2 (token (batch t) ⟨256 * (t.val % 17) + r.val, by omega⟩) ⟨1024 * (t.val / 17 % 2) + x.val, hx⟩) := by
  refine ⟨by omega, Eq.trans (congrArg (V m c main_v0) (a₂ := ix3 (batch t) ⟨256 * (t.val % 17) + r.val, by omega⟩ ⟨1024 * (t.val / 17 % 2) + x.val, by omega⟩)
    (funext fun k => Fin.ext ?_)) (entry_q m c _ _ _)⟩
  have h := index0 t
  match k with
  | ⟨0, _⟩ => show win0_0.index t 0 * 1 + 1 * 0 = _; rw [h]; exact Nat.mul_one _
  | ⟨1, _⟩ => show win0_0.index t 1 * 256 + 1 * r.val = _; rw [h, one_mul, Nat.mul_comm]; rfl
  | ⟨2, _⟩ => show win0_0.index t 2 * 1024 + 1 * x.val = _; rw [h, one_mul, Nat.mul_comm]; rfl

/-- the keys -/
theorem block_k (c : Dev nD) (t : Fin cfg0.N) (r : Fin 4352) (x : Fin 1024) :
    ∃ hx, iblk m c 1 t (ix3 0 r x) = m ((c : Thread nD τ).loc main_arg1) (ix2 (token (batch t) r) ⟨1024 * (t.val / 17 % 2) + x.val, hx⟩) := by
  refine ⟨by omega, Eq.trans (congrArg (V m c main_v1) (a₂ := ix3 (batch t) r ⟨1024 * (t.val / 17 % 2) + x.val, by omega⟩)
    (funext fun k => Fin.ext ?_)) (entry_k m c _ _ _)⟩
  have h := index1 t
  match k with
  | ⟨0, _⟩ => show win0_1.index t 0 * 1 + 1 * 0 = _; rw [h]; exact Nat.mul_one _
  | ⟨1, _⟩ => show win0_1.index t 1 * 4352 + 1 * r.val = _; rw [h, one_mul]; exact (congrArg (· + r.val) (Nat.zero_mul _)).trans (Nat.zero_add _)
  | ⟨2, _⟩ => show win0_1.index t 2 * 1024 + 1 * x.val = _; rw [h, one_mul, Nat.mul_comm]; rfl

/-- and the values. -/
theorem block_v (c : Dev nD) (t : Fin cfg0.N) (r : Fin 4352) (x : Fin 512) :
    ∃ hx, iblk m c 2 t (ix3 0 r x) = m ((c : Thread nD τ).loc main_arg2) (ix2 (token (batch t) r) ⟨512 * (t.val / 17 % 2) + x.val, hx⟩) := by
  refine ⟨by omega, Eq.trans (congrArg (V m c main_v2) (a₂ := ix3 (batch t) r ⟨512 * (t.val / 17 % 2) + x.val, by omega⟩)
    (funext fun k => Fin.ext ?_)) (entry_v m c _ _ _)⟩
  have h := index2 t
  match k with
  | ⟨0, _⟩ => show win0_2.index t 0 * 1 + 1 * 0 = _; rw [h]; exact Nat.mul_one _
  | ⟨1, _⟩ => show win0_2.index t 1 * 4352 + 1 * r.val = _; rw [h, one_mul]; exact (congrArg (· + r.val) (Nat.zero_mul _)).trans (Nat.zero_add _)
  | ⟨2, _⟩ => show win0_2.index t 2 * 512 + 1 * x.val = _; rw [h, one_mul, Nat.mul_comm]; rfl

/-! ## The result -/

theorem fit_q : ∀ x < 1024, 256 * (x / 128) + 256 ≤ 2048 := by omega
theorem fit_k : ∀ x < 1024, 256 * (x / 128 / 1) + 256 ≤ 2048 := by omega
theorem fit_v : ∀ x < 1024, 128 * (x / 128 / 1) + 128 ≤ 1024 := by omega

/-- The attention of queries, keys and values of these shapes. -/
def spec (q k : FVec Ideal S17408x2048 .bf16) (v : FVec Ideal S17408x1024 .bf16) : FVec Ideal S4x4352x1024 .bf16 := fun i =>
  attention 256 1 fit_q fit_k fit_v q k v (i 0) (i 1) (i 2)

variable (c : Dev nD) (fq : AllReal (s := S17408x2048) (m ((c : Thread nD τ).loc main_arg0)))
  (fk : AllReal (s := S17408x2048) (m ((c : Thread nD τ).loc main_arg1)))

/-- The attention of device `c`'s arguments. -/
abbrev result : FVec Ideal S4x4352x1024 .bf16 :=
  spec (m ((c : Thread nD τ).loc main_arg0)) (m ((c : Thread nD τ).loc main_arg1)) (m ((c : Thread nD τ).loc main_arg2))

/-- An entry of the result's block at a point. -/
theorem read_block (t : Fin cfg0.N) (r : Fin 256) (x : Fin 512) :
    ((cfg0.win 3).blk t).view.read (Elt Ideal) (result m c) (ix3 0 r x)
      = attention 256 1 fit_q fit_k fit_v (m ((c : Thread nD τ).loc main_arg0)) (m ((c : Thread nD τ).loc main_arg1)) (m ((c : Thread nD τ).loc main_arg2))
          (batch t) ⟨256 * (t.val % 17) + r.val, by omega⟩ ⟨512 * (t.val / 17 % 2) + x.val, by omega⟩ := by
  refine (congrArg (result m c) (a₂ := ix3 (batch t) ⟨256 * (t.val % 17) + r.val, by omega⟩ ⟨512 * (t.val / 17 % 2) + x.val, by omega⟩)
    (funext fun k => Fin.ext ?_)).trans rfl
  have h := index3 t
  match k with
  | ⟨0, _⟩ => show win0_3.index t 0 * 1 + 1 * 0 = _; rw [h]; exact Nat.mul_one _
  | ⟨1, _⟩ => show win0_3.index t 1 * 256 + 1 * r.val = _; rw [h, one_mul, Nat.mul_comm]; rfl
  | ⟨2, _⟩ => show win0_3.index t 2 * 512 + 1 * x.val = _; rw [h, one_mul, Nat.mul_comm]; rfl

include fq fk in
/-- What a step over `n + 1` chunks leaves at an entry of its block. -/
theorem step_over {n : ℕ} (hn : n ≤ 16) (t : Fin cfg0.N) (r : Fin 256) (x : Fin 512) :
    View.canon (pieces (ms0_0 t) (hs0_0 t) (ms0_1 t) (hs0_1 t) (ms0_2 t) (hs0_2 t) scM0_0 (iblk m c 0 t) (iblk m c 1 t) (iblk m c 2 t) hn) (ix3 0 r x)
      = over 256 1 fit_q fit_k fit_v (m ((c : Thread nD τ).loc main_arg0)) (m ((c : Thread nD τ).loc main_arg1)) (m ((c : Thread nD τ).loc main_arg2))
          ((n + 1) * 256) (by omega) (batch t) ⟨256 * (t.val % 17) + r.val, by omega⟩ ⟨512 * (t.val / 17 % 2) + x.val, by omega⟩ :=
  block_apply hn (kh := 4) rfl fit_q fit_k fit_v _ _ _ rfl rfl rfl scM0_0 (ms0_0 t) (hs0_0 t) _ (ms0_1 t) (hs0_1 t) _ (ms0_2 t) (hs0_2 t) _
    _ _ _ fq fk (batch t) (t.val % 17) (t.val / 17 % 2) (by omega) (by omega) (block_q m c t) (block_k m c t) (block_v m c t) r x

include fq fk in
/-- A point writes back its block of the attention. -/
theorem flushed_eq (t : Fin cfg0.N) : (dats m 0 c).flushed 3 t = ((cfg0.win 3).blk t).view.read (Elt Ideal) (result m c) := by
  funext y
  obtain ⟨a, r, x, rfl⟩ : ∃ (a : Fin 1) (r : Fin 256) (x : Fin 512), y = ix3 a r x := ⟨y 0, y 1, y 2, eq_ix3 y⟩
  obtain rfl : a = 0 := Subsingleton.elim _ _
  refine Eq.trans ?_ (read_block m c t r x).symm
  unfold attention
  by_cases h0 : t.val % 17 = 0
  · rw [Value.flushed3_A m c t h0 (by omega), if_pos (by dsimp only; omega)]
    refine Eq.trans ?_ (step_over m c fq fk (Nat.zero_le 16) t r x)
    unfold out0_A_3
    rw [View.read_writes_junk_eq_canon, pieces_context]
    rfl
  · rw [Value.flushed3_B m c t h0 (by omega), if_neg (by dsimp only; omega)]
    refine Eq.trans ?_ (step_over m c fq fk (le_refl 16) t r x)
    unfold out0_B_3
    rw [View.read_writes_junk_eq_canon, pieces_latent]
    rfl

/-- Every entry of the result is in a point's block. -/
theorem cover (i : S4x4352x1024.Idx) : ∃ t : Fin cfg0.N, (cfg0.win 3).flush t = true ∧ i ∈ ((cfg0.win 3).blk t).view.set := by
  obtain ⟨b, r, x, rfl⟩ : ∃ (b : Fin 4) (r : Fin 4352) (x : Fin 1024), i = ix3 b r x := ⟨i 0, i 1, i 2, eq_ix3 i⟩
  have ht : (b.val * 2 + x.val / 512) * 17 + r.val / 256 < cfg0.N := lt_of_lt_of_eq (by omega) N_0.symm
  refine ⟨⟨_, ht⟩, flush0_3 _, ?_⟩
  show _ ∈ ((View.whole main_v3).slice (win0_3.rect ⟨_, ht⟩)).set
  rw [View.set_slice_whole, Rect.mem_set_unit]
  have h := index3 ⟨_, ht⟩
  intro k
  match k with
  | ⟨0, _⟩ =>
    show win0_3.index ⟨_, ht⟩ 0 * 1 ≤ b.val ∧ b.val < win0_3.index ⟨_, ht⟩ 0 * 1 + 1
    rw [h]; dsimp only [Matrix.cons_val_zero]; omega
  | ⟨1, _⟩ =>
    show win0_3.index ⟨_, ht⟩ 1 * 256 ≤ r.val ∧ r.val < win0_3.index ⟨_, ht⟩ 1 * 256 + 256
    rw [h]; dsimp only [Matrix.cons_val_one, Matrix.cons_val_zero]; omega
  | ⟨2, _⟩ =>
    show win0_3.index ⟨_, ht⟩ 2 * 512 ≤ x.val ∧ x.val < win0_3.index ⟨_, ht⟩ 2 * 512 + 512
    rw [h]; show _ / 17 % 2 * 512 ≤ _ ∧ _ < _ / 17 % 2 * 512 + 512; dsimp only; omega

include fq fk in
/-- The result after the run. -/
theorem final : (dats m 0 c).arrAt 3 cfg0.N = result m c :=
  (dats m 0 c).arrAt_eq_of_cover 3 (result m c) (fun t _ => flushed_eq m c fq fk t) cover

end Cert.MlaIdeal.Attention

end
-- ==== Proof.MlaReference.lean ====
/-
  What the reference with 8 heads of width 256 leaves in its result: the attention of its three arguments.
-/
module

public import proofs.«01_k».proof.Proof.HostSoftmax
public import proofs.«01_k».proof.Proof.MlaValue
public import proofs.«01_k».proof.Proof.Gen.MlaRefIdeal.Run

@[expose] public section

set_option maxRecDepth 16384

noncomputable section

namespace Cert.MlaRefIdeal.Attention

open Cert.MlaRefIdeal Cert.MlaRefIdeal.Gen Cert.Attn Idealize.ShloMosaic Idealize.ShloMosaic.TcCoe
open Cert.MlaIdeal.Attention (fit_q fit_k fit_v)

variable (q k : FVec Ideal S17408x2048 .bf16) (v : FVec Ideal S17408x1024 .bf16)

/-- The scores of the context tokens: the first 256 of a batch against the same 256. -/
def contextScores : FVec Ideal S4x8x1x256x256 .f32 :=
  transpose S4x8x1x256x256 [0, 1, 4, 3, 2] (Host.dotGeneral dot_S4x256x8x256_S4x256x8x1x256_S4x8x256x256x1_3_4_1_13_02_02 none (extractStridedSlice S4x256x8x256 ![0, 0, 0, 0] (shapeCast S4x4352x8x256 (extf .f32 k bitsLt_bf16_f32) shapeCasts_S17408x2048_S4x4352x8x256) slices_S4x4352x8x256_S4x256x8x256_0_0_0_0) (shapeCast S4x256x8x1x256 (extractStridedSlice S4x256x8x256 ![0, 0, 0, 0] (shapeCast S4x4352x8x256 (extf .f32 q bitsLt_bf16_f32) shapeCasts_S17408x2048_S4x4352x8x256) slices_S4x4352x8x256_S4x256x8x256_0_0_0_0) shapeCasts_S4x256x8x256_S4x256x8x1x256)) transposes_S4x8x256x256x1_S4x8x1x256x256_0_1_4_3_2

/-- The scores of the other tokens: the last 4096 of a batch against all 4352. -/
def latentScores : FVec Ideal S4x8x1x4096x4352 .f32 :=
  transpose S4x8x1x4096x4352 [0, 1, 4, 3, 2] (Host.dotGeneral dot_S4x4352x8x256_S4x4096x8x1x256_S4x8x4352x4096x1_3_4_1_13_02_02 none (shapeCast S4x4352x8x256 (extf .f32 k bitsLt_bf16_f32) shapeCasts_S17408x2048_S4x4352x8x256) (shapeCast S4x4096x8x1x256 (extractStridedSlice S4x4096x8x256 ![0, 256, 0, 0] (shapeCast S4x4352x8x256 (extf .f32 q bitsLt_bf16_f32) shapeCasts_S17408x2048_S4x4352x8x256) slices_S4x4352x8x256_S4x4096x8x256_0_256_0_0) shapeCasts_S4x4096x8x256_S4x4096x8x1x256)) transposes_S4x8x4352x4096x1_S4x8x1x4096x4352_0_1_4_3_2

/-- The context tokens' results from their weights `p`. -/
def contextOut (p : FVec Ideal S4x8x1x256x256 .f32) : FVec Ideal S4x256x1024 .f32 :=
  shapeCast S4x256x1024 (transpose S4x256x8x1x128 [0, 4, 1, 3, 2] (Host.dotGeneral dot_S4x256x8x128_S4x8x1x256x256_S4x8x128x1x256_1_4_3_23_02_01 none (extractStridedSlice S4x256x8x128 ![0, 0, 0, 0] (shapeCast S4x4352x8x128 (extf .f32 v bitsLt_bf16_f32) shapeCasts_S17408x1024_S4x4352x8x128) slices_S4x4352x8x128_S4x256x8x128_0_0_0_0) p) transposes_S4x8x128x1x256_S4x256x8x1x128_0_4_1_3_2) shapeCasts_S4x256x8x1x128_S4x256x1024

/-- The other tokens' results from their weights `p`. -/
def latentOut (p : FVec Ideal S4x8x1x4096x4352 .f32) : FVec Ideal S4x4096x1024 .f32 :=
  shapeCast S4x4096x1024 (transpose S4x4096x8x1x128 [0, 4, 1, 3, 2] (Host.dotGeneral dot_S4x4352x8x128_S4x8x1x4096x4352_S4x8x128x1x4096_1_4_3_23_02_01 none (shapeCast S4x4352x8x128 (extf .f32 v bitsLt_bf16_f32) shapeCasts_S17408x1024_S4x4352x8x128) p) transposes_S4x8x128x1x4096_S4x4096x8x1x128_0_4_1_3_2) shapeCasts_S4x4096x8x1x128_S4x4096x1024

/-- The softmax of the scores of the context tokens. -/
abbrev contextWeights (x : FVec Ideal S4x8x1x256x256 .f32) : FVec Ideal S4x8x1x256x256 .f32 :=
  hostWeights h_S_ bcast_S_S4x8x1x256x256 bcast_S_S4x8x1x256 bcast_S4x8x1x256_S4x8x1x256x1_0_1_2_3
    bcast_S4x8x1x256x1_S4x8x1x256x256_0_1_2_3_4 reducesTo_S4x8x1x256x256_S4x8x1x256_d4 x

/-- The softmax of the scores of the other tokens. -/
abbrev latentWeights (x : FVec Ideal S4x8x1x4096x4352 .f32) : FVec Ideal S4x8x1x4096x4352 .f32 :=
  hostWeights h_S_ bcast_S_S4x8x1x4096x4352 bcast_S_S4x8x1x4096 bcast_S4x8x1x4096_S4x8x1x4096x1_0_1_2_3
    bcast_S4x8x1x4096x1_S4x8x1x4096x4352_0_1_2_3_4 reducesTo_S4x8x1x4096x4352_S4x8x1x4096_d4 x

variable (m : (ℓ : Loc nD τ sig) → Buf (Elt Ideal) ℓ)

/-- The reference's result is its two parts, one after the other. -/
theorem res_eq (c : Dev nD) : Value.res_main_v51 m c = truncf .bf16 (concatenate S4x4352x1024 1
    [⟨S4x256x1024, contextOut (m (c.tc.loc main_arg2)) (contextWeights (contextScores (m (c.tc.loc main_arg0)) (m (c.tc.loc main_arg1))))⟩,
     ⟨S4x4096x1024, latentOut (m (c.tc.loc main_arg2)) (latentWeights (latentScores (m (c.tc.loc main_arg0)) (m (c.tc.loc main_arg1))))⟩]
    concatenates_S4x256x1024_S4x4096x1024_S4x4352x1024_d1) bitsLt_bf16_f32 := rfl

/-- A score of a context token. -/
theorem contextScores_apply (b : Fin 4) (h : Fin 8) (g : Fin 1) (r n : Fin 256) :
    contextScores q k (ix5 b h g r n)
      = ∑ e : Fin 256, k (ix2 (token b ⟨n.val, by omega⟩) ⟨256 * h.val + e.val, by omega⟩)
          * q (ix2 (token b ⟨r.val, by omega⟩) ⟨256 * h.val + e.val, by omega⟩) := by
  pointwise [contextScores]
  exact Finset.sum_congr rfl fun e _ => congrArg₂ (· * ·) (entry_eq k (by dsimp only; omega) (by dsimp only; omega))
    (entry_eq q (by dsimp only; omega) (by dsimp only; omega))

/-- A score of another token. -/
theorem latentScores_apply (b : Fin 4) (h : Fin 8) (g : Fin 1) (r : Fin 4096) (n : Fin 4352) :
    latentScores q k (ix5 b h g r n)
      = ∑ e : Fin 256, k (ix2 (token b n) ⟨256 * h.val + e.val, by omega⟩)
          * q (ix2 (token b ⟨256 + r.val, by omega⟩) ⟨256 * h.val + e.val, by omega⟩) := by
  pointwise [latentScores]
  exact Finset.sum_congr rfl fun e _ => congrArg₂ (· * ·) (entry_eq k (by dsimp only; omega) (by dsimp only; omega))
    (entry_eq q (by dsimp only; omega) (by dsimp only; omega))

variable (fq : AllReal q) (fk : AllReal k)

include fq fk in
/-- A context token's result. -/
theorem contextOut_apply (b : Fin 4) (r : Fin 256) (x : Fin 1024) :
    contextOut v (contextWeights (contextScores q k)) (ix3 b r x)
      = over 256 1 fit_q fit_k fit_v q k v 256 (by decide) b ⟨r.val, by omega⟩ x := by
  pointwise [contextOut]
  refine (weighted_row _ _ _ _ _ _ (by decide) (contextScores q k) _ _ _ _ _ _ _ (fun c => fq _) (fun e c => fk _)
    (fun e => contextScores_apply q k b _ _ r e)).trans (attend_congr ?_ ?_ ?_) <;> intros
  · exact entry_eq q rfl (by dsimp only)
  · exact entry_eq k rfl (by dsimp only; omega)
  · exact entry_eq v (by dsimp only; omega) (by dsimp only; omega)

include fq fk in
/-- Another token's result. -/
theorem latentOut_apply (b : Fin 4) (r : Fin 4096) (x : Fin 1024) :
    latentOut v (latentWeights (latentScores q k)) (ix3 b r x)
      = over 256 1 fit_q fit_k fit_v q k v 4352 (by decide) b ⟨256 + r.val, by omega⟩ x := by
  pointwise [latentOut]
  refine (weighted_row _ _ _ _ _ _ (by decide) (latentScores q k) _ _ _ _ _ _ _ (fun c => fq _) (fun e c => fk _)
    (fun e => latentScores_apply q k b _ _ r e)).trans (attend_congr ?_ ?_ ?_) <;> intros
  · exact entry_eq q rfl (by dsimp only)
  · exact entry_eq k rfl (by dsimp only; omega)
  · exact entry_eq v (by dsimp only; omega) (by dsimp only; omega)

variable (m : (ℓ : Loc nD τ sig) → Buf (Elt Ideal) ℓ) (c : Dev nD)

/-- The reference's result is the attention of its arguments. -/
theorem res_apply (fq : AllReal (s := S17408x2048) (m (c.tc.loc main_arg0))) (fk : AllReal (s := S17408x2048) (m (c.tc.loc main_arg1))) :
    Value.res_main_v51 m c = Cert.MlaIdeal.Attention.spec (m (c.tc.loc main_arg0)) (m (c.tc.loc main_arg1)) (m (c.tc.loc main_arg2)) := by
  rw [res_eq]
  funext i
  idx_vars i
  pointwise
  split
  · exact (contextOut_apply _ _ _ fq fk i0 ⟨i1.val, ‹_›⟩ i2).trans (if_pos ‹_›).symm
  · refine (latentOut_apply _ _ _ fq fk i0 ⟨i1.val - 256, by omega⟩ i2).trans (Eq.trans ?_ (if_neg ‹_›).symm)
    exact congrArg (over 256 1 fit_q fit_k fit_v _ _ _ 4352 (by decide) i0 · i2) (Fin.ext (show 256 + (i1.val - 256) = i1.val by omega))

end Cert.MlaRefIdeal.Attention

end
-- ==== Proof.MlaClaim.lean ====
/-
  The claims about the attention with 8 heads of width 256: the precondition read back, the reference's frame, and kernel and reference equal.
-/
module

public import proofs.«01_k».proof.Defs
public import proofs.«01_k».proof.Proof.Finite
public import proofs.«01_k».proof.Proof.MlaValue
public import proofs.«01_k».proof.Proof.MlaReference
public import Idealize.ShloMosaic.Adequacy

@[expose] public section

set_option maxRecDepth 16384

noncomputable section

namespace Cert.MlaIdeal.Attention

open Idealize.ShloMosaic Idealize.ShloMosaic.TcCoe Idealize.SL.Sem Cert.Attn Cert.MlaIdeal Cert.MlaIdeal.Gen

/-- The side conditions of the precondition's operations. -/
theorem finite_facts : Cert.Pre_mla_finite.Facts where
  bcast_S_S17408x2048 := by decide
  reducesTo_S17408x2048_S_d0_1 := by decide
  h_S_ := by decide

/-- Under the precondition queries and keys are real. -/
theorem finite_args (m : (ℓ : Loc nD τ sig) → Buf (Elt Ideal) ℓ) (h : Pre_MlaIdeal_mla_finite (hPre_mla_finite := finite_facts) m) (c : Dev nD) :
    AllReal (s := S17408x2048) (m (c.tc.loc main_arg0)) ∧ AllReal (s := S17408x2048) (m (c.tc.loc main_arg1)) := by
  have h0 := congrFun (h c) (fun k => k.elim0)
  unfold Cert.Pre_mla_finite.fn at h0
  have h1 := and_one h0
  exact ⟨allReal_of_all _ _ _ _ _ h1.1, allReal_of_all _ _ _ _ _ h1.2⟩

/-- The reference terminates, keeps its arguments, and leaves every counter at zero. -/
theorem reference_frame : quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- From equal arguments the reference's result is the kernel's. -/
theorem reference_result (m : (ℓ : Loc nD τ sig) → Buf (Elt Ideal) ℓ)
    (m' : (ℓ : Loc Cert.MlaRefIdeal.nD Cert.MlaRefIdeal.τ Cert.MlaRefIdeal.sig) → Buf (Elt Ideal) ℓ) (c : Dev nD)
    (h0 : m' (c.tc.loc Cert.MlaRefIdeal.main_arg0) = m (c.tc.loc main_arg0))
    (h1 : m' (c.tc.loc Cert.MlaRefIdeal.main_arg1) = m (c.tc.loc main_arg1))
    (h2 : m' (c.tc.loc Cert.MlaRefIdeal.main_arg2) = m (c.tc.loc main_arg2))
    (fq : AllReal (s := S17408x2048) (m (c.tc.loc main_arg0))) (fk : AllReal (s := S17408x2048) (m (c.tc.loc main_arg1))) :
    Cert.MlaRefIdeal.Value.res_main_v51 m' c = result m c := by
  rw [Cert.MlaRefIdeal.Attention.res_apply m' c (h0.symm ▸ fq) (h1.symm ▸ fk), h0, h1, h2]

/-- Kernel and reference compute the same array from finite queries and keys and any values. -/
theorem kernel_eq_reference : algebraic_MlaIdeal_MlaRefIdeal_pre_mla_finite (hPre_mla_finite := finite_facts) :=
  fun m ρ m' ρ' hpre hag =>
  ⟨fun c => result m c,
    (θ_run _ _ _).mono (fun _ h c => ⟨(h c).1.trans (final m c (finite_args m hpre c).1 (finite_args m hpre c).2), (h c).2⟩)
      (Value.run_blocks m ρ),
    (θ_run _ _ _).mono (fun _ h c => ⟨(h c).1.trans (reference_result m m' c (hag c).1 (hag c).2.1 (hag c).2.2
      (finite_args m hpre c).1 (finite_args m hpre c).2), (h c).2⟩)
      (Cert.MlaRefIdeal.Value.run (F := Ideal) m' ρ')⟩

end Cert.MlaIdeal.Attention

end
-- ==== Proof.GqaValue.lean ====
/-
  What the attention kernel with 16 query heads and 8 key heads of width 128 leaves in its result: the attention of its three arguments.
-/
module

public import proofs.«01_k».proof.Proof.Attention
public import proofs.«01_k».proof.Proof.Gen.GqaIdeal.Value
public import Idealize.ShloMosaic.Lib.Claim

@[expose] public section

set_option maxRecDepth 16384

noncomputable section

namespace Cert.GqaIdeal.Attention

open Cert.GqaIdeal Cert.GqaIdeal.Gen Cert.Attn Idealize.ShloMosaic Idealize.ShloMosaic.TcCoe Idealize.SL.Sem

/-! ## The stores of a grid step -/

section Steps

variable {F : FTy → Type} [FloatOps F] (c : Dev nD) (i : grid0.Coords) (arg3 : Memref sig .tc .vmem S1x256x512 .bf16) (harg3 : arg3.IsWhole)
  (arg4 : Memref sig .tc .vmem S1x4352x256 .bf16) (harg4 : arg4.IsWhole) (arg5 : Memref sig .tc .vmem S1x4352x256 .bf16) (harg5 : arg5.IsWhole)
  (arg6 : Memref sig .tc .vmem S1x256x512 .bf16) (harg6 : arg6.IsWhole) (arg7 : Memref sig .tc .vmem S4x256x4352 .f32) (harg7 : arg7.IsWhole)
  (x0 : Vec F S1x256x512 .bf16) (x1 : Vec F S1x4352x256 .bf16) (x2 : Vec F S1x4352x256 .bf16)

/-- The stores of a step over `n + 1` chunks of keys. -/
abbrev pieces {n : ℕ} (hn : n ≤ 16) : List (View.Piece (Elt F) (R3 1 256 512) EltTy.bf16) :=
  outPieces hn arg7 (stepScores hn (dk := 128) (g := 2) (by decide) (by decide) arg3 harg3 x0 arg4 harg4 x1)
    (stepValues hn (g := 2) (by decide) arg5 harg5 x2)

/-- A step of context tokens: one chunk; -/
theorem pieces_context (hc0 : cond0_0 i) (hc1 : ¬cond0_1 i) :
    (kernelRun0_A c i arg3 harg3 arg4 harg4 arg5 harg5 arg6 harg6 arg7 harg7 hc0 hc1 x0 x1 x2).1
      = pieces arg3 harg3 arg4 harg4 arg5 harg5 arg7 x0 x1 x2 (Nat.zero_le 16) := by sl_kernel_rfl

/-- any other step: 17 chunks. -/
theorem pieces_latent (hc0 : ¬cond0_0 i) (hc1 : cond0_1 i) :
    (kernelRun0_B c i arg3 harg3 arg4 harg4 arg5 harg5 arg6 harg6 arg7 harg7 hc0 hc1 x0 x1 x2).1
      = pieces arg3 harg3 arg4 harg4 arg5 harg5 arg7 x0 x1 x2 (le_refl 16) := by sl_kernel_rfl

end Steps

variable (m : (ℓ : Loc nD τ sig) → Buf (Elt Ideal) ℓ) (ρ : Dev nD → PrngReg)

/-! ## The blocks -/

theorem index0 : ∀ t : Fin cfg0.N, win0_0.index t = ![t.val / 68, t.val % 17, t.val / 17 % 4] :=
  (by decide +kernel : ∀ t : Fin grid0.N, win0_0.index t = ![t.val / 68, t.val % 17, t.val / 17 % 4])
theorem index1 : ∀ t : Fin cfg0.N, win0_1.index t = ![t.val / 68, 0, t.val / 17 % 4] :=
  (by decide +kernel : ∀ t : Fin grid0.N, win0_1.index t = ![t.val / 68, 0, t.val / 17 % 4])
theorem index2 : ∀ t : Fin cfg0.N, win0_2.index t = ![t.val / 68, 0, t.val / 17 % 4] :=
  (by decide +kernel : ∀ t : Fin grid0.N, win0_2.index t = ![t.val / 68, 0, t.val / 17 % 4])
theorem index3 : ∀ t : Fin cfg0.N, win0_3.index t = ![t.val / 68, t.val % 17, t.val / 17 % 4] :=
  (by decide +kernel : ∀ t : Fin grid0.N, win0_3.index t = ![t.val / 68, t.val % 17, t.val / 17 % 4])

theorem point_lt (t : Fin cfg0.N) : t.val < 272 := lt_of_lt_of_eq t.isLt N_0

/-- The batch of a grid point. -/
abbrev batch (t : Fin cfg0.N) : Fin 4 := ⟨t.val / 68, by have := point_lt t; omega⟩

theorem entry_q (c : Dev nD) (b : Fin 4) (r : Fin 4352) (x : Fin 2048) :
    V m c main_v0 (ix3 b r x) = m ((c : Thread nD τ).loc main_arg0) (ix2 (token b r) x) := by
  entry_read
  pointwise
  exact congrArg (fun y => m ((c : Thread nD τ).loc main_arg0) (ix2 y x)) (Fin.ext (congrArg (· + r.val) (Nat.mul_comm _ _)))

theorem entry_k (c : Dev nD) (b : Fin 4) (r : Fin 4352) (x : Fin 1024) :
    V m c main_v1 (ix3 b r x) = m ((c : Thread nD τ).loc main_arg1) (ix2 (token b r) x) := by
  entry_read
  pointwise
  exact congrArg (fun y => m ((c : Thread nD τ).loc main_arg1) (ix2 y x)) (Fin.ext (congrArg (· + r.val) (Nat.mul_comm _ _)))

theorem entry_v (c : Dev nD) (b : Fin 4) (r : Fin 4352) (x : Fin 1024) :
    V m c main_v2 (ix3 b r x) = m ((c : Thread nD τ).loc main_arg2) (ix2 (token b r) x) := by
  entry_read
  pointwise
  exact congrArg (fun y => m ((c : Thread nD τ).loc main_arg2) (ix2 y x)) (Fin.ext (congrArg (· + r.val) (Nat.mul_comm _ _)))

/-- The queries staged at a point, -/
theorem block_q (c : Dev nD) (t : Fin cfg0.N) (r : Fin 256) (x : Fin 512) :
    ∃ hx, iblk m c 0 t (ix3 0 r x)
      = m ((c : Thread nD τ).loc main_arg0) (ix2 (token (batch t) ⟨256 * (t.val % 17) + r.val, by omega⟩) ⟨512 * (t.val / 17 % 4) + x.val, hx⟩) := by
  refine ⟨by omega, Eq.trans (congrArg (V m c main_v0) (a₂ := ix3 (batch t) ⟨256 * (t.val % 17) + r.val, by omega⟩ ⟨512 * (t.val / 17 % 4) + x.val, by omega⟩)
    (funext fun k => Fin.ext ?_)) (entry_q m c _ _ _)⟩
  have h := index0 t
  match k with
  | ⟨0, _⟩ => show win0_0.index t 0 * 1 + 1 * 0 = _; rw [h]; exact Nat.mul_one _
  | ⟨1, _⟩ => show win0_0.index t 1 * 256 + 1 * r.val = _; rw [h, one_mul, Nat.mul_comm]; rfl
  | ⟨2, _⟩ => show win0_0.index t 2 * 512 + 1 * x.val = _; rw [h, one_mul, Nat.mul_comm]; rfl

/-- the keys -/
theorem block_k (c : Dev nD) (t : Fin cfg0.N) (r : Fin 4352) (x : Fin 256) :
    ∃ hx, iblk m c 1 t (ix3 0 r x) = m ((c : Thread nD τ).loc main_arg1) (ix2 (token (batch t) r) ⟨256 * (t.val / 17 % 4) + x.val, hx⟩) := by
  refine ⟨by omega, Eq.trans (congrArg (V m c main_v1) (a₂ := ix3 (batch t) r ⟨256 * (t.val / 17 % 4) + x.val, by omega⟩)
    (funext fun k => Fin.ext ?_)) (entry_k m c _ _ _)⟩
  have h := index1 t
  match k with
  | ⟨0, _⟩ => show win0_1.index t 0 * 1 + 1 * 0 = _; rw [h]; exact Nat.mul_one _
  | ⟨1, _⟩ => show win0_1.index t 1 * 4352 + 1 * r.val = _; rw [h, one_mul]; exact (congrArg (· + r.val) (Nat.zero_mul _)).trans (Nat.zero_add _)
  | ⟨2, _⟩ => show win0_1.index t 2 * 256 + 1 * x.val = _; rw [h, one_mul, Nat.mul_comm]; rfl

/-- and the values. -/
theorem block_v (c : Dev nD) (t : Fin cfg0.N) (r : Fin 4352) (x : Fin 256) :
    ∃ hx, iblk m c 2 t (ix3 0 r x) = m ((c : Thread nD τ).loc main_arg2) (ix2 (token (batch t) r) ⟨256 * (t.val / 17 % 4) + x.val, hx⟩) := by
  refine ⟨by omega, Eq.trans (congrArg (V m c main_v2) (a₂ := ix3 (batch t) r ⟨256 * (t.val / 17 % 4) + x.val, by omega⟩)
    (funext fun k => Fin.ext ?_)) (entry_v m c _ _ _)⟩
  have h := index2 t
  match k with
  | ⟨0, _⟩ => show win0_2.index t 0 * 1 + 1 * 0 = _; rw [h]; exact Nat.mul_one _
  | ⟨1, _⟩ => show win0_2.index t 1 * 4352 + 1 * r.val = _; rw [h, one_mul]; exact (congrArg (· + r.val) (Nat.zero_mul _)).trans (Nat.zero_add _)
  | ⟨2, _⟩ => show win0_2.index t 2 * 256 + 1 * x.val = _; rw [h, one_mul, Nat.mul_comm]; rfl

/-! ## The result -/

theorem fit_q : ∀ x < 2048, 128 * (x / 128) + 128 ≤ 2048 := by omega
theorem fit_k : ∀ x < 2048, 128 * (x / 128 / 2) + 128 ≤ 1024 := by omega

/-- The attention of queries, keys and values of these shapes. -/
def spec (q : FVec Ideal S17408x2048 .bf16) (k v : FVec Ideal S17408x1024 .bf16) : FVec Ideal S4x4352x2048 .bf16 := fun i =>
  attention 128 2 fit_q fit_k fit_k q k v (i 0) (i 1) (i 2)

variable (c : Dev nD) (fq : AllReal (s := S17408x2048) (m ((c : Thread nD τ).loc main_arg0)))
  (fk : AllReal (s := S17408x1024) (m ((c : Thread nD τ).loc main_arg1)))

/-- The attention of device `c`'s arguments. -/
abbrev result : FVec Ideal S4x4352x2048 .bf16 :=
  spec (m ((c : Thread nD τ).loc main_arg0)) (m ((c : Thread nD τ).loc main_arg1)) (m ((c : Thread nD τ).loc main_arg2))

/-- An entry of the result's block at a point. -/
theorem read_block (t : Fin cfg0.N) (r : Fin 256) (x : Fin 512) :
    ((cfg0.win 3).blk t).view.read (Elt Ideal) (result m c) (ix3 0 r x)
      = attention 128 2 fit_q fit_k fit_k (m ((c : Thread nD τ).loc main_arg0)) (m ((c : Thread nD τ).loc main_arg1)) (m ((c : Thread nD τ).loc main_arg2))
          (batch t) ⟨256 * (t.val % 17) + r.val, by omega⟩ ⟨512 * (t.val / 17 % 4) + x.val, by omega⟩ := by
  refine (congrArg (result m c) (a₂ := ix3 (batch t) ⟨256 * (t.val % 17) + r.val, by omega⟩ ⟨512 * (t.val / 17 % 4) + x.val, by omega⟩)
    (funext fun k => Fin.ext ?_)).trans rfl
  have h := index3 t
  match k with
  | ⟨0, _⟩ => show win0_3.index t 0 * 1 + 1 * 0 = _; rw [h]; exact Nat.mul_one _
  | ⟨1, _⟩ => show win0_3.index t 1 * 256 + 1 * r.val = _; rw [h, one_mul, Nat.mul_comm]; rfl
  | ⟨2, _⟩ => show win0_3.index t 2 * 512 + 1 * x.val = _; rw [h, one_mul, Nat.mul_comm]; rfl

include fq fk in
/-- What a step over `n + 1` chunks leaves at an entry of its block. -/
theorem step_over {n : ℕ} (hn : n ≤ 16) (t : Fin cfg0.N) (r : Fin 256) (x : Fin 512) :
    View.canon (pieces (ms0_0 t) (hs0_0 t) (ms0_1 t) (hs0_1 t) (ms0_2 t) (hs0_2 t) scM0_0 (iblk m c 0 t) (iblk m c 1 t) (iblk m c 2 t) hn) (ix3 0 r x)
      = over 128 2 fit_q fit_k fit_k (m ((c : Thread nD τ).loc main_arg0)) (m ((c : Thread nD τ).loc main_arg1)) (m ((c : Thread nD τ).loc main_arg2))
          ((n + 1) * 256) (by omega) (batch t) ⟨256 * (t.val % 17) + r.val, by omega⟩ ⟨512 * (t.val / 17 % 4) + x.val, by omega⟩ :=
  block_apply hn (kh := 2) rfl fit_q fit_k fit_k _ _ _ rfl rfl rfl scM0_0 (ms0_0 t) (hs0_0 t) _ (ms0_1 t) (hs0_1 t) _ (ms0_2 t) (hs0_2 t) _
    _ _ _ fq fk (batch t) (t.val % 17) (t.val / 17 % 4) (by omega) (by omega) (block_q m c t) (block_k m c t) (block_v m c t) r x

include fq fk in
/-- A point writes back its block of the attention. -/
theorem flushed_eq (t : Fin cfg0.N) : (dats m 0 c).flushed 3 t = ((cfg0.win 3).blk t).view.read (Elt Ideal) (result m c) := by
  funext y
  obtain ⟨a, r, x, rfl⟩ : ∃ (a : Fin 1) (r : Fin 256) (x : Fin 512), y = ix3 a r x := ⟨y 0, y 1, y 2, eq_ix3 y⟩
  obtain rfl : a = 0 := Subsingleton.elim _ _
  refine Eq.trans ?_ (read_block m c t r x).symm
  unfold attention
  by_cases h0 : t.val % 17 = 0
  · rw [Value.flushed3_A m c t h0 (by omega), if_pos (by dsimp only; omega)]
    refine Eq.trans ?_ (step_over m c fq fk (Nat.zero_le 16) t r x)
    unfold out0_A_3
    rw [View.read_writes_junk_eq_canon, pieces_context]
    rfl
  · rw [Value.flushed3_B m c t h0 (by omega), if_neg (by dsimp only; omega)]
    refine Eq.trans ?_ (step_over m c fq fk (le_refl 16) t r x)
    unfold out0_B_3
    rw [View.read_writes_junk_eq_canon, pieces_latent]
    rfl

/-- Every entry of the result is in a point's block. -/
theorem cover (i : S4x4352x2048.Idx) : ∃ t : Fin cfg0.N, (cfg0.win 3).flush t = true ∧ i ∈ ((cfg0.win 3).blk t).view.set := by
  obtain ⟨b, r, x, rfl⟩ : ∃ (b : Fin 4) (r : Fin 4352) (x : Fin 2048), i = ix3 b r x := ⟨i 0, i 1, i 2, eq_ix3 i⟩
  have ht : (b.val * 4 + x.val / 512) * 17 + r.val / 256 < cfg0.N := lt_of_lt_of_eq (by omega) N_0.symm
  refine ⟨⟨_, ht⟩, flush0_3 _, ?_⟩
  show _ ∈ ((View.whole main_v3).slice (win0_3.rect ⟨_, ht⟩)).set
  rw [View.set_slice_whole, Rect.mem_set_unit]
  have h := index3 ⟨_, ht⟩
  intro k
  match k with
  | ⟨0, _⟩ =>
    show win0_3.index ⟨_, ht⟩ 0 * 1 ≤ b.val ∧ b.val < win0_3.index ⟨_, ht⟩ 0 * 1 + 1
    rw [h]; dsimp only [Matrix.cons_val_zero]; omega
  | ⟨1, _⟩ =>
    show win0_3.index ⟨_, ht⟩ 1 * 256 ≤ r.val ∧ r.val < win0_3.index ⟨_, ht⟩ 1 * 256 + 256
    rw [h]; dsimp only [Matrix.cons_val_one, Matrix.cons_val_zero]; omega
  | ⟨2, _⟩ =>
    show win0_3.index ⟨_, ht⟩ 2 * 512 ≤ x.val ∧ x.val < win0_3.index ⟨_, ht⟩ 2 * 512 + 512
    rw [h]; show _ / 17 % 4 * 512 ≤ _ ∧ _ < _ / 17 % 4 * 512 + 512; dsimp only; omega

include fq fk in
/-- The result after the run. -/
theorem final : (dats m 0 c).arrAt 3 cfg0.N = result m c :=
  (dats m 0 c).arrAt_eq_of_cover 3 (result m c) (fun t _ => flushed_eq m c fq fk t) cover

end Cert.GqaIdeal.Attention

end
-- ==== Proof.GqaReference.lean ====
/-
  What the reference with 16 query heads and 8 key heads of width 128 leaves in its result: the attention of its three arguments.
-/
module

public import proofs.«01_k».proof.Proof.HostSoftmax
public import proofs.«01_k».proof.Proof.GqaValue
public import proofs.«01_k».proof.Proof.Gen.GqaRefIdeal.Run

@[expose] public section

set_option maxRecDepth 16384

noncomputable section

namespace Cert.GqaRefIdeal.Attention

open Cert.GqaRefIdeal Cert.GqaRefIdeal.Gen Cert.Attn Idealize.ShloMosaic Idealize.ShloMosaic.TcCoe
open Cert.GqaIdeal.Attention (fit_q fit_k)

variable (q : FVec Ideal S17408x2048 .bf16) (k v : FVec Ideal S17408x1024 .bf16)

/-- The scores of the context tokens: the first 256 of a batch against the same 256. -/
def contextScores : FVec Ideal S4x8x2x256x256 .f32 :=
  transpose S4x8x2x256x256 [0, 1, 4, 3, 2] (Host.dotGeneral dot_S4x256x8x128_S4x256x8x2x128_S4x8x256x256x2_3_4_1_13_02_02 none (extractStridedSlice S4x256x8x128 ![0, 0, 0, 0] (shapeCast S4x4352x8x128 (extf .f32 k bitsLt_bf16_f32) shapeCasts_S17408x1024_S4x4352x8x128) slices_S4x4352x8x128_S4x256x8x128_0_0_0_0) (shapeCast S4x256x8x2x128 (extractStridedSlice S4x256x16x128 ![0, 0, 0, 0] (shapeCast S4x4352x16x128 (extf .f32 q bitsLt_bf16_f32) shapeCasts_S17408x2048_S4x4352x16x128) slices_S4x4352x16x128_S4x256x16x128_0_0_0_0) shapeCasts_S4x256x16x128_S4x256x8x2x128)) transposes_S4x8x256x256x2_S4x8x2x256x256_0_1_4_3_2

/-- The scores of the other tokens: the last 4096 of a batch against all 4352. -/
def latentScores : FVec Ideal S4x8x2x4096x4352 .f32 :=
  transpose S4x8x2x4096x4352 [0, 1, 4, 3, 2] (Host.dotGeneral dot_S4x4352x8x128_S4x4096x8x2x128_S4x8x4352x4096x2_3_4_1_13_02_02 none (shapeCast S4x4352x8x128 (extf .f32 k bitsLt_bf16_f32) shapeCasts_S17408x1024_S4x4352x8x128) (shapeCast S4x4096x8x2x128 (extractStridedSlice S4x4096x16x128 ![0, 256, 0, 0] (shapeCast S4x4352x16x128 (extf .f32 q bitsLt_bf16_f32) shapeCasts_S17408x2048_S4x4352x16x128) slices_S4x4352x16x128_S4x4096x16x128_0_256_0_0) shapeCasts_S4x4096x16x128_S4x4096x8x2x128)) transposes_S4x8x4352x4096x2_S4x8x2x4096x4352_0_1_4_3_2

/-- The context tokens' results from their weights `p`. -/
def contextOut (p : FVec Ideal S4x8x2x256x256 .f32) : FVec Ideal S4x256x2048 .f32 :=
  shapeCast S4x256x2048 (transpose S4x256x8x2x128 [0, 4, 1, 3, 2] (Host.dotGeneral dot_S4x256x8x128_S4x8x2x256x256_S4x8x128x2x256_1_4_3_23_02_01 none (extractStridedSlice S4x256x8x128 ![0, 0, 0, 0] (shapeCast S4x4352x8x128 (extf .f32 v bitsLt_bf16_f32) shapeCasts_S17408x1024_S4x4352x8x128) slices_S4x4352x8x128_S4x256x8x128_0_0_0_0) p) transposes_S4x8x128x2x256_S4x256x8x2x128_0_4_1_3_2) shapeCasts_S4x256x8x2x128_S4x256x2048

/-- The other tokens' results from their weights `p`. -/
def latentOut (p : FVec Ideal S4x8x2x4096x4352 .f32) : FVec Ideal S4x4096x2048 .f32 :=
  shapeCast S4x4096x2048 (transpose S4x4096x8x2x128 [0, 4, 1, 3, 2] (Host.dotGeneral dot_S4x4352x8x128_S4x8x2x4096x4352_S4x8x128x2x4096_1_4_3_23_02_01 none (shapeCast S4x4352x8x128 (extf .f32 v bitsLt_bf16_f32) shapeCasts_S17408x1024_S4x4352x8x128) p) transposes_S4x8x128x2x4096_S4x4096x8x2x128_0_4_1_3_2) shapeCasts_S4x4096x8x2x128_S4x4096x2048

/-- The softmax of the scores of the context tokens. -/
abbrev contextWeights (x : FVec Ideal S4x8x2x256x256 .f32) : FVec Ideal S4x8x2x256x256 .f32 :=
  hostWeights h_S_ bcast_S_S4x8x2x256x256 bcast_S_S4x8x2x256 bcast_S4x8x2x256_S4x8x2x256x1_0_1_2_3
    bcast_S4x8x2x256x1_S4x8x2x256x256_0_1_2_3_4 reducesTo_S4x8x2x256x256_S4x8x2x256_d4 x

/-- The softmax of the scores of the other tokens. -/
abbrev latentWeights (x : FVec Ideal S4x8x2x4096x4352 .f32) : FVec Ideal S4x8x2x4096x4352 .f32 :=
  hostWeights h_S_ bcast_S_S4x8x2x4096x4352 bcast_S_S4x8x2x4096 bcast_S4x8x2x4096_S4x8x2x4096x1_0_1_2_3
    bcast_S4x8x2x4096x1_S4x8x2x4096x4352_0_1_2_3_4 reducesTo_S4x8x2x4096x4352_S4x8x2x4096_d4 x

variable (m : (ℓ : Loc nD τ sig) → Buf (Elt Ideal) ℓ)

/-- The reference's result is its two parts, one after the other. -/
theorem res_eq (c : Dev nD) : Value.res_main_v51 m c = truncf .bf16 (concatenate S4x4352x2048 1
    [⟨S4x256x2048, contextOut (m (c.tc.loc main_arg2)) (contextWeights (contextScores (m (c.tc.loc main_arg0)) (m (c.tc.loc main_arg1))))⟩,
     ⟨S4x4096x2048, latentOut (m (c.tc.loc main_arg2)) (latentWeights (latentScores (m (c.tc.loc main_arg0)) (m (c.tc.loc main_arg1))))⟩]
    concatenates_S4x256x2048_S4x4096x2048_S4x4352x2048_d1) bitsLt_bf16_f32 := rfl

/-- A score of a context token. -/
theorem contextScores_apply (b : Fin 4) (h : Fin 8) (g : Fin 2) (r n : Fin 256) :
    contextScores q k (ix5 b h g r n)
      = ∑ e : Fin 128, k (ix2 (token b ⟨n.val, by omega⟩) ⟨128 * h.val + e.val, by omega⟩)
          * q (ix2 (token b ⟨r.val, by omega⟩) ⟨128 * (2 * h.val + g.val) + e.val, by omega⟩) := by
  pointwise [contextScores]
  exact Finset.sum_congr rfl fun e _ => congrArg₂ (· * ·) (entry_eq k (by dsimp only; omega) (by dsimp only; omega))
    (entry_eq q (by dsimp only; omega) (by dsimp only; omega))

/-- A score of another token. -/
theorem latentScores_apply (b : Fin 4) (h : Fin 8) (g : Fin 2) (r : Fin 4096) (n : Fin 4352) :
    latentScores q k (ix5 b h g r n)
      = ∑ e : Fin 128, k (ix2 (token b n) ⟨128 * h.val + e.val, by omega⟩)
          * q (ix2 (token b ⟨256 + r.val, by omega⟩) ⟨128 * (2 * h.val + g.val) + e.val, by omega⟩) := by
  pointwise [latentScores]
  exact Finset.sum_congr rfl fun e _ => congrArg₂ (· * ·) (entry_eq k (by dsimp only; omega) (by dsimp only; omega))
    (entry_eq q (by dsimp only; omega) (by dsimp only; omega))

variable (fq : AllReal q) (fk : AllReal k)

include fq fk in
/-- A context token's result. -/
theorem contextOut_apply (b : Fin 4) (r : Fin 256) (x : Fin 2048) :
    contextOut v (contextWeights (contextScores q k)) (ix3 b r x)
      = over 128 2 fit_q fit_k fit_k q k v 256 (by decide) b ⟨r.val, by omega⟩ x := by
  pointwise [contextOut]
  refine (weighted_row _ _ _ _ _ _ (by decide) (contextScores q k) _ _ _ _ _ _ _ (fun c => fq _) (fun e c => fk _)
    (fun e => contextScores_apply q k b _ _ r e)).trans (attend_congr ?_ ?_ ?_) <;> intros
  · exact entry_eq q rfl (by dsimp only; omega)
  · exact entry_eq k rfl (by dsimp only; omega)
  · exact entry_eq v (by dsimp only; omega) (by dsimp only; omega)

include fq fk in
/-- Another token's result. -/
theorem latentOut_apply (b : Fin 4) (r : Fin 4096) (x : Fin 2048) :
    latentOut v (latentWeights (latentScores q k)) (ix3 b r x)
      = over 128 2 fit_q fit_k fit_k q k v 4352 (by decide) b ⟨256 + r.val, by omega⟩ x := by
  pointwise [latentOut]
  refine (weighted_row _ _ _ _ _ _ (by decide) (latentScores q k) _ _ _ _ _ _ _ (fun c => fq _) (fun e c => fk _)
    (fun e => latentScores_apply q k b _ _ r e)).trans (attend_congr ?_ ?_ ?_) <;> intros
  · exact entry_eq q rfl (by dsimp only; omega)
  · exact entry_eq k rfl (by dsimp only; omega)
  · exact entry_eq v (by dsimp only; omega) (by dsimp only; omega)

variable (m : (ℓ : Loc nD τ sig) → Buf (Elt Ideal) ℓ) (c : Dev nD)

/-- The reference's result is the attention of its arguments. -/
theorem res_apply (fq : AllReal (s := S17408x2048) (m (c.tc.loc main_arg0))) (fk : AllReal (s := S17408x1024) (m (c.tc.loc main_arg1))) :
    Value.res_main_v51 m c = Cert.GqaIdeal.Attention.spec (m (c.tc.loc main_arg0)) (m (c.tc.loc main_arg1)) (m (c.tc.loc main_arg2)) := by
  rw [res_eq]
  funext i
  idx_vars i
  pointwise
  split
  · exact (contextOut_apply _ _ _ fq fk i0 ⟨i1.val, ‹_›⟩ i2).trans (if_pos ‹_›).symm
  · refine (latentOut_apply _ _ _ fq fk i0 ⟨i1.val - 256, by omega⟩ i2).trans (Eq.trans ?_ (if_neg ‹_›).symm)
    exact congrArg (over 128 2 fit_q fit_k fit_k _ _ _ 4352 (by decide) i0 · i2) (Fin.ext (show 256 + (i1.val - 256) = i1.val by omega))

end Cert.GqaRefIdeal.Attention

end
-- ==== Proof.GqaClaim.lean ====
/-
  The claims about the attention with 16 query heads and 8 key heads of width 128: the precondition read back, the reference's frame, and kernel and reference equal.
-/
module

public import proofs.«01_k».proof.Defs
public import proofs.«01_k».proof.Proof.Finite
public import proofs.«01_k».proof.Proof.GqaValue
public import proofs.«01_k».proof.Proof.GqaReference
public import Idealize.ShloMosaic.Adequacy

@[expose] public section

set_option maxRecDepth 16384

noncomputable section

namespace Cert.GqaIdeal.Attention

open Idealize.ShloMosaic Idealize.ShloMosaic.TcCoe Idealize.SL.Sem Cert.Attn Cert.GqaIdeal Cert.GqaIdeal.Gen

/-- The side conditions of the precondition's operations. -/
theorem finite_facts : Cert.Pre_gqa_finite.Facts where
  bcast_S_S17408x2048 := by decide
  reducesTo_S17408x2048_S_d0_1 := by decide
  h_S_ := by decide
  bcast_S_S17408x1024 := by decide
  reducesTo_S17408x1024_S_d0_1 := by decide

/-- Under the precondition queries and keys are real. -/
theorem finite_args (m : (ℓ : Loc nD τ sig) → Buf (Elt Ideal) ℓ) (h : Pre_GqaIdeal_gqa_finite (hPre_gqa_finite := finite_facts) m) (c : Dev nD) :
    AllReal (s := S17408x2048) (m (c.tc.loc main_arg0)) ∧ AllReal (s := S17408x1024) (m (c.tc.loc main_arg1)) := by
  have h0 := congrFun (h c) (fun k => k.elim0)
  unfold Cert.Pre_gqa_finite.fn at h0
  have h1 := and_one h0
  exact ⟨allReal_of_all _ _ _ _ _ h1.1, allReal_of_all _ _ _ _ _ h1.2⟩

/-- The reference terminates, keeps its arguments, and leaves every counter at zero. -/
theorem reference_frame : quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)

/-- From equal arguments the reference's result is the kernel's. -/
theorem reference_result (m : (ℓ : Loc nD τ sig) → Buf (Elt Ideal) ℓ)
    (m' : (ℓ : Loc Cert.GqaRefIdeal.nD Cert.GqaRefIdeal.τ Cert.GqaRefIdeal.sig) → Buf (Elt Ideal) ℓ) (c : Dev nD)
    (h0 : m' (c.tc.loc Cert.GqaRefIdeal.main_arg0) = m (c.tc.loc main_arg0))
    (h1 : m' (c.tc.loc Cert.GqaRefIdeal.main_arg1) = m (c.tc.loc main_arg1))
    (h2 : m' (c.tc.loc Cert.GqaRefIdeal.main_arg2) = m (c.tc.loc main_arg2))
    (fq : AllReal (s := S17408x2048) (m (c.tc.loc main_arg0))) (fk : AllReal (s := S17408x1024) (m (c.tc.loc main_arg1))) :
    Cert.GqaRefIdeal.Value.res_main_v51 m' c = result m c := by
  rw [Cert.GqaRefIdeal.Attention.res_apply m' c (h0.symm ▸ fq) (h1.symm ▸ fk), h0, h1, h2]

/-- Kernel and reference compute the same array from finite queries and keys and any values. -/
theorem kernel_eq_reference : algebraic_GqaIdeal_GqaRefIdeal_pre_gqa_finite (hPre_gqa_finite := finite_facts) :=
  fun m ρ m' ρ' hpre hag =>
  ⟨fun c => result m c,
    (θ_run _ _ _).mono (fun _ h c => ⟨(h c).1.trans (final m c (finite_args m hpre c).1 (finite_args m hpre c).2), (h c).2⟩)
      (Value.run_blocks m ρ),
    (θ_run _ _ _).mono (fun _ h c => ⟨(h c).1.trans (reference_result m m' c (hag c).1 (hag c).2.1 (hag c).2.2
      (finite_args m hpre c).1 (finite_args m hpre c).2), (h c).2⟩)
      (Cert.GqaRefIdeal.Value.run (F := Ideal) m' ρ')⟩

end Cert.GqaIdeal.Attention

end
-- ==== Proof.Modulated.lean ====
/-
  The tokens as a projection reads them: each row normed by its root mean square, times a gain, then scaled and shifted by
  two rows of the modulation vectors: those of the batch for its latent tokens, those of the context for the first 256.
-/
module

public import proofs.«01_k».proof.Proof.Attention
public import proofs.«01_k».proof.Proof.Gen.ConvRefIdeal.Run
public import Idealize.ShloMosaic.Lib.Claim

@[expose] public section

set_option maxRecDepth 16384

noncomputable section

namespace Cert.Proj

open Idealize.ShloMosaic Idealize.ShloMosaic.TcCoe Cert.Attn

/-- An entry of a row over its root mean square: the row's length is the number with the word `N`, and 1e-6 is added
    under the root. -/
def normed {n : ℕ} (N : BitVec 32) (x : Fin n → EReal) (k : Fin n) : EReal :=
  x k * Ideal.rsqrt (Ideal.div (∑ j, x j * x j) (Ideal.ofBits .f32 N) + Ideal.ofBits .f32 0x358637BD#32)

/-- The group of modulation vectors of a token: 4 for the context, else the batch. -/
abbrev group (b : Fin 4) (r : Fin 4352) : ℕ := if r.val < 256 then 4 else b.val

theorem group_lt (b : Fin 4) (r : Fin 4352) : group b r < 5 := by unfold group; split <;> omega

/-- Entry `k` of token `r` of batch `b`, normed and modulated. -/
def modulated (x : FVec Ideal ⟨2, ![17408, 1024]⟩ .f32) (m3 : FVec Ideal ⟨3, ![48, 1, 1024]⟩ .f32) (g : FVec Ideal ⟨1, ![1024]⟩ .f32)
    (b : Fin 4) (r : Fin 4352) (k : Fin 1024) : EReal :=
  normed 0x44800000#32 (fun j => x (ix2 (token b r) j)) k * g (ix1 k)
    * (1 + m3 (ix3 ⟨6 * group b r + 1, by have := group_lt b r; omega⟩ 0 k))
    + m3 (ix3 ⟨6 * group b r, by have := group_lt b r; omega⟩ 0 k)

/-- The batch of a row of the array of all tokens, -/
abbrev batchOf (t : Fin 17408) : Fin 4 := ⟨t.val / 4352, by omega⟩
/-- and its token in the batch. -/
abbrev tokenOf (t : Fin 17408) : Fin 4352 := ⟨t.val % 4352, by omega⟩

/-- The modulated entry, from any names of the rows it reads. -/
theorem modulated_eq (x : FVec Ideal ⟨2, ![17408, 1024]⟩ .f32) (m3 : FVec Ideal ⟨3, ![48, 1, 1024]⟩ .f32)
    (g : FVec Ideal ⟨1, ![1024]⟩ .f32) (b : Fin 4) (r : Fin 4352) (k : Fin 1024) (t : Fin 17408) (p q : Fin 48)
    (ht : t.val = (token b r).val) (hp : p.val = 6 * group b r + 1) (hq : q.val = 6 * group b r) :
    normed 0x44800000#32 (fun j => x (ix2 t j)) k * g (ix1 k) * (1 + m3 (ix3 p 0 k)) + m3 (ix3 q 0 k) = modulated x m3 g b r k := by
  have hp' : p = ⟨6 * group b r + 1, by have := group_lt b r; omega⟩ := Fin.ext hp
  have hq' : q = ⟨6 * group b r, by have := group_lt b r; omega⟩ := Fin.ext hq
  rw [Fin.ext ht, hp', hq']
  rfl

theorem zero2 : (![0, 0] : Fin 2 → ℕ) = fun _ => 0 := funext fun a => by fin_cases a <;> rfl
theorem zero3 : (![0, 0, 0] : Fin 3 → ℕ) = fun _ => 0 := funext fun a => by fin_cases a <;> rfl

section Host

open Cert.ConvRefIdeal Cert.ConvRefIdeal.Gen

variable (x : FVec Ideal S17408x1024 .f32) (m3 : FVec Ideal S48x1x1024 .f32) (g : FVec Ideal S1024 .f32)

/-- The reference's context tokens, -/
def contextTokens : FVec Ideal S4x256x1024 .f32 :=
  addf (mulf (mulf (mulf (extractStridedSlice S4x256x1024 ![0, 0, 0] (shapeCast _ x shapeCasts_S17408x1024_S4x4352x1024) slices_S4x4352x1024_S4x256x1024_0_0_0) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (extractStridedSlice S4x256x1024 ![0, 0, 0] (shapeCast _ x shapeCasts_S17408x1024_S4x4352x1024) slices_S4x4352x1024_S4x256x1024_0_0_0) (extractStridedSlice S4x256x1024 ![0, 0, 0] (shapeCast _ x shapeCasts_S17408x1024_S4x4352x1024) slices_S4x4352x1024_S4x256x1024_0_0_0)) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))) (broadcastInDim S4x256x1024 ![0, 1, 2] bcast_S1x1x1024_S4x256x1024_0_1_2 (broadcastInDim S1x1x1024 ![2] bcast_S1024_S1x1x1024_2 (addf (broadcastInDim S1024 ![] bcast_S_S1024 (constant S_ .f32 0x3F800000#32)) (shapeCast _ (extractStridedSlice S1x1x1024 ![4, 1, 0] (shapeCast _ m3 shapeCasts_S48x1x1024_S8x6x1024) slices_S8x6x1024_S1x1x1024_4_1_0) shapeCasts_S1x1x1024_S1024))))) (broadcastInDim S4x256x1024 ![0, 1, 2] bcast_S1x1x1024_S4x256x1024_0_1_2 (broadcastInDim S1x1x1024 ![2] bcast_S1024_S1x1x1024_2 (shapeCast _ (extractStridedSlice S1x1x1024 ![4, 0, 0] (shapeCast _ m3 shapeCasts_S48x1x1024_S8x6x1024) slices_S8x6x1024_S1x1x1024_4_0_0) shapeCasts_S1x1x1024_S1024)))

/-- and its latent tokens. -/
def latentTokens : FVec Ideal S4x4096x1024 .f32 :=
  addf (mulf (mulf (mulf (extractStridedSlice S4x4096x1024 ![0, 256, 0] (shapeCast _ x shapeCasts_S17408x1024_S4x4352x1024) slices_S4x4352x1024_S4x4096x1024_0_256_0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (extractStridedSlice S4x4096x1024 ![0, 256, 0] (shapeCast _ x shapeCasts_S17408x1024_S4x4352x1024) slices_S4x4352x1024_S4x4096x1024_0_256_0) (extractStridedSlice S4x4096x1024 ![0, 256, 0] (shapeCast _ x shapeCasts_S17408x1024_S4x4352x1024) slices_S4x4352x1024_S4x4096x1024_0_256_0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 1, 0] (shapeCast _ m3 shapeCasts_S48x1x1024_S8x6x1024) slices_S8x6x1024_S4x1x1024_0_1_0) shapeCasts_S4x1x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S4x1x1024 ![0, 0, 0] (shapeCast _ m3 shapeCasts_S48x1x1024_S8x6x1024) slices_S8x6x1024_S4x1x1024_0_0_0) shapeCasts_S4x1x1024_S4x1024)))

theorem contextTokens_apply (b : Fin 4) (r : Fin 256) (k : Fin 1024) :
    contextTokens x m3 g (ix3 b r k) = modulated x m3 g b ⟨r.val, by omega⟩ k := by
  pointwise [contextTokens]
  have hg : group b ⟨r.val, by omega⟩ = 4 := if_pos r.isLt
  exact modulated_eq x m3 g b _ k _ _ _ (by show b.val * 4352 + r.val = 4352 * b.val + r.val; omega) (by rw [hg]; rfl) (by rw [hg]; rfl)

theorem latentTokens_apply (b : Fin 4) (r : Fin 4096) (k : Fin 1024) :
    latentTokens x m3 g (ix3 b r k) = modulated x m3 g b ⟨256 + r.val, by omega⟩ k := by
  pointwise [latentTokens]
  have hg : group b ⟨256 + r.val, by omega⟩ = b.val := if_neg (by dsimp only; omega)
  exact modulated_eq x m3 g b _ k _ _ _ (by show b.val * 4352 + (256 + r.val) = 4352 * b.val + (256 + r.val); omega)
    (by rw [hg]; show b.val * 6 + 1 = 6 * b.val + 1; omega) (by rw [hg]; show b.val * 6 = 6 * b.val; omega)

end Host

end Cert.Proj

end
-- ==== Proof.ConvValue.lean ====
/-
  What the projection of the conv layers leaves in its two results: the first third of the projected columns, and the
  product of the other two.
-/
module

public import proofs.«01_k».proof.Proof.Modulated
public import proofs.«01_k».proof.Proof.Gen.ConvIdeal.Value
public import Idealize.ShloMosaic.Lib.Claim

@[expose] public section

set_option maxRecDepth 16384

noncomputable section

namespace Cert.ConvIdeal.Projection

open Cert.ConvIdeal Cert.ConvIdeal.Gen Cert.Proj Cert.Attn Idealize.ShloMosaic Idealize.ShloMosaic.TcCoe Idealize.SL.Sem

/-- A projected column of a row of the array of all tokens. -/
def column (x : FVec Ideal S17408x1024 .f32) (m3 : FVec Ideal S48x1x1024 .f32) (g : FVec Ideal S1024 .f32) (w : FVec Ideal S1024x3072 .f32)
    (t : Fin 17408) (n : Fin 3072) : EReal :=
  ∑ k : Fin 1024, modulated x m3 g (batchOf t) (tokenOf t) k * w (ix2 k n)

/-- The first result, -/
def gate (x : FVec Ideal S17408x1024 .f32) (m3 : FVec Ideal S48x1x1024 .f32) (g : FVec Ideal S1024 .f32) (w : FVec Ideal S1024x3072 .f32) :
    FVec Ideal S17408x1024 .bf16 := fun i =>
  column x m3 g w (i 0) ⟨(i 1).val, by have : (i 1).val < 1024 := (i 1).isLt; omega⟩

/-- and the second. -/
def input (x : FVec Ideal S17408x1024 .f32) (m3 : FVec Ideal S48x1x1024 .f32) (g : FVec Ideal S1024 .f32) (w : FVec Ideal S1024x3072 .f32) :
    FVec Ideal S17408x1024 .bf16 := fun i =>
  column x m3 g w (i 0) ⟨(i 1).val + 1024, by have : (i 1).val < 1024 := (i 1).isLt; omega⟩
    * column x m3 g w (i 0) ⟨(i 1).val + 2048, by have : (i 1).val < 1024 := (i 1).isLt; omega⟩

/-- The projected block of a grid step, an entry at a time. -/
theorem block_apply (x : Vec Ideal S256x1024 .f32) (g : Vec Ideal S1x1024 .f32) (sh sc : Vec Ideal S1x1x1024 .f32) (w : Vec Ideal S1024x3072 .bf16)
    (r : Fin 256) (n : Fin 3072) :
    k0_pay1 x g sh sc w (ix2 r n) = ∑ k : Fin 1024,
      (normed 0x44800000#32 (fun j => x (ix2 r j)) k * g (ix2 0 k) * (1 + sc (ix3 0 0 k)) + sh (ix3 0 0 k)) * w (ix2 k n) := by
  pointwise [k0_pay1]
  rfl

/-- The first block a step stores, from its projected block, -/
theorem out5_apply (x0 : Vec Ideal S256x1024 .f32) (x1 x2 : Vec Ideal S1x1x1024 .f32) (x3 : Vec Ideal S1x1024 .f32) (x4 : Vec Ideal S1024x3072 .bf16)
    (r : Fin 256) (n : Fin 1024) : out0_5 x0 x1 x2 x3 x4 (ix2 r n) = k0_pay1 x0 x3 x1 x2 x4 (ix2 r ⟨n.val, by omega⟩) := by
  unfold out0_5
  rw [Value.canon5_eq, View.ld_unit_zero zero2, View.ld_unit_zero zero2, View.ld_unit_zero zero3, View.ld_unit_zero zero3, View.ld_unit_zero zero2]
  refine congrArg (k0_pay1 x0 x3 x1 x2 x4) (funext fun a => Fin.ext ?_)
  match a with
  | ⟨0, _⟩ => rfl
  | ⟨1, _⟩ => rfl

/-- and the second. -/
theorem out6_apply (x0 : Vec Ideal S256x1024 .f32) (x1 x2 : Vec Ideal S1x1x1024 .f32) (x3 : Vec Ideal S1x1024 .f32) (x4 : Vec Ideal S1024x3072 .bf16)
    (r : Fin 256) (n : Fin 1024) : out0_6 x0 x1 x2 x3 x4 (ix2 r n)
      = k0_pay1 x0 x3 x1 x2 x4 (ix2 r ⟨n.val + 1024, by omega⟩) * k0_pay1 x0 x3 x1 x2 x4 (ix2 r ⟨n.val + 2048, by omega⟩) := by
  unfold out0_6
  rw [Value.canon6_eq, View.ld_unit_zero zero2, View.ld_unit_zero zero2, View.ld_unit_zero zero3, View.ld_unit_zero zero3, View.ld_unit_zero zero2]
  refine congrArg₂ (fun u v : EReal => u * v) (congrArg (k0_pay1 x0 x3 x1 x2 x4) (funext fun a => Fin.ext ?_))
    (congrArg (k0_pay1 x0 x3 x1 x2 x4) (funext fun a => Fin.ext ?_)) <;>
  match a with
  | ⟨0, _⟩ => rfl
  | ⟨1, _⟩ => rfl

variable (m : (ℓ : Loc nD τ sig) → Buf (Elt Ideal) ℓ) (c : Dev nD)

/-! ## The blocks a grid point reads -/

theorem index0 : ∀ t : Fin cfg0.N, win0_0.index t = ![t.val, 0] := (by decide +kernel : ∀ t : Fin grid0.N, win0_0.index t = ![t.val, 0])
theorem index1 : ∀ t : Fin cfg0.N, win0_1.index t = ![6 * (if t.val % 17 = 0 then 4 else t.val / 17), 0, 0] :=
  (by decide +kernel : ∀ t : Fin grid0.N, win0_1.index t = ![6 * (if t.val % 17 = 0 then 4 else t.val / 17), 0, 0])
theorem index2 : ∀ t : Fin cfg0.N, win0_2.index t = ![6 * (if t.val % 17 = 0 then 4 else t.val / 17) + 1, 0, 0] :=
  (by decide +kernel : ∀ t : Fin grid0.N, win0_2.index t = ![6 * (if t.val % 17 = 0 then 4 else t.val / 17) + 1, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

theorem point_lt (t : Fin cfg0.N) : t.val < 68 := lt_of_lt_of_eq t.isLt N_0

/-- A row of the block of a point. -/
abbrev rowOf (t : Fin cfg0.N) (r : Fin 256) : Fin 17408 := ⟨256 * t.val + r.val, by have := point_lt t; omega⟩

theorem group_lt' (t : Fin cfg0.N) : (if t.val % 17 = 0 then 4 else t.val / 17) < 5 := by have := point_lt t; split <;> omega

theorem group_rowOf (t : Fin cfg0.N) (r : Fin 256) :
    group (batchOf (rowOf t r)) (tokenOf (rowOf t r)) = if t.val % 17 = 0 then 4 else t.val / 17 := by
  unfold group
  dsimp only
  by_cases h : t.val % 17 = 0
  · rw [if_pos h, if_pos (by omega)]
  · rw [if_neg h, if_neg (by omega)]; omega

theorem entry_w (k : Fin 1024) (n : Fin 3072) : V m c main_v0 (ix2 k n) = m ((c : Thread nD τ).loc main_arg3) (ix2 k n) := by
  entry_read
  pointwise

theorem entry_g (o : Fin 1) (k : Fin 1024) : V m c main_v1 (ix2 o k) = m ((c : Thread nD τ).loc main_arg2) (ix1 k) := by
  entry_read
  pointwise

theorem block_x (t : Fin cfg0.N) (r : Fin 256) (k : Fin 1024) :
    iblk m c 0 t (ix2 r k) = m ((c : Thread nD τ).loc main_arg0) (ix2 (rowOf t r) k) := by
  refine Eq.trans (congrArg (V m c main_arg0) (a₂ := ix2 (rowOf t r) k) (funext fun a => Fin.ext ?_)) rfl
  have h := index0 t
  match a with
  | ⟨0, _⟩ => show win0_0.index t 0 * 256 + 1 * r.val = _; rw [h, one_mul, Nat.mul_comm]; rfl
  | ⟨1, _⟩ => show win0_0.index t 1 * 1024 + 1 * k.val = _; rw [h, one_mul]; exact (congrArg (· + k.val) (Nat.zero_mul _)).trans (Nat.zero_add _)

theorem block_shift (t : Fin cfg0.N) (k : Fin 1024) :
    iblk m c 1 t (ix3 0 0 k)
      = m ((c : Thread nD τ).loc main_arg1) (ix3 ⟨6 * (if t.val % 17 = 0 then 4 else t.val / 17), by have := group_lt' t; omega⟩ 0 k) := by
  refine Eq.trans (congrArg (V m c main_arg1)
    (a₂ := ix3 ⟨6 * (if t.val % 17 = 0 then 4 else t.val / 17), by have := group_lt' t; omega⟩ 0 k) (funext fun a => Fin.ext ?_)) rfl
  have h := index1 t
  match a with
  | ⟨0, _⟩ => show win0_1.index t 0 * 1 + 1 * 0 = _; rw [h]; exact Nat.mul_one _
  | ⟨1, _⟩ => show win0_1.index t 1 * 1 + 1 * 0 = _; rw [h]; rfl
  | ⟨2, _⟩ => show win0_1.index t 2 * 1024 + 1 * k.val = _; rw [h, one_mul]; exact (congrArg (· + k.val) (Nat.zero_mul _)).trans (Nat.zero_add _)

theorem block_scale (t : Fin cfg0.N) (k : Fin 1024) :
    iblk m c 2 t (ix3 0 0 k)
      = m ((c : Thread nD τ).loc main_arg1) (ix3 ⟨6 * (if t.val % 17 = 0 then 4 else t.val / 17) + 1, by have := group_lt' t; omega⟩ 0 k) := by
  refine Eq.trans (congrArg (V m c main_arg1)
    (a₂ := ix3 ⟨6 * (if t.val % 17 = 0 then 4 else t.val / 17) + 1, by have := group_lt' t; omega⟩ 0 k) (funext fun a => Fin.ext ?_)) rfl
  have h := index2 t
  match a with
  | ⟨0, _⟩ => show win0_2.index t 0 * 1 + 1 * 0 = _; rw [h]; exact Nat.mul_one _
  | ⟨1, _⟩ => show win0_2.index t 1 * 1 + 1 * 0 = _; rw [h]; rfl
  | ⟨2, _⟩ => show win0_2.index t 2 * 1024 + 1 * k.val = _; rw [h, one_mul]; exact (congrArg (· + k.val) (Nat.zero_mul _)).trans (Nat.zero_add _)

theorem block_gain (t : Fin cfg0.N) (k : Fin 1024) : iblk m c 3 t (ix2 0 k) = m ((c : Thread nD τ).loc main_arg2) (ix1 k) := by
  refine Eq.trans (congrArg (V m c main_v1) (a₂ := ix2 0 k) (funext fun a => Fin.ext ?_)) (entry_g m c 0 k)
  have h := index3 t
  match a with
  | ⟨0, _⟩ => show win0_3.index t 0 * 1 + 1 * 0 = _; rw [h]; rfl
  | ⟨1, _⟩ => show win0_3.index t 1 * 1024 + 1 * k.val = _; rw [h, one_mul]; exact (congrArg (· + k.val) (Nat.zero_mul _)).trans (Nat.zero_add _)

theorem block_weight (t : Fin cfg0.N) (k : Fin 1024) (n : Fin 3072) :
    iblk m c 4 t (ix2 k n) = m ((c : Thread nD τ).loc main_arg3) (ix2 k n) := by
  refine Eq.trans (congrArg (V m c main_v0) (a₂ := ix2 k n) (funext fun a => Fin.ext ?_)) (entry_w m c k n)
  have h := index4 t
  match a with
  | ⟨0, _⟩ => show win0_4.index t 0 * 1024 + 1 * k.val = _; rw [h, one_mul]; exact (congrArg (· + k.val) (Nat.zero_mul _)).trans (Nat.zero_add _)
  | ⟨1, _⟩ => show win0_4.index t 1 * 3072 + 1 * n.val = _; rw [h, one_mul]; exact (congrArg (· + n.val) (Nat.zero_mul _)).trans (Nat.zero_add _)

/-- The projected block of a point is a block of the projected columns. -/
theorem projected (t : Fin cfg0.N) (r : Fin 256) (n : Fin 3072) :
    k0_pay1 (iblk m c 0 t) (iblk m c 3 t) (iblk m c 1 t) (iblk m c 2 t) (iblk m c 4 t) (ix2 r n)
      = column (m ((c : Thread nD τ).loc main_arg0)) (m ((c : Thread nD τ).loc main_arg1)) (m ((c : Thread nD τ).loc main_arg2))
          (m ((c : Thread nD τ).loc main_arg3)) (rowOf t r) n := by
  refine (block_apply _ _ _ _ _ r n).trans (Finset.sum_congr rfl fun k _ => ?_)
  rw [block_shift, block_scale, block_gain, block_weight, funext fun j => block_x m c t r j]
  refine congrArg (· * _) (modulated_eq _ _ _ _ _ k _ _ _ ?_ ?_ ?_)
  · show 256 * t.val + r.val = 4352 * ((256 * t.val + r.val) / 4352) + (256 * t.val + r.val) % 4352
    exact (Nat.div_add_mod _ _).symm
  · rw [group_rowOf]
  · rw [group_rowOf]

/-! ## The results -/

/-- The first result from device `c`'s arguments, -/
abbrev result5 : FVec Ideal S17408x1024 .bf16 :=
  gate (m ((c : Thread nD τ).loc main_arg0)) (m ((c : Thread nD τ).loc main_arg1)) (m ((c : Thread nD τ).loc main_arg2)) (m ((c : Thread nD τ).loc main_arg3))

/-- and the second. -/
abbrev result6 : FVec Ideal S17408x1024 .bf16 :=
  input (m ((c : Thread nD τ).loc main_arg0)) (m ((c : Thread nD τ).loc main_arg1)) (m ((c : Thread nD τ).loc main_arg2)) (m ((c : Thread nD τ).loc main_arg3))

theorem read_block5 (t : Fin cfg0.N) (r : Fin 256) (n : Fin 1024) :
    ((cfg0.win 5).blk t).view.read (Elt Ideal) (result5 m c) (ix2 r n) = result5 m c (ix2 (rowOf t r) n) := by
  refine congrArg (result5 m c) (a₂ := ix2 (rowOf t r) n) (funext fun a => Fin.ext ?_)
  have h := index5 t
  match a with
  | ⟨0, _⟩ => show win0_5.index t 0 * 256 + 1 * r.val = _; rw [h, one_mul, Nat.mul_comm]; rfl
  | ⟨1, _⟩ => show win0_5.index t 1 * 1024 + 1 * n.val = _; rw [h, one_mul]; exact (congrArg (· + n.val) (Nat.zero_mul _)).trans (Nat.zero_add _)

theorem read_block6 (t : Fin cfg0.N) (r : Fin 256) (n : Fin 1024) :
    ((cfg0.win 6).blk t).view.read (Elt Ideal) (result6 m c) (ix2 r n) = result6 m c (ix2 (rowOf t r) n) := by
  refine congrArg (result6 m c) (a₂ := ix2 (rowOf t r) n) (funext fun a => Fin.ext ?_)
  have h := index6 t
  match a with
  | ⟨0, _⟩ => show win0_6.index t 0 * 256 + 1 * r.val = _; rw [h, one_mul, Nat.mul_comm]; rfl
  | ⟨1, _⟩ => show win0_6.index t 1 * 1024 + 1 * n.val = _; rw [h, one_mul]; exact (congrArg (· + n.val) (Nat.zero_mul _)).trans (Nat.zero_add _)

theorem flushed5_eq (t : Fin cfg0.N) : (dats m 0 c).flushed 5 t = ((cfg0.win 5).blk t).view.read (Elt Ideal) (result5 m c) := by
  funext y
  obtain ⟨r, n, rfl⟩ : ∃ (r : Fin 256) (n : Fin 1024), y = ix2 r n := ⟨y 0, y 1, eq_ix2 y⟩
  rw [read_block5, Value.flushed5]
  refine Eq.trans ?_ (projected m c t r ⟨n.val, by omega⟩)
  exact out5_apply (iblk m c 0 t) (iblk m c 1 t) (iblk m c 2 t) (iblk m c 3 t) (iblk m c 4 t) r n

theorem flushed6_eq (t : Fin cfg0.N) : (dats m 0 c).flushed 6 t = ((cfg0.win 6).blk t).view.read (Elt Ideal) (result6 m c) := by
  funext y
  obtain ⟨r, n, rfl⟩ : ∃ (r : Fin 256) (n : Fin 1024), y = ix2 r n := ⟨y 0, y 1, eq_ix2 y⟩
  rw [read_block6, Value.flushed6]
  refine Eq.trans ?_ (congrArg₂ (· * ·) (projected m c t r ⟨n.val + 1024, by omega⟩) (projected m c t r ⟨n.val + 2048, by omega⟩))
  exact out6_apply (iblk m c 0 t) (iblk m c 1 t) (iblk m c 2 t) (iblk m c 3 t) (iblk m c 4 t) r n

theorem cover5 (i : S17408x1024.Idx) : ∃ t : Fin cfg0.N, (cfg0.win 5).flush t = true ∧ i ∈ ((cfg0.win 5).blk t).view.set := by
  obtain ⟨r, n, rfl⟩ : ∃ (r : Fin 17408) (n : Fin 1024), i = ix2 r n := ⟨i 0, i 1, eq_ix2 i⟩
  have ht : r.val / 256 < cfg0.N := lt_of_lt_of_eq (by omega) N_0.symm
  refine ⟨⟨_, ht⟩, flush0_5 _, ?_⟩
  show _ ∈ ((View.whole main_v2_0).slice (win0_5.rect ⟨_, ht⟩)).set
  rw [View.set_slice_whole, Rect.mem_set_unit]
  have h := index5 ⟨_, ht⟩
  intro k
  match k with
  | ⟨0, _⟩ =>
    show win0_5.index ⟨_, ht⟩ 0 * 256 ≤ r.val ∧ r.val < win0_5.index ⟨_, ht⟩ 0 * 256 + 256
    rw [h]; dsimp only [Matrix.cons_val_zero]; omega
  | ⟨1, _⟩ =>
    show win0_5.index ⟨_, ht⟩ 1 * 1024 ≤ n.val ∧ n.val < win0_5.index ⟨_, ht⟩ 1 * 1024 + 1024
    rw [h]; dsimp only [Matrix.cons_val_one, Matrix.cons_val_zero]; omega

theorem cover6 (i : S17408x1024.Idx) : ∃ t : Fin cfg0.N, (cfg0.win 6).flush t = true ∧ i ∈ ((cfg0.win 6).blk t).view.set := by
  obtain ⟨r, n, rfl⟩ : ∃ (r : Fin 17408) (n : Fin 1024), i = ix2 r n := ⟨i 0, i 1, eq_ix2 i⟩
  have ht : r.val / 256 < cfg0.N := lt_of_lt_of_eq (by omega) N_0.symm
  refine ⟨⟨_, ht⟩, flush0_6 _, ?_⟩
  show _ ∈ ((View.whole main_v2_1).slice (win0_6.rect ⟨_, ht⟩)).set
  rw [View.set_slice_whole, Rect.mem_set_unit]
  have h := index6 ⟨_, ht⟩
  intro k
  match k with
  | ⟨0, _⟩ =>
    show win0_6.index ⟨_, ht⟩ 0 * 256 ≤ r.val ∧ r.val < win0_6.index ⟨_, ht⟩ 0 * 256 + 256
    rw [h]; dsimp only [Matrix.cons_val_zero]; omega
  | ⟨1, _⟩ =>
    show win0_6.index ⟨_, ht⟩ 1 * 1024 ≤ n.val ∧ n.val < win0_6.index ⟨_, ht⟩ 1 * 1024 + 1024
    rw [h]; dsimp only [Matrix.cons_val_one, Matrix.cons_val_zero]; omega

/-- The first result after the run, -/
theorem final5 : (dats m 0 c).arrAt 5 cfg0.N = result5 m c :=
  (dats m 0 c).arrAt_eq_of_cover 5 (result5 m c) (fun t _ => flushed5_eq m c t) cover5

/-- and the second. -/
theorem final6 : (dats m 0 c).arrAt 6 cfg0.N = result6 m c :=
  (dats m 0 c).arrAt_eq_of_cover 6 (result6 m c) (fun t _ => flushed6_eq m c t) cover6

end Cert.ConvIdeal.Projection

end
-- ==== Proof.ConvReference.lean ====
/-
  What the reference of the conv layers' projection computes: the same two arrays.
-/
module

public import proofs.«01_k».proof.Proof.ConvValue
public import proofs.«01_k».proof.Proof.Gen.ConvRefIdeal.Run
public import Idealize.ShloMosaic.Lib.Claim

@[expose] public section

set_option maxRecDepth 16384

noncomputable section

namespace Cert.ConvRefIdeal.Projection

open Cert.ConvRefIdeal Cert.ConvRefIdeal.Gen Cert.Proj Cert.Attn Idealize.ShloMosaic Idealize.ShloMosaic.TcCoe

variable (x : FVec Ideal S17408x1024 .f32) (m3 : FVec Ideal S48x1x1024 .f32) (g : FVec Ideal S1024 .f32) (w : FVec Ideal S1024x3072 .f32)

/-- The projected columns of the context tokens, -/
def contextColumns : FVec Ideal S4x256x3072 .f32 :=
  Host.dotGeneral dot_S4x256x1024_S1024x3072_S4x256x3072_2_0_01_1_n_n none (contextTokens x m3 g) w

/-- and of the latent tokens. -/
def latentColumns : FVec Ideal S4x4096x3072 .f32 :=
  Host.dotGeneral dot_S4x4096x1024_S1024x3072_S4x4096x3072_2_0_01_1_n_n none (latentTokens x m3 g) w

/-- The first result from the projected columns, -/
def gateOf (a : FVec Ideal S4x256x3072 .f32) (b : FVec Ideal S4x4096x3072 .f32) : FVec Ideal S17408x1024 .bf16 :=
  truncf .bf16 (shapeCast _ (concatenate S4x4352x1024 1
    [⟨S4x256x1024, extractStridedSlice S4x256x1024 ![0, 0, 0] a slices_S4x256x3072_S4x256x1024_0_0_0⟩,
     ⟨S4x4096x1024, extractStridedSlice S4x4096x1024 ![0, 0, 0] b slices_S4x4096x3072_S4x4096x1024_0_0_0⟩]
    concatenates_S4x256x1024_S4x4096x1024_S4x4352x1024_d1) shapeCasts_S4x4352x1024_S17408x1024) bitsLt_bf16_f32

/-- and the second. -/
def inputOf (a : FVec Ideal S4x256x3072 .f32) (b : FVec Ideal S4x4096x3072 .f32) : FVec Ideal S17408x1024 .bf16 :=
  truncf .bf16 (shapeCast _ (concatenate S4x4352x1024 1
    [⟨S4x256x1024, mulf (extractStridedSlice S4x256x1024 ![0, 0, 1024] a slices_S4x256x3072_S4x256x1024_0_0_1024)
      (extractStridedSlice S4x256x1024 ![0, 0, 2048] a slices_S4x256x3072_S4x256x1024_0_0_2048)⟩,
     ⟨S4x4096x1024, mulf (extractStridedSlice S4x4096x1024 ![0, 0, 1024] b slices_S4x4096x3072_S4x4096x1024_0_0_1024)
      (extractStridedSlice S4x4096x1024 ![0, 0, 2048] b slices_S4x4096x3072_S4x4096x1024_0_0_2048)⟩]
    concatenates_S4x256x1024_S4x4096x1024_S4x4352x1024_d1) shapeCasts_S4x4352x1024_S17408x1024) bitsLt_bf16_f32

theorem contextColumns_apply (b : Fin 4) (r : Fin 256) (n : Fin 3072) :
    contextColumns x m3 g w (ix3 b r n) = ∑ k : Fin 1024, modulated x m3 g b ⟨r.val, by omega⟩ k * w (ix2 k n) := by
  pointwise [contextColumns]
  simp only [contextTokens_apply]

theorem latentColumns_apply (b : Fin 4) (r : Fin 4096) (n : Fin 3072) :
    latentColumns x m3 g w (ix3 b r n) = ∑ k : Fin 1024, modulated x m3 g b ⟨256 + r.val, by omega⟩ k * w (ix2 k n) := by
  pointwise [latentColumns]
  simp only [latentTokens_apply]

/-- A column of a row from its batch and its token in the batch. -/
theorem column_eq (t : Fin 17408) (b : Fin 4) (r : Fin 4352) (n n' : Fin 3072) (hb : b.val = t.val / 4352) (hr : r.val = t.val % 4352)
    (hn : n.val = n'.val) : ∑ k : Fin 1024, modulated x m3 g b r k * w (ix2 k n) = Cert.ConvIdeal.Projection.column x m3 g w t n' := by
  obtain rfl : n = n' := Fin.ext hn
  obtain rfl : b = batchOf t := Fin.ext hb
  obtain rfl : r = tokenOf t := Fin.ext hr
  rfl

theorem gateOf_eq : gateOf (contextColumns x m3 g w) (latentColumns x m3 g w) = Cert.ConvIdeal.Projection.gate x m3 g w := by
  funext i
  idx_vars i
  pointwise [gateOf]
  split
  · rw [contextColumns_apply]
    exact column_eq x m3 g w i0 _ _ _ _ rfl rfl rfl
  · rw [latentColumns_apply]
    exact column_eq x m3 g w i0 _ _ _ _ rfl (by dsimp only; omega) rfl

theorem inputOf_eq : inputOf (contextColumns x m3 g w) (latentColumns x m3 g w) = Cert.ConvIdeal.Projection.input x m3 g w := by
  funext i
  idx_vars i
  pointwise [inputOf]
  split
  · rw [contextColumns_apply, contextColumns_apply]
    exact congrArg₂ (· * ·) (column_eq x m3 g w i0 _ _ _ _ rfl rfl (Nat.add_comm _ _)) (column_eq x m3 g w i0 _ _ _ _ rfl rfl (Nat.add_comm _ _))
  · rw [latentColumns_apply, latentColumns_apply]
    exact congrArg₂ (· * ·) (column_eq x m3 g w i0 _ _ _ _ rfl (by dsimp only; omega) (Nat.add_comm _ _))
      (column_eq x m3 g w i0 _ _ _ _ rfl (by dsimp only; omega) (Nat.add_comm _ _))

variable (m : (ℓ : Loc nD τ sig) → Buf (Elt Ideal) ℓ) (c : Dev nD)

/-- The reference's first result is the kernel's, -/
theorem res0_eq : Value.res_out0 m c = Cert.ConvIdeal.Projection.gate (m (c.tc.loc main_arg0)) (m (c.tc.loc main_arg1)) (m (c.tc.loc main_arg2))
    (m (c.tc.loc main_arg3)) :=
  (show Value.res_out0 m c = gateOf (contextColumns _ _ _ _) (latentColumns _ _ _ _) from rfl).trans (gateOf_eq _ _ _ _)

/-- and so is its second. -/
theorem res1_eq : Value.res_out1 m c = Cert.ConvIdeal.Projection.input (m (c.tc.loc main_arg0)) (m (c.tc.loc main_arg1)) (m (c.tc.loc main_arg2))
    (m (c.tc.loc main_arg3)) :=
  (show Value.res_out1 m c = inputOf (contextColumns _ _ _ _) (latentColumns _ _ _ _) from rfl).trans (inputOf_eq _ _ _ _)

end Cert.ConvRefIdeal.Projection

end
-- ==== Proof.ConvClaim.lean ====
/-
  The claims about the conv layers' projection: the reference's frame, and kernel and reference equal.
-/
module

public import proofs.«01_k».proof.Defs
public import proofs.«01_k».proof.Proof.ConvValue
public import proofs.«01_k».proof.Proof.ConvReference
public import Idealize.ShloMosaic.Adequacy

@[expose] public section

set_option maxRecDepth 16384

noncomputable section

namespace Cert.ConvIdeal.Projection

open Idealize.ShloMosaic Idealize.ShloMosaic.TcCoe Idealize.SL.Sem Cert.ConvIdeal Cert.ConvIdeal.Gen

/-- The reference terminates, keeps its arguments, and leaves every counter at zero. -/
theorem reference_frame : quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

section Results

variable (m : (ℓ : Loc nD τ sig) → Buf (Elt Ideal) ℓ)
  (m' : (ℓ : Loc Cert.ConvRefIdeal.nD Cert.ConvRefIdeal.τ Cert.ConvRefIdeal.sig) → Buf (Elt Ideal) ℓ) (c : Dev nD)
  (h0 : m' (c.tc.loc Cert.ConvRefIdeal.main_arg0) = m (c.tc.loc main_arg0))
  (h1 : m' (c.tc.loc Cert.ConvRefIdeal.main_arg1) = m (c.tc.loc main_arg1))
  (h2 : m' (c.tc.loc Cert.ConvRefIdeal.main_arg2) = m (c.tc.loc main_arg2))
  (h3 : m' (c.tc.loc Cert.ConvRefIdeal.main_arg3) = m (c.tc.loc main_arg3))

include h0 h1 h2 h3

/-- From equal arguments the reference's results are the kernel's. -/
theorem reference_result5 : Cert.ConvRefIdeal.Value.res_out0 m' c = result5 m c := by
  rw [Cert.ConvRefIdeal.Projection.res0_eq m' c, h0, h1, h2, h3]

theorem reference_result6 : Cert.ConvRefIdeal.Value.res_out1 m' c = result6 m c := by
  rw [Cert.ConvRefIdeal.Projection.res1_eq m' c, h0, h1, h2, h3]

end Results

/-- Kernel and reference compute the same two arrays from any arguments. -/
theorem kernel_eq_reference : algebraic_ConvIdeal_ConvRefIdeal :=
  fun m ρ m' ρ' _ hag =>
  ⟨fun c => result5 m c, fun c => result6 m c,
    (θ_run _ _ _).mono (fun _ h c => ⟨(h c).1.trans (final5 m c), (h c).2.1.trans (final6 m c), (h c).2.2⟩) (Value.run_blocks m ρ),
    (θ_run _ _ _).mono (fun _ h c => ⟨(h c).1.trans (reference_result5 m m' c (hag c).1 (hag c).2.1 (hag c).2.2.1 (hag c).2.2.2),
        (h c).2.1.trans (reference_result6 m m' c (hag c).1 (hag c).2.1 (hag c).2.2.1 (hag c).2.2.2), (h c).2.2⟩)
      (Cert.ConvRefIdeal.Value.run (F := Ideal) m' ρ')⟩

end Cert.ConvIdeal.Projection

end
-- ==== Proof.Rope.lean ====
/-
  The rotation of a head by a token's place: the order of the lanes, the angles, and the rotated head.
-/
module

public import proofs.«01_k».proof.Proof.Modulated
public import Idealize.ShloMosaic.Lib.Claim

@[expose] public section

set_option maxRecDepth 16384

noncomputable section

namespace Cert.Proj

open Idealize.ShloMosaic Idealize.ShloMosaic.TcCoe Cert.Attn

/-- The place in a head of the number kept in a lane: the first halves of both axes come first, then the second halves. -/
abbrev lane (l : Fin 128) : Fin 128 := ⟨l.val % 32 + 64 * (l.val / 32 % 2) + 32 * (l.val / 64), by omega⟩

/-- The lane of the other half. -/
abbrev other (l : Fin 128) : Fin 128 := ⟨(l.val + 64) % 128, by omega⟩

theorem lane_bijective : Function.Bijective lane := by
  have h : ∀ a b : Fin 128, lane a = lane b → a = b := by decide +kernel
  exact Finite.injective_iff_bijective.mp h

/-- The root mean square of a head does not depend on the order of its lanes. -/
theorem normed_lane (N : BitVec 32) (x : Fin 128 → EReal) (l : Fin 128) : normed N (fun j => x (lane j)) l = normed N x (lane l) := by
  unfold normed
  rw [lane_bijective.sum_comp (fun j => x j * x j)]

/-- The frequency with number `j`. -/
def frequency (j : Fin 32) : EReal :=
  Ideal.pow (Ideal.ofBits .f32 0x461C4000#32)
    (Ideal.div (-(FloatOps.sitofp (F := Ideal) .f32 (BitVec.ofNat 32 j.val) : EReal)) (Ideal.ofBits .f32 0x42000000#32))

/-- The angle of a number in a row or column of the grid. -/
def angle (p : ℕ) (j : Fin 32) : EReal := (FloatOps.sitofp (F := Ideal) .f32 (BitVec.ofNat 32 p) : EReal) * frequency j

/-- The place of a latent token along the axis of a lane. -/
abbrev along (r : ℕ) (l : Fin 128) : ℕ := if l.val % 64 < 32 then r / 64 else r % 64

abbrev turn (l : Fin 128) : Fin 32 := ⟨l.val % 32, by omega⟩

/-- The factor a token puts on a lane's number, -/
def cosine (r : Fin 4352) (l : Fin 128) : EReal := if r.val < 256 then 1 else Ideal.cos (angle (along (r.val - 256) l) (turn l))

/-- and on the number of the other half. -/
def sine (r : Fin 4352) (l : Fin 128) : EReal :=
  if r.val < 256 then 0 else if l.val < 64 then -Ideal.sin (angle (along (r.val - 256) l) (turn l))
  else Ideal.sin (angle (along (r.val - 256) l) (turn l))

/-- The rotated head, in the order of the lanes, from the head `u` in its natural order. -/
def turned (u : Fin 128 → EReal) (r : Fin 4352) (l : Fin 128) : EReal := u (lane l) * cosine r l + u (lane (other l)) * sine r l

/-- A context token's head is not rotated. -/
theorem turned_context (u : Fin 128 → EReal) (r : Fin 4352) (l : Fin 128) (h : r.val < 256) : turned u r l = u (lane l) := by
  unfold turned cosine sine
  rw [if_pos h, if_pos h, mul_one, mul_zero, add_zero]

/-- The first halves of a latent token's head, -/
theorem turned_first (u : Fin 128 → EReal) (r : Fin 4352) (l : Fin 128) (p : ℕ) (a b : Fin 128) (j : Fin 32) (h : 256 ≤ r.val) (hl : l.val < 64)
    (hp : p = along (r.val - 256) l) (ha : a.val = (lane l).val) (hb : b.val = (lane (other l)).val) (hj : j.val = l.val % 32) :
    u a * Ideal.cos (angle p j) - u b * Ideal.sin (angle p j) = turned u r l := by
  obtain rfl : a = lane l := Fin.ext ha
  obtain rfl : b = lane (other l) := Fin.ext hb
  obtain rfl : j = turn l := Fin.ext hj
  subst hp
  unfold turned cosine sine
  rw [if_neg (by omega), if_neg (by omega), if_pos hl, sub_eq_add_neg, mul_neg]

/-- and the second. -/
theorem turned_second (u : Fin 128 → EReal) (r : Fin 4352) (l : Fin 128) (p : ℕ) (a b : Fin 128) (j : Fin 32) (h : 256 ≤ r.val)
    (hl : 64 ≤ l.val) (hp : p = along (r.val - 256) l) (ha : a.val = (lane l).val) (hb : b.val = (lane (other l)).val)
    (hj : j.val = l.val % 32) : u b * Ideal.sin (angle p j) + u a * Ideal.cos (angle p j) = turned u r l := by
  obtain rfl : a = lane l := Fin.ext ha
  obtain rfl : b = lane (other l) := Fin.ext hb
  obtain rfl : j = turn l := Fin.ext hj
  subst hp
  unfold turned cosine sine
  rw [if_neg (by omega), if_neg (by omega), if_neg (by omega), add_comm]

/-- A real factor that is not negative may be taken before the rotation or after it. -/
theorem turned_mul (u : Fin 128 → EReal) (s : ℝ) (hs : 0 ≤ s) (r : Fin 4352) (l : Fin 128) :
    turned (fun d => u d * (s : EReal)) r l = turned u r l * (s : EReal) := by
  unfold turned
  rw [EReal.right_distrib_of_nonneg_of_ne_top (EReal.coe_nonneg.mpr hs) (EReal.coe_ne_top s), mul_right_comm, mul_right_comm _ _ (sine r l)]

/-- The scale of the queries and their change to base 2, as one number. -/
def scale (n : ℝ) : ℝ := (Real.sqrt n)⁻¹ * (Real.log 2)⁻¹

theorem scale_nonneg (n : ℝ) : 0 ≤ scale n :=
  mul_nonneg (inv_nonneg.mpr (Real.sqrt_nonneg n)) (inv_nonneg.mpr (Real.log_nonneg one_le_two))

/-- The two divisions of the reference are one product with the scale. -/
theorem div_div_scale (N : BitVec 32) (n : ℝ) (hN : Ideal.ofBits .f32 N = ((n : ℝ) : EReal)) (hn : 0 < n) (x : EReal) :
    Ideal.div (Ideal.div x (Ideal.sqrt (Ideal.ofBits .f32 N))) (Ideal.log (Ideal.ofBits .f32 0x40000000#32)) = x * (scale n : EReal) := by
  have h2 : Ideal.ofBits .f32 0x40000000#32 = ((2 : ℝ) : EReal) := by
    simp [Ideal.ofBits, Ideal.ieee, ← EReal.coe_mul]
    norm_num
  have hs : Real.sqrt n ≠ 0 := (Real.sqrt_pos.mpr hn).ne'
  have hl : Real.log 2 ≠ 0 := (Real.log_pos one_lt_two).ne'
  rw [hN, h2, Ideal.sqrt_coe, Ideal.log_coe, if_neg (not_lt.mpr hn.le), if_neg (not_le.mpr two_pos), Ideal.div_coe hs, Ideal.div_coe hl, mul_assoc, ← EReal.coe_mul]
  refine congrArg (fun s : ℝ => x * (s : EReal)) ?_
  unfold scale
  rw [one_div, one_div]

end Cert.Proj

end
-- ==== Proof.GqaProjTables.lean ====
/-
  The arrays the projection of the grouped query layers prepares for its grid: the weights and gains in the order of
  the lanes, and the tables of the rotation.
-/
module

public import proofs.«01_k».proof.Proof.Rope
public import proofs.«01_k».proof.Proof.Gen.GqaProjIdeal.Value
public import Idealize.ShloMosaic.Lib.Claim
public import Idealize.ShloMosaic.Lib.StableHlo.RunRead

@[expose] public section

set_option maxRecDepth 16384

noncomputable section

namespace Cert.GqaProjIdeal.Projection

open Cert.GqaProjIdeal Cert.GqaProjIdeal.Gen Cert.Proj Cert.Attn Idealize.ShloMosaic Idealize.ShloMosaic.TcCoe Idealize.SL.Sem

/-! ## The tables, a stage at a time -/

section Stages

variable (σ : Valuation τ sig (Elt Ideal))

theorem frequency_after (j : Fin 32) : StableHlo.after hostOps0_6 σ main_v29 (ix1 j) = frequency j := by
  entry_read
  pointwise
  rfl

theorem places_after (r : Fin 4096) : StableHlo.after hostOps0_6 σ main_v30 (ix1 r) = BitVec.ofNat 32 r.val := by
  entry_read
  pointwise

theorem side_after : StableHlo.after hostOps0_6 σ main_c_3 ix0 = 64#32 := by
  entry_read
  pointwise

/-- The row of a token in its grid, as the program divides, -/
def rowNumber (a d : BitVec 32) : BitVec 32 :=
  Scalar.select
    (IntOp.andi
      (IntOp.cmpi .ne (if a = 0 then 0#32 else if BitVec.msb a = true then -1#32 else 1#32) (if d = 0 then 0#32 else if BitVec.msb d = true then -1#32 else 1#32))
      (IntOp.cmpi .ne (IntOp.remsi .host a d) 0#32))
    (IntOp.subi (IntOp.divsi .host a d) 1#32) (IntOp.divsi .host a d)

/-- its column, -/
def columnNumber (a d : BitVec 32) : BitVec 32 :=
  Scalar.select
    (IntOp.andi
      (IntOp.cmpi .ne (IntOp.cmpi .slt (IntOp.remsi .host a (Scalar.select (IntOp.cmpi .eq d 0#32) (1#32) d)) 0#32)
        (IntOp.cmpi .slt (Scalar.select (IntOp.cmpi .eq d 0#32) (1#32) d) 0#32))
      (IntOp.cmpi .ne (IntOp.remsi .host a (Scalar.select (IntOp.cmpi .eq d 0#32) (1#32) d)) 0#32))
    (IntOp.addi (IntOp.remsi .host a (Scalar.select (IntOp.cmpi .eq d 0#32) (1#32) d)) (Scalar.select (IntOp.cmpi .eq d 0#32) (1#32) d))
    (IntOp.remsi .host a (Scalar.select (IntOp.cmpi .eq d 0#32) (1#32) d))

/-- and both are what they should be. -/
theorem rowNumber_eq (r : Fin 4096) : rowNumber (BitVec.ofNat 32 r.val) 64#32 = BitVec.ofNat 32 (r.val / 64) := by
  have h : ∀ r : Fin 4096, rowNumber (BitVec.ofNat 32 r.val) 64#32 = BitVec.ofNat 32 (r.val / 64) := by decide +kernel
  exact h r

theorem columnNumber_eq (r : Fin 4096) : columnNumber (BitVec.ofNat 32 r.val) 64#32 = BitVec.ofNat 32 (r.val % 64) := by
  have h : ∀ r : Fin 4096, columnNumber (BitVec.ofNat 32 r.val) 64#32 = BitVec.ofNat 32 (r.val % 64) := by decide +kernel
  exact h r

theorem rows_after (r : Fin 4096) :
    StableHlo.after hostOps0_7 σ main_v31 (ix1 r) = rowNumber (σ main_v30 (ix1 r)) (σ main_c_3 ix0) := by
  entry_read
  simp only [StableHlo.TRef.ofBuf_toBuf]
  simp only [StableHlo.TRef.ofBuf, StableHlo.TRef.toBuf, cast_eq]
  pointwise
  rfl

theorem columns_after (r : Fin 4096) :
    StableHlo.after hostOps0_9 σ main_v38 (ix1 r) = columnNumber (σ main_v30 (ix1 r)) (σ main_c_4 ix0) := by
  entry_read
  simp only [StableHlo.TRef.ofBuf_toBuf]
  simp only [StableHlo.TRef.ofBuf, StableHlo.TRef.toBuf, cast_eq]
  pointwise
  rfl

/-- A product of two numbers of a stage. -/
def times (a : BitVec 32) (b : EReal) : EReal := (FloatOps.sitofp (F := Ideal) .f32 a : EReal) * b

theorem rowAngle_after (r : Fin 4096) (j : Fin 32) :
    StableHlo.after hostOps0_8 σ main_v37 (ix2 r j) = times (σ main_v31 (ix1 r)) (σ main_v29 (ix1 j)) := by
  entry_read
  pointwise
  rfl

theorem side_after' : StableHlo.after hostOps0_8 σ main_c_4 ix0 = 64#32 := by
  entry_read
  pointwise

/-- The angles of the columns, -/
def columnAngles (p : IVec S4096 32) (f : FVec Ideal S32 .f32) : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1 f))

theorem columnAngles_apply (p : IVec S4096 32) (f : FVec Ideal S32 .f32) (r : Fin 4096) (j : Fin 32) :
    columnAngles p f (ix2 r j) = times (p (ix1 r)) (f (ix1 j)) := by
  pointwise [columnAngles]
  rfl

/-- half a row of a table, -/
def halfRow (a b : FVec Ideal S4096x32 .f32) (e : FVec Ideal S4096x0 .f32) : FVec Ideal S4096x64 .f32 :=
  concatenate S4096x64 1 [⟨S4096x32, a⟩, ⟨S4096x32, b⟩, ⟨S4096x0, e⟩] concatenates_S4096x32_S4096x32_S4096x0_S4096x64_d1

abbrev noLane : FVec Ideal S4096x0 .f32 := broadcastInDim S4096x0 ![] bcast_S_S4096x0 (constant S_ .f32 0x00000000#32)

theorem halfRow_apply (a b : FVec Ideal S4096x32 .f32) (e : FVec Ideal S4096x0 .f32) (r : Fin 4096) (l : Fin 64) :
    halfRow a b e (ix2 r l) = if h : l.val < 32 then a (ix2 r ⟨l.val, h⟩) else b (ix2 r ⟨l.val - 32, by omega⟩) := by
  pointwise [halfRow]
  by_cases h : l.val < 32
  · rw [dif_pos h, dif_pos h]
  · rw [dif_neg h, dif_neg h, dif_pos (by omega)]

/-- a row, -/
def wholeRow (a b : FVec Ideal S4096x64 .f32) : FVec Ideal S4096x128 .f32 :=
  concatenate S4096x128 1 [⟨S4096x64, a⟩, ⟨S4096x64, b⟩] concatenates_S4096x64_S4096x64_S4096x128_d1

theorem wholeRow_apply (a b : FVec Ideal S4096x64 .f32) (r : Fin 4096) (l : Fin 128) :
    wholeRow a b (ix2 r l) = if h : l.val < 64 then a (ix2 r ⟨l.val, h⟩) else b (ix2 r ⟨l.val - 64, by omega⟩) := by
  pointwise [wholeRow]

/-- the rows of the context tokens before the others', -/
def stacked (a : FVec Ideal S256x128 .f32) (h : FVec Ideal S4096x128 .f32) : FVec Ideal S4352x128 .f32 :=
  concatenate S4352x128 0 [⟨S256x128, a⟩, ⟨S4096x128, h⟩] concatenates_S256x128_S4096x128_S4352x128_d0

/-- and those rows of the cosines, -/
def contextRows (h : FVec Ideal S4096x128 .f32) : FVec Ideal S256x128 .f32 :=
  broadcastInDim S256x128 ![0, 1] bcast_S1x128_S256x128_0_1 (uitofp .f32
    (cmpf .une (extractStridedSlice S1x128 ![0, 0] h slices_S4096x128_S1x128_0_0)
      (broadcastInDim S1x128 ![] bcast_S_S1x128 (constant S_ .f32 0x00000000#32))))

/-- and of the sines. -/
abbrev noAngle : FVec Ideal S256x128 .f32 := broadcastInDim S256x128 ![] bcast_S_S256x128 (constant S_ .f32 0x00000000#32)

theorem stacked_apply (a : FVec Ideal S256x128 .f32) (h : FVec Ideal S4096x128 .f32) (r : Fin 4352) (l : Fin 128) :
    stacked a h (ix2 r l) = if hr : r.val < 256 then a (ix2 ⟨r.val, hr⟩ l) else h (ix2 ⟨r.val - 256, by omega⟩ l) := by
  pointwise [stacked]

theorem contextRows_apply (h : FVec Ideal S4096x128 .f32) (r : Fin 256) (l : Fin 128) :
    contextRows h (ix2 r l)
      = FloatOps.uitofp (F := Ideal) .f32 (FloatOps.cmpf (F := Ideal) .une (h (ix2 0 l)) (Ideal.ofBits .f32 0x00000000#32)) := by
  pointwise [contextRows]

section
variable (p : FVec Ideal S4096x32 .f32) (q : IVec S4096 32) (f : FVec Ideal S32 .f32)

theorem cosHalf_after (hp : σ main_v37 = p) (hq : σ main_v38 = q) (hf : σ main_v29 = f) :
    StableHlo.upto hostOps0_10 σ 14 main_v48 = halfRow (Host.cos p) (Host.cos (columnAngles q f)) noLane := by
  have h0 : StableHlo.upto hostOps0_10 σ 10 main_v46 = Host.cos p := by
    open StableHlo in after_reads_simp
    rw [hp]
  have h1 : StableHlo.upto hostOps0_10 σ 10 main_v47 = Host.cos (columnAngles q f) := by
    open StableHlo in after_reads_simp
    rw [hq, hf]
    rfl
  have h2 : StableHlo.upto hostOps0_10 σ 10 main_v45 = noLane := by
    open StableHlo in after_reads_simp
  rw [← h0, ← h1, ← h2]
  open StableHlo in after_reads_simp
  rfl

theorem sinHalf_after (hp : σ main_v37 = p) (hq : σ main_v38 = q) (hf : σ main_v29 = f) :
    StableHlo.upto hostOps0_10 σ 14 main_v51 = halfRow (Host.sin p) (Host.sin (columnAngles q f)) noLane := by
  have h0 : StableHlo.upto hostOps0_10 σ 13 main_v49 = Host.sin p := by
    open StableHlo in after_reads_simp
    rw [hp]
  have h1 : StableHlo.upto hostOps0_10 σ 13 main_v50 = Host.sin (columnAngles q f) := by
    open StableHlo in after_reads_simp
    rw [hq, hf]
    rfl
  have h2 : StableHlo.upto hostOps0_10 σ 13 main_v45 = noLane := by
    open StableHlo in after_reads_simp
  rw [← h0, ← h1, ← h2]
  open StableHlo in after_reads_simp
  rfl

end

theorem cosines_after (C : FVec Ideal S4096x64 .f32) (hC : StableHlo.upto hostOps0_10 σ 14 main_v48 = C) (r : Fin 4352) (l : Fin 128) (z : EReal)
    (h : stacked (contextRows (wholeRow C C)) (wholeRow C C) (ix2 r l) = z) : StableHlo.after hostOps0_10 σ main_v61 (ix2 r l) = z := by
  subst hC
  open StableHlo in after_reads_simp
  exact h

theorem minus_after (S : FVec Ideal S4096x64 .f32) (hS : StableHlo.upto hostOps0_10 σ 14 main_v51 = S) :
    StableHlo.upto hostOps0_10 σ 16 main_v53 = (Host.negf S : FVec Ideal S4096x64 .f32) := by
  subst hS
  open StableHlo in after_reads_simp

theorem plus_after (S : FVec Ideal S4096x64 .f32) (hS : StableHlo.upto hostOps0_10 σ 14 main_v51 = S) :
    StableHlo.upto hostOps0_10 σ 16 main_v51 = S := by
  subst hS
  open StableHlo in after_reads_simp

theorem stacked_after (X : FVec Ideal S4352x128 .f32)
    (h : stacked (StableHlo.upto hostOps0_10 σ 26 main_v60) (StableHlo.upto hostOps0_10 σ 26 main_v54) = X) :
    StableHlo.after hostOps0_10 σ main_v62 = X := by
  open StableHlo in after_reads_simp
  exact h

theorem whole_after (X : FVec Ideal S4096x128 .f32)
    (h : wholeRow (StableHlo.upto hostOps0_10 σ 16 main_v53) (StableHlo.upto hostOps0_10 σ 16 main_v51) = X) :
    StableHlo.upto hostOps0_10 σ 26 main_v54 = X := by
  open StableHlo in after_reads_simp
  exact h

theorem noAngle_after : StableHlo.upto hostOps0_10 σ 26 main_v60 = noAngle := by
  open StableHlo in after_reads_simp

theorem sines_after (S : FVec Ideal S4096x64 .f32) (hS : StableHlo.upto hostOps0_10 σ 14 main_v51 = S) :
    StableHlo.after hostOps0_10 σ main_v62 = stacked noAngle (wholeRow (Host.negf S) S) := by
  refine stacked_after σ _ (congrArg₂ stacked (noAngle_after σ) (whole_after σ _ ?_))
  rw [minus_after σ S hS, plus_after σ S hS]

theorem keep_rows : StableHlo.after hostOps0_9 σ main_v37 = σ main_v37 := by open StableHlo in after_reads_simp

theorem keep_frequency : StableHlo.after hostOps0_8 (StableHlo.after hostOps0_7 σ) main_v29 = σ main_v29 := by
  open StableHlo in after_reads_simp

theorem keep_frequency' : StableHlo.after hostOps0_7 σ main_v29 = σ main_v29 := by open StableHlo in after_reads_simp

end Stages

/-! ## The prepared arrays -/

variable (m : (ℓ : Loc nD τ sig) → Buf (Elt Ideal) ℓ) (c : Dev nD)

theorem zero_bits : Ideal.ofBits .f32 0x00000000#32 = 0 := by simp [Ideal.ofBits, Ideal.ieee]

theorem angle_zero (j : Fin 32) : angle 0 j = 0 := by
  have h : (FloatOps.sitofp (F := Ideal) .f32 (BitVec.ofNat 32 0) : EReal) = 0 := by
    show (((BitVec.ofNat 32 0).toInt : ℝ) : EReal) = 0
    simp
  unfold angle
  rw [h, zero_mul]

theorem cos_zero : Ideal.cos 0 = 1 := by
  show Ideal.cos ((0 : ℝ) : EReal) = _
  rw [Ideal.cos_coe, Real.cos_zero]
  rfl

theorem not_zero : (FloatOps.uitofp (F := Ideal) .f32 (FloatOps.cmpf (F := Ideal) (φ := .f32) .une (1 : EReal) (Ideal.ofBits .f32 0x00000000#32)) : EReal) = 1 := by
  rw [zero_bits]
  simp [FloatOps.cmpf, FloatOps.uitofp, Ideal.cmp]

/-- The arrays before the tables are made. -/
abbrev before : Valuation τ sig (Elt Ideal) :=
  StableHlo.after (List.flatten [hostOps0, hostOps0_1, hostOps0_2, hostOps0_3, hostOps0_4, hostOps0_5]) (fun b => m (c, b))

/-- The arrays once the angles are made. -/
abbrev angled : Valuation τ sig (Elt Ideal) :=
  StableHlo.after hostOps0_9 (StableHlo.after hostOps0_8 (StableHlo.after hostOps0_7 (StableHlo.after hostOps0_6 (before m c))))

theorem angled_frequency : angled m c main_v29 = (fun i => frequency (i 0) : FVec Ideal S32 .f32) := by
  funext i
  obtain ⟨j, rfl⟩ : ∃ j : Fin 32, i = ix1 j := ⟨i 0, eq_ix1 i⟩
  refine Eq.trans ?_ (frequency_after (before m c) j)
  open StableHlo in after_reads_simp

theorem angled_columns : angled m c main_v38 = (fun i => BitVec.ofNat 32 ((i 0).val % 64) : IVec S4096 32) := by
  funext i
  obtain ⟨r, rfl⟩ : ∃ r : Fin 4096, i = ix1 r := ⟨i 0, eq_ix1 i⟩
  refine (columns_after _ r).trans ?_
  rw [side_after']
  refine Eq.trans (congrArg (columnNumber · 64#32) (?_ : _ = BitVec.ofNat 32 r.val)) (columnNumber_eq r)
  refine Eq.trans ?_ (places_after (before m c) r)
  open StableHlo in after_reads_simp

theorem angled_rows : angled m c main_v37 = (fun i => angle ((i 0).val / 64) (i 1) : FVec Ideal S4096x32 .f32) := by
  funext i
  obtain ⟨r, j, rfl⟩ : ∃ (r : Fin 4096) (j : Fin 32), i = ix2 r j := ⟨i 0, i 1, eq_ix2 i⟩
  refine (congrFun (keep_rows _) (ix2 r j)).trans ((rowAngle_after _ r j).trans ?_)
  rw [rows_after, side_after, places_after, rowNumber_eq, keep_frequency', frequency_after]
  rfl

/-- The arrays before the grid, as what the last stage leaves. -/
theorem last_stage (b : Ref sig .tc) : V m c b = StableHlo.after hostOps0_10 (angled m c) b := by
  have h : ∀ (l₁ l₂ : List (HloOp τ sig (Elt Ideal))) (σ : Valuation τ sig (Elt Ideal)),
      StableHlo.after (l₁ ++ l₂) σ = StableHlo.after l₂ (StableHlo.after l₁ σ) := fun l₁ => by
    induction l₁ with
    | nil => exact fun _ _ => rfl
    | cons op l ih => exact fun l₂ σ => ih l₂ _
  unfold V angled before
  simp only [List.flatten_cons, List.flatten_nil, h, StableHlo.after_nil]

theorem columns_angle (i : S4096x32.Idx) :
    columnAngles (fun i => BitVec.ofNat 32 ((i 0).val % 64)) (fun i => frequency (i 0)) i = angle ((i 0).val % 64) (i 1) := by
  obtain ⟨r, j, rfl⟩ : ∃ (r : Fin 4096) (j : Fin 32), i = ix2 r j := ⟨i 0, i 1, eq_ix2 i⟩
  exact columnAngles_apply _ _ r j

/-- A whole row of one of the two functions of the angles. -/
theorem half_angle (f : EReal → EReal) (a b : FVec Ideal S4096x32 .f32) (ha : ∀ i, a i = f (angle ((i 0).val / 64) (i 1)))
    (hb : ∀ i, b i = f (angle ((i 0).val % 64) (i 1))) (r : Fin 4096) (l : Fin 64) :
    halfRow a b noLane (ix2 r l) = f (angle (if l.val < 32 then r.val / 64 else r.val % 64) ⟨l.val % 32, by omega⟩) := by
  rw [halfRow_apply]
  by_cases h : l.val < 32
  · rw [dif_pos h, ha, if_pos h]
    refine congrArg (fun j => f (angle (r.val / 64) j)) (Fin.ext ?_)
    show l.val = l.val % 32
    omega
  · rw [dif_neg h, hb, if_neg h]
    refine congrArg (fun j => f (angle (r.val % 64) j)) (Fin.ext ?_)
    show l.val - 32 = l.val % 32
    omega

theorem table_cosine (r : Fin 4352) (l : Fin 128) : V m c main_v61 (ix2 r l) = cosine r l := by
  rw [last_stage]
  have hh := half_angle (f := Ideal.cos) (a := Host.cos (fun i => angle ((i 0).val / 64) (i 1)))
    (b := Host.cos (columnAngles (fun i => BitVec.ofNat 32 ((i 0).val % 64)) (fun i => frequency (i 0))))
    (ha := fun i => rfl) (hb := fun i => congrArg Ideal.cos (columns_angle i))
  have hw : ∀ (r : Fin 4096) (l : Fin 128), wholeRow _ _ (ix2 r l) = Ideal.cos (angle (along r.val l) (turn l)) := fun r l => by
    rw [wholeRow_apply]
    by_cases h : l.val < 64
    · rw [dif_pos h]
      refine (hh r ⟨l.val, h⟩).trans ?_
      have e : l.val % 64 = l.val := by omega
      unfold along
      rw [e]
    · rw [dif_neg h]
      refine (hh r ⟨l.val - 64, by omega⟩).trans ?_
      have e : l.val % 64 = l.val - 64 := by omega
      unfold along
      rw [e]
      refine congrArg (fun j => Ideal.cos (angle _ j)) (Fin.ext ?_)
      show (l.val - 64) % 32 = l.val % 32
      omega
  refine cosines_after (angled m c) _ (cosHalf_after _ _ _ _ (angled_rows m c) (angled_columns m c) (angled_frequency m c)) r l _ ?_
  rw [stacked_apply]
  unfold cosine
  by_cases h : r.val < 256
  · rw [dif_pos h, if_pos h, contextRows_apply, hw]
    have e : angle (along (0 : Fin 4096).val l) (turn l) = 0 := by
      have : along (0 : Fin 4096).val l = 0 := by
        show (if l.val % 64 < 32 then 0 / 64 else 0 % 64) = 0
        split <;> rfl
      rw [this, angle_zero]
    rw [e, cos_zero, not_zero]
  · rw [dif_neg h, if_neg h, hw]

theorem table_sine (r : Fin 4352) (l : Fin 128) : V m c main_v62 (ix2 r l) = sine r l := by
  rw [last_stage]
  have hh := half_angle (f := Ideal.sin) (a := Host.sin (fun i => angle ((i 0).val / 64) (i 1)))
    (b := Host.sin (columnAngles (fun i => BitVec.ofNat 32 ((i 0).val % 64)) (fun i => frequency (i 0))))
    (ha := fun i => rfl) (hb := fun i => congrArg Ideal.sin (columns_angle i))
  refine (congrFun (sines_after (angled m c) _ (sinHalf_after _ _ _ _ (angled_rows m c) (angled_columns m c) (angled_frequency m c))) (ix2 r l)).trans ?_
  rw [stacked_apply]
  unfold sine
  by_cases h : r.val < 256
  · rw [dif_pos h, if_pos h]
    exact zero_bits
  · rw [dif_neg h, if_neg h, wholeRow_apply]
    by_cases hl : l.val < 64
    · rw [dif_pos hl, if_pos hl]
      refine (congrArg (fun x : EReal => -x) (hh ⟨r.val - 256, by omega⟩ ⟨l.val, hl⟩)).trans ?_
      have e : l.val % 64 = l.val := by omega
      unfold along
      rw [e]
    · rw [dif_neg hl, if_neg hl]
      refine (hh ⟨r.val - 256, by omega⟩ ⟨l.val - 64, by omega⟩).trans ?_
      have e : l.val % 64 = l.val - 64 := by omega
      unfold along
      rw [e]
      refine congrArg (fun j => Ideal.sin (angle _ j)) (Fin.ext ?_)
      show (l.val - 64) % 32 = l.val % 32
      omega

theorem entry_gain (o : Fin 1) (k : Fin 1024) : V m c main_v11 (ix2 o k) = m ((c : Thread nD τ).loc main_arg2) (ix1 k) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  pointwise

theorem entry_query_gain (o : Fin 1) (l : Fin 128) : V m c main_v17 (ix2 o l) = m ((c : Thread nD τ).loc main_arg4) (ix1 (lane l)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf]
  simp only [StableHlo.TRef.ofBuf, StableHlo.TRef.toBuf, cast_eq]
  pointwise
  rw [dif_pos (by omega)]
  refine congrArg (fun j => m ((c : Thread nD τ).loc main_arg4) (ix1 j)) (Fin.ext ?_)
  show l.val % 64 / 32 * 64 + l.val / 64 * 32 + l.val % 64 % 32 = l.val % 32 + 64 * (l.val / 32 % 2) + 32 * (l.val / 64)
  omega

theorem entry_key_gain (o : Fin 1) (l : Fin 128) : V m c main_v23 (ix2 o l) = m ((c : Thread nD τ).loc main_arg5) (ix1 (lane l)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf_toBuf]
  simp only [StableHlo.TRef.ofBuf, StableHlo.TRef.toBuf, cast_eq]
  pointwise
  rw [dif_pos (by omega)]
  refine congrArg (fun j => m ((c : Thread nD τ).loc main_arg5) (ix1 j)) (Fin.ext ?_)
  show l.val % 64 / 32 * 64 + l.val / 64 * 32 + l.val % 64 % 32 = l.val % 32 + 64 * (l.val / 32 % 2) + 32 * (l.val / 64)
  omega

end Cert.GqaProjIdeal.Projection

end
-- ==== Proof.GqaProjValue.lean ====
/-
  What the projection of the grouped query layers leaves in its three results: the rotated queries and keys, each head
  in the order of its lanes, and the values.
-/
module

public import proofs.«01_k».proof.Proof.GqaProjTables

@[expose] public section

set_option maxRecDepth 16384

noncomputable section

namespace Cert.GqaProjIdeal.Projection

open Cert.GqaProjIdeal Cert.GqaProjIdeal.Gen Cert.Proj Cert.Attn Idealize.ShloMosaic Idealize.ShloMosaic.TcCoe Idealize.SL.Sem

variable (m : (ℓ : Loc nD τ sig) → Buf (Elt Ideal) ℓ) (c : Dev nD)

theorem head_lt {a l : ℕ} (ha : a < 24) (hl : l < 128) : 128 * a + l < 4096 := by omega

/-- The column of the weights that the program keeps in column `n`. -/
def place (n : Fin 4096) : Fin 4096 :=
  if h : n.val < 3072 then ⟨128 * (n.val / 128) + (lane ⟨n.val % 128, Nat.mod_lt _ (by norm_num)⟩).val, head_lt (by omega) (Fin.isLt _)⟩ else n

theorem lane_digits (l : ℕ) (h : l < 128) : l % 64 / 32 * 64 + l / 64 * 32 + l % 64 % 32 = l % 32 + 64 * (l / 32 % 2) + 32 * (l / 64) := by
  have key : ∀ l : Fin 128, l.val % 64 / 32 * 64 + l.val / 64 * 32 + l.val % 64 % 32 = l.val % 32 + 64 * (l.val / 32 % 2) + 32 * (l.val / 64) := by
    decide +kernel
  exact key ⟨l, h⟩

theorem place_digits (n : ℕ) : n / 128 * 128 + n % 64 / 32 * 64 + n / 64 % 2 * 32 + n % 64 % 32
    = 128 * (n / 128) + (n % 128 % 32 + 64 * (n % 128 / 32 % 2) + 32 * (n % 128 / 64)) := by
  have h1 : n % 64 = n % 128 % 64 := by omega
  have h2 : n / 64 % 2 = n % 128 / 64 := by omega
  rw [← lane_digits (n % 128) (Nat.mod_lt _ (by norm_num)), h1, h2, Nat.mul_comm (n / 128), Nat.add_assoc, Nat.add_assoc, Nat.add_assoc]

theorem place_low (n : Fin 4096) (h : n.val < 3072) (h') : place n = ⟨n.val / 128 * 128 + n.val % 64 / 32 * 64 + n.val / 64 % 2 * 32 + n.val % 64 % 32, h'⟩ := by
  unfold place
  rw [dif_pos h]
  exact Fin.ext (place_digits n.val).symm

theorem place_high (n : Fin 4096) (h : ¬n.val < 3072) (h') : place n = ⟨3072 + (n.val - 3072), h'⟩ := by
  unfold place
  rw [dif_neg h]
  exact Fin.ext (show n.val = 3072 + (n.val - 3072) by omega)

theorem entry_w (k : Fin 1024) (n : Fin 4096) : V m c main_v10 (ix2 k n) = m ((c : Thread nD τ).loc main_arg3) (ix2 k (place n)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  simp only [StableHlo.TRef.ofBuf, StableHlo.TRef.toBuf, cast_eq]
  pointwise
  by_cases h : n.val < 3072
  · rw [dif_pos h, dif_pos]
    · exact congrArg (fun j => m (c, Proc.devRef (τ := τ) .tc main_arg3) (ix2 k j)) (place_low n h _).symm
    · have h1 : n.val / 128 < 24 := by omega
      exact ⟨h1, Nat.mod_lt _ (by norm_num), Nat.mod_lt _ (by norm_num)⟩
  · rw [dif_neg h]
    exact congrArg (fun j => m (c, Proc.devRef (τ := τ) .tc main_arg3) (ix2 k j)) (place_high n h _).symm

/-! ## What a grid step stores -/

/-- A head of a block, normed, scaled by its gain and rotated with the rows of the tables. -/
def rotatedHead (z c s : FVec Ideal S256x128 .f32) (g : FVec Ideal S1x128 .f32) : FVec Ideal S256x128 .bf16 :=
  have n : FVec Ideal S256x128 .f32 := mulf z (broadcastTo S256x128 (rsqrt (addf (divf (shapeCast S256x1
    (multiReduction .add [1] S256 (mulf z z) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128)
  have q : FVec Ideal S256x128 .f32 := mulf n (broadcastTo S256x128 g broadcasts_S1x128_S256x128)
  truncf .bf16 (addf (mulf q c) (mulf (dynamicRotate 1 64#32 none q rotates_S256x128_d1) s)) bitsLt_bf16_f32

theorem rotatedHead_apply (z c s : FVec Ideal S256x128 .f32) (g : FVec Ideal S1x128 .f32) (r : Fin 256) (l : Fin 128) :
    rotatedHead z c s g (ix2 r l) = normed 0x43000000#32 (fun j => z (ix2 r j)) l * g (ix2 0 l) * c (ix2 r l)
      + normed 0x43000000#32 (fun j => z (ix2 r j)) (other l) * g (ix2 0 (other l)) * s (ix2 r l) := by
  pointwise [rotatedHead]
  rfl

/-- The same of head `a` of a block of heads, an entry at a time. -/
def headAt (z : FVec Ideal S256x4096 .f32) (c s : FVec Ideal S256x128 .f32) (g : FVec Ideal S1x128 .f32) (a : Fin 24) (r : Fin 256) (l : Fin 128) : EReal :=
  normed 0x43000000#32 (fun j : Fin 128 => z (ix2 r ⟨128 * a.val + j.val, head_lt a.isLt j.isLt⟩)) l * g (ix2 0 l) * c (ix2 r l)
    + normed 0x43000000#32 (fun j : Fin 128 => z (ix2 r ⟨128 * a.val + j.val, head_lt a.isLt j.isLt⟩)) (other l) * g (ix2 0 (other l)) * s (ix2 r l)

theorem slice_head (z : FVec Ideal S256x4096 .f32) (a : Fin 24) (o : ℕ) (ho : o = 128 * a.val)
    (h : S256x4096.Slices ![0, o] S256x128) (c s : FVec Ideal S256x128 .f32) (g : FVec Ideal S1x128 .f32) (r : Fin 256) (l : Fin 128) :
    rotatedHead (extractStridedSlice S256x128 ![0, o] z h) c s g (ix2 r l) = headAt z c s g a r l := by
  have e : ∀ j : Fin 128, extractStridedSlice S256x128 ![0, o] z h (ix2 r j) = z (ix2 r ⟨128 * a.val + j.val, head_lt a.isLt j.isLt⟩) := fun j => by
    subst ho
    refine congrArg z (funext fun b => Fin.ext ?_)
    match b with
    | ⟨0, _⟩ => exact Nat.zero_add _
    | ⟨1, _⟩ => rfl
  rw [rotatedHead_apply, funext e]
  rfl

end Cert.GqaProjIdeal.Projection

end
-- ==== Proof.GqaProjStore.lean ====
/-
  The three blocks that a grid step of the projection of the grouped query layers stores, an entry at a time.
-/
module

public import proofs.«01_k».proof.Proof.GqaProjValue
public import proofs.«01_k».proof.Proof.Modulated

@[expose] public section

set_option maxRecDepth 16384

noncomputable section

namespace Cert.GqaProjIdeal.Projection

open Cert.GqaProjIdeal Cert.GqaProjIdeal.Gen Cert.Proj Cert.Attn Idealize.ShloMosaic Idealize.ShloMosaic.TcCoe Idealize.SL.Sem

/-- The projected block of a grid step, an entry at a time. -/
theorem block_apply (x : Vec Ideal S256x1024 .f32) (g : Vec Ideal S1x1024 .f32) (sh sc : Vec Ideal S1x1x1024 .f32) (w : Vec Ideal S1024x4096 .bf16)
    (r : Fin 256) (n : Fin 4096) :
    k0_pay3 x g sh sc w (ix2 r n) = ∑ k : Fin 1024,
      (normed 0x44800000#32 (fun j => x (ix2 r j)) k * g (ix2 0 k) * (1 + sc (ix3 0 0 k)) + sh (ix3 0 0 k)) * w (ix2 k n) := by
  pointwise [k0_pay3]
  rfl

/-- The gain of the queries with the scale of the scores in it. -/
theorem gain_apply (g : Vec Ideal S1x128 .f32) (l : Fin 128) :
    k0_pay7 (F := Ideal) (k0_pay6 g) (Named.named (F := Ideal) Cert.GqaProjIdeal.κ "scale" (φ := .f32) 0x3E0293EE#32) (ix2 0 l) = g (ix2 0 l) * (scale 128 : EReal) := by
  pointwise [k0_pay7, k0_pay6]
  exact congrArg (g (ix2 0 l) * ·) (IdealRules.named_const.ideal_named_scalar _ _ _ _ rfl)

theorem query_head {n : ℕ} (h : n < 2048) : n / 128 < 24 := by omega
theorem key_head {n : ℕ} (h : n < 1024) : 16 + n / 128 < 24 := by omega
theorem lane_lt (n : ℕ) : n % 128 < 128 := Nat.mod_lt _ (by norm_num)

theorem headAt_at (z : FVec Ideal S256x4096 .f32) (c s : FVec Ideal S256x128 .f32) (g : FVec Ideal S1x128 .f32) (a a' : Fin 24) (r r' : Fin 256)
    (l l' : Fin 128) (ha : a.val = a'.val) (hr : r.val = r'.val) (hl : l.val = l'.val) : headAt z c s g a r l = headAt z c s g a' r' l' := by
  obtain rfl := Fin.ext ha
  obtain rfl := Fin.ext hr
  obtain rfl := Fin.ext hl
  rfl

/-- A stored head of the queries, -/
theorem piece_query (z : FVec Ideal S256x4096 .f32) (c s : FVec Ideal S256x128 .f32) (g : FVec Ideal S1x128 .f32) (a : Fin 16) (o : ℕ)
    (ho : o = 128 * a.val) (h : S256x4096.Slices ![0, o] S256x128) (x : S256x128.Idx) (y : S256x2048.Idx)
    (hr : (y 0).val = 0 + 1 * (x 0).val) (hl : (y 1).val = 128 * a.val + 1 * (x 1).val) :
    rotatedHead (extractStridedSlice S256x128 ![0, o] z h) c s g x
      = headAt z c s g ⟨(y 1).val / 128, query_head (y 1).isLt⟩ (y 0) ⟨(y 1).val % 128, lane_lt _⟩ := by
  have hx : (x 1).val < 128 := (x 1).isLt
  refine (congrArg _ (eq_ix2 x)).trans ((slice_head z ⟨a.val, by omega⟩ o ho h c s g (x 0) (x 1)).trans (headAt_at z c s g _ _ _ _ _ _ ?_ ?_ ?_))
  · show a.val = (y 1).val / 128
    rw [hl]; omega
  · rw [hr]; omega
  · show (x 1).val = (y 1).val % 128
    rw [hl]; omega

/-- and of the keys. -/
theorem piece_key (z : FVec Ideal S256x4096 .f32) (c s : FVec Ideal S256x128 .f32) (g : FVec Ideal S1x128 .f32) (a : Fin 8) (o : ℕ)
    (ho : o = 128 * (16 + a.val)) (h : S256x4096.Slices ![0, o] S256x128) (x : S256x128.Idx) (y : S256x1024.Idx)
    (hr : (y 0).val = 0 + 1 * (x 0).val) (hl : (y 1).val = 128 * a.val + 1 * (x 1).val) :
    rotatedHead (extractStridedSlice S256x128 ![0, o] z h) c s g x
      = headAt z c s g ⟨16 + (y 1).val / 128, key_head (y 1).isLt⟩ (y 0) ⟨(y 1).val % 128, lane_lt _⟩ := by
  have hx : (x 1).val < 128 := (x 1).isLt
  refine (congrArg _ (eq_ix2 x)).trans ((slice_head z ⟨16 + a.val, by omega⟩ o ho h c s g (x 0) (x 1)).trans (headAt_at z c s g _ _ _ _ _ _ ?_ ?_ ?_))
  · show 16 + a.val = 16 + (y 1).val / 128
    rw [hl]; omega
  · rw [hr]; omega
  · show (x 1).val = (y 1).val % 128
    rw [hl]; omega

/-- The block of the queries. -/
def queryBlock (z : FVec Ideal S256x4096 .f32) (c s : FVec Ideal S256x128 .f32) (g : FVec Ideal S1x128 .f32) : Vec Ideal S256x2048 .bf16 := fun y =>
  headAt z c s g ⟨(y 1).val / 128, query_head (y 1).isLt⟩ (y 0) ⟨(y 1).val % 128, lane_lt _⟩

theorem out9_pieces (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) (y : S256x2048.Idx) : out0_9 x0 x1 x2 x3 x4 x5 x6 x7 x8 y
    = headAt (k0_pay45 x0 x1 x2 x3 x4 x5 x6 x7 x8) (k0_pay46 x0 x1 x2 x3 x4 x5 x6 x7 x8) (k0_pay47 x0 x1 x2 x3 x4 x5 x6 x7 x8)
        (k0_pay49 x0 x1 x2 x3 x4 x5 x6 x7 x8) ⟨(y 1).val / 128, query_head (y 1).isLt⟩ (y 0) ⟨(y 1).val % 128, lane_lt _⟩ := by
  unfold out0_9
  refine View.canon_apply_of_pieces (Val := Elt Ideal) (e := .bf16) (queryBlock (k0_pay45 x0 x1 x2 x3 x4 x5 x6 x7 x8) (k0_pay46 x0 x1 x2 x3 x4 x5 x6 x7 x8)
    (k0_pay47 x0 x1 x2 x3 x4 x5 x6 x7 x8) (k0_pay49 x0 x1 x2 x3 x4 x5 x6 x7 x8)) _ ?_ y (cover0_9 _ _ _ _ _ _ _ _ _ _ _ _ _ _ _ _ y)
  intro pc hpc
  rcases List.mem_cons.mp hpc with rfl | hpc
  · exact fun x => piece_query _ _ _ _ 15 1920 rfl (by decide) x _ rfl rfl
  rcases List.mem_cons.mp hpc with rfl | hpc
  · exact fun x => piece_query _ _ _ _ 14 1792 rfl (by decide) x _ rfl rfl
  rcases List.mem_cons.mp hpc with rfl | hpc
  · exact fun x => piece_query _ _ _ _ 13 1664 rfl (by decide) x _ rfl rfl
  rcases List.mem_cons.mp hpc with rfl | hpc
  · exact fun x => piece_query _ _ _ _ 12 1536 rfl (by decide) x _ rfl rfl
  rcases List.mem_cons.mp hpc with rfl | hpc
  · exact fun x => piece_query _ _ _ _ 11 1408 rfl (by decide) x _ rfl rfl
  rcases List.mem_cons.mp hpc with rfl | hpc
  · exact fun x => piece_query _ _ _ _ 10 1280 rfl (by decide) x _ rfl rfl
  rcases List.mem_cons.mp hpc with rfl | hpc
  · exact fun x => piece_query _ _ _ _ 9 1152 rfl (by decide) x _ rfl rfl
  rcases List.mem_cons.mp hpc with rfl | hpc
  · exact fun x => piece_query _ _ _ _ 8 1024 rfl (by decide) x _ rfl rfl
  rcases List.mem_cons.mp hpc with rfl | hpc
  · exact fun x => piece_query _ _ _ _ 7 896 rfl (by decide) x _ rfl rfl
  rcases List.mem_cons.mp hpc with rfl | hpc
  · exact fun x => piece_query _ _ _ _ 6 768 rfl (by decide) x _ rfl rfl
  rcases List.mem_cons.mp hpc with rfl | hpc
  · exact fun x => piece_query _ _ _ _ 5 640 rfl (by decide) x _ rfl rfl
  rcases List.mem_cons.mp hpc with rfl | hpc
  · exact fun x => piece_query _ _ _ _ 4 512 rfl (by decide) x _ rfl rfl
  rcases List.mem_cons.mp hpc with rfl | hpc
  · exact fun x => piece_query _ _ _ _ 3 384 rfl (by decide) x _ rfl rfl
  rcases List.mem_cons.mp hpc with rfl | hpc
  · exact fun x => piece_query _ _ _ _ 2 256 rfl (by decide) x _ rfl rfl
  rcases List.mem_cons.mp hpc with rfl | hpc
  · exact fun x => piece_query _ _ _ _ 1 128 rfl (by decide) x _ rfl rfl
  rcases List.mem_cons.mp hpc with rfl | hpc
  · exact fun x => piece_query _ _ _ _ 0 0 rfl (by decide) x _ rfl rfl
  nomatch hpc

/-- The block of the keys. -/
def keyBlock (z : FVec Ideal S256x4096 .f32) (c s : FVec Ideal S256x128 .f32) (g : FVec Ideal S1x128 .f32) : Vec Ideal S256x1024 .bf16 := fun y =>
  headAt z c s g ⟨16 + (y 1).val / 128, key_head (y 1).isLt⟩ (y 0) ⟨(y 1).val % 128, lane_lt _⟩

theorem out10_pieces (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) (y : S256x1024.Idx) : out0_10 x0 x1 x2 x3 x4 x5 x6 x7 x8 y
    = headAt (k0_pay45 x0 x1 x2 x3 x4 x5 x6 x7 x8) (k0_pay46 x0 x1 x2 x3 x4 x5 x6 x7 x8) (k0_pay47 x0 x1 x2 x3 x4 x5 x6 x7 x8)
        (k0_pay50 x0 x1 x2 x3 x4 x5 x6 x7 x8) ⟨16 + (y 1).val / 128, key_head (y 1).isLt⟩ (y 0) ⟨(y 1).val % 128, lane_lt _⟩ := by
  unfold out0_10
  refine View.canon_apply_of_pieces (Val := Elt Ideal) (e := .bf16) (keyBlock (k0_pay45 x0 x1 x2 x3 x4 x5 x6 x7 x8) (k0_pay46 x0 x1 x2 x3 x4 x5 x6 x7 x8)
    (k0_pay47 x0 x1 x2 x3 x4 x5 x6 x7 x8) (k0_pay50 x0 x1 x2 x3 x4 x5 x6 x7 x8)) _ ?_ y (cover0_10 _ _ _ _ _ _ _ _ y)
  intro pc hpc
  rcases List.mem_cons.mp hpc with rfl | hpc
  · exact fun x => piece_key _ _ _ _ 7 2944 rfl (by decide) x _ rfl rfl
  rcases List.mem_cons.mp hpc with rfl | hpc
  · exact fun x => piece_key _ _ _ _ 6 2816 rfl (by decide) x _ rfl rfl
  rcases List.mem_cons.mp hpc with rfl | hpc
  · exact fun x => piece_key _ _ _ _ 5 2688 rfl (by decide) x _ rfl rfl
  rcases List.mem_cons.mp hpc with rfl | hpc
  · exact fun x => piece_key _ _ _ _ 4 2560 rfl (by decide) x _ rfl rfl
  rcases List.mem_cons.mp hpc with rfl | hpc
  · exact fun x => piece_key _ _ _ _ 3 2432 rfl (by decide) x _ rfl rfl
  rcases List.mem_cons.mp hpc with rfl | hpc
  · exact fun x => piece_key _ _ _ _ 2 2304 rfl (by decide) x _ rfl rfl
  rcases List.mem_cons.mp hpc with rfl | hpc
  · exact fun x => piece_key _ _ _ _ 1 2176 rfl (by decide) x _ rfl rfl
  rcases List.mem_cons.mp hpc with rfl | hpc
  · exact fun x => piece_key _ _ _ _ 0 2048 rfl (by decide) x _ rfl rfl
  nomatch hpc

theorem stored_block (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) : k0_pay45 x0 x1 x2 x3 x4 x5 x6 x7 x8 = k0_pay3 x0 x3 x1 x2 x4 := by
  unfold k0_pay45
  rw [View.ld_unit_zero zero2, View.ld_unit_zero zero2, View.ld_unit_zero zero3, View.ld_unit_zero zero3, View.ld_unit_zero zero2]

theorem stored_cosine (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) : k0_pay46 x0 x1 x2 x3 x4 x5 x6 x7 x8 = x7 := by
  unfold k0_pay46
  rw [View.ld_unit_zero zero2]
  pointwise [k0_pay4]

theorem stored_sine (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) : k0_pay47 x0 x1 x2 x3 x4 x5 x6 x7 x8 = x8 := by
  unfold k0_pay47
  rw [View.ld_unit_zero zero2]
  pointwise [k0_pay5]

theorem stored_query_gain (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) (l : Fin 128) :
    k0_pay49 x0 x1 x2 x3 x4 x5 x6 x7 x8 (ix2 0 l) = x5 (ix2 0 l) * (scale 128 : EReal) := by
  unfold k0_pay49 k0_pay48
  rw [View.ld_unit_zero zero2]
  exact gain_apply x5 l

theorem stored_key_gain (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) : k0_pay50 x0 x1 x2 x3 x4 x5 x6 x7 x8 = x6 := by
  unfold k0_pay50
  rw [View.ld_unit_zero zero2]
  pointwise [k0_pay8]

/-- The third block a step stores. -/
theorem out11_apply (x0 : Vec Ideal S256x1024 .f32) (x1 x2 : Vec Ideal S1x1x1024 .f32) (x3 : Vec Ideal S1x1024 .f32) (x4 : Vec Ideal S1024x4096 .bf16)
    (x5 x6 : Vec Ideal S1x128 .f32) (x7 x8 : Vec Ideal S256x128 .f32) (r : Fin 256) (n : Fin 1024) :
    out0_11 x0 x1 x2 x3 x4 x5 x6 x7 x8 (ix2 r n) = k0_pay3 x0 x3 x1 x2 x4 (ix2 r ⟨n.val + 3072, by omega⟩) := by
  unfold out0_11
  rw [stored_block, Value.canon11_eq]
  refine congrArg (k0_pay3 x0 x3 x1 x2 x4) (funext fun a => Fin.ext ?_)
  match a with
  | ⟨0, _⟩ => rfl
  | ⟨1, _⟩ => rfl

end Cert.GqaProjIdeal.Projection

end
-- ==== Proof.GqaProjFinal.lean ====
/-
  The results of the projection of the grouped query layers after the run.
-/
module

public import proofs.«01_k».proof.Proof.GqaProjStore

@[expose] public section

set_option maxRecDepth 16384

noncomputable section

namespace Cert.GqaProjIdeal.Projection

open Cert.GqaProjIdeal Cert.GqaProjIdeal.Gen Cert.Proj Cert.Attn Idealize.ShloMosaic Idealize.ShloMosaic.TcCoe Idealize.SL.Sem

/-- A projected column of a row of the array of all tokens. -/
def column (x : FVec Ideal S17408x1024 .f32) (m3 : FVec Ideal S48x1x1024 .f32) (g : FVec Ideal S1024 .f32) (w : FVec Ideal S1024x4096 .f32)
    (t : Fin 17408) (n : Fin 4096) : EReal :=
  ∑ k : Fin 1024, modulated x m3 g (batchOf t) (tokenOf t) k * w (ix2 k n)

/-- Head `a` of a row, with its columns in the order of the weights. -/
def headOf (x : FVec Ideal S17408x1024 .f32) (m3 : FVec Ideal S48x1x1024 .f32) (g : FVec Ideal S1024 .f32) (w : FVec Ideal S1024x4096 .f32)
    (t : Fin 17408) (a : Fin 24) (d : Fin 128) : EReal :=
  column x m3 g w t ⟨128 * a.val + d.val, head_lt a.isLt d.isLt⟩

/-- The head normed, with a gain, and rotated. -/
def turnedHead (x : FVec Ideal S17408x1024 .f32) (m3 : FVec Ideal S48x1x1024 .f32) (g : FVec Ideal S1024 .f32) (w : FVec Ideal S1024x4096 .f32)
    (gain : Fin 128 → EReal) (t : Fin 17408) (a : Fin 24) (l : Fin 128) : EReal :=
  turned (fun d => normed 0x43000000#32 (headOf x m3 g w t a) d * gain d) (tokenOf t) l

/-- The gain of the queries with the scale of the scores in it. -/
def scaled (q : FVec Ideal S128 .f32) (d : Fin 128) : EReal := q (ix1 d) * (scale 128 : EReal)

/-- The queries, -/
def queries (x : FVec Ideal S17408x1024 .f32) (m3 : FVec Ideal S48x1x1024 .f32) (g : FVec Ideal S1024 .f32) (w : FVec Ideal S1024x4096 .f32)
    (q : FVec Ideal S128 .f32) : FVec Ideal S17408x2048 .bf16 := fun i =>
  turnedHead x m3 g w (scaled q) (i 0) ⟨(i 1).val / 128, query_head (i 1).isLt⟩ ⟨(i 1).val % 128, lane_lt _⟩

/-- the keys, -/
def keys (x : FVec Ideal S17408x1024 .f32) (m3 : FVec Ideal S48x1x1024 .f32) (g : FVec Ideal S1024 .f32) (w : FVec Ideal S1024x4096 .f32)
    (q : FVec Ideal S128 .f32) : FVec Ideal S17408x1024 .bf16 := fun i =>
  turnedHead x m3 g w (fun d => q (ix1 d)) (i 0) ⟨16 + (i 1).val / 128, key_head (i 1).isLt⟩ ⟨(i 1).val % 128, lane_lt _⟩

/-- and the values. -/
def values (x : FVec Ideal S17408x1024 .f32) (m3 : FVec Ideal S48x1x1024 .f32) (g : FVec Ideal S1024 .f32) (w : FVec Ideal S1024x4096 .f32) :
    FVec Ideal S17408x1024 .bf16 := fun i =>
  column x m3 g w (i 0) ⟨(i 1).val + 3072, by have : (i 1).val < 1024 := (i 1).isLt; omega⟩

/-- Where the program keeps lane `l` of head `a`. -/
theorem place_head (a : Fin 24) (l : Fin 128) :
    place ⟨128 * a.val + l.val, head_lt a.isLt l.isLt⟩ = ⟨128 * a.val + (lane l).val, head_lt a.isLt (lane l).isLt⟩ := by
  have h1 : (128 * a.val + l.val) / 128 = a.val := by omega
  have h2 : (128 * a.val + l.val) % 128 = l.val := by omega
  unfold place
  refine (dif_pos (show 128 * a.val + l.val < 3072 by omega)).trans (Fin.ext ?_)
  exact congrArg₂ (fun (p : ℕ) (q : Fin 128) => 128 * p + (lane q).val) h1 (Fin.ext h2)

theorem place_value (n : Fin 1024) : place ⟨n.val + 3072, by omega⟩ = ⟨n.val + 3072, by omega⟩ :=
  dif_neg (show ¬ n.val + 3072 < 3072 by omega)

variable (m : (ℓ : Loc nD τ sig) → Buf (Elt Ideal) ℓ) (c : Dev nD)

/-! ## The blocks a grid point reads -/

theorem index0 : ∀ t : Fin cfg0.N, win0_0.index t = ![t.val, 0] := (by decide +kernel : ∀ t : Fin grid0.N, win0_0.index t = ![t.val, 0])
theorem index1 : ∀ t : Fin cfg0.N, win0_1.index t = ![6 * (if t.val % 17 = 0 then 4 else t.val / 17), 0, 0] := (by decide +kernel : ∀ t : Fin grid0.N, win0_1.index t = ![6 * (if t.val % 17 = 0 then 4 else t.val / 17), 0, 0])
theorem index2 : ∀ t : Fin cfg0.N, win0_2.index t = ![6 * (if t.val % 17 = 0 then 4 else t.val / 17) + 1, 0, 0] := (by decide +kernel : ∀ t : Fin grid0.N, win0_2.index t = ![6 * (if t.val % 17 = 0 then 4 else t.val / 17) + 1, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val % 17, 0] := (by decide +kernel : ∀ t : Fin grid0.N, win0_7.index t = ![t.val % 17, 0])
theorem index8 : ∀ t : Fin cfg0.N, win0_8.index t = ![t.val % 17, 0] := (by decide +kernel : ∀ t : Fin grid0.N, win0_8.index t = ![t.val % 17, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])
theorem index11 : ∀ t : Fin cfg0.N, win0_11.index t = ![t.val, 0] := (by decide +kernel : ∀ t : Fin grid0.N, win0_11.index t = ![t.val, 0])

theorem point_lt (t : Fin cfg0.N) : t.val < 68 := lt_of_lt_of_eq t.isLt N_0

/-- A row of the block of a point. -/
abbrev rowOf (t : Fin cfg0.N) (r : Fin 256) : Fin 17408 := ⟨256 * t.val + r.val, by have := point_lt t; omega⟩

theorem group_lt' (t : Fin cfg0.N) : (if t.val % 17 = 0 then 4 else t.val / 17) < 5 := by have := point_lt t; split <;> omega

theorem group_rowOf (t : Fin cfg0.N) (r : Fin 256) :
    group (batchOf (rowOf t r)) (tokenOf (rowOf t r)) = if t.val % 17 = 0 then 4 else t.val / 17 := by
  unfold group
  dsimp only
  by_cases h : t.val % 17 = 0
  · rw [if_pos h, if_pos (by omega)]
  · rw [if_neg h, if_neg (by omega)]; omega

theorem block_x (t : Fin cfg0.N) (r : Fin 256) (k : Fin 1024) :
    iblk m c 0 t (ix2 r k) = m ((c : Thread nD τ).loc main_arg0) (ix2 (rowOf t r) k) := by
  refine Eq.trans (congrArg (V m c main_arg0) (a₂ := ix2 (rowOf t r) k) (funext fun a => Fin.ext ?_)) (congrFun (V_main_arg0 m c) _)
  have h := index0 t
  match a with
  | ⟨0, _⟩ => show win0_0.index t 0 * 256 + 1 * r.val = _; rw [h, one_mul, Nat.mul_comm]; rfl
  | ⟨1, _⟩ => show win0_0.index t 1 * 1024 + 1 * k.val = _; rw [h, one_mul]; exact (congrArg (· + k.val) (Nat.zero_mul _)).trans (Nat.zero_add _)

theorem block_shift (t : Fin cfg0.N) (k : Fin 1024) :
    iblk m c 1 t (ix3 0 0 k)
      = m ((c : Thread nD τ).loc main_arg1) (ix3 ⟨6 * (if t.val % 17 = 0 then 4 else t.val / 17), by have := group_lt' t; omega⟩ 0 k) := by
  refine Eq.trans (congrArg (V m c main_arg1)
    (a₂ := ix3 ⟨6 * (if t.val % 17 = 0 then 4 else t.val / 17), by have := group_lt' t; omega⟩ 0 k) (funext fun a => Fin.ext ?_)) (congrFun (V_main_arg1 m c) _)
  have h := index1 t
  match a with
  | ⟨0, _⟩ => show win0_1.index t 0 * 1 + 1 * 0 = _; rw [h]; exact Nat.mul_one _
  | ⟨1, _⟩ => show win0_1.index t 1 * 1 + 1 * 0 = _; rw [h]; rfl
  | ⟨2, _⟩ => show win0_1.index t 2 * 1024 + 1 * k.val = _; rw [h, one_mul]; exact (congrArg (· + k.val) (Nat.zero_mul _)).trans (Nat.zero_add _)

theorem block_scale (t : Fin cfg0.N) (k : Fin 1024) :
    iblk m c 2 t (ix3 0 0 k)
      = m ((c : Thread nD τ).loc main_arg1) (ix3 ⟨6 * (if t.val % 17 = 0 then 4 else t.val / 17) + 1, by have := group_lt' t; omega⟩ 0 k) := by
  refine Eq.trans (congrArg (V m c main_arg1)
    (a₂ := ix3 ⟨6 * (if t.val % 17 = 0 then 4 else t.val / 17) + 1, by have := group_lt' t; omega⟩ 0 k) (funext fun a => Fin.ext ?_)) (congrFun (V_main_arg1 m c) _)
  have h := index2 t
  match a with
  | ⟨0, _⟩ => show win0_2.index t 0 * 1 + 1 * 0 = _; rw [h]; exact Nat.mul_one _
  | ⟨1, _⟩ => show win0_2.index t 1 * 1 + 1 * 0 = _; rw [h]; rfl
  | ⟨2, _⟩ => show win0_2.index t 2 * 1024 + 1 * k.val = _; rw [h, one_mul]; exact (congrArg (· + k.val) (Nat.zero_mul _)).trans (Nat.zero_add _)

theorem block_gain (t : Fin cfg0.N) (k : Fin 1024) : iblk m c 3 t (ix2 0 k) = m ((c : Thread nD τ).loc main_arg2) (ix1 k) := by
  refine Eq.trans (congrArg (V m c main_v11) (a₂ := ix2 0 k) (funext fun a => Fin.ext ?_)) (entry_gain m c 0 k)
  have h := index3 t
  match a with
  | ⟨0, _⟩ => show win0_3.index t 0 * 1 + 1 * 0 = _; rw [h]; rfl
  | ⟨1, _⟩ => show win0_3.index t 1 * 1024 + 1 * k.val = _; rw [h, one_mul]; exact (congrArg (· + k.val) (Nat.zero_mul _)).trans (Nat.zero_add _)

theorem block_query_gain (t : Fin cfg0.N) (k : Fin 128) : iblk m c 5 t (ix2 0 k) = m ((c : Thread nD τ).loc main_arg4) (ix1 (lane k)) := by
  refine Eq.trans (congrArg (V m c main_v17) (a₂ := ix2 0 k) (funext fun a => Fin.ext ?_)) (entry_query_gain m c 0 k)
  have h := index5 t
  match a with
  | ⟨0, _⟩ => show win0_5.index t 0 * 1 + 1 * 0 = _; rw [h]; rfl
  | ⟨1, _⟩ => show win0_5.index t 1 * 128 + 1 * k.val = _; rw [h, one_mul]; exact (congrArg (· + k.val) (Nat.zero_mul _)).trans (Nat.zero_add _)

theorem block_key_gain (t : Fin cfg0.N) (k : Fin 128) : iblk m c 6 t (ix2 0 k) = m ((c : Thread nD τ).loc main_arg5) (ix1 (lane k)) := by
  refine Eq.trans (congrArg (V m c main_v23) (a₂ := ix2 0 k) (funext fun a => Fin.ext ?_)) (entry_key_gain m c 0 k)
  have h := index6 t
  match a with
  | ⟨0, _⟩ => show win0_6.index t 0 * 1 + 1 * 0 = _; rw [h]; rfl
  | ⟨1, _⟩ => show win0_6.index t 1 * 128 + 1 * k.val = _; rw [h, one_mul]; exact (congrArg (· + k.val) (Nat.zero_mul _)).trans (Nat.zero_add _)

theorem block_weight (t : Fin cfg0.N) (k : Fin 1024) (n : Fin 4096) :
    iblk m c 4 t (ix2 k n) = m ((c : Thread nD τ).loc main_arg3) (ix2 k (place n)) := by
  refine Eq.trans (congrArg (V m c main_v10) (a₂ := ix2 k n) (funext fun a => Fin.ext ?_)) (entry_w m c k n)
  have h := index4 t
  match a with
  | ⟨0, _⟩ => show win0_4.index t 0 * 1024 + 1 * k.val = _; rw [h, one_mul]; exact (congrArg (· + k.val) (Nat.zero_mul _)).trans (Nat.zero_add _)
  | ⟨1, _⟩ => show win0_4.index t 1 * 4096 + 1 * n.val = _; rw [h, one_mul]; exact (congrArg (· + n.val) (Nat.zero_mul _)).trans (Nat.zero_add _)

theorem tokenOf_rowOf (t : Fin cfg0.N) (r : Fin 256) : (tokenOf (rowOf t r)).val = 256 * (t.val % 17) + r.val := by
  show (256 * t.val + r.val) % 4352 = _
  omega

theorem block_cosine (t : Fin cfg0.N) (r : Fin 256) (l : Fin 128) : iblk m c 7 t (ix2 r l) = cosine (tokenOf (rowOf t r)) l := by
  refine Eq.trans (congrArg (V m c main_v61) (a₂ := ix2 (tokenOf (rowOf t r)) l) (funext fun a => Fin.ext ?_)) (table_cosine m c _ l)
  have h := index7 t
  match a with
  | ⟨0, _⟩ => refine Eq.trans ?_ (tokenOf_rowOf t r).symm; show win0_7.index t 0 * 256 + 1 * r.val = _; rw [h, one_mul, Nat.mul_comm]; rfl
  | ⟨1, _⟩ => show win0_7.index t 1 * 128 + 1 * l.val = _; rw [h, one_mul]; exact (congrArg (· + l.val) (Nat.zero_mul _)).trans (Nat.zero_add _)

theorem block_sine (t : Fin cfg0.N) (r : Fin 256) (l : Fin 128) : iblk m c 8 t (ix2 r l) = sine (tokenOf (rowOf t r)) l := by
  refine Eq.trans (congrArg (V m c main_v62) (a₂ := ix2 (tokenOf (rowOf t r)) l) (funext fun a => Fin.ext ?_)) (table_sine m c _ l)
  have h := index8 t
  match a with
  | ⟨0, _⟩ => refine Eq.trans ?_ (tokenOf_rowOf t r).symm; show win0_8.index t 0 * 256 + 1 * r.val = _; rw [h, one_mul, Nat.mul_comm]; rfl
  | ⟨1, _⟩ => show win0_8.index t 1 * 128 + 1 * l.val = _; rw [h, one_mul]; exact (congrArg (· + l.val) (Nat.zero_mul _)).trans (Nat.zero_add _)

/-- The projected block of a point is a block of the projected columns. -/
theorem projected (t : Fin cfg0.N) (r : Fin 256) (n : Fin 4096) :
    k0_pay3 (iblk m c 0 t) (iblk m c 3 t) (iblk m c 1 t) (iblk m c 2 t) (iblk m c 4 t) (ix2 r n)
      = column (m ((c : Thread nD τ).loc main_arg0)) (m ((c : Thread nD τ).loc main_arg1)) (m ((c : Thread nD τ).loc main_arg2))
          (m ((c : Thread nD τ).loc main_arg3)) (rowOf t r) (place n) := by
  refine (block_apply _ _ _ _ _ r n).trans (Finset.sum_congr rfl fun k _ => ?_)
  rw [block_shift, block_scale, block_gain, block_weight, funext fun j => block_x m c t r j]
  refine congrArg (· * _) (modulated_eq _ _ _ _ _ k _ _ _ ?_ ?_ ?_)
  · show 256 * t.val + r.val = 4352 * ((256 * t.val + r.val) / 4352) + (256 * t.val + r.val) % 4352
    exact (Nat.div_add_mod _ _).symm
  · rw [group_rowOf]
  · rw [group_rowOf]

/-- A head of the block of a point, with whatever row of gains the lanes carry. -/
theorem projected_head (gain : Fin 128 → EReal) (g : FVec Ideal S1x128 .f32) (hg : ∀ l, g (ix2 0 l) = gain (lane l)) (t : Fin cfg0.N)
    (a : Fin 24) (r : Fin 256) (l : Fin 128) :
    headAt (k0_pay3 (iblk m c 0 t) (iblk m c 3 t) (iblk m c 1 t) (iblk m c 2 t) (iblk m c 4 t)) (iblk m c 7 t) (iblk m c 8 t) g a r l
      = turnedHead (m ((c : Thread nD τ).loc main_arg0)) (m ((c : Thread nD τ).loc main_arg1)) (m ((c : Thread nD τ).loc main_arg2))
          (m ((c : Thread nD τ).loc main_arg3)) gain (rowOf t r) a l := by
  have hz : ∀ j : Fin 128, k0_pay3 (iblk m c 0 t) (iblk m c 3 t) (iblk m c 1 t) (iblk m c 2 t) (iblk m c 4 t)
      (ix2 r ⟨128 * a.val + j.val, head_lt a.isLt j.isLt⟩) = headOf (m ((c : Thread nD τ).loc main_arg0)) (m ((c : Thread nD τ).loc main_arg1)) (m ((c : Thread nD τ).loc main_arg2))
          (m ((c : Thread nD τ).loc main_arg3)) (rowOf t r) a (lane j) := fun j =>
    (projected m c t r _).trans (congrArg (column _ _ _ _ _) (place_head a j))
  unfold headAt
  rw [funext hz, normed_lane, normed_lane, hg, hg, block_cosine, block_sine]
  rfl

/-! ## The results -/

/-- The queries of device `c`'s arguments, -/
abbrev result9 : FVec Ideal S17408x2048 .bf16 := queries (m ((c : Thread nD τ).loc main_arg0)) (m ((c : Thread nD τ).loc main_arg1)) (m ((c : Thread nD τ).loc main_arg2))
          (m ((c : Thread nD τ).loc main_arg3)) (m ((c : Thread nD τ).loc main_arg4))

/-- the keys, -/
abbrev result10 : FVec Ideal S17408x1024 .bf16 := keys (m ((c : Thread nD τ).loc main_arg0)) (m ((c : Thread nD τ).loc main_arg1)) (m ((c : Thread nD τ).loc main_arg2))
          (m ((c : Thread nD τ).loc main_arg3)) (m ((c : Thread nD τ).loc main_arg5))

/-- and the values. -/
abbrev result11 : FVec Ideal S17408x1024 .bf16 := values (m ((c : Thread nD τ).loc main_arg0)) (m ((c : Thread nD τ).loc main_arg1)) (m ((c : Thread nD τ).loc main_arg2))
          (m ((c : Thread nD τ).loc main_arg3))

theorem read_block9 (t : Fin cfg0.N) (r : Fin 256) (n : Fin 2048) :
    ((cfg0.win 9).blk t).view.read (Elt Ideal) (result9 m c) (ix2 r n) = result9 m c (ix2 (rowOf t r) n) := by
  refine congrArg (result9 m c) (a₂ := ix2 (rowOf t r) n) (funext fun a => Fin.ext ?_)
  have h := index9 t
  match a with
  | ⟨0, _⟩ => show win0_9.index t 0 * 256 + 1 * r.val = _; rw [h, one_mul, Nat.mul_comm]; rfl
  | ⟨1, _⟩ => show win0_9.index t 1 * 2048 + 1 * n.val = _; rw [h, one_mul]; exact (congrArg (· + n.val) (Nat.zero_mul _)).trans (Nat.zero_add _)

theorem read_block10 (t : Fin cfg0.N) (r : Fin 256) (n : Fin 1024) :
    ((cfg0.win 10).blk t).view.read (Elt Ideal) (result10 m c) (ix2 r n) = result10 m c (ix2 (rowOf t r) n) := by
  refine congrArg (result10 m c) (a₂ := ix2 (rowOf t r) n) (funext fun a => Fin.ext ?_)
  have h := index10 t
  match a with
  | ⟨0, _⟩ => show win0_10.index t 0 * 256 + 1 * r.val = _; rw [h, one_mul, Nat.mul_comm]; rfl
  | ⟨1, _⟩ => show win0_10.index t 1 * 1024 + 1 * n.val = _; rw [h, one_mul]; exact (congrArg (· + n.val) (Nat.zero_mul _)).trans (Nat.zero_add _)

theorem read_block11 (t : Fin cfg0.N) (r : Fin 256) (n : Fin 1024) :
    ((cfg0.win 11).blk t).view.read (Elt Ideal) (result11 m c) (ix2 r n) = result11 m c (ix2 (rowOf t r) n) := by
  refine congrArg (result11 m c) (a₂ := ix2 (rowOf t r) n) (funext fun a => Fin.ext ?_)
  have h := index11 t
  match a with
  | ⟨0, _⟩ => show win0_11.index t 0 * 256 + 1 * r.val = _; rw [h, one_mul, Nat.mul_comm]; rfl
  | ⟨1, _⟩ => show win0_11.index t 1 * 1024 + 1 * n.val = _; rw [h, one_mul]; exact (congrArg (· + n.val) (Nat.zero_mul _)).trans (Nat.zero_add _)

theorem flushed9_eq (t : Fin cfg0.N) : (dats m 0 c).flushed 9 t = ((cfg0.win 9).blk t).view.read (Elt Ideal) (result9 m c) := by
  funext y
  obtain ⟨r, n, rfl⟩ : ∃ (r : Fin 256) (n : Fin 2048), y = ix2 r n := ⟨y 0, y 1, eq_ix2 y⟩
  rw [read_block9, Value.flushed9]
  refine (out9_pieces (iblk m c 0 t) (iblk m c 1 t) (iblk m c 2 t) (iblk m c 3 t) (iblk m c 4 t) (iblk m c 5 t) (iblk m c 6 t) (iblk m c 7 t) (iblk m c 8 t) (ix2 r n)).trans ?_
  rw [stored_block, stored_cosine, stored_sine]
  exact projected_head m c (scaled (m ((c : Thread nD τ).loc main_arg4))) _
    (fun l => (stored_query_gain (iblk m c 0 t) (iblk m c 1 t) (iblk m c 2 t) (iblk m c 3 t) (iblk m c 4 t) (iblk m c 5 t) (iblk m c 6 t) (iblk m c 7 t) (iblk m c 8 t) l).trans (congrArg (· * (scale 128 : EReal)) (block_query_gain m c t l))) t _ r _

theorem flushed10_eq (t : Fin cfg0.N) : (dats m 0 c).flushed 10 t = ((cfg0.win 10).blk t).view.read (Elt Ideal) (result10 m c) := by
  funext y
  obtain ⟨r, n, rfl⟩ : ∃ (r : Fin 256) (n : Fin 1024), y = ix2 r n := ⟨y 0, y 1, eq_ix2 y⟩
  rw [read_block10, Value.flushed10]
  refine (out10_pieces (iblk m c 0 t) (iblk m c 1 t) (iblk m c 2 t) (iblk m c 3 t) (iblk m c 4 t) (iblk m c 5 t) (iblk m c 6 t) (iblk m c 7 t) (iblk m c 8 t) (ix2 r n)).trans ?_
  rw [stored_block, stored_cosine, stored_sine, stored_key_gain]
  exact projected_head m c (fun d => m ((c : Thread nD τ).loc main_arg5) (ix1 d)) _
    (fun l => block_key_gain m c t l) t _ r _

theorem flushed11_eq (t : Fin cfg0.N) : (dats m 0 c).flushed 11 t = ((cfg0.win 11).blk t).view.read (Elt Ideal) (result11 m c) := by
  funext y
  obtain ⟨r, n, rfl⟩ : ∃ (r : Fin 256) (n : Fin 1024), y = ix2 r n := ⟨y 0, y 1, eq_ix2 y⟩
  rw [read_block11, Value.flushed11]
  refine Eq.trans ?_ ((projected m c t r ⟨n.val + 3072, by omega⟩).trans (congrArg (column _ _ _ _ _) (place_value n)))
  exact out11_apply (iblk m c 0 t) (iblk m c 1 t) (iblk m c 2 t) (iblk m c 3 t) (iblk m c 4 t) (iblk m c 5 t) (iblk m c 6 t) (iblk m c 7 t) (iblk m c 8 t) r n

theorem cover9 (i : S17408x2048.Idx) : ∃ t : Fin cfg0.N, (cfg0.win 9).flush t = true ∧ i ∈ ((cfg0.win 9).blk t).view.set := by
  obtain ⟨r, n, rfl⟩ : ∃ (r : Fin 17408) (n : Fin 2048), i = ix2 r n := ⟨i 0, i 1, eq_ix2 i⟩
  have ht : r.val / 256 < cfg0.N := lt_of_lt_of_eq (by omega) N_0.symm
  refine ⟨⟨_, ht⟩, flush0_9 _, ?_⟩
  show _ ∈ ((View.whole main_v63_0).slice (win0_9.rect ⟨_, ht⟩)).set
  rw [View.set_slice_whole, Rect.mem_set_unit]
  have h := index9 ⟨_, ht⟩
  intro k
  match k with
  | ⟨0, _⟩ =>
    show win0_9.index ⟨_, ht⟩ 0 * 256 ≤ r.val ∧ r.val < win0_9.index ⟨_, ht⟩ 0 * 256 + 256
    rw [h]; dsimp only [Matrix.cons_val_zero]; omega
  | ⟨1, _⟩ =>
    show win0_9.index ⟨_, ht⟩ 1 * 2048 ≤ n.val ∧ n.val < win0_9.index ⟨_, ht⟩ 1 * 2048 + 2048
    rw [h]; dsimp only [Matrix.cons_val_one, Matrix.cons_val_zero]; omega

theorem cover10 (i : S17408x1024.Idx) : ∃ t : Fin cfg0.N, (cfg0.win 10).flush t = true ∧ i ∈ ((cfg0.win 10).blk t).view.set := by
  obtain ⟨r, n, rfl⟩ : ∃ (r : Fin 17408) (n : Fin 1024), i = ix2 r n := ⟨i 0, i 1, eq_ix2 i⟩
  have ht : r.val / 256 < cfg0.N := lt_of_lt_of_eq (by omega) N_0.symm
  refine ⟨⟨_, ht⟩, flush0_10 _, ?_⟩
  show _ ∈ ((View.whole main_v63_1).slice (win0_10.rect ⟨_, ht⟩)).set
  rw [View.set_slice_whole, Rect.mem_set_unit]
  have h := index10 ⟨_, ht⟩
  intro k
  match k with
  | ⟨0, _⟩ =>
    show win0_10.index ⟨_, ht⟩ 0 * 256 ≤ r.val ∧ r.val < win0_10.index ⟨_, ht⟩ 0 * 256 + 256
    rw [h]; dsimp only [Matrix.cons_val_zero]; omega
  | ⟨1, _⟩ =>
    show win0_10.index ⟨_, ht⟩ 1 * 1024 ≤ n.val ∧ n.val < win0_10.index ⟨_, ht⟩ 1 * 1024 + 1024
    rw [h]; dsimp only [Matrix.cons_val_one, Matrix.cons_val_zero]; omega

theorem cover11 (i : S17408x1024.Idx) : ∃ t : Fin cfg0.N, (cfg0.win 11).flush t = true ∧ i ∈ ((cfg0.win 11).blk t).view.set := by
  obtain ⟨r, n, rfl⟩ : ∃ (r : Fin 17408) (n : Fin 1024), i = ix2 r n := ⟨i 0, i 1, eq_ix2 i⟩
  have ht : r.val / 256 < cfg0.N := lt_of_lt_of_eq (by omega) N_0.symm
  refine ⟨⟨_, ht⟩, flush0_11 _, ?_⟩
  show _ ∈ ((View.whole main_v63_2).slice (win0_11.rect ⟨_, ht⟩)).set
  rw [View.set_slice_whole, Rect.mem_set_unit]
  have h := index11 ⟨_, ht⟩
  intro k
  match k with
  | ⟨0, _⟩ =>
    show win0_11.index ⟨_, ht⟩ 0 * 256 ≤ r.val ∧ r.val < win0_11.index ⟨_, ht⟩ 0 * 256 + 256
    rw [h]; dsimp only [Matrix.cons_val_zero]; omega
  | ⟨1, _⟩ =>
    show win0_11.index ⟨_, ht⟩ 1 * 1024 ≤ n.val ∧ n.val < win0_11.index ⟨_, ht⟩ 1 * 1024 + 1024
    rw [h]; dsimp only [Matrix.cons_val_one, Matrix.cons_val_zero]; omega

/-- The queries after the run, -/
theorem final9 : (dats m 0 c).arrAt 9 cfg0.N = result9 m c :=
  (dats m 0 c).arrAt_eq_of_cover 9 (result9 m c) (fun t _ => flushed9_eq m c t) cover9

/-- the keys, -/
theorem final10 : (dats m 0 c).arrAt 10 cfg0.N = result10 m c :=
  (dats m 0 c).arrAt_eq_of_cover 10 (result10 m c) (fun t _ => flushed10_eq m c t) cover10

/-- and the values. -/
theorem final11 : (dats m 0 c).arrAt 11 cfg0.N = result11 m c :=
  (dats m 0 c).arrAt_eq_of_cover 11 (result11 m c) (fun t _ => flushed11_eq m c t) cover11

end Cert.GqaProjIdeal.Projection

end
-- ==== Proof.GqaProjReference.lean ====
/-
  What the reference of the grouped query layers' projection computes: the same three arrays.
-/
module

public import proofs.«01_k».proof.Proof.GqaProjFinal
public import proofs.«01_k».proof.Proof.Gen.GqaProjRefIdeal.Run
public import Idealize.ShloMosaic.Lib.Claim

@[expose] public section

set_option maxRecDepth 16384

noncomputable section

namespace Cert.GqaProjRefIdeal.Projection

open Idealize.SL.Sem Cert.GqaProjRefIdeal Cert.GqaProjRefIdeal.Gen Cert.GqaProjRefIdeal.Value Cert.Proj Cert.Attn Idealize.ShloMosaic Idealize.ShloMosaic.TcCoe

variable (V : Valuation τ sig (Elt Ideal))

/-! ## The arguments -/

abbrev argX : FVec Ideal S17408x1024 .f32 := V (Proc.devRef .tc main_arg0)
abbrev argM : FVec Ideal S48x1x1024 .f32 := V (Proc.devRef .tc main_arg1)
abbrev argG : FVec Ideal S1024 .f32 := V (Proc.devRef .tc main_arg2)
abbrev argW : FVec Ideal S1024x4096 .f32 := V (Proc.devRef .tc main_arg3)
abbrev argQ : FVec Ideal S128 .f32 := V (Proc.devRef .tc main_arg4)
abbrev argK : FVec Ideal S128 .f32 := V (Proc.devRef .tc main_arg5)

/-! ## The projected columns -/

/-- A projected column of a token of a batch. -/
def columnAt (b : Fin 4) (r : Fin 4352) (n : Fin 4096) : EReal :=
  ∑ k : Fin 1024, modulated (argX V) (argM V) (argG V) b r k * argW V (ix2 k n)

theorem columnAt_at (b : Fin 4) (r r' : Fin 4352) (n n' : Fin 4096) (hr : r.val = r'.val) (hn : n.val = n'.val) :
    columnAt V b r n = columnAt V b r' n' := by
  obtain rfl := Fin.ext hr
  obtain rfl := Fin.ext hn
  rfl

theorem context_tokens : res_main_v53 V = contextTokens (argX V) (argM V) (argG V) := rfl
theorem latent_tokens : res_main_v27 V = latentTokens (argX V) (argM V) (argG V) := rfl

/-- The columns of the queries, of context tokens -/
theorem context_query (b : Fin 4) (r : Fin 256) (h : Fin 16) (d : Fin 128) : (res_main_v56 V (ix4 b r h d) : EReal)
    = columnAt V b ⟨r.val, by omega⟩ ⟨128 * h.val + d.val, by omega⟩ := by
  unfold res_main_v56
  rw [context_tokens]
  pointwise
  simp only [contextTokens_apply]
  exact columnAt_at V b _ _ _ _ rfl (by dsimp only; omega)

/-- and of latent tokens. -/
theorem latent_query (b : Fin 4) (r : Fin 4096) (h : Fin 16) (d : Fin 128) : (res_main_v110 V (ix4 b r h d) : EReal)
    = columnAt V b ⟨256 + r.val, by omega⟩ ⟨128 * h.val + d.val, by omega⟩ := by
  unfold res_main_v110
  rw [latent_tokens]
  pointwise
  simp only [latentTokens_apply]
  exact columnAt_at V b _ _ _ _ rfl (by dsimp only; omega)

/-- The columns of keys and values, of context tokens -/
theorem context_key_value (b : Fin 4) (r : Fin 256) (n : Fin 2048) : (res_main_v71 V (ix3 b r n) : EReal)
    = columnAt V b ⟨r.val, by omega⟩ ⟨2048 + n.val, by omega⟩ := by
  unfold res_main_v71
  rw [context_tokens]
  pointwise
  simp only [contextTokens_apply]
  exact columnAt_at V b _ _ _ _ rfl (by dsimp only)

/-- and of latent tokens. -/
theorem latent_key_value (b : Fin 4) (r : Fin 4096) (n : Fin 2048) : (res_main_v125 V (ix3 b r n) : EReal)
    = columnAt V b ⟨256 + r.val, by omega⟩ ⟨2048 + n.val, by omega⟩ := by
  unfold res_main_v125
  rw [latent_tokens]
  pointwise
  simp only [latentTokens_apply]
  exact columnAt_at V b _ _ _ _ rfl (by dsimp only)

theorem context_key (b : Fin 4) (r : Fin 256) (h : Fin 8) (d : Fin 128) : (res_main_v73 V (ix4 b r h d) : EReal)
    = columnAt V b ⟨r.val, by omega⟩ ⟨128 * (16 + h.val) + d.val, by omega⟩ := by
  unfold res_main_v73
  pointwise
  rw [context_key_value]
  exact columnAt_at V b _ _ _ _ rfl (by dsimp only; omega)

theorem latent_key (b : Fin 4) (r : Fin 4096) (h : Fin 8) (d : Fin 128) : (res_main_v127 V (ix4 b r h d) : EReal)
    = columnAt V b ⟨256 + r.val, by omega⟩ ⟨128 * (16 + h.val) + d.val, by omega⟩ := by
  unfold res_main_v127
  pointwise
  rw [latent_key_value]
  exact columnAt_at V b _ _ _ _ rfl (by dsimp only; omega)

/-! ## The normed heads -/

/-- A head of a token, normed and with a gain. -/
def gained (gain : Fin 128 → EReal) (b : Fin 4) (r : Fin 4352) (a : Fin 24) (d : Fin 128) : EReal :=
  normed 0x43000000#32 (fun j => columnAt V b r ⟨128 * a.val + j.val, Cert.GqaProjIdeal.Projection.head_lt a.isLt j.isLt⟩) d * gain d

theorem context_key_gained (b : Fin 4) (r : Fin 256) (h : Fin 8) (d : Fin 128) : (res_main_v86 V (ix4 b r h d) : EReal)
    = gained V (fun d => argK V (ix1 d)) b ⟨r.val, by omega⟩ ⟨16 + h.val, by omega⟩ d := by
  unfold res_main_v86
  pointwise
  simp only [context_key]
  rfl

theorem latent_key_gained (b : Fin 4) (r : Fin 4096) (h : Fin 8) (d : Fin 128) : (res_main_v140 V (ix4 b r h d) : EReal)
    = gained V (fun d => argK V (ix1 d)) b ⟨256 + r.val, by omega⟩ ⟨16 + h.val, by omega⟩ d := by
  unfold res_main_v140
  pointwise
  simp only [latent_key]
  rfl

theorem latent_query_gained (b : Fin 4) (r : Fin 4096) (h : Fin 16) (d : Fin 128) : (res_main_v123 V (ix4 b r h d) : EReal)
    = gained V (fun d => argQ V (ix1 d)) b ⟨256 + r.val, by omega⟩ ⟨h.val, by omega⟩ d := by
  unfold res_main_v123
  pointwise
  simp only [latent_query]
  rfl

theorem norm_bits : Ideal.ofBits .f32 0x43000000#32 = ((128 : ℝ) : EReal) := by
  simp [Ideal.ofBits, Ideal.ieee, ← EReal.coe_mul]
  norm_num

theorem gained_scaled (b : Fin 4) (r : Fin 4352) (a : Fin 24) (d : Fin 128) :
    gained V (fun d => argQ V (ix1 d)) b r a d * (scale 128 : EReal) = gained V (Cert.GqaProjIdeal.Projection.scaled (argQ V)) b r a d :=
  mul_assoc _ _ _

theorem context_query_gained (b : Fin 4) (r : Fin 256) (h : Fin 16) (d : Fin 128) : (res_main_v92 V (ix4 b r h d) : EReal)
    = gained V (Cert.GqaProjIdeal.Projection.scaled (argQ V)) b ⟨r.val, by omega⟩ ⟨h.val, by omega⟩ d := by
  unfold res_main_v92
  pointwise
  simp only [context_query]
  refine Eq.trans ?_ ((div_div_scale 0x43000000#32 128 norm_bits (by norm_num)
    (gained V (fun d => argQ V (ix1 d)) b ⟨r.val, by omega⟩ ⟨h.val, by omega⟩ d)).trans (gained_scaled V b _ _ d))
  rfl

/-! ## The rotation of the latent tokens -/

theorem query_row_angle (r : Fin 4096) (j : Fin 32) : (res_main_v160 V (ix2 r j) : EReal) = angle (r.val / 64) j := by
  unfold res_main_v160
  pointwise
  rfl

theorem query_column_angle (r : Fin 4096) (j : Fin 32) : (res_main_v194 V (ix2 r j) : EReal) = angle (r.val % 64) j := by
  unfold res_main_v194
  pointwise
  rfl

theorem key_row_angle (r : Fin 4096) (j : Fin 32) : (res_main_v236 V (ix2 r j) : EReal) = angle (r.val / 64) j := by
  unfold res_main_v236
  pointwise
  rfl

theorem key_column_angle (r : Fin 4096) (j : Fin 32) : (res_main_v270 V (ix2 r j) : EReal) = angle (r.val % 64) j := by
  unfold res_main_v270
  pointwise
  rfl

/-- Where a lane and the lane of the other half come from. -/
theorem lane_cases : ∀ l : Fin 128,
    (l.val < 32 ∧ (lane l).val = l.val ∧ (lane (other l)).val = l.val + 32 ∧ l.val % 32 = l.val ∧ l.val % 64 < 32)
    ∨ (32 ≤ l.val ∧ l.val < 64 ∧ (lane l).val = l.val + 32 ∧ (lane (other l)).val = l.val + 64 ∧ l.val % 32 = l.val - 32 ∧ ¬ l.val % 64 < 32)
    ∨ (64 ≤ l.val ∧ l.val < 96 ∧ (lane l).val = l.val - 32 ∧ (lane (other l)).val = l.val - 64 ∧ l.val % 32 = l.val - 64 ∧ l.val % 64 < 32)
    ∨ (96 ≤ l.val ∧ (lane l).val = l.val ∧ (lane (other l)).val = l.val - 32 ∧ l.val % 32 = l.val - 96 ∧ ¬ l.val % 64 < 32) := by
  decide +kernel

theorem along_row (r : Fin 4096) (l : Fin 128) (h : l.val % 64 < 32) : r.val / 64 = along (256 + r.val - 256) l := by
  rw [Nat.add_sub_cancel_left]; exact (if_pos h).symm

theorem along_column (r : Fin 4096) (l : Fin 128) (h : ¬ l.val % 64 < 32) : r.val % 64 = along (256 + r.val - 256) l := by
  rw [Nat.add_sub_cancel_left]; exact (if_neg h).symm

/-- The rotation of the reference, by halves and quarters of a head. -/
theorem rotated_eq (u : Fin 128 → EReal) (r : Fin 4096) (d l : Fin 128) (hd : d.val = (lane l).val) :
    (if h1 : d.val < 64 then
      if h2 : d.val < 32 then u d * Ideal.cos (angle (r.val / 64) ⟨d.val, h2⟩) - u ⟨32 + d.val, by omega⟩ * Ideal.sin (angle (r.val / 64) ⟨d.val, h2⟩)
      else u ⟨d.val - 32, by omega⟩ * Ideal.sin (angle (r.val / 64) ⟨d.val - 32, by omega⟩)
        + u ⟨32 + (d.val - 32), by omega⟩ * Ideal.cos (angle (r.val / 64) ⟨d.val - 32, by omega⟩)
    else
      if h2 : d.val - 64 < 32 then u ⟨64 + (d.val - 64), by omega⟩ * Ideal.cos (angle (r.val % 64) ⟨d.val - 64, h2⟩)
        - u ⟨64 + (32 + (d.val - 64)), by omega⟩ * Ideal.sin (angle (r.val % 64) ⟨d.val - 64, h2⟩)
      else u ⟨64 + (d.val - 64 - 32), by omega⟩ * Ideal.sin (angle (r.val % 64) ⟨d.val - 64 - 32, by omega⟩)
        + u ⟨64 + (32 + (d.val - 64 - 32)), by omega⟩ * Ideal.cos (angle (r.val % 64) ⟨d.val - 64 - 32, by omega⟩))
      = turned u ⟨256 + r.val, by omega⟩ l := by
  have key := lane_cases l
  rcases key with ⟨k1, k2, k3, k4, k5⟩ | ⟨k0, k1, k2, k3, k4, k5⟩ | ⟨k0, k1, k2, k3, k4, k5⟩ | ⟨k1, k2, k3, k4, k5⟩
  · rw [dif_pos (show d.val < 64 by omega), dif_pos (show d.val < 32 by omega)]
    exact turned_first u _ l _ _ _ _ (by dsimp only; omega) (by omega) (along_row r l k5) (by dsimp only; omega) (by dsimp only; omega) (by dsimp only; omega)
  · rw [dif_neg (show ¬ d.val < 64 by omega), dif_pos (show d.val - 64 < 32 by omega)]
    exact turned_first u _ l _ _ _ _ (by dsimp only; omega) (by omega) (along_column r l k5) (by dsimp only; omega) (by dsimp only; omega) (by dsimp only; omega)
  · rw [dif_pos (show d.val < 64 by omega), dif_neg (show ¬ d.val < 32 by omega)]
    exact turned_second u _ l _ _ _ _ (by dsimp only; omega) (by omega) (along_row r l k5) (by dsimp only; omega) (by dsimp only; omega) (by dsimp only; omega)
  · rw [dif_neg (show ¬ d.val < 64 by omega), dif_neg (show ¬ d.val - 64 < 32 by omega)]
    exact turned_second u _ l _ _ _ _ (by dsimp only; omega) (by omega) (along_column r l k5) (by dsimp only; omega) (by dsimp only; omega) (by dsimp only; omega)

/-- The rotated keys of latent tokens, -/
theorem latent_key_turned (b : Fin 4) (r : Fin 4096) (h : Fin 8) (d l : Fin 128) (hd : d.val = (lane l).val) : (res_main_v292 V (ix4 b r h d) : EReal)
    = turned (gained V (fun d => argK V (ix1 d)) b ⟨256 + r.val, by omega⟩ ⟨16 + h.val, by omega⟩) ⟨256 + r.val, by omega⟩ l := by
  unfold res_main_v292
  pointwise [res_main_v241, res_main_v242, res_main_v275, res_main_v276, res_main_v224, res_main_v258, res_main_v238, res_main_v240, res_main_v272, res_main_v274]
  simp only [latent_key_gained, key_row_angle, key_column_angle]
  exact rotated_eq _ r d l hd

/-- and their rotated queries. -/
theorem latent_query_turned (b : Fin 4) (r : Fin 4096) (h : Fin 16) (d l : Fin 128) (hd : d.val = (lane l).val) : (res_main_v298 V (ix4 b r h d) : EReal)
    = turned (gained V (Cert.GqaProjIdeal.Projection.scaled (argQ V)) b ⟨256 + r.val, by omega⟩ ⟨h.val, by omega⟩) ⟨256 + r.val, by omega⟩ l := by
  unfold res_main_v298
  pointwise [res_main_v165, res_main_v166, res_main_v199, res_main_v200, res_main_v148, res_main_v182, res_main_v162, res_main_v164, res_main_v196, res_main_v198]
  simp only [latent_query_gained, query_row_angle, query_column_angle]
  rw [rotated_eq (gained V (fun d => argQ V (ix1 d)) b ⟨256 + r.val, by omega⟩ ⟨h.val, by omega⟩) r d l hd]
  refine (div_div_scale 0x43000000#32 128 norm_bits (by norm_num) _).trans ((turned_mul _ _ (scale_nonneg 128) _ l).symm.trans ?_)
  exact congrArg (fun u => turned u _ l) (funext fun d => gained_scaled V b _ _ d)

end Cert.GqaProjRefIdeal.Projection

end
-- ==== Proof.GqaProjResults.lean ====
/-
  The three results of the reference of the grouped query layers' projection are the kernel's.
-/
module

public import proofs.«01_k».proof.Proof.GqaProjReference

@[expose] public section

set_option maxRecDepth 16384

noncomputable section

namespace Cert.GqaProjRefIdeal.Projection

open Idealize.SL.Sem Cert.GqaProjRefIdeal Cert.GqaProjRefIdeal.Gen Cert.GqaProjRefIdeal.Value Cert.Proj Cert.Attn Idealize.ShloMosaic Idealize.ShloMosaic.TcCoe

/-! ## The lanes in their order -/

/-- Heads with their lanes in order: the queries of context tokens, -/
def contextQueries (a : FVec Ideal S4x256x16x128 .f32) : FVec Ideal S4x256x16x128 .f32 :=
  concatenate S4x256x16x128 3
    [⟨S4x256x16x32, extractStridedSlice S4x256x16x32 ![0, 0, 0, 0] a slices_S4x256x16x128_S4x256x16x32_0_0_0_0⟩,
     ⟨S4x256x16x32, extractStridedSlice S4x256x16x32 ![0, 0, 0, 64] a slices_S4x256x16x128_S4x256x16x32_0_0_0_64⟩,
     ⟨S4x256x16x32, extractStridedSlice S4x256x16x32 ![0, 0, 0, 32] a slices_S4x256x16x128_S4x256x16x32_0_0_0_32⟩,
     ⟨S4x256x16x32, extractStridedSlice S4x256x16x32 ![0, 0, 0, 96] a slices_S4x256x16x128_S4x256x16x32_0_0_0_96⟩]
    concatenates_S4x256x16x32_S4x256x16x32_S4x256x16x32_S4x256x16x32_S4x256x16x128_d3

/-- of latent tokens, -/
def latentQueries (a : FVec Ideal S4x4096x16x128 .f32) : FVec Ideal S4x4096x16x128 .f32 :=
  concatenate S4x4096x16x128 3
    [⟨S4x4096x16x32, extractStridedSlice S4x4096x16x32 ![0, 0, 0, 0] a slices_S4x4096x16x128_S4x4096x16x32_0_0_0_0⟩,
     ⟨S4x4096x16x32, extractStridedSlice S4x4096x16x32 ![0, 0, 0, 64] a slices_S4x4096x16x128_S4x4096x16x32_0_0_0_64⟩,
     ⟨S4x4096x16x32, extractStridedSlice S4x4096x16x32 ![0, 0, 0, 32] a slices_S4x4096x16x128_S4x4096x16x32_0_0_0_32⟩,
     ⟨S4x4096x16x32, extractStridedSlice S4x4096x16x32 ![0, 0, 0, 96] a slices_S4x4096x16x128_S4x4096x16x32_0_0_0_96⟩]
    concatenates_S4x4096x16x32_S4x4096x16x32_S4x4096x16x32_S4x4096x16x32_S4x4096x16x128_d3

/-- the keys of context tokens, -/
def contextKeys (a : FVec Ideal S4x256x8x128 .f32) : FVec Ideal S4x256x8x128 .f32 :=
  concatenate S4x256x8x128 3
    [⟨S4x256x8x32, extractStridedSlice S4x256x8x32 ![0, 0, 0, 0] a slices_S4x256x8x128_S4x256x8x32_0_0_0_0⟩,
     ⟨S4x256x8x32, extractStridedSlice S4x256x8x32 ![0, 0, 0, 64] a slices_S4x256x8x128_S4x256x8x32_0_0_0_64⟩,
     ⟨S4x256x8x32, extractStridedSlice S4x256x8x32 ![0, 0, 0, 32] a slices_S4x256x8x128_S4x256x8x32_0_0_0_32⟩,
     ⟨S4x256x8x32, extractStridedSlice S4x256x8x32 ![0, 0, 0, 96] a slices_S4x256x8x128_S4x256x8x32_0_0_0_96⟩]
    concatenates_S4x256x8x32_S4x256x8x32_S4x256x8x32_S4x256x8x32_S4x256x8x128_d3

/-- and of latent tokens. -/
def latentKeys (a : FVec Ideal S4x4096x8x128 .f32) : FVec Ideal S4x4096x8x128 .f32 :=
  concatenate S4x4096x8x128 3
    [⟨S4x4096x8x32, extractStridedSlice S4x4096x8x32 ![0, 0, 0, 0] a slices_S4x4096x8x128_S4x4096x8x32_0_0_0_0⟩,
     ⟨S4x4096x8x32, extractStridedSlice S4x4096x8x32 ![0, 0, 0, 64] a slices_S4x4096x8x128_S4x4096x8x32_0_0_0_64⟩,
     ⟨S4x4096x8x32, extractStridedSlice S4x4096x8x32 ![0, 0, 0, 32] a slices_S4x4096x8x128_S4x4096x8x32_0_0_0_32⟩,
     ⟨S4x4096x8x32, extractStridedSlice S4x4096x8x32 ![0, 0, 0, 96] a slices_S4x4096x8x128_S4x4096x8x32_0_0_0_96⟩]
    concatenates_S4x4096x8x32_S4x4096x8x32_S4x4096x8x32_S4x4096x8x32_S4x4096x8x128_d3

theorem in_order (u : Fin 128 → EReal) (l : Fin 128) :
    (if h1 : l.val < 32 then u ⟨l.val, l.isLt⟩
    else if h2 : l.val - 32 < 32 then u ⟨64 + (l.val - 32), by omega⟩
    else if h3 : l.val - 32 - 32 < 32 then u ⟨32 + (l.val - 32 - 32), by omega⟩
    else u ⟨96 + (l.val - 32 - 32 - 32), by omega⟩) = u (lane l) := by
  have key := lane_cases l
  split
  · exact congrArg u (Fin.ext (by dsimp only; omega))
  · split
    · exact congrArg u (Fin.ext (by dsimp only; omega))
    · split
      · exact congrArg u (Fin.ext (by dsimp only; omega))
      · exact congrArg u (Fin.ext (by dsimp only; omega))

theorem contextQueries_apply (a : FVec Ideal S4x256x16x128 .f32) (b : Fin 4) (r : Fin 256) (h : Fin 16) (l : Fin 128) :
    contextQueries a (ix4 b r h l) = a (ix4 b r h (lane l)) := by
  pointwise [contextQueries]
  exact in_order (fun d => a (ix4 b r h d)) l

theorem latentQueries_apply (a : FVec Ideal S4x4096x16x128 .f32) (b : Fin 4) (r : Fin 4096) (h : Fin 16) (l : Fin 128) :
    latentQueries a (ix4 b r h l) = a (ix4 b r h (lane l)) := by
  pointwise [latentQueries]
  exact in_order (fun d => a (ix4 b r h d)) l

theorem contextKeys_apply (a : FVec Ideal S4x256x8x128 .f32) (b : Fin 4) (r : Fin 256) (h : Fin 8) (l : Fin 128) :
    contextKeys a (ix4 b r h l) = a (ix4 b r h (lane l)) := by
  pointwise [contextKeys]
  exact in_order (fun d => a (ix4 b r h d)) l

theorem latentKeys_apply (a : FVec Ideal S4x4096x8x128 .f32) (b : Fin 4) (r : Fin 4096) (h : Fin 8) (l : Fin 128) :
    latentKeys a (ix4 b r h l) = a (ix4 b r h (lane l)) := by
  pointwise [latentKeys]
  exact in_order (fun d => a (ix4 b r h d)) l

/-! ## The results -/

/-- The queries from their heads. -/
def queriesOf (a : FVec Ideal S4x256x16x128 .f32) (e : FVec Ideal S4x4096x16x128 .f32) : FVec Ideal S17408x2048 .bf16 :=
  truncf .bf16 (shapeCast _ (concatenate S4x4352x2048 1
    [⟨S4x256x2048, shapeCast S4x256x2048 (contextQueries a) shapeCasts_S4x256x16x128_S4x256x2048⟩,
     ⟨S4x4096x2048, shapeCast S4x4096x2048 (latentQueries e) shapeCasts_S4x4096x16x128_S4x4096x2048⟩]
    concatenates_S4x256x2048_S4x4096x2048_S4x4352x2048_d1) shapeCasts_S4x4352x2048_S17408x2048) bitsLt_bf16_f32

/-- The keys from their heads. -/
def keysOf (a : FVec Ideal S4x256x8x128 .f32) (e : FVec Ideal S4x4096x8x128 .f32) : FVec Ideal S17408x1024 .bf16 :=
  truncf .bf16 (shapeCast _ (concatenate S4x4352x1024 1
    [⟨S4x256x1024, shapeCast S4x256x1024 (contextKeys a) shapeCasts_S4x256x8x128_S4x256x1024⟩,
     ⟨S4x4096x1024, shapeCast S4x4096x1024 (latentKeys e) shapeCasts_S4x4096x8x128_S4x4096x1024⟩]
    concatenates_S4x256x1024_S4x4096x1024_S4x4352x1024_d1) shapeCasts_S4x4352x1024_S17408x1024) bitsLt_bf16_f32

/-- The values from the columns of keys and values. -/
def valuesOf (a : FVec Ideal S4x256x2048 .f32) (e : FVec Ideal S4x4096x2048 .f32) : FVec Ideal S17408x1024 .bf16 :=
  truncf .bf16 (shapeCast _ (concatenate S4x4352x1024 1
    [⟨S4x256x1024, extractStridedSlice S4x256x1024 ![0, 0, 1024] a slices_S4x256x2048_S4x256x1024_0_0_1024⟩,
     ⟨S4x4096x1024, extractStridedSlice S4x4096x1024 ![0, 0, 1024] e slices_S4x4096x2048_S4x4096x1024_0_0_1024⟩]
    concatenates_S4x256x1024_S4x4096x1024_S4x4352x1024_d1) shapeCasts_S4x4352x1024_S17408x1024) bitsLt_bf16_f32

variable (V : Valuation τ sig (Elt Ideal))

/-- A head of a context token, -/
theorem context_head (gain : Fin 128 → EReal) (t : Fin 17408) (b : Fin 4) (r : Fin 4352) (a a' : Fin 24) (l l' : Fin 128) (hb : b.val = t.val / 4352)
    (hr : r.val = t.val % 4352) (h : t.val % 4352 < 256) (ha : a.val = a'.val) (hl : l.val = l'.val) : gained V gain b r a (lane l)
      = Cert.GqaProjIdeal.Projection.turnedHead (argX V) (argM V) (argG V) (argW V) gain t a' l' := by
  obtain rfl : b = batchOf t := Fin.ext hb
  obtain rfl : r = tokenOf t := Fin.ext hr
  obtain rfl := Fin.ext ha
  obtain rfl := Fin.ext hl
  exact (turned_context (gained V gain (batchOf t) (tokenOf t) a) (tokenOf t) l h).symm

/-- and of a latent token. -/
theorem latent_head (gain : Fin 128 → EReal) (t : Fin 17408) (b : Fin 4) (r : Fin 4352) (a a' : Fin 24) (l l' : Fin 128) (hb : b.val = t.val / 4352)
    (hr : r.val = t.val % 4352) (ha : a.val = a'.val) (hl : l.val = l'.val) : turned (gained V gain b r a) r l
      = Cert.GqaProjIdeal.Projection.turnedHead (argX V) (argM V) (argG V) (argW V) gain t a' l' := by
  obtain rfl : b = batchOf t := Fin.ext hb
  obtain rfl : r = tokenOf t := Fin.ext hr
  obtain rfl := Fin.ext ha
  obtain rfl := Fin.ext hl
  rfl

theorem column_eq (t : Fin 17408) (b : Fin 4) (r : Fin 4352) (n n' : Fin 4096) (hb : b.val = t.val / 4352) (hr : r.val = t.val % 4352)
    (hn : n.val = n'.val) : columnAt V b r n = Cert.GqaProjIdeal.Projection.column (argX V) (argM V) (argG V) (argW V) t n' := by
  obtain rfl : n = n' := Fin.ext hn
  obtain rfl : b = batchOf t := Fin.ext hb
  obtain rfl : r = tokenOf t := Fin.ext hr
  rfl

theorem queriesOf_eq : queriesOf (res_main_v92 V) (res_main_v298 V)
    = Cert.GqaProjIdeal.Projection.queries (argX V) (argM V) (argG V) (argW V) (argQ V) := by
  funext i
  idx_vars i
  pointwise [queriesOf]
  split
  · rename_i h
    rw [contextQueries_apply]
    refine (context_query_gained V _ _ _ _).trans (context_head V _ i0 _ _ _ _ _ _ rfl rfl h ?_ ?_)
    · rfl
    · rfl
  · rw [latentQueries_apply]
    refine (latent_query_turned V _ _ _ _ _ rfl).trans (latent_head V _ i0 _ _ _ _ _ _ rfl ?_ ?_ ?_)
    · dsimp only; omega
    · rfl
    · rfl

theorem keysOf_eq : keysOf (res_main_v86 V) (res_main_v292 V)
    = Cert.GqaProjIdeal.Projection.keys (argX V) (argM V) (argG V) (argW V) (argK V) := by
  funext i
  idx_vars i
  pointwise [keysOf]
  split
  · rename_i h
    rw [contextKeys_apply]
    refine (context_key_gained V _ _ _ _).trans (context_head V _ i0 _ _ _ _ _ _ rfl rfl h ?_ ?_)
    · rfl
    · rfl
  · rw [latentKeys_apply]
    refine (latent_key_turned V _ _ _ _ _ rfl).trans (latent_head V _ i0 _ _ _ _ _ _ rfl ?_ ?_ ?_)
    · dsimp only; omega
    · rfl
    · rfl

theorem valuesOf_eq : valuesOf (res_main_v71 V) (res_main_v125 V)
    = Cert.GqaProjIdeal.Projection.values (argX V) (argM V) (argG V) (argW V) := by
  funext i
  idx_vars i
  pointwise [valuesOf]
  split
  · refine (context_key_value V _ _ _).trans (column_eq V i0 _ _ _ _ rfl rfl ?_)
    show 2048 + (1024 + i1.val) = i1.val + 3072
    omega
  · refine (latent_key_value V _ _ _).trans (column_eq V i0 _ _ _ _ rfl ?_ ?_)
    · dsimp only; omega
    · show 2048 + (1024 + i1.val) = i1.val + 3072
      omega

end Cert.GqaProjRefIdeal.Projection

end
-- ==== Proof.GqaProjClaim.lean ====
/-
  The claims about the grouped query layers' projection: the reference's frame, the scale that stands for its rounded
  value, and kernel and reference equal.
-/
module

public import proofs.«01_k».proof.Defs
public import proofs.«01_k».proof.Proof.GqaProjFinal
public import proofs.«01_k».proof.Proof.GqaProjResults
public import Idealize.ShloMosaic.Adequacy

@[expose] public section

set_option maxRecDepth 16384

noncomputable section

namespace Cert.GqaProjIdeal.Projection

open Idealize.ShloMosaic Idealize.ShloMosaic.TcCoe Idealize.SL.Sem Idealize.ShloMosaic.StableHlo Cert.GqaProjIdeal Cert.GqaProjIdeal.Gen

/-- The reference terminates, keeps its arguments, and leaves every counter at zero. -/
theorem reference_frame : quiescent_GqaProjRefIdeal := fun m ρ _ =>
  (θ_run Cert.GqaProjRefIdeal.defs _ _).mono (fun r h => ⟨fun c => (h c).2.2.2, sem_eq_zero_of_no_sems (by decide) r.2⟩)
    (Cert.GqaProjRefIdeal.Value.run (F := Ideal) m ρ)

section Results

variable (m : (ℓ : Loc nD τ sig) → Buf (Elt Ideal) ℓ)
  (m' : (ℓ : Loc Cert.GqaProjRefIdeal.nD Cert.GqaProjRefIdeal.τ Cert.GqaProjRefIdeal.sig) → Buf (Elt Ideal) ℓ) (c : Dev nD)
  (h0 : m' (c.tc.loc Cert.GqaProjRefIdeal.main_arg0) = m (c.tc.loc main_arg0))
  (h1 : m' (c.tc.loc Cert.GqaProjRefIdeal.main_arg1) = m (c.tc.loc main_arg1))
  (h2 : m' (c.tc.loc Cert.GqaProjRefIdeal.main_arg2) = m (c.tc.loc main_arg2))
  (h3 : m' (c.tc.loc Cert.GqaProjRefIdeal.main_arg3) = m (c.tc.loc main_arg3))
  (h4 : m' (c.tc.loc Cert.GqaProjRefIdeal.main_arg4) = m (c.tc.loc main_arg4))
  (h5 : m' (c.tc.loc Cert.GqaProjRefIdeal.main_arg5) = m (c.tc.loc main_arg5))

include h0 h1 h2 h3

/-- From equal arguments the reference's values are the kernel's, -/
theorem reference_result11 : Cert.GqaProjRefIdeal.Projection.valuesOf (Cert.GqaProjRefIdeal.Value.res_main_v71 (launchContents m' c))
    (Cert.GqaProjRefIdeal.Value.res_main_v125 (launchContents m' c)) = result11 m c := by
  refine (Cert.GqaProjRefIdeal.Projection.valuesOf_eq (launchContents m' c)).trans ?_
  show values (m' (c.tc.loc Cert.GqaProjRefIdeal.main_arg0)) (m' (c.tc.loc Cert.GqaProjRefIdeal.main_arg1))
    (m' (c.tc.loc Cert.GqaProjRefIdeal.main_arg2)) (m' (c.tc.loc Cert.GqaProjRefIdeal.main_arg3)) = _
  rw [h0, h1, h2, h3]

include h4 in
/-- its queries are, -/
theorem reference_result9 : Cert.GqaProjRefIdeal.Projection.queriesOf (Cert.GqaProjRefIdeal.Value.res_main_v92 (launchContents m' c))
    (Cert.GqaProjRefIdeal.Value.res_main_v298 (launchContents m' c)) = result9 m c := by
  refine (Cert.GqaProjRefIdeal.Projection.queriesOf_eq (launchContents m' c)).trans ?_
  show queries (m' (c.tc.loc Cert.GqaProjRefIdeal.main_arg0)) (m' (c.tc.loc Cert.GqaProjRefIdeal.main_arg1))
    (m' (c.tc.loc Cert.GqaProjRefIdeal.main_arg2)) (m' (c.tc.loc Cert.GqaProjRefIdeal.main_arg3)) (m' (c.tc.loc Cert.GqaProjRefIdeal.main_arg4)) = _
  rw [h0, h1, h2, h3, h4]

include h5 in
/-- and its keys are. -/
theorem reference_result10 : Cert.GqaProjRefIdeal.Projection.keysOf (Cert.GqaProjRefIdeal.Value.res_main_v86 (launchContents m' c))
    (Cert.GqaProjRefIdeal.Value.res_main_v292 (launchContents m' c)) = result10 m c := by
  refine (Cert.GqaProjRefIdeal.Projection.keysOf_eq (launchContents m' c)).trans ?_
  show keys (m' (c.tc.loc Cert.GqaProjRefIdeal.main_arg0)) (m' (c.tc.loc Cert.GqaProjRefIdeal.main_arg1))
    (m' (c.tc.loc Cert.GqaProjRefIdeal.main_arg2)) (m' (c.tc.loc Cert.GqaProjRefIdeal.main_arg3)) (m' (c.tc.loc Cert.GqaProjRefIdeal.main_arg5)) = _
  rw [h0, h1, h2, h3, h5]

end Results

/-- Kernel and reference compute the same three arrays from any arguments. -/
theorem kernel_eq_reference : algebraic_GqaProjIdeal_GqaProjRefIdeal :=
  fun m ρ m' ρ' _ hag =>
  ⟨fun c => result9 m c, fun c => result10 m c, fun c => result11 m c,
    (θ_run _ _ _).mono (fun _ h c => ⟨(h c).1.trans (final9 m c), (h c).2.1.trans (final10 m c), (h c).2.2.1.trans (final11 m c), (h c).2.2.2⟩)
      (Value.run_blocks m ρ),
    (θ_run _ _ _).mono (fun _ h c =>
        ⟨(h c).1.trans (reference_result9 m m' c (hag c).1 (hag c).2.1 (hag c).2.2.1 (hag c).2.2.2.1 (hag c).2.2.2.2.1),
        (h c).2.1.trans (reference_result10 m m' c (hag c).1 (hag c).2.1 (hag c).2.2.1 (hag c).2.2.2.1 (hag c).2.2.2.2.2),
        (h c).2.2.1.trans (reference_result11 m m' c (hag c).1 (hag c).2.1 (hag c).2.2.1 (hag c).2.2.2.1), (h c).2.2.2⟩)
      (Cert.GqaProjRefIdeal.Value.run (F := Ideal) m' ρ')⟩

end Cert.GqaProjIdeal.Projection

end
-- ==== Proof.RopeNarrow.lean ====
/-
  The rotation of a head of 64 numbers kept in 128 lanes: the four quarters take the first half of each 64 lanes, the
  other lanes hold zeros.
-/
module

public import proofs.«01_k».proof.Proof.Rope

@[expose] public section

set_option maxRecDepth 16384

noncomputable section

namespace Cert.Proj.Narrow

open Idealize.ShloMosaic Idealize.ShloMosaic.TcCoe Cert.Attn Cert.Proj

/-- The place in a head of the number kept in a lane that holds one. -/
abbrev spot (l : Fin 128) : Fin 64 := ⟨l.val % 16 + 32 * (l.val % 32 / 16) + 16 * (l.val / 64), by omega⟩

/-- A head in its lanes. -/
def padded (u : Fin 64 → EReal) (l : Fin 128) : EReal := if l.val % 64 < 32 then u (spot l) else 0

/-- The frequency with number `j`. -/
def frequency (j : Fin 16) : EReal :=
  Ideal.pow (Ideal.ofBits .f32 0x461C4000#32)
    (Ideal.div (-(FloatOps.sitofp (F := Ideal) .f32 (BitVec.ofNat 32 j.val) : EReal)) (Ideal.ofBits .f32 0x41800000#32))

/-- The angle of a number in a row or column of the grid. -/
def angle (p : ℕ) (j : Fin 16) : EReal := (FloatOps.sitofp (F := Ideal) .f32 (BitVec.ofNat 32 p) : EReal) * frequency j

/-- The place of a latent token along the axis of a lane. -/
abbrev along (r : ℕ) (l : Fin 128) : ℕ := if l.val % 64 < 16 then r / 64 else r % 64

abbrev turn (l : Fin 128) : Fin 16 := ⟨l.val % 16, by omega⟩

/-- The factor a token puts on a lane's number, -/
def cosine (r : Fin 4352) (l : Fin 128) : EReal :=
  if l.val % 64 < 32 then if r.val < 256 then 1 else Ideal.cos (angle (along (r.val - 256) l) (turn l)) else 0

/-- and on the number of the other half. -/
def sine (r : Fin 4352) (l : Fin 128) : EReal :=
  if l.val % 64 < 32 then if r.val < 256 then 0 else if l.val < 64 then -Ideal.sin (angle (along (r.val - 256) l) (turn l))
  else Ideal.sin (angle (along (r.val - 256) l) (turn l)) else 0

/-- The rotated head in its lanes, from the head `u` in its natural order. -/
def turned (u : Fin 64 → EReal) (r : Fin 4352) (l : Fin 128) : EReal := padded u l * cosine r l + padded u (other l) * sine r l

theorem turned_gap (u : Fin 64 → EReal) (r : Fin 4352) (l : Fin 128) (h : ¬ l.val % 64 < 32) : turned u r l = 0 := by
  unfold turned cosine sine
  rw [if_neg h, if_neg h, mul_zero, mul_zero, add_zero]

/-- A context token's head is not rotated. -/
theorem turned_context (u : Fin 64 → EReal) (r : Fin 4352) (l : Fin 128) (h : r.val < 256) : turned u r l = padded u l := by
  by_cases hl : l.val % 64 < 32
  · unfold turned cosine sine
    rw [if_pos hl, if_pos hl, if_pos h, if_pos h, mul_one, mul_zero, add_zero]
  · rw [turned_gap u r l hl]
    exact (if_neg hl).symm

/-- The first halves of a latent token's head, -/
theorem turned_first (u : Fin 64 → EReal) (r : Fin 4352) (l : Fin 128) (p : ℕ) (a b : Fin 64) (j : Fin 16) (h : 256 ≤ r.val) (hl : l.val < 32)
    (hp : p = along (r.val - 256) l) (ha : a.val = (spot l).val) (hb : b.val = (spot (other l)).val) (hj : j.val = l.val % 16) :
    u a * Ideal.cos (angle p j) - u b * Ideal.sin (angle p j) = turned u r l := by
  obtain rfl : a = spot l := Fin.ext ha
  obtain rfl : b = spot (other l) := Fin.ext hb
  obtain rfl : j = turn l := Fin.ext hj
  subst hp
  have h1 : (other l).val % 64 < 32 := by show (l.val + 64) % 128 % 64 < 32; omega
  unfold turned cosine sine padded
  have h2 : l.val % 64 < 32 := by omega
  have h3 : ¬ r.val < 256 := by omega
  have h4 : l.val < 64 := by omega
  simp only [if_pos h1, if_pos h2, if_neg h3, if_pos h4]
  rw [sub_eq_add_neg, mul_neg]

/-- and the second. -/
theorem turned_second (u : Fin 64 → EReal) (r : Fin 4352) (l : Fin 128) (p : ℕ) (a b : Fin 64) (j : Fin 16) (h : 256 ≤ r.val)
    (hl : 64 ≤ l.val) (hl' : l.val < 96) (hp : p = along (r.val - 256) l) (ha : a.val = (spot l).val) (hb : b.val = (spot (other l)).val)
    (hj : j.val = l.val % 16) : u b * Ideal.sin (angle p j) + u a * Ideal.cos (angle p j) = turned u r l := by
  obtain rfl : a = spot l := Fin.ext ha
  obtain rfl : b = spot (other l) := Fin.ext hb
  obtain rfl : j = turn l := Fin.ext hj
  subst hp
  have h1 : (other l).val % 64 < 32 := by show (l.val + 64) % 128 % 64 < 32; omega
  unfold turned cosine sine padded
  have h2 : l.val % 64 < 32 := by omega
  have h3 : ¬ r.val < 256 := by omega
  have h4 : ¬ l.val < 64 := by omega
  simp only [if_pos h1, if_pos h2, if_neg h3, if_neg h4]
  rw [add_comm]

/-- A column of a first product, of a row of the array of all tokens. -/
def column {n : ℕ} (x : FVec Ideal ⟨2, ![17408, 1024]⟩ .f32) (m3 : FVec Ideal ⟨3, ![48, 1, 1024]⟩ .f32) (g : FVec Ideal ⟨1, ![1024]⟩ .f32)
    (w : FVec Ideal ⟨2, ![1024, n]⟩ .f32) (b : Fin 4) (r : Fin 4352) (j : Fin n) : EReal :=
  ∑ k : Fin 1024, modulated x m3 g b r k * w (ix2 k j)

/-- A column of a second product, from the row `z` of the first, normed and with a gain. -/
def second {k : ℕ} (N : BitVec 32) (z gain w : Fin k → EReal) : EReal := ∑ j : Fin k, normed N z j * gain j * w j

end Cert.Proj.Narrow

end
-- ==== Proof.MlaProjTables.lean ====
/-
  The tables of the rotation that the projection of the latent attention's layers prepares for its grid.
-/
module

public import proofs.«01_k».proof.Proof.RopeNarrow
public import proofs.«01_k».proof.Proof.GqaProjTables
public import proofs.«01_k».proof.Proof.Gen.MlaProjIdeal.Value
public import Idealize.ShloMosaic.Lib.Claim
public import Idealize.ShloMosaic.Lib.StableHlo.RunRead

@[expose] public section

set_option maxRecDepth 16384

noncomputable section

namespace Cert.MlaProjIdeal.Projection

open Cert.MlaProjIdeal Cert.MlaProjIdeal.Gen Cert.Proj.Narrow Cert.Attn Idealize.ShloMosaic Idealize.ShloMosaic.TcCoe Idealize.SL.Sem
open Cert.GqaProjIdeal.Projection (rowNumber columnNumber rowNumber_eq columnNumber_eq times wholeRow wholeRow_apply stacked stacked_apply
  contextRows contextRows_apply noAngle zero_bits cos_zero not_zero)

section Stages

variable (σ : Valuation τ sig (Elt Ideal))

theorem frequency_after (j : Fin 16) : StableHlo.after hostOps0_4 σ main_v35 (ix1 j) = frequency j := by
  entry_read
  pointwise
  rfl

theorem places_after (r : Fin 4096) : StableHlo.after hostOps0_4 σ main_v36 (ix1 r) = BitVec.ofNat 32 r.val := by
  entry_read
  pointwise

theorem side_after : StableHlo.after hostOps0_4 σ main_c_2 ix0 = 64#32 := by
  entry_read
  pointwise

theorem rows_after (r : Fin 4096) :
    StableHlo.after hostOps0_5 σ main_v37 (ix1 r) = rowNumber (σ main_v36 (ix1 r)) (σ main_c_2 ix0) := by
  entry_read
  simp only [StableHlo.TRef.ofBuf_toBuf]
  simp only [StableHlo.TRef.ofBuf, StableHlo.TRef.toBuf, cast_eq]
  pointwise
  rfl

theorem columns_after (r : Fin 4096) :
    StableHlo.after hostOps0_7 σ main_v44 (ix1 r) = columnNumber (σ main_v36 (ix1 r)) (σ main_c_3 ix0) := by
  entry_read
  simp only [StableHlo.TRef.ofBuf_toBuf]
  simp only [StableHlo.TRef.ofBuf, StableHlo.TRef.toBuf, cast_eq]
  pointwise
  rfl

theorem rowAngle_after (r : Fin 4096) (j : Fin 16) :
    StableHlo.after hostOps0_6 σ main_v43 (ix2 r j) = times (σ main_v37 (ix1 r)) (σ main_v35 (ix1 j)) := by
  entry_read
  pointwise
  rfl

theorem side_after' : StableHlo.after hostOps0_6 σ main_c_3 ix0 = 64#32 := by
  entry_read
  pointwise

/-- The angles of the columns, -/
def columnAngles (p : IVec S4096 32) (f : FVec Ideal S16 .f32) : FVec Ideal S4096x16 .f32 :=
  mulf (broadcastInDim S4096x16 ![0, 1] bcast_S4096x1_S4096x16_0_1 (broadcastInDim S4096x1 ![0] bcast_S4096_S4096x1_0 (sitofp .f32 p)))
    (broadcastInDim S4096x16 ![0, 1] bcast_S1x16_S4096x16_0_1 (broadcastInDim S1x16 ![1] bcast_S16_S1x16_1 f))

theorem columnAngles_apply (p : IVec S4096 32) (f : FVec Ideal S16 .f32) (r : Fin 4096) (j : Fin 16) :
    columnAngles p f (ix2 r j) = times (p (ix1 r)) (f (ix1 j)) := by
  pointwise [columnAngles]
  rfl

abbrev gapLanes : FVec Ideal S4096x32 .f32 := broadcastInDim S4096x32 ![] bcast_S_S4096x32 (constant S_ .f32 0x00000000#32)

/-- and half a row of a table. -/
def halfRow (a b : FVec Ideal S4096x16 .f32) : FVec Ideal S4096x64 .f32 :=
  concatenate S4096x64 1 [⟨S4096x16, a⟩, ⟨S4096x16, b⟩, ⟨S4096x32, gapLanes⟩] concatenates_S4096x16_S4096x16_S4096x32_S4096x64_d1

theorem halfRow_apply (a b : FVec Ideal S4096x16 .f32) (r : Fin 4096) (l : Fin 64) :
    halfRow a b (ix2 r l) = if h : l.val < 16 then a (ix2 r ⟨l.val, h⟩)
      else if h' : l.val < 32 then b (ix2 r ⟨l.val - 16, by omega⟩) else 0 := by
  pointwise [halfRow]
  by_cases h : l.val < 16
  · rw [dif_pos h, dif_pos h]
  · rw [dif_neg h, dif_neg h]
    by_cases h' : l.val < 32
    · rw [dif_pos (by omega), dif_pos h']
    · rw [dif_neg (by omega), dif_neg h']

section
variable (p : FVec Ideal S4096x16 .f32) (q : IVec S4096 32) (f : FVec Ideal S16 .f32)

theorem cosHalf_after (hp : σ main_v43 = p) (hq : σ main_v44 = q) (hf : σ main_v35 = f) :
    StableHlo.upto hostOps0_8 σ 14 main_v54 = halfRow (Host.cos p) (Host.cos (columnAngles q f)) := by
  have h0 : StableHlo.upto hostOps0_8 σ 10 main_v52 = Host.cos p := by
    open StableHlo in after_reads_simp
    rw [hp]
  have h1 : StableHlo.upto hostOps0_8 σ 10 main_v53 = Host.cos (columnAngles q f) := by
    open StableHlo in after_reads_simp
    rw [hq, hf]
    rfl
  have h2 : StableHlo.upto hostOps0_8 σ 10 main_v51 = gapLanes := by
    open StableHlo in after_reads_simp
  unfold halfRow
  rw [← h0, ← h1, ← h2]
  open StableHlo in after_reads_simp
  rfl

theorem sinHalf_after (hp : σ main_v43 = p) (hq : σ main_v44 = q) (hf : σ main_v35 = f) :
    StableHlo.upto hostOps0_8 σ 14 main_v57 = halfRow (Host.sin p) (Host.sin (columnAngles q f)) := by
  have h0 : StableHlo.upto hostOps0_8 σ 13 main_v55 = Host.sin p := by
    open StableHlo in after_reads_simp
    rw [hp]
  have h1 : StableHlo.upto hostOps0_8 σ 13 main_v56 = Host.sin (columnAngles q f) := by
    open StableHlo in after_reads_simp
    rw [hq, hf]
    rfl
  have h2 : StableHlo.upto hostOps0_8 σ 13 main_v51 = gapLanes := by
    open StableHlo in after_reads_simp
  unfold halfRow
  rw [← h0, ← h1, ← h2]
  open StableHlo in after_reads_simp
  rfl

end

theorem cosines_after (C : FVec Ideal S4096x64 .f32) (hC : StableHlo.upto hostOps0_8 σ 14 main_v54 = C) (r : Fin 4352) (l : Fin 128) (z : EReal)
    (h : stacked (contextRows (wholeRow C C)) (wholeRow C C) (ix2 r l) = z) : StableHlo.after hostOps0_8 σ main_v67 (ix2 r l) = z := by
  subst hC
  open StableHlo in after_reads_simp
  exact h

theorem minus_after (S : FVec Ideal S4096x64 .f32) (hS : StableHlo.upto hostOps0_8 σ 14 main_v57 = S) :
    StableHlo.upto hostOps0_8 σ 16 main_v59 = (Host.negf S : FVec Ideal S4096x64 .f32) := by
  subst hS
  open StableHlo in after_reads_simp

theorem plus_after (S : FVec Ideal S4096x64 .f32) (hS : StableHlo.upto hostOps0_8 σ 14 main_v57 = S) :
    StableHlo.upto hostOps0_8 σ 16 main_v57 = S := by
  subst hS
  open StableHlo in after_reads_simp

theorem stacked_after (X : FVec Ideal S4352x128 .f32)
    (h : stacked (StableHlo.upto hostOps0_8 σ 26 main_v66) (StableHlo.upto hostOps0_8 σ 26 main_v60) = X) :
    StableHlo.after hostOps0_8 σ main_v68 = X := by
  open StableHlo in after_reads_simp
  exact h

theorem whole_after (X : FVec Ideal S4096x128 .f32)
    (h : wholeRow (StableHlo.upto hostOps0_8 σ 16 main_v59) (StableHlo.upto hostOps0_8 σ 16 main_v57) = X) :
    StableHlo.upto hostOps0_8 σ 26 main_v60 = X := by
  open StableHlo in after_reads_simp
  exact h

theorem noAngle_after : StableHlo.upto hostOps0_8 σ 26 main_v66 = noAngle := by
  open StableHlo in after_reads_simp

theorem sines_after (S : FVec Ideal S4096x64 .f32) (hS : StableHlo.upto hostOps0_8 σ 14 main_v57 = S) :
    StableHlo.after hostOps0_8 σ main_v68 = stacked noAngle (wholeRow (Host.negf S) S) := by
  refine stacked_after σ _ (congrArg₂ stacked (noAngle_after σ) (whole_after σ _ ?_))
  rw [minus_after σ S hS, plus_after σ S hS]

theorem keep_rows : StableHlo.after hostOps0_7 σ main_v43 = σ main_v43 := by open StableHlo in after_reads_simp

theorem keep_frequency : StableHlo.after hostOps0_5 σ main_v35 = σ main_v35 := by open StableHlo in after_reads_simp

end Stages

/-! ## The tables -/

variable (m : (ℓ : Loc nD τ sig) → Buf (Elt Ideal) ℓ) (c : Dev nD)

theorem angle_zero (j : Fin 16) : angle 0 j = 0 := by
  have h : (FloatOps.sitofp (F := Ideal) .f32 (BitVec.ofNat 32 0) : EReal) = 0 := by
    show (((BitVec.ofNat 32 0).toInt : ℝ) : EReal) = 0
    simp
  unfold angle
  rw [h, zero_mul]

theorem is_zero : (FloatOps.uitofp (F := Ideal) .f32 (FloatOps.cmpf (F := Ideal) (φ := .f32) .une (0 : EReal) (Ideal.ofBits .f32 0x00000000#32)) : EReal) = 0 := by
  rw [zero_bits]
  simp [FloatOps.cmpf, FloatOps.uitofp, Ideal.cmp]

/-- The arrays before the tables are made. -/
abbrev before : Valuation τ sig (Elt Ideal) :=
  StableHlo.after (List.flatten [hostOps0, hostOps0_1, hostOps0_2, hostOps0_3]) (fun b => m (c, b))

/-- The arrays once the angles are made. -/
abbrev angled : Valuation τ sig (Elt Ideal) :=
  StableHlo.after hostOps0_7 (StableHlo.after hostOps0_6 (StableHlo.after hostOps0_5 (StableHlo.after hostOps0_4 (before m c))))

theorem angled_frequency : angled m c main_v35 = (fun i => frequency (i 0) : FVec Ideal S16 .f32) := by
  funext i
  obtain ⟨j, rfl⟩ : ∃ j : Fin 16, i = ix1 j := ⟨i 0, eq_ix1 i⟩
  refine Eq.trans ?_ (frequency_after (before m c) j)
  open StableHlo in after_reads_simp

theorem angled_columns : angled m c main_v44 = (fun i => BitVec.ofNat 32 ((i 0).val % 64) : IVec S4096 32) := by
  funext i
  obtain ⟨r, rfl⟩ : ∃ r : Fin 4096, i = ix1 r := ⟨i 0, eq_ix1 i⟩
  refine (columns_after _ r).trans ?_
  rw [side_after']
  refine Eq.trans (congrArg (columnNumber · 64#32) (?_ : _ = BitVec.ofNat 32 r.val)) (columnNumber_eq r)
  refine Eq.trans ?_ (places_after (before m c) r)
  open StableHlo in after_reads_simp

theorem angled_rows : angled m c main_v43 = (fun i => angle ((i 0).val / 64) (i 1) : FVec Ideal S4096x16 .f32) := by
  funext i
  obtain ⟨r, j, rfl⟩ : ∃ (r : Fin 4096) (j : Fin 16), i = ix2 r j := ⟨i 0, i 1, eq_ix2 i⟩
  refine (congrFun (keep_rows _) (ix2 r j)).trans ((rowAngle_after _ r j).trans ?_)
  rw [rows_after, side_after, places_after, rowNumber_eq, keep_frequency, frequency_after]
  rfl

/-- The arrays before the grid, as what the last stage leaves. -/
theorem last_stage (b : Ref sig .tc) : V m c b = StableHlo.after hostOps0_8 (angled m c) b := by
  have h : ∀ (l₁ l₂ : List (HloOp τ sig (Elt Ideal))) (σ : Valuation τ sig (Elt Ideal)),
      StableHlo.after (l₁ ++ l₂) σ = StableHlo.after l₂ (StableHlo.after l₁ σ) := fun l₁ => by
    induction l₁ with
    | nil => exact fun _ _ => rfl
    | cons op l ih => exact fun l₂ σ => ih l₂ _
  unfold V angled before
  simp only [List.flatten_cons, List.flatten_nil, h, StableHlo.after_nil]

theorem columns_angle (i : S4096x16.Idx) :
    columnAngles (fun i => BitVec.ofNat 32 ((i 0).val % 64)) (fun i => frequency (i 0)) i = angle ((i 0).val % 64) (i 1) := by
  obtain ⟨r, j, rfl⟩ : ∃ (r : Fin 4096) (j : Fin 16), i = ix2 r j := ⟨i 0, i 1, eq_ix2 i⟩
  exact columnAngles_apply _ _ r j

/-- A lane of one of the two functions of the angles. -/
theorem half_angle (f : EReal → EReal) (a b : FVec Ideal S4096x16 .f32) (ha : ∀ i, a i = f (angle ((i 0).val / 64) (i 1)))
    (hb : ∀ i, b i = f (angle ((i 0).val % 64) (i 1))) (r : Fin 4096) (l : Fin 64) (l' : Fin 128) (hl : l.val = l'.val % 64) :
    halfRow a b (ix2 r l) = if l'.val % 64 < 32 then f (angle (along r.val l') (turn l')) else 0 := by
  rw [halfRow_apply]
  by_cases h : l.val < 16
  · rw [dif_pos h, ha, if_pos (by omega)]
    unfold along
    rw [if_pos (by omega)]
    refine congrArg (fun j => f (angle (r.val / 64) j)) (Fin.ext ?_)
    show l.val = l'.val % 16
    omega
  · rw [dif_neg h]
    by_cases h' : l.val < 32
    · rw [dif_pos h', hb, if_pos (by omega)]
      unfold along
      rw [if_neg (by omega)]
      refine congrArg (fun j => f (angle (r.val % 64) j)) (Fin.ext ?_)
      show l.val - 16 = l'.val % 16
      omega
    · rw [dif_neg h', if_neg (by omega)]

theorem table_cosine (r : Fin 4352) (l : Fin 128) : V m c main_v67 (ix2 r l) = cosine r l := by
  rw [last_stage]
  have hh := half_angle (f := Ideal.cos) (a := Host.cos (fun i => angle ((i 0).val / 64) (i 1)))
    (b := Host.cos (columnAngles (fun i => BitVec.ofNat 32 ((i 0).val % 64)) (fun i => frequency (i 0))))
    (ha := fun i => rfl) (hb := fun i => congrArg Ideal.cos (columns_angle i))
  have hw : ∀ (r : Fin 4096) (l : Fin 128), wholeRow _ _ (ix2 r l)
      = if l.val % 64 < 32 then Ideal.cos (angle (along r.val l) (turn l)) else 0 := fun r l => by
    rw [wholeRow_apply]
    by_cases h : l.val < 64
    · rw [dif_pos h]
      exact hh r ⟨l.val, h⟩ l (by dsimp only; omega)
    · rw [dif_neg h]
      exact hh r ⟨l.val - 64, by omega⟩ l (by dsimp only; omega)
  refine cosines_after (angled m c) _ (cosHalf_after _ _ _ _ (angled_rows m c) (angled_columns m c) (angled_frequency m c)) r l _ ?_
  rw [stacked_apply]
  unfold cosine
  by_cases h : r.val < 256
  · rw [dif_pos h, if_pos h, contextRows_apply, hw]
    have e : angle (along (0 : Fin 4096).val l) (turn l) = 0 := by
      have : along (0 : Fin 4096).val l = 0 := by
        show (if l.val % 64 < 16 then 0 / 64 else 0 % 64) = 0
        split <;> rfl
      rw [this, angle_zero]
    rw [e, cos_zero]
    by_cases hl : l.val % 64 < 32
    · rw [if_pos hl, not_zero]
    · rw [if_neg hl, is_zero]
  · rw [dif_neg h, if_neg h, hw]

theorem table_sine (r : Fin 4352) (l : Fin 128) : V m c main_v68 (ix2 r l) = sine r l := by
  rw [last_stage]
  have hh := half_angle (f := Ideal.sin) (a := Host.sin (fun i => angle ((i 0).val / 64) (i 1)))
    (b := Host.sin (columnAngles (fun i => BitVec.ofNat 32 ((i 0).val % 64)) (fun i => frequency (i 0))))
    (ha := fun i => rfl) (hb := fun i => congrArg Ideal.sin (columns_angle i))
  refine (congrFun (sines_after (angled m c) _ (sinHalf_after _ _ _ _ (angled_rows m c) (angled_columns m c) (angled_frequency m c))) (ix2 r l)).trans ?_
  rw [stacked_apply]
  unfold sine
  by_cases h : r.val < 256
  · rw [dif_pos h, if_pos h, ite_self]
    exact zero_bits
  · rw [dif_neg h, if_neg h, wholeRow_apply]
    by_cases hl : l.val < 64
    · rw [dif_pos hl, if_pos hl]
      refine (congrArg (fun x : EReal => -x) (hh ⟨r.val - 256, by omega⟩ ⟨l.val, hl⟩ l (by dsimp only; omega))).trans ?_
      split
      · rfl
      · exact neg_zero
    · rw [dif_neg hl, if_neg hl]
      exact hh ⟨r.val - 256, by omega⟩ ⟨l.val - 64, by omega⟩ l (by dsimp only; omega)

end Cert.MlaProjIdeal.Projection

end
-- ==== Proof.MlaProjWeights.lean ====
/-
  The weights and gains that the projection of the latent attention's layers prepares for its grid, an entry at a time.
-/
module

public import proofs.«01_k».proof.Proof.MlaProjTables

@[expose] public section

set_option maxRecDepth 16384

noncomputable section

namespace Cert.MlaProjIdeal.Projection

open Cert.MlaProjIdeal Cert.MlaProjIdeal.Gen Cert.Proj.Narrow Cert.Attn Idealize.ShloMosaic Idealize.ShloMosaic.TcCoe Idealize.SL.Sem

variable (m : (ℓ : Loc nD τ sig) → Buf (Elt Ideal) ℓ) (c : Dev nD)

/-- The place of a lane's number, from the lane's digits. -/
theorem spot_digits (x : ℕ) (hx : x < 128) (h : x % 64 < 32) :
    x % 16 + 32 * (x % 32 / 16) + 16 * (x / 64) = 32 * (x % 64 / 16) + 16 * (x / 64) + x % 64 % 16 := by
  have key : ∀ x : Fin 128, x.val % 64 < 32 →
      x.val % 16 + 32 * (x.val % 32 / 16) + 16 * (x.val / 64) = 32 * (x.val % 64 / 16) + 16 * (x.val / 64) + x.val % 64 % 16 := by decide +kernel
  exact key ⟨x, hx⟩ h

theorem spot_digits' (x : ℕ) (hx : x < 128) (h : x % 64 < 32) :
    x % 16 + 32 * (x % 32 / 16) + 16 * (x / 64) = x % 64 / 16 * 32 + x / 64 * 16 + x % 64 % 16 := by
  rw [spot_digits x hx h, Nat.mul_comm 32, Nat.mul_comm 16]

theorem entry_gain (o : Fin 1) (k : Fin 1024) : V m c main_v27 (ix2 o k) = m ((c : Thread nD τ).loc main_arg2) (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem entry_query_gain (o : Fin 1) (k : Fin 512) : V m c main_v28 (ix2 o k) = m ((c : Thread nD τ).loc main_arg4) (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

theorem entry_key_gain (o : Fin 1) (k : Fin 256) : V m c main_v29 (ix2 o k) = m ((c : Thread nD τ).loc main_arg7) (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise

/-- The columns of the second product of the keys and values: first the keys' heads, then the values'. -/
def pairPlace (n : Fin 2048) : Fin 2048 := if h : n.val < 1024 then ⟨256 * (n.val / 128) + n.val % 128, by omega⟩
  else ⟨256 * ((n.val - 1024) / 128) + 128 + n.val % 128, by omega⟩

theorem pairPlace_low (n : Fin 2048) (h : n.val < 1024) (h') : pairPlace n = ⟨n.val / 128 * 256 + n.val % 128, h'⟩ := by
  unfold pairPlace
  rw [dif_pos h]
  exact Fin.ext (congrArg (· + n.val % 128) (Nat.mul_comm 256 (n.val / 128)))

theorem pairPlace_high (n : Fin 2048) (h : ¬ n.val < 1024) (h') :
    pairPlace n = ⟨(n.val - 1024) / 128 * 256 + (128 + (n.val - 1024) % 128), h'⟩ := by
  unfold pairPlace
  rw [dif_neg h]
  refine Fin.ext ?_
  have e : n.val % 128 = (n.val - 1024) % 128 := by omega
  show 256 * ((n.val - 1024) / 128) + 128 + n.val % 128 = _
  rw [e, Nat.mul_comm 256, Nat.add_assoc]

theorem entry_pair (k : Fin 256) (n : Fin 2048) : V m c main_v26 (ix2 k n) = m ((c : Thread nD τ).loc main_arg8) (ix2 k (pairPlace n)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  by_cases h : n.val < 1024
  · rw [dif_pos h]
    exact congrArg (fun j => m (c, Proc.devRef (τ := τ) .tc main_arg8) (ix2 k j)) (pairPlace_low n h _).symm
  · rw [dif_neg h]
    exact congrArg (fun j => m (c, Proc.devRef (τ := τ) .tc main_arg8) (ix2 k j)) (pairPlace_high n h _).symm

/-- A column of the first product: the queries', the keys' and values', and the shared head in its lanes. -/
def firstColumn (a : FVec Ideal S1024x512 .f32) (b : FVec Ideal S1024x320 .f32) (k : Fin 1024) (n : Fin 896) : EReal :=
  if h : n.val < 512 then a (ix2 k ⟨n.val, h⟩) else if h' : n.val < 768 then b (ix2 k ⟨n.val - 512, by omega⟩)
  else padded (fun d => b (ix2 k ⟨256 + d.val, by omega⟩)) ⟨n.val - 768, by omega⟩

section Stages

variable (σ : Valuation τ sig (Elt Ideal))

/-- The weights of the first product, from its three parts. -/
def firstWeights (a : FVec Ideal S1024x512 .f32) (b : FVec Ideal S1024x256 .f32) (p : FVec Ideal S1024x2x64 .f32) : FVec Ideal S1024x896 .bf16 :=
  truncf .bf16 (concatenate S1024x896 1 [⟨S1024x512, a⟩, ⟨S1024x256, b⟩, ⟨S1024x128, shapeCast S1024x128 p shapeCasts_S1024x2x64_S1024x128⟩]
    concatenates_S1024x512_S1024x256_S1024x128_S1024x896_d1) bitsLt_bf16_f32

theorem firstWeights_apply (a : FVec Ideal S1024x512 .f32) (b : FVec Ideal S1024x256 .f32) (p : FVec Ideal S1024x2x64 .f32) (k : Fin 1024)
    (n : Fin 896) : firstWeights a b p (ix2 k n) = if h : n.val < 512 then a (ix2 k ⟨n.val, h⟩)
      else if h' : n.val < 768 then b (ix2 k ⟨n.val - 512, by omega⟩)
      else p (ix3 k ⟨(n.val - 768) / 64, by omega⟩ ⟨(n.val - 768) % 64, by omega⟩) := by
  pointwise [firstWeights]
  by_cases h : n.val < 512
  · rw [dif_pos h, dif_pos h]
  · rw [dif_neg h, dif_neg h]
    by_cases h' : n.val < 768
    · rw [dif_pos (by omega), dif_pos h']
    · rw [dif_neg (by omega), dif_neg h']
      exact congrArg₂ (fun a b => p (ix3 k a b)) (Fin.ext (congrArg (· / 64) (Nat.sub_sub n.val 512 256)))
        (Fin.ext (congrArg (· % 64) (Nat.sub_sub n.val 512 256)))

theorem first_after : StableHlo.after hostOps0_2 σ main_v8 = firstWeights (σ main_arg3) (σ main_v0) (σ main_v5) := by
  have h : StableHlo.upto hostOps0_2 σ 1 main_v6 = shapeCast S1024x128 (σ main_v5) shapeCasts_S1024x2x64_S1024x128 := by
    open StableHlo in after_reads_simp
    rfl
  have h1 : StableHlo.upto hostOps0_2 σ 1 main_arg3 = σ main_arg3 := by open StableHlo in after_reads_simp
  have h2 : StableHlo.upto hostOps0_2 σ 1 main_v0 = σ main_v0 := by open StableHlo in after_reads_simp
  unfold firstWeights
  rw [← h, ← h1, ← h2]
  open StableHlo in after_reads_simp
  rfl

theorem pad_after (k : Fin 1024) (a : Fin 2) (b : Fin 64) : StableHlo.after hostOps0_1 σ main_v5 (ix3 k a b) =
    if h : b.val < 32 then σ main_v4 (ix3 k a ⟨b.val, h⟩) else (FloatOps.sitofp (F := Ideal) .f32 (σ main_c ix0) : EReal) := by
  entry_read
  simp only [StableHlo.TRef.ofBuf_toBuf]
  simp only [StableHlo.TRef.ofBuf, StableHlo.TRef.toBuf, cast_eq]
  pointwise
  rw [Subsingleton.elim (Shape.Idx.first h_S_) ix0]

theorem split_after (k : Fin 1024) (a : Fin 2) (b : Fin 32) : StableHlo.after hostOps0 σ main_v4 (ix3 k a b) =
    σ main_arg6 (ix2 k ⟨256 + (b.val / 16 * 32 + a.val * 16 + b.val % 16), by omega⟩) := by
  entry_read
  pointwise

theorem left_after (k : Fin 1024) (n : Fin 256) : StableHlo.after hostOps0 σ main_v0 (ix2 k n) = σ main_arg6 (ix2 k ⟨n.val, by omega⟩) := by
  entry_read
  pointwise

theorem zero_after : StableHlo.after hostOps0 σ main_c ix0 = 0#32 := by
  entry_read
  pointwise

theorem keep_left : StableHlo.after hostOps0_1 σ main_v0 = σ main_v0 := by open StableHlo in after_reads_simp

theorem keep_weights : StableHlo.after hostOps0_1 (StableHlo.after hostOps0 σ) main_arg3 = σ main_arg3 := by open StableHlo in after_reads_simp

theorem keep_first3 : StableHlo.after hostOps0_3 σ main_v8 = σ main_v8 := by open StableHlo in after_reads_simp

theorem keep_first4 : StableHlo.after hostOps0_4 σ main_v8 = σ main_v8 := by open StableHlo in after_reads_simp

theorem keep_first5 : StableHlo.after hostOps0_5 σ main_v8 = σ main_v8 := by open StableHlo in after_reads_simp

theorem keep_first6 : StableHlo.after hostOps0_6 σ main_v8 = σ main_v8 := by open StableHlo in after_reads_simp

theorem keep_first7 : StableHlo.after hostOps0_7 σ main_v8 = σ main_v8 := by open StableHlo in after_reads_simp

theorem keep_first8 : StableHlo.after hostOps0_8 σ main_v8 = σ main_v8 := by open StableHlo in after_reads_simp

end Stages

theorem entry_stages : V m c main_v8 = StableHlo.after hostOps0_2 (StableHlo.after hostOps0_1 (StableHlo.after hostOps0 (fun b => m (c, b)))) main_v8 := by
  have h : ∀ (l₁ l₂ : List (HloOp τ sig (Elt Ideal))) (σ : Valuation τ sig (Elt Ideal)),
      StableHlo.after (l₁ ++ l₂) σ = StableHlo.after l₂ (StableHlo.after l₁ σ) := fun l₁ => by
    induction l₁ with
    | nil => exact fun _ _ => rfl
    | cons op l ih => exact fun l₂ σ => ih l₂ _
  unfold V
  simp only [List.flatten_cons, List.flatten_nil, h, StableHlo.after_nil]
  rw [keep_first8, keep_first7, keep_first6, keep_first5, keep_first4, keep_first3]

theorem int_zero : (FloatOps.sitofp (F := Ideal) .f32 0#32 : EReal) = 0 := by
  show (((0#32 : BitVec 32).toInt : ℝ) : EReal) = 0
  simp

theorem entry_first (k : Fin 1024) (n : Fin 896) : V m c main_v8 (ix2 k n)
    = firstColumn (m ((c : Thread nD τ).loc main_arg3)) (m ((c : Thread nD τ).loc main_arg6)) k n := by
  rw [entry_stages, first_after, firstWeights_apply, keep_weights, keep_left]
  unfold firstColumn padded
  by_cases h : n.val < 512
  · rw [dif_pos h, dif_pos h]
  rw [dif_neg h, dif_neg h]
  by_cases h' : n.val < 768
  · rw [dif_pos h', dif_pos h', left_after]
  rw [dif_neg h', dif_neg h', pad_after]
  by_cases hl : (n.val - 768) % 64 < 32
  · rw [dif_pos hl, split_after, if_pos hl]
    exact congrArg (fun j => m (c, Proc.devRef (τ := τ) .tc main_arg6) (ix2 k j))
      (Fin.ext (congrArg (256 + ·) (spot_digits' (n.val - 768) (by omega) hl).symm))
  · rw [dif_neg hl, if_neg hl, zero_after]
    exact int_zero

/-- A column of the second product of the queries: each head's plain part, then its rotated part in its lanes. -/
def queryColumn (w : FVec Ideal S512x1536 .f32) (k : Fin 512) (n : Fin 2048) : EReal :=
  if h : n.val % 256 < 128 then w (ix2 k ⟨192 * (n.val / 256) + n.val % 256, by omega⟩)
  else padded (fun d => w (ix2 k ⟨192 * (n.val / 256) + 128 + d.val, by omega⟩)) ⟨n.val % 256 - 128, by omega⟩

theorem queryColumn_plain (w : FVec Ideal S512x1536 .f32) (k : Fin 512) (n : Fin 2048) (h : n.val % 256 < 128) (h') :
    queryColumn w k n = w (ix2 k ⟨n.val / 256 * 192 + n.val % 256, h'⟩) := by
  unfold queryColumn
  rw [dif_pos h]
  exact congrArg (fun j => w (ix2 k j)) (Fin.ext (congrArg (· + n.val % 256) (Nat.mul_comm 192 (n.val / 256))))

theorem queryColumn_turned (w : FVec Ideal S512x1536 .f32) (k : Fin 512) (n : Fin 2048) (h : ¬ n.val % 256 < 128) (hl : (n.val % 256 - 128) % 64 < 32) (h') :
    queryColumn w k n = w (ix2 k ⟨n.val / 256 * 192
      + (128 + ((n.val % 256 - 128) % 64 / 16 * 32 + (n.val % 256 - 128) / 64 * 16 + (n.val % 256 - 128) % 64 % 16)), h'⟩) := by
  unfold queryColumn padded
  rw [dif_neg h, if_pos hl]
  refine congrArg (fun j => w (ix2 k j)) (Fin.ext ?_)
  have e := spot_digits' (n.val % 256 - 128) (by omega) hl
  show 192 * (n.val / 256) + 128 + ((n.val % 256 - 128) % 16 + 32 * ((n.val % 256 - 128) % 32 / 16) + 16 * ((n.val % 256 - 128) / 64)) = _
  rw [e, Nat.add_assoc (192 * (n.val / 256)) 128, Nat.mul_comm 192 (n.val / 256)]

theorem queryColumn_gap (w : FVec Ideal S512x1536 .f32) (k : Fin 512) (n : Fin 2048) (h : ¬ n.val % 256 < 128)
    (hl : ¬ (n.val % 256 - 128) % 64 < 32) : queryColumn w k n = 0 := by
  unfold queryColumn padded
  rw [dif_neg h, if_neg hl]

theorem entry_query (k : Fin 512) (n : Fin 2048) : V m c main_v19 (ix2 k n) = queryColumn (m ((c : Thread nD τ).loc main_arg5)) k n := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf, StableHlo.TRef.toBuf, cast_eq]
  pointwise
  by_cases h : n.val % 256 < 128
  · rw [dif_pos h]
    exact (queryColumn_plain (m (c, Proc.devRef (τ := τ) .tc main_arg5)) k n h _).symm
  rw [dif_neg h]
  by_cases hl : (n.val % 256 - 128) % 64 < 32
  · have h2 : (n.val % 256 - 128) / 64 < 2 := by omega
    rw [dif_pos ⟨h2, hl⟩]
    exact (queryColumn_turned (m (c, Proc.devRef (τ := τ) .tc main_arg5)) k n h hl _).symm
  · rw [dif_neg (fun x => hl x.2)]
    exact int_zero.trans (queryColumn_gap (m (c, Proc.devRef (τ := τ) .tc main_arg5)) k n h hl).symm

end Cert.MlaProjIdeal.Projection

end
-- ==== Proof.MlaProjStore.lean ====
/-
  The three blocks that a grid step of the projection of the latent attention's layers stores, an entry at a time.
-/
module

public import proofs.«01_k».proof.Proof.MlaProjWeights
public import proofs.«01_k».proof.Proof.Modulated

@[expose] public section

set_option maxRecDepth 16384

noncomputable section

namespace Cert.MlaProjIdeal.Projection

open Cert.MlaProjIdeal Cert.MlaProjIdeal.Gen Cert.Proj.Narrow Cert.Attn Idealize.ShloMosaic Idealize.ShloMosaic.TcCoe Idealize.SL.Sem
open Cert.Proj (other scale zero2 zero3 normed)

/-- The first product of a grid step, -/
theorem block_apply (x : Vec Ideal S256x1024 .f32) (g : Vec Ideal S1x1024 .f32) (sh sc : Vec Ideal S1x1x1024 .f32) (w : Vec Ideal S1024x896 .bf16)
    (r : Fin 256) (n : Fin 896) :
    k0_pay4 x g sh sc w (ix2 r n) = ∑ k : Fin 1024,
      (normed 0x44800000#32 (fun j => x (ix2 r j)) k * g (ix2 0 k) * (1 + sc (ix3 0 0 k)) + sh (ix3 0 0 k)) * w (ix2 k n) := by
  pointwise [k0_pay4]
  rfl

/-- the second product of the queries, -/
theorem query_apply (x : Vec Ideal S256x1024 .f32) (g : Vec Ideal S1x1024 .f32) (sh sc : Vec Ideal S1x1x1024 .f32) (w : Vec Ideal S1024x896 .bf16)
    (q : Vec Ideal S1x512 .f32) (v : Vec Ideal S512x2048 .bf16) (r : Fin 256) (n : Fin 2048) :
    k0_pay7 (k0_pay5 x g sh sc w) (k0_pay6 x g sh sc w) q v (ix2 r n)
      = second 0x44000000#32 (fun j : Fin 512 => k0_pay4 x g sh sc w (ix2 r ⟨j.val, by omega⟩)) (fun j => q (ix2 0 j)) (fun j => v (ix2 j n)) := by
  pointwise [k0_pay7, k0_pay6, k0_pay5]
  rfl

/-- and the one of the keys and values. -/
theorem pair_apply (z : FVec Ideal S256x896 .f32) (q : Vec Ideal S1x256 .f32) (v : Vec Ideal S256x2048 .bf16) (r : Fin 256) (n : Fin 2048) :
    k0_pay8 z q v (ix2 r n)
      = second 0x43800000#32 (fun j : Fin 256 => z (ix2 r ⟨512 + j.val, by omega⟩)) (fun j => q (ix2 0 j)) (fun j => v (ix2 j n)) := by
  pointwise [k0_pay8]
  rfl

theorem slot_lt {a l : ℕ} (ha : a < 16) (hl : l < 128) : 128 * a + l < 2048 := by omega

/-- A slot of 128 lanes of the second product, -/
def slot (z : FVec Ideal S256x2048 .f32) (a : Fin 16) (r : Fin 256) (l : Fin 128) : EReal := z (ix2 r ⟨128 * a.val + l.val, slot_lt a.isLt l.isLt⟩)

/-- and 128 lanes rotated with the rows of the tables. -/
def rotated (u : Fin 128 → EReal) (c s : FVec Ideal S256x128 .f32) (r : Fin 256) (l : Fin 128) : EReal :=
  u l * c (ix2 r l) + u (other l) * s (ix2 r l)

/-- A rotated slot with the scale of the scores, -/
def rotatedPiece (v c s : FVec Ideal S256x128 .f32) : FVec Ideal S256x128 .bf16 :=
  truncf .bf16 (mulf (addf (mulf v c) (mulf (dynamicRotate 1 64#32 none v rotates_S256x128_d1) s))
    (broadcast S256x128 (Named.named (F := Ideal) Cert.MlaProjIdeal.κ "scale" (φ := .f32) 0x3DD53B95#32))) bitsLt_bf16_f32

/-- and a plain one. -/
def plainPiece (v : FVec Ideal S256x128 .f32) : FVec Ideal S256x128 .bf16 :=
  truncf .bf16 (mulf v (broadcast S256x128 (Named.named (F := Ideal) Cert.MlaProjIdeal.κ "scale" (φ := .f32) 0x3DD53B95#32))) bitsLt_bf16_f32

theorem rotatedPiece_apply (v c s : FVec Ideal S256x128 .f32) (r : Fin 256) (l : Fin 128) :
    rotatedPiece v c s (ix2 r l) = rotated (fun l => v (ix2 r l)) c s r l * (scale 192 : EReal) := by
  pointwise [rotatedPiece]
  exact congrArg (rotated (fun l => v (ix2 r l)) c s r l * ·) (IdealRules.named_const.ideal_named_scalar _ _ _ _ rfl)

theorem plainPiece_apply (v : FVec Ideal S256x128 .f32) (r : Fin 256) (l : Fin 128) : plainPiece v (ix2 r l) = v (ix2 r l) * (scale 192 : EReal) := by
  pointwise [plainPiece]
  exact congrArg (v (ix2 r l) * ·) (IdealRules.named_const.ideal_named_scalar _ _ _ _ rfl)

theorem slot_head {n : ℕ} (h : n < 2048) : n / 128 < 16 := by omega
theorem half_slot {n : ℕ} (h : n < 2048) : n / 128 / 2 < 16 := by omega
theorem lane_lt (n : ℕ) : n % 128 < 128 := Nat.mod_lt _ (by norm_num)

theorem slice_slot (z : FVec Ideal S256x2048 .f32) (a : Fin 16) (o : ℕ) (ho : o = 128 * a.val) (h : S256x2048.Slices ![0, o] S256x128)
    (r : Fin 256) (l : Fin 128) : extractStridedSlice S256x128 ![0, o] z h (ix2 r l) = slot z a r l := by
  subst ho
  refine congrArg z (funext fun b => Fin.ext ?_)
  match b with
  | ⟨0, _⟩ => exact Nat.zero_add _
  | ⟨1, _⟩ => rfl

/-- The block of the queries: in turn the plain part of a head and its rotated part. -/
def queryAt (z : FVec Ideal S256x2048 .f32) (c s : FVec Ideal S256x128 .f32) (a : Fin 16) (r : Fin 256) (l : Fin 128) : EReal :=
  if a.val % 2 = 0 then slot z a r l * (scale 192 : EReal) else rotated (slot z a r) c s r l * (scale 192 : EReal)

def queryBlock (z : FVec Ideal S256x2048 .f32) (c s : FVec Ideal S256x128 .f32) : Vec Ideal S256x2048 .bf16 := fun y =>
  queryAt z c s ⟨(y 1).val / 128, slot_head (y 1).isLt⟩ (y 0) ⟨(y 1).val % 128, lane_lt _⟩

/-- The block of the keys: in turn the plain part of a head and the shared part `u`. -/
def keyAt (z : FVec Ideal S256x2048 .f32) (u : FVec Ideal S256x128 .bf16) (a : Fin 16) (r : Fin 256) (l : Fin 128) : EReal :=
  if a.val % 2 = 0 then slot z ⟨a.val / 2, by omega⟩ r l else u (ix2 r l)

def keyBlock (z : FVec Ideal S256x2048 .f32) (u : FVec Ideal S256x128 .bf16) : Vec Ideal S256x2048 .bf16 := fun y =>
  keyAt z u ⟨(y 1).val / 128, slot_head (y 1).isLt⟩ (y 0) ⟨(y 1).val % 128, lane_lt _⟩

/-- Where a stored slot lies. -/
theorem at_slot {α : Type} (f : Fin 16 → Fin 256 → Fin 128 → α) (a : Fin 16) (x : S256x128.Idx) (y : S256x2048.Idx)
    (hr : (y 0).val = 0 + 1 * (x 0).val) (hl : (y 1).val = 128 * a.val + 1 * (x 1).val) :
    f a (x 0) (x 1) = f ⟨(y 1).val / 128, slot_head (y 1).isLt⟩ (y 0) ⟨(y 1).val % 128, lane_lt _⟩ := by
  have hx : (x 1).val < 128 := (x 1).isLt
  have h1 : a = ⟨(y 1).val / 128, slot_head (y 1).isLt⟩ := Fin.ext (by show a.val = (y 1).val / 128; rw [hl]; omega)
  have h2 : x 0 = y 0 := Fin.ext (by rw [hr]; omega)
  have h3 : x 1 = ⟨(y 1).val % 128, lane_lt _⟩ := Fin.ext (by show (x 1).val = (y 1).val % 128; rw [hl]; omega)
  exact (congrArg (fun a => f a (x 0) (x 1)) h1).trans ((congrArg (fun r => f _ r (x 1)) h2).trans (congrArg (fun l => f _ _ l) h3))

theorem piece_plain (z : FVec Ideal S256x2048 .f32) (c s : FVec Ideal S256x128 .f32) (a : Fin 16) (o : ℕ) (ho : o = 128 * a.val) (ha : a.val % 2 = 0)
    (h : S256x2048.Slices ![0, o] S256x128) (x : S256x128.Idx) (y : S256x2048.Idx)
    (hr : (y 0).val = 0 + 1 * (x 0).val) (hl : (y 1).val = 128 * a.val + 1 * (x 1).val) :
    plainPiece (extractStridedSlice S256x128 ![0, o] z h) x = queryBlock z c s y := by
  refine Eq.trans ?_ (at_slot (queryAt z c s) a x y hr hl)
  refine (congrArg _ (eq_ix2 x)).trans ((plainPiece_apply _ (x 0) (x 1)).trans ?_)
  exact (congrArg (· * (scale 192 : EReal)) (slice_slot z a o ho h (x 0) (x 1))).trans (if_pos ha).symm

theorem piece_rotated (z : FVec Ideal S256x2048 .f32) (c s : FVec Ideal S256x128 .f32) (a : Fin 16) (o : ℕ) (ho : o = 128 * a.val) (ha : ¬ a.val % 2 = 0)
    (h : S256x2048.Slices ![0, o] S256x128) (x : S256x128.Idx) (y : S256x2048.Idx)
    (hr : (y 0).val = 0 + 1 * (x 0).val) (hl : (y 1).val = 128 * a.val + 1 * (x 1).val) :
    rotatedPiece (extractStridedSlice S256x128 ![0, o] z h) c s x = queryBlock z c s y := by
  refine Eq.trans ?_ (at_slot (queryAt z c s) a x y hr hl)
  refine (congrArg _ (eq_ix2 x)).trans ((rotatedPiece_apply _ _ _ (x 0) (x 1)).trans ?_)
  exact (congrArg (fun u => rotated u c s (x 0) (x 1) * (scale 192 : EReal)) (funext fun l => slice_slot z a o ho h (x 0) l)).trans (if_neg ha).symm

theorem piece_key (z : FVec Ideal S256x2048 .f32) (u : FVec Ideal S256x128 .bf16) (a : Fin 16) (o : ℕ) (ho : o = 128 * (a.val / 2)) (ha : a.val % 2 = 0)
    (h : S256x2048.Slices ![0, o] S256x128) (x : S256x128.Idx) (y : S256x2048.Idx)
    (hr : (y 0).val = 0 + 1 * (x 0).val) (hl : (y 1).val = 128 * a.val + 1 * (x 1).val) :
    (truncf .bf16 (extractStridedSlice S256x128 ![0, o] z h) bitsLt_bf16_f32 : FVec Ideal S256x128 .bf16) x = keyBlock z u y := by
  refine Eq.trans ?_ (at_slot (keyAt z u) a x y hr hl)
  refine Eq.trans ((congrArg (extractStridedSlice S256x128 ![0, o] z h) (eq_ix2 x)).trans (slice_slot z ⟨a.val / 2, by omega⟩ o ho h (x 0) (x 1))) ?_
  exact (if_pos ha).symm

theorem piece_shared (z : FVec Ideal S256x2048 .f32) (u : FVec Ideal S256x128 .bf16) (a : Fin 16) (ha : ¬ a.val % 2 = 0)
    (x : S256x128.Idx) (y : S256x2048.Idx) (hr : (y 0).val = 0 + 1 * (x 0).val) (hl : (y 1).val = 128 * a.val + 1 * (x 1).val) :
    u x = keyBlock z u y := by
  refine Eq.trans ?_ (at_slot (keyAt z u) a x y hr hl)
  exact (congrArg u (eq_ix2 x)).trans (if_neg ha).symm

variable (x0 : Vec Ideal S256x1024 .f32) (x1 x2 : Vec Ideal S1x1x1024 .f32) (x3 : Vec Ideal S1x1024 .f32) (x4 : Vec Ideal S1024x896 .bf16)
  (x5 : Vec Ideal S1x512 .f32) (x6 : Vec Ideal S1x256 .f32) (x7 : Vec Ideal S512x2048 .bf16) (x8 : Vec Ideal S256x2048 .bf16)
  (x9 x10 : Vec Ideal S256x128 .f32)

theorem out11_pieces (y : S256x2048.Idx) : out0_11 x0 x1 x2 x3 x4 x5 x6 x7 x8 x9 x10 y
    = queryBlock (k0_pay41 x0 x1 x2 x3 x4 x5 x6 x7 x8 x9 x10) (k0_pay43 x0 x1 x2 x3 x4 x5 x6 x7 x8 x9 x10) (k0_pay44 x0 x1 x2 x3 x4 x5 x6 x7 x8 x9 x10) y := by
  unfold out0_11
  refine View.canon_apply_of_pieces (Val := Elt Ideal) (e := .bf16) (queryBlock (k0_pay41 x0 x1 x2 x3 x4 x5 x6 x7 x8 x9 x10)
    (k0_pay43 x0 x1 x2 x3 x4 x5 x6 x7 x8 x9 x10) (k0_pay44 x0 x1 x2 x3 x4 x5 x6 x7 x8 x9 x10)) _ ?_ y (cover0_11 _ _ _ _ _ _ _ _ _ _ _ _ _ _ _ _ y)
  intro pc hpc
  rcases List.mem_cons.mp hpc with rfl | hpc
  · exact fun x => piece_rotated (k0_pay41 x0 x1 x2 x3 x4 x5 x6 x7 x8 x9 x10) (k0_pay43 x0 x1 x2 x3 x4 x5 x6 x7 x8 x9 x10)
      (k0_pay44 x0 x1 x2 x3 x4 x5 x6 x7 x8 x9 x10) 15 1920 rfl (by decide) (by decide) x _ rfl rfl
  rcases List.mem_cons.mp hpc with rfl | hpc
  · exact fun x => piece_plain _ _ _ 14 1792 rfl (by decide) (by decide) x _ rfl rfl
  rcases List.mem_cons.mp hpc with rfl | hpc
  · exact fun x => piece_rotated _ _ _ 13 1664 rfl (by decide) (by decide) x _ rfl rfl
  rcases List.mem_cons.mp hpc with rfl | hpc
  · exact fun x => piece_plain _ _ _ 12 1536 rfl (by decide) (by decide) x _ rfl rfl
  rcases List.mem_cons.mp hpc with rfl | hpc
  · exact fun x => piece_rotated _ _ _ 11 1408 rfl (by decide) (by decide) x _ rfl rfl
  rcases List.mem_cons.mp hpc with rfl | hpc
  · exact fun x => piece_plain _ _ _ 10 1280 rfl (by decide) (by decide) x _ rfl rfl
  rcases List.mem_cons.mp hpc with rfl | hpc
  · exact fun x => piece_rotated _ _ _ 9 1152 rfl (by decide) (by decide) x _ rfl rfl
  rcases List.mem_cons.mp hpc with rfl | hpc
  · exact fun x => piece_plain _ _ _ 8 1024 rfl (by decide) (by decide) x _ rfl rfl
  rcases List.mem_cons.mp hpc with rfl | hpc
  · exact fun x => piece_rotated _ _ _ 7 896 rfl (by decide) (by decide) x _ rfl rfl
  rcases List.mem_cons.mp hpc with rfl | hpc
  · exact fun x => piece_plain _ _ _ 6 768 rfl (by decide) (by decide) x _ rfl rfl
  rcases List.mem_cons.mp hpc with rfl | hpc
  · exact fun x => piece_rotated _ _ _ 5 640 rfl (by decide) (by decide) x _ rfl rfl
  rcases List.mem_cons.mp hpc with rfl | hpc
  · exact fun x => piece_plain _ _ _ 4 512 rfl (by decide) (by decide) x _ rfl rfl
  rcases List.mem_cons.mp hpc with rfl | hpc
  · exact fun x => piece_rotated _ _ _ 3 384 rfl (by decide) (by decide) x _ rfl rfl
  rcases List.mem_cons.mp hpc with rfl | hpc
  · exact fun x => piece_plain _ _ _ 2 256 rfl (by decide) (by decide) x _ rfl rfl
  rcases List.mem_cons.mp hpc with rfl | hpc
  · exact fun x => piece_rotated _ _ _ 1 128 rfl (by decide) (by decide) x _ rfl rfl
  rcases List.mem_cons.mp hpc with rfl | hpc
  · exact fun x => piece_plain _ _ _ 0 0 rfl (by decide) (by decide) x _ rfl rfl
  nomatch hpc

theorem out12_pieces (y : S256x2048.Idx) : out0_12 x0 x1 x2 x3 x4 x5 x6 x7 x8 x9 x10 y
    = keyBlock (k0_pay42 x0 x1 x2 x3 x4 x5 x6 x7 x8 x9 x10) (k0_pay45 x0 x1 x2 x3 x4 x5 x6 x7 x8 x9 x10) y := by
  unfold out0_12
  refine View.canon_apply_of_pieces (Val := Elt Ideal) (e := .bf16) (keyBlock (k0_pay42 x0 x1 x2 x3 x4 x5 x6 x7 x8 x9 x10)
    (k0_pay45 x0 x1 x2 x3 x4 x5 x6 x7 x8 x9 x10)) _ ?_ y (cover0_12 _ _ _ _ _ _ _ _ _ _ _ _ _ _ _ _ y)
  intro pc hpc
  rcases List.mem_cons.mp hpc with rfl | hpc
  · exact fun x => piece_shared _ _ 15 (by decide) x _ rfl rfl
  rcases List.mem_cons.mp hpc with rfl | hpc
  · exact fun x => piece_key _ _ 14 896 rfl (by decide) (by decide) x _ rfl rfl
  rcases List.mem_cons.mp hpc with rfl | hpc
  · exact fun x => piece_shared _ _ 13 (by decide) x _ rfl rfl
  rcases List.mem_cons.mp hpc with rfl | hpc
  · exact fun x => piece_key _ _ 12 768 rfl (by decide) (by decide) x _ rfl rfl
  rcases List.mem_cons.mp hpc with rfl | hpc
  · exact fun x => piece_shared _ _ 11 (by decide) x _ rfl rfl
  rcases List.mem_cons.mp hpc with rfl | hpc
  · exact fun x => piece_key _ _ 10 640 rfl (by decide) (by decide) x _ rfl rfl
  rcases List.mem_cons.mp hpc with rfl | hpc
  · exact fun x => piece_shared _ _ 9 (by decide) x _ rfl rfl
  rcases List.mem_cons.mp hpc with rfl | hpc
  · exact fun x => piece_key _ _ 8 512 rfl (by decide) (by decide) x _ rfl rfl
  rcases List.mem_cons.mp hpc with rfl | hpc
  · exact fun x => piece_shared _ _ 7 (by decide) x _ rfl rfl
  rcases List.mem_cons.mp hpc with rfl | hpc
  · exact fun x => piece_key _ _ 6 384 rfl (by decide) (by decide) x _ rfl rfl
  rcases List.mem_cons.mp hpc with rfl | hpc
  · exact fun x => piece_shared _ _ 5 (by decide) x _ rfl rfl
  rcases List.mem_cons.mp hpc with rfl | hpc
  · exact fun x => piece_key _ _ 4 256 rfl (by decide) (by decide) x _ rfl rfl
  rcases List.mem_cons.mp hpc with rfl | hpc
  · exact fun x => piece_shared _ _ 3 (by decide) x _ rfl rfl
  rcases List.mem_cons.mp hpc with rfl | hpc
  · exact fun x => piece_key _ _ 2 128 rfl (by decide) (by decide) x _ rfl rfl
  rcases List.mem_cons.mp hpc with rfl | hpc
  · exact fun x => piece_shared _ _ 1 (by decide) x _ rfl rfl
  rcases List.mem_cons.mp hpc with rfl | hpc
  · exact fun x => piece_key _ _ 0 0 rfl (by decide) (by decide) x _ rfl rfl
  nomatch hpc

theorem stored_query : k0_pay41 x0 x1 x2 x3 x4 x5 x6 x7 x8 x9 x10 = k0_pay7 (k0_pay5 x0 x3 x1 x2 x4) (k0_pay6 x0 x3 x1 x2 x4) x5 x7 := by
  unfold k0_pay41 k0_pay39 k0_pay40
  rw [View.ld_unit_zero zero2, View.ld_unit_zero zero2, View.ld_unit_zero zero3, View.ld_unit_zero zero3, View.ld_unit_zero zero2,
    View.ld_unit_zero zero2, View.ld_unit_zero zero2]

theorem stored_pair : k0_pay42 x0 x1 x2 x3 x4 x5 x6 x7 x8 x9 x10 = k0_pay8 (k0_pay4 x0 x3 x1 x2 x4) x6 x8 := by
  unfold k0_pay42 k0_pay38
  rw [View.ld_unit_zero zero2, View.ld_unit_zero zero2, View.ld_unit_zero zero3, View.ld_unit_zero zero3, View.ld_unit_zero zero2,
    View.ld_unit_zero zero2, View.ld_unit_zero zero2]

theorem stored_cosine : k0_pay43 x0 x1 x2 x3 x4 x5 x6 x7 x8 x9 x10 = x9 := by
  unfold k0_pay43
  rw [View.ld_unit_zero zero2]
  pointwise [k0_pay9]

theorem stored_sine : k0_pay44 x0 x1 x2 x3 x4 x5 x6 x7 x8 x9 x10 = x10 := by
  unfold k0_pay44
  rw [View.ld_unit_zero zero2]
  pointwise [k0_pay10]

/-- The shared rotated part of the keys. -/
theorem shared_apply (z : FVec Ideal S256x896 .f32) (c s : Vec Ideal S256x128 .f32) (r : Fin 256) (l : Fin 128) :
    k0_pay11 z c s (ix2 r l) = rotated (fun l => z (ix2 r ⟨768 + l.val, by omega⟩)) c s r l := by
  pointwise [k0_pay11, k0_pay9, k0_pay10]
  rfl

theorem stored_shared : k0_pay45 x0 x1 x2 x3 x4 x5 x6 x7 x8 x9 x10 = k0_pay11 (k0_pay4 x0 x3 x1 x2 x4) x9 x10 := by
  unfold k0_pay45 k0_pay38
  rw [View.ld_unit_zero zero2, View.ld_unit_zero zero2, View.ld_unit_zero zero3, View.ld_unit_zero zero3, View.ld_unit_zero zero2,
    View.ld_unit_zero zero2, View.ld_unit_zero zero2]

/-- The third block a step stores. -/
theorem out13_apply (r : Fin 256) (n : Fin 1024) : out0_13 x0 x1 x2 x3 x4 x5 x6 x7 x8 x9 x10 (ix2 r n)
    = k0_pay8 (k0_pay4 x0 x3 x1 x2 x4) x6 x8 (ix2 r ⟨n.val + 1024, by omega⟩) := by
  unfold out0_13
  rw [stored_pair, Value.canon13_eq]
  refine congrArg (k0_pay8 (k0_pay4 x0 x3 x1 x2 x4) x6 x8) (funext fun a => Fin.ext ?_)
  match a with
  | ⟨0, _⟩ => rfl
  | ⟨1, _⟩ => rfl

end Cert.MlaProjIdeal.Projection

end
-- ==== Proof.MlaProjFinal.lean ====
/-
  The results of the projection of the latent attention's layers after the run.
-/
module

public import proofs.«01_k».proof.Proof.MlaProjStore

@[expose] public section

set_option maxRecDepth 16384

noncomputable section

namespace Cert.MlaProjIdeal.Projection

open Cert.MlaProjIdeal Cert.MlaProjIdeal.Gen Cert.Proj.Narrow Cert.Attn Idealize.ShloMosaic Idealize.ShloMosaic.TcCoe Idealize.SL.Sem
open Cert.Proj (other scale normed modulated modulated_eq batchOf tokenOf group)

section Model

variable (x : FVec Ideal S17408x1024 .f32) (m3 : FVec Ideal S48x1x1024 .f32) (g : FVec Ideal S1024 .f32) (wq : FVec Ideal S1024x512 .f32)
  (gq : FVec Ideal S512 .f32) (vq : FVec Ideal S512x1536 .f32) (wk : FVec Ideal S1024x320 .f32) (gk : FVec Ideal S256 .f32)
  (vk : FVec Ideal S256x2048 .f32)

/-- The columns of a token's queries, -/
def queryAll (b : Fin 4) (r : Fin 4352) (n : Fin 1536) : EReal :=
  second 0x44000000#32 (column x m3 g wq b r) (fun j => gq (ix1 j)) (fun j => vq (ix2 j n))

/-- of its plain keys and its values, -/
def pairAll (b : Fin 4) (r : Fin 4352) (n : Fin 2048) : EReal :=
  second 0x43800000#32 (fun j : Fin 256 => column x m3 g wk b r ⟨j.val, by omega⟩) (fun j => gk (ix1 j)) (fun j => vk (ix2 j n))

/-- and of the part of the keys that its heads share. -/
def sharedAll (b : Fin 4) (r : Fin 4352) (d : Fin 64) : EReal := column x m3 g wk b r ⟨256 + d.val, by omega⟩

/-- The lanes of a token's queries from its columns: in turn the plain part of a head and the rotated part, -/
def queryLane (q : Fin 1536 → EReal) (r : Fin 4352) (a : Fin 16) (l : Fin 128) : EReal :=
  if a.val % 2 = 0 then q ⟨192 * (a.val / 2) + l.val, by omega⟩ * (scale 192 : EReal)
  else turned (fun d => q ⟨192 * (a.val / 2) + 128 + d.val, by omega⟩) r l * (scale 192 : EReal)

/-- and of its keys. -/
def keyLane (p : Fin 2048 → EReal) (u : Fin 64 → EReal) (r : Fin 4352) (a : Fin 16) (l : Fin 128) : EReal :=
  if a.val % 2 = 0 then p ⟨256 * (a.val / 2) + l.val, by omega⟩ else turned u r l

/-- The queries, -/
def queries : FVec Ideal S17408x2048 .bf16 := fun i =>
  queryLane (queryAll x m3 g wq gq vq (batchOf (i 0)) (tokenOf (i 0))) (tokenOf (i 0)) ⟨(i 1).val / 128, slot_head (i 1).isLt⟩ ⟨(i 1).val % 128, lane_lt _⟩

/-- the keys, -/
def keys : FVec Ideal S17408x2048 .bf16 := fun i =>
  keyLane (pairAll x m3 g wk gk vk (batchOf (i 0)) (tokenOf (i 0))) (sharedAll x m3 g wk (batchOf (i 0)) (tokenOf (i 0))) (tokenOf (i 0))
    ⟨(i 1).val / 128, slot_head (i 1).isLt⟩ ⟨(i 1).val % 128, lane_lt _⟩

theorem value_lt {n : ℕ} (h : n < 1024) : 256 * (n / 128) + 128 + n % 128 < 2048 := by omega

/-- and the values. -/
def values : FVec Ideal S17408x1024 .bf16 := fun i =>
  pairAll x m3 g wk gk vk (batchOf (i 0)) (tokenOf (i 0)) ⟨256 * ((i 1).val / 128) + 128 + (i 1).val % 128, value_lt (i 1).isLt⟩

end Model

/-! ## The columns in their lanes -/

theorem weigh (u : EReal) {a b : EReal} (h : a = b) : u * a = u * b := congrArg (u * ·) h

theorem second_padded {k : ℕ} (N : BitVec 32) (z gain : Fin k → EReal) (w : Fin k → Fin 64 → EReal) (l : Fin 128) :
    second N z gain (fun j => padded (w j) l) = padded (fun d => second N z gain (fun j => w j d)) l := by
  unfold padded
  by_cases h : l.val % 64 < 32
  · simp only [if_pos h]
  · simp only [if_neg h]
    exact Finset.sum_eq_zero fun j _ => mul_zero _

theorem column_padded (u : Fin 1024 → EReal) (w : Fin 1024 → Fin 64 → EReal) (l : Fin 128) :
    ∑ k, u k * padded (w k) l = padded (fun d => ∑ k, u k * w k d) l := by
  unfold padded
  by_cases h : l.val % 64 < 32
  · simp only [if_pos h]
  · simp only [if_neg h]
    exact Finset.sum_eq_zero fun j _ => mul_zero _

theorem slot_digits (a : Fin 16) (l : Fin 128) (ha : a.val % 2 = 0) : (128 * a.val + l.val) % 256 = l.val ∧ (128 * a.val + l.val) / 256 = a.val / 2 := by
  omega

theorem slot_digits' (a : Fin 16) (l : Fin 128) (ha : ¬ a.val % 2 = 0) :
    (128 * a.val + l.val) % 256 = 128 + l.val ∧ (128 * a.val + l.val) / 256 = a.val / 2 := by
  omega

theorem queryColumn_even (w : FVec Ideal S512x1536 .f32) (k : Fin 512) (a : Fin 16) (l : Fin 128) (ha : a.val % 2 = 0) :
    queryColumn w k ⟨128 * a.val + l.val, slot_lt a.isLt l.isLt⟩ = w (ix2 k ⟨192 * (a.val / 2) + l.val, by omega⟩) := by
  obtain ⟨h1, h2⟩ := slot_digits a l ha
  unfold queryColumn
  rw [dif_pos (h1.trans_lt l.isLt)]
  exact congrArg (fun j => w (ix2 k j)) (Fin.ext (congrArg₂ (fun p q => 192 * p + q) h2 h1))

theorem queryColumn_odd (w : FVec Ideal S512x1536 .f32) (k : Fin 512) (a : Fin 16) (l : Fin 128) (ha : ¬ a.val % 2 = 0) :
    queryColumn w k ⟨128 * a.val + l.val, slot_lt a.isLt l.isLt⟩ = padded (fun d => w (ix2 k ⟨192 * (a.val / 2) + 128 + d.val, by omega⟩)) l := by
  obtain ⟨h1, h2⟩ := slot_digits' a l ha
  unfold queryColumn
  rw [dif_neg (show ¬ (128 * a.val + l.val) % 256 < 128 by omega)]
  exact congrArg₂ padded (funext fun d => congrArg (fun j => w (ix2 k j)) (Fin.ext (congrArg (fun p => 192 * p + 128 + d.val) h2)))
    (Fin.ext (show (128 * a.val + l.val) % 256 - 128 = l.val by omega))

variable (m : (ℓ : Loc nD τ sig) → Buf (Elt Ideal) ℓ) (c : Dev nD)

/-! ## The blocks a grid point reads -/

theorem index0 : ∀ t : Fin cfg0.N, win0_0.index t = ![t.val, 0] := (by decide +kernel : ∀ t : Fin grid0.N, win0_0.index t = ![t.val, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])
theorem index1 : ∀ t : Fin cfg0.N, win0_1.index t = ![6 * (if t.val % 17 = 0 then 4 else t.val / 17), 0, 0] := (by decide +kernel : ∀ t : Fin grid0.N, win0_1.index t = ![6 * (if t.val % 17 = 0 then 4 else t.val / 17), 0, 0])
theorem index2 : ∀ t : Fin cfg0.N, win0_2.index t = ![6 * (if t.val % 17 = 0 then 4 else t.val / 17) + 1, 0, 0] := (by decide +kernel : ∀ t : Fin grid0.N, win0_2.index t = ![6 * (if t.val % 17 = 0 then 4 else t.val / 17) + 1, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val % 17, 0] := (by decide +kernel : ∀ t : Fin grid0.N, win0_9.index t = ![t.val % 17, 0])
theorem index10 : ∀ t : Fin cfg0.N, win0_10.index t = ![t.val % 17, 0] := (by decide +kernel : ∀ t : Fin grid0.N, win0_10.index t = ![t.val % 17, 0])

theorem point_lt (t : Fin cfg0.N) : t.val < 68 := lt_of_lt_of_eq t.isLt N_0

/-- A row of the block of a point. -/
abbrev rowOf (t : Fin cfg0.N) (r : Fin 256) : Fin 17408 := ⟨256 * t.val + r.val, by have := point_lt t; omega⟩

theorem group_lt' (t : Fin cfg0.N) : (if t.val % 17 = 0 then 4 else t.val / 17) < 5 := by have := point_lt t; split <;> omega

theorem group_rowOf (t : Fin cfg0.N) (r : Fin 256) :
    group (batchOf (rowOf t r)) (tokenOf (rowOf t r)) = if t.val % 17 = 0 then 4 else t.val / 17 := by
  unfold group
  dsimp only
  by_cases h : t.val % 17 = 0
  · rw [if_pos h, if_pos (by omega)]
  · rw [if_neg h, if_neg (by omega)]; omega

theorem read_tokens (f : FVec Ideal S17408x1024 .f32) (t : Fin cfg0.N) (r : Fin 256) (k : Fin 1024) :
    (((cfg0.win 0).blk t).view.read (Elt Ideal) f) (ix2 r k) = f (ix2 (rowOf t r) k) := by
  refine congrArg f (funext fun a => Fin.ext ?_)
  have h := index0 t
  match a with
  | ⟨0, _⟩ => show win0_0.index t 0 * 256 + 1 * r.val = _; rw [h, one_mul, Nat.mul_comm]; rfl
  | ⟨1, _⟩ => show win0_0.index t 1 * 1024 + 1 * k.val = _; rw [h, one_mul]; exact (congrArg (· + k.val) (Nat.zero_mul _)).trans (Nat.zero_add _)

theorem read_shift (f : FVec Ideal S48x1x1024 .f32) (t : Fin cfg0.N) (k : Fin 1024) :
    (((cfg0.win 1).blk t).view.read (Elt Ideal) f) (ix3 0 0 k) = f (ix3 ⟨6 * (if t.val % 17 = 0 then 4 else t.val / 17), by have := group_lt' t; omega⟩ 0 k) := by
  refine congrArg f (funext fun a => Fin.ext ?_)
  have h := index1 t
  match a with
  | ⟨0, _⟩ => show win0_1.index t 0 * 1 + 1 * 0 = _; rw [h]; exact Nat.mul_one _
  | ⟨1, _⟩ => show win0_1.index t 1 * 1 + 1 * 0 = _; rw [h]; rfl
  | ⟨2, _⟩ => show win0_1.index t 2 * 1024 + 1 * k.val = _; rw [h, one_mul]; exact (congrArg (· + k.val) (Nat.zero_mul _)).trans (Nat.zero_add _)

theorem read_scale (f : FVec Ideal S48x1x1024 .f32) (t : Fin cfg0.N) (k : Fin 1024) :
    (((cfg0.win 2).blk t).view.read (Elt Ideal) f) (ix3 0 0 k) = f (ix3 ⟨6 * (if t.val % 17 = 0 then 4 else t.val / 17) + 1, by have := group_lt' t; omega⟩ 0 k) := by
  refine congrArg f (funext fun a => Fin.ext ?_)
  have h := index2 t
  match a with
  | ⟨0, _⟩ => show win0_2.index t 0 * 1 + 1 * 0 = _; rw [h]; exact Nat.mul_one _
  | ⟨1, _⟩ => show win0_2.index t 1 * 1 + 1 * 0 = _; rw [h]; rfl
  | ⟨2, _⟩ => show win0_2.index t 2 * 1024 + 1 * k.val = _; rw [h, one_mul]; exact (congrArg (· + k.val) (Nat.zero_mul _)).trans (Nat.zero_add _)

theorem block_x (t : Fin cfg0.N) (r : Fin 256) (k : Fin 1024) :
    iblk m c 0 t (ix2 r k) = m ((c : Thread nD τ).loc main_arg0) (ix2 (rowOf t r) k) :=
  (read_tokens (V m c main_arg0) t r k).trans (congrFun (V_main_arg0 m c) _)

theorem block_shift (t : Fin cfg0.N) (k : Fin 1024) :
    iblk m c 1 t (ix3 0 0 k) = m ((c : Thread nD τ).loc main_arg1) (ix3 ⟨6 * (if t.val % 17 = 0 then 4 else t.val / 17), by have := group_lt' t; omega⟩ 0 k) :=
  (read_shift (V m c main_arg1) t k).trans (congrFun (V_main_arg1 m c) _)

theorem block_scale (t : Fin cfg0.N) (k : Fin 1024) :
    iblk m c 2 t (ix3 0 0 k) = m ((c : Thread nD τ).loc main_arg1) (ix3 ⟨6 * (if t.val % 17 = 0 then 4 else t.val / 17) + 1, by have := group_lt' t; omega⟩ 0 k) :=
  (read_scale (V m c main_arg1) t k).trans (congrFun (V_main_arg1 m c) _)

theorem read_whole3 (f : FVec Ideal S1x1024 .f32) (t : Fin cfg0.N) (n : Fin 1024) :
    (((cfg0.win 3).blk t).view.read (Elt Ideal) f) (ix2 0 n) = f (ix2 0 n) := by
  refine congrArg f (funext fun a => Fin.ext ?_)
  have h := index3 t
  match a with
  | ⟨0, _⟩ => show win0_3.index t 0 * 1 + 1 * 0 = _; rw [h]; rfl
  | ⟨1, _⟩ => show win0_3.index t 1 * 1024 + 1 * n.val = _; rw [h, one_mul]; exact (congrArg (· + n.val) (Nat.zero_mul _)).trans (Nat.zero_add _)

theorem read_whole5 (f : FVec Ideal S1x512 .f32) (t : Fin cfg0.N) (n : Fin 512) :
    (((cfg0.win 5).blk t).view.read (Elt Ideal) f) (ix2 0 n) = f (ix2 0 n) := by
  refine congrArg f (funext fun a => Fin.ext ?_)
  have h := index5 t
  match a with
  | ⟨0, _⟩ => show win0_5.index t 0 * 1 + 1 * 0 = _; rw [h]; rfl
  | ⟨1, _⟩ => show win0_5.index t 1 * 512 + 1 * n.val = _; rw [h, one_mul]; exact (congrArg (· + n.val) (Nat.zero_mul _)).trans (Nat.zero_add _)

theorem read_whole6 (f : FVec Ideal S1x256 .f32) (t : Fin cfg0.N) (n : Fin 256) :
    (((cfg0.win 6).blk t).view.read (Elt Ideal) f) (ix2 0 n) = f (ix2 0 n) := by
  refine congrArg f (funext fun a => Fin.ext ?_)
  have h := index6 t
  match a with
  | ⟨0, _⟩ => show win0_6.index t 0 * 1 + 1 * 0 = _; rw [h]; rfl
  | ⟨1, _⟩ => show win0_6.index t 1 * 256 + 1 * n.val = _; rw [h, one_mul]; exact (congrArg (· + n.val) (Nat.zero_mul _)).trans (Nat.zero_add _)

theorem read_whole4 (f : FVec Ideal S1024x896 .bf16) (t : Fin cfg0.N) (k : Fin 1024) (n : Fin 896) :
    (((cfg0.win 4).blk t).view.read (Elt Ideal) f) (ix2 k n) = f (ix2 k n) := by
  refine congrArg f (funext fun a => Fin.ext ?_)
  have h := index4 t
  match a with
  | ⟨0, _⟩ => show win0_4.index t 0 * 1024 + 1 * k.val = _; rw [h, one_mul]; exact (congrArg (· + k.val) (Nat.zero_mul _)).trans (Nat.zero_add _)
  | ⟨1, _⟩ => show win0_4.index t 1 * 896 + 1 * n.val = _; rw [h, one_mul]; exact (congrArg (· + n.val) (Nat.zero_mul _)).trans (Nat.zero_add _)

theorem read_whole7 (f : FVec Ideal S512x2048 .bf16) (t : Fin cfg0.N) (k : Fin 512) (n : Fin 2048) :
    (((cfg0.win 7).blk t).view.read (Elt Ideal) f) (ix2 k n) = f (ix2 k n) := by
  refine congrArg f (funext fun a => Fin.ext ?_)
  have h := index7 t
  match a with
  | ⟨0, _⟩ => show win0_7.index t 0 * 512 + 1 * k.val = _; rw [h, one_mul]; exact (congrArg (· + k.val) (Nat.zero_mul _)).trans (Nat.zero_add _)
  | ⟨1, _⟩ => show win0_7.index t 1 * 2048 + 1 * n.val = _; rw [h, one_mul]; exact (congrArg (· + n.val) (Nat.zero_mul _)).trans (Nat.zero_add _)

theorem read_whole8 (f : FVec Ideal S256x2048 .bf16) (t : Fin cfg0.N) (k : Fin 256) (n : Fin 2048) :
    (((cfg0.win 8).blk t).view.read (Elt Ideal) f) (ix2 k n) = f (ix2 k n) := by
  refine congrArg f (funext fun a => Fin.ext ?_)
  have h := index8 t
  match a with
  | ⟨0, _⟩ => show win0_8.index t 0 * 256 + 1 * k.val = _; rw [h, one_mul]; exact (congrArg (· + k.val) (Nat.zero_mul _)).trans (Nat.zero_add _)
  | ⟨1, _⟩ => show win0_8.index t 1 * 2048 + 1 * n.val = _; rw [h, one_mul]; exact (congrArg (· + n.val) (Nat.zero_mul _)).trans (Nat.zero_add _)

theorem tokenOf_rowOf (t : Fin cfg0.N) (r : Fin 256) : (tokenOf (rowOf t r)).val = 256 * (t.val % 17) + r.val := by
  show (256 * t.val + r.val) % 4352 = _
  omega

theorem read_table9 (f : FVec Ideal S4352x128 .f32) (t : Fin cfg0.N) (r : Fin 256) (l : Fin 128) :
    (((cfg0.win 9).blk t).view.read (Elt Ideal) f) (ix2 r l) = f (ix2 (tokenOf (rowOf t r)) l) := by
  refine congrArg f (funext fun a => Fin.ext ?_)
  have h := index9 t
  match a with
  | ⟨0, _⟩ => refine Eq.trans ?_ (tokenOf_rowOf t r).symm; show win0_9.index t 0 * 256 + 1 * r.val = _; rw [h, one_mul, Nat.mul_comm]; rfl
  | ⟨1, _⟩ => show win0_9.index t 1 * 128 + 1 * l.val = _; rw [h, one_mul]; exact (congrArg (· + l.val) (Nat.zero_mul _)).trans (Nat.zero_add _)

theorem read_table10 (f : FVec Ideal S4352x128 .f32) (t : Fin cfg0.N) (r : Fin 256) (l : Fin 128) :
    (((cfg0.win 10).blk t).view.read (Elt Ideal) f) (ix2 r l) = f (ix2 (tokenOf (rowOf t r)) l) := by
  refine congrArg f (funext fun a => Fin.ext ?_)
  have h := index10 t
  match a with
  | ⟨0, _⟩ => refine Eq.trans ?_ (tokenOf_rowOf t r).symm; show win0_10.index t 0 * 256 + 1 * r.val = _; rw [h, one_mul, Nat.mul_comm]; rfl
  | ⟨1, _⟩ => show win0_10.index t 1 * 128 + 1 * l.val = _; rw [h, one_mul]; exact (congrArg (· + l.val) (Nat.zero_mul _)).trans (Nat.zero_add _)

theorem block_gain (t : Fin cfg0.N) (k : Fin 1024) : iblk m c 3 t (ix2 0 k) = m ((c : Thread nD τ).loc main_arg2) (ix1 k) :=
  (read_whole3 (V m c main_v27) t k).trans (entry_gain m c 0 k)

theorem block_query_gain (t : Fin cfg0.N) (k : Fin 512) : iblk m c 5 t (ix2 0 k) = m ((c : Thread nD τ).loc main_arg4) (ix1 k) :=
  (read_whole5 (V m c main_v28) t k).trans (entry_query_gain m c 0 k)

theorem block_key_gain (t : Fin cfg0.N) (k : Fin 256) : iblk m c 6 t (ix2 0 k) = m ((c : Thread nD τ).loc main_arg7) (ix1 k) :=
  (read_whole6 (V m c main_v29) t k).trans (entry_key_gain m c 0 k)

theorem block_first (t : Fin cfg0.N) (k : Fin 1024) (n : Fin 896) : iblk m c 4 t (ix2 k n)
    = firstColumn (m ((c : Thread nD τ).loc main_arg3)) (m ((c : Thread nD τ).loc main_arg6)) k n :=
  (read_whole4 (V m c main_v8) t k n).trans (entry_first m c k n)

theorem block_query (t : Fin cfg0.N) (k : Fin 512) (n : Fin 2048) : iblk m c 7 t (ix2 k n)
    = queryColumn (m ((c : Thread nD τ).loc main_arg5)) k n :=
  (read_whole7 (V m c main_v19) t k n).trans (entry_query m c k n)

theorem block_pair (t : Fin cfg0.N) (k : Fin 256) (n : Fin 2048) : iblk m c 8 t (ix2 k n)
    = m ((c : Thread nD τ).loc main_arg8) (ix2 k (pairPlace n)) :=
  (read_whole8 (V m c main_v26) t k n).trans (entry_pair m c k n)

theorem block_cosine (t : Fin cfg0.N) (r : Fin 256) (l : Fin 128) : iblk m c 9 t (ix2 r l) = cosine (tokenOf (rowOf t r)) l :=
  (read_table9 (V m c main_v67) t r l).trans (table_cosine m c _ l)

theorem block_sine (t : Fin cfg0.N) (r : Fin 256) (l : Fin 128) : iblk m c 10 t (ix2 r l) = sine (tokenOf (rowOf t r)) l :=
  (read_table10 (V m c main_v68) t r l).trans (table_sine m c _ l)

/-! ## The products of a point -/

theorem first_block (t : Fin cfg0.N) (r : Fin 256) (n : Fin 896) : (k0_pay4 (iblk m c 0 t) (iblk m c 3 t) (iblk m c 1 t) (iblk m c 2 t) (iblk m c 4 t)) (ix2 r n)
    = ∑ k : Fin 1024, modulated (m ((c : Thread nD τ).loc main_arg0)) (m ((c : Thread nD τ).loc main_arg1)) (m ((c : Thread nD τ).loc main_arg2)) (batchOf (rowOf t r)) (tokenOf (rowOf t r)) k * firstColumn (m ((c : Thread nD τ).loc main_arg3)) (m ((c : Thread nD τ).loc main_arg6)) k n := by
  refine (block_apply _ _ _ _ _ r n).trans (Finset.sum_congr rfl fun k _ => ?_)
  rw [block_shift, block_scale, block_gain, block_first, funext fun j => block_x m c t r j]
  refine congrArg (· * _) (modulated_eq _ _ _ _ _ k _ _ _ ?_ ?_ ?_)
  · show 256 * t.val + r.val = 4352 * ((256 * t.val + r.val) / 4352) + (256 * t.val + r.val) % 4352
    exact (Nat.div_add_mod _ _).symm
  · rw [group_rowOf]
  · rw [group_rowOf]

theorem first_query (t : Fin cfg0.N) (r : Fin 256) (j : Fin 512) : (k0_pay4 (iblk m c 0 t) (iblk m c 3 t) (iblk m c 1 t) (iblk m c 2 t) (iblk m c 4 t)) (ix2 r ⟨j.val, by omega⟩)
    = column (m ((c : Thread nD τ).loc main_arg0)) (m ((c : Thread nD τ).loc main_arg1)) (m ((c : Thread nD τ).loc main_arg2)) (m ((c : Thread nD τ).loc main_arg3)) (batchOf (rowOf t r)) (tokenOf (rowOf t r)) j := by
  refine (first_block m c t r _).trans (Finset.sum_congr rfl fun k _ => weigh _ ?_)
  exact dif_pos j.isLt

theorem first_pair (t : Fin cfg0.N) (r : Fin 256) (j : Fin 256) : (k0_pay4 (iblk m c 0 t) (iblk m c 3 t) (iblk m c 1 t) (iblk m c 2 t) (iblk m c 4 t)) (ix2 r ⟨512 + j.val, by omega⟩)
    = column (m ((c : Thread nD τ).loc main_arg0)) (m ((c : Thread nD τ).loc main_arg1)) (m ((c : Thread nD τ).loc main_arg2)) (m ((c : Thread nD τ).loc main_arg6)) (batchOf (rowOf t r)) (tokenOf (rowOf t r)) ⟨j.val, by omega⟩ := by
  refine (first_block m c t r _).trans (Finset.sum_congr rfl fun k _ => weigh _ ?_)
  refine (dif_neg (show ¬ 512 + j.val < 512 by omega)).trans ((dif_pos (show 512 + j.val < 768 by omega)).trans ?_)
  exact congrArg (fun n => m ((c : Thread nD τ).loc main_arg6) (ix2 k n)) (Fin.ext (Nat.add_sub_cancel_left 512 j.val))

theorem first_shared (t : Fin cfg0.N) (r : Fin 256) (l : Fin 128) : (k0_pay4 (iblk m c 0 t) (iblk m c 3 t) (iblk m c 1 t) (iblk m c 2 t) (iblk m c 4 t)) (ix2 r ⟨768 + l.val, by omega⟩)
    = padded (sharedAll (m ((c : Thread nD τ).loc main_arg0)) (m ((c : Thread nD τ).loc main_arg1)) (m ((c : Thread nD τ).loc main_arg2)) (m ((c : Thread nD τ).loc main_arg6)) (batchOf (rowOf t r)) (tokenOf (rowOf t r))) l := by
  refine (first_block m c t r _).trans (Eq.trans (Finset.sum_congr rfl fun k _ => weigh _ ?_) (column_padded _ (fun k d => m ((c : Thread nD τ).loc main_arg6) (ix2 k ⟨256 + d.val, by omega⟩)) l))
  refine (dif_neg (show ¬ 768 + l.val < 512 by omega)).trans ((dif_neg (show ¬ 768 + l.val < 768 by omega)).trans ?_)
  exact congrArg (padded _) (Fin.ext (Nat.add_sub_cancel_left 768 l.val))

theorem query_block (t : Fin cfg0.N) (r : Fin 256) (n : Fin 2048) : (k0_pay7 (k0_pay5 (iblk m c 0 t) (iblk m c 3 t) (iblk m c 1 t) (iblk m c 2 t) (iblk m c 4 t)) (k0_pay6 (iblk m c 0 t) (iblk m c 3 t) (iblk m c 1 t) (iblk m c 2 t) (iblk m c 4 t)) (iblk m c 5 t) (iblk m c 7 t)) (ix2 r n)
    = second 0x44000000#32 (column (m ((c : Thread nD τ).loc main_arg0)) (m ((c : Thread nD τ).loc main_arg1)) (m ((c : Thread nD τ).loc main_arg2)) (m ((c : Thread nD τ).loc main_arg3)) (batchOf (rowOf t r)) (tokenOf (rowOf t r)))
        (fun j => m ((c : Thread nD τ).loc main_arg4) (ix1 j)) (fun j => queryColumn (m ((c : Thread nD τ).loc main_arg5)) j n) := by
  refine (query_apply _ _ _ _ _ _ _ r n).trans ?_
  rw [funext fun j => first_query m c t r j, funext fun j => block_query_gain m c t j, funext fun j => block_query m c t j n]

theorem pair_block (t : Fin cfg0.N) (r : Fin 256) (n : Fin 2048) : (k0_pay8 (k0_pay4 (iblk m c 0 t) (iblk m c 3 t) (iblk m c 1 t) (iblk m c 2 t) (iblk m c 4 t)) (iblk m c 6 t) (iblk m c 8 t)) (ix2 r n) = (pairAll (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (batchOf (rowOf t r)) (tokenOf (rowOf t r))) (pairPlace n) := by
  refine (pair_apply _ _ _ r n).trans ?_
  rw [funext fun j => first_pair m c t r j, funext fun j => block_key_gain m c t j, funext fun j => block_pair m c t j n]
  rfl

theorem query_even (t : Fin cfg0.N) (r : Fin 256) (a : Fin 16) (l : Fin 128) (ha : a.val % 2 = 0) : slot (k0_pay7 (k0_pay5 (iblk m c 0 t) (iblk m c 3 t) (iblk m c 1 t) (iblk m c 2 t) (iblk m c 4 t)) (k0_pay6 (iblk m c 0 t) (iblk m c 3 t) (iblk m c 1 t) (iblk m c 2 t) (iblk m c 4 t)) (iblk m c 5 t) (iblk m c 7 t)) a r l
    = (queryAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf (rowOf t r)) (tokenOf (rowOf t r))) ⟨192 * (a.val / 2) + l.val, by omega⟩ := by
  refine (query_block m c t r _).trans ?_
  rw [funext fun j => queryColumn_even _ j a l ha]
  rfl

theorem query_odd (t : Fin cfg0.N) (r : Fin 256) (a : Fin 16) (l : Fin 128) (ha : ¬ a.val % 2 = 0) : slot (k0_pay7 (k0_pay5 (iblk m c 0 t) (iblk m c 3 t) (iblk m c 1 t) (iblk m c 2 t) (iblk m c 4 t)) (k0_pay6 (iblk m c 0 t) (iblk m c 3 t) (iblk m c 1 t) (iblk m c 2 t) (iblk m c 4 t)) (iblk m c 5 t) (iblk m c 7 t)) a r l
    = padded (fun d => (queryAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf (rowOf t r)) (tokenOf (rowOf t r))) ⟨192 * (a.val / 2) + 128 + d.val, by omega⟩) l := by
  refine (query_block m c t r _).trans ?_
  rw [funext fun j => queryColumn_odd _ j a l ha]
  exact second_padded _ _ _ (fun j d => m ((c : Thread nD τ).loc main_arg5) (ix2 j ⟨192 * (a.val / 2) + 128 + d.val, by omega⟩)) l

theorem key_even (t : Fin cfg0.N) (r : Fin 256) (a : Fin 16) (l : Fin 128) : slot (k0_pay8 (k0_pay4 (iblk m c 0 t) (iblk m c 3 t) (iblk m c 1 t) (iblk m c 2 t) (iblk m c 4 t)) (iblk m c 6 t) (iblk m c 8 t)) ⟨a.val / 2, by omega⟩ r l
    = (pairAll (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (batchOf (rowOf t r)) (tokenOf (rowOf t r))) ⟨256 * (a.val / 2) + l.val, by omega⟩ := by
  refine (pair_block m c t r _).trans (congrArg _ ?_)
  have h1 : (128 * (a.val / 2) + l.val) / 128 = a.val / 2 := by omega
  have h2 : (128 * (a.val / 2) + l.val) % 128 = l.val := by omega
  unfold pairPlace
  rw [dif_pos (show 128 * (a.val / 2) + l.val < 1024 by omega)]
  exact Fin.ext (congrArg₂ (fun p q => 256 * p + q) h1 h2)

theorem value_place (n : Fin 1024) : pairPlace ⟨n.val + 1024, by omega⟩ = ⟨256 * (n.val / 128) + 128 + n.val % 128, value_lt n.isLt⟩ := by
  have h1 : n.val + 1024 - 1024 = n.val := Nat.add_sub_cancel _ _
  have h2 : (n.val + 1024) % 128 = n.val % 128 := by omega
  unfold pairPlace
  rw [dif_neg (show ¬ n.val + 1024 < 1024 by omega)]
  exact Fin.ext (congrArg₂ (fun p q => 256 * (p / 128) + 128 + q) h1 h2)

/-- The lanes of the queries of a point, -/
theorem query_lanes (t : Fin cfg0.N) (r : Fin 256) (a : Fin 16) (l : Fin 128) : queryAt (k0_pay7 (k0_pay5 (iblk m c 0 t) (iblk m c 3 t) (iblk m c 1 t) (iblk m c 2 t) (iblk m c 4 t)) (k0_pay6 (iblk m c 0 t) (iblk m c 3 t) (iblk m c 1 t) (iblk m c 2 t) (iblk m c 4 t)) (iblk m c 5 t) (iblk m c 7 t)) (iblk m c 9 t) (iblk m c 10 t) a r l
    = queryLane (queryAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf (rowOf t r)) (tokenOf (rowOf t r))) (tokenOf (rowOf t r)) a l := by
  unfold queryAt queryLane
  by_cases ha : a.val % 2 = 0
  · rw [if_pos ha, if_pos ha, query_even m c t r a l ha]
  · rw [if_neg ha, if_neg ha]
    refine congrArg (· * (scale 192 : EReal)) ?_
    unfold rotated
    rw [query_odd m c t r a l ha, query_odd m c t r a (other l) ha, block_cosine, block_sine]
    rfl

/-- and of its keys. -/
theorem key_lanes (t : Fin cfg0.N) (r : Fin 256) (a : Fin 16) (l : Fin 128) : keyAt (k0_pay8 (k0_pay4 (iblk m c 0 t) (iblk m c 3 t) (iblk m c 1 t) (iblk m c 2 t) (iblk m c 4 t)) (iblk m c 6 t) (iblk m c 8 t)) (k0_pay11 (k0_pay4 (iblk m c 0 t) (iblk m c 3 t) (iblk m c 1 t) (iblk m c 2 t) (iblk m c 4 t)) (iblk m c 9 t) (iblk m c 10 t)) a r l
    = keyLane (pairAll (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (batchOf (rowOf t r)) (tokenOf (rowOf t r))) (sharedAll (m ((c : Thread nD τ).loc main_arg0)) (m ((c : Thread nD τ).loc main_arg1)) (m ((c : Thread nD τ).loc main_arg2)) (m ((c : Thread nD τ).loc main_arg6)) (batchOf (rowOf t r)) (tokenOf (rowOf t r))) (tokenOf (rowOf t r)) a l := by
  unfold keyAt keyLane
  by_cases ha : a.val % 2 = 0
  · rw [if_pos ha, if_pos ha, key_even m c t r a l]
  · rw [if_neg ha, if_neg ha]
    refine (shared_apply _ _ _ r l).trans ?_
    unfold rotated
    dsimp only
    rw [first_shared m c t r l, first_shared m c t r (other l), block_cosine, block_sine]
    rfl

/-! ## The results -/

/-- The queries of device `c`'s arguments, -/
abbrev result11 : FVec Ideal S17408x2048 .bf16 := queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- the keys, -/
abbrev result12 : FVec Ideal S17408x2048 .bf16 := keys (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))

/-- and the values. -/
abbrev result13 : FVec Ideal S17408x1024 .bf16 := values (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8))

theorem read_block11 (t : Fin cfg0.N) (r : Fin 256) (n : Fin 2048) :
    ((cfg0.win 11).blk t).view.read (Elt Ideal) (result11 m c) (ix2 r n) = result11 m c (ix2 (rowOf t r) n) := by
  refine congrArg (result11 m c) (a₂ := ix2 (rowOf t r) n) (funext fun a => Fin.ext ?_)
  have h := index11 t
  match a with
  | ⟨0, _⟩ => show win0_11.index t 0 * 256 + 1 * r.val = _; rw [h, one_mul, Nat.mul_comm]; rfl
  | ⟨1, _⟩ => show win0_11.index t 1 * 2048 + 1 * n.val = _; rw [h, one_mul]; exact (congrArg (· + n.val) (Nat.zero_mul _)).trans (Nat.zero_add _)

theorem read_block12 (t : Fin cfg0.N) (r : Fin 256) (n : Fin 2048) :
    ((cfg0.win 12).blk t).view.read (Elt Ideal) (result12 m c) (ix2 r n) = result12 m c (ix2 (rowOf t r) n) := by
  refine congrArg (result12 m c) (a₂ := ix2 (rowOf t r) n) (funext fun a => Fin.ext ?_)
  have h := index12 t
  match a with
  | ⟨0, _⟩ => show win0_12.index t 0 * 256 + 1 * r.val = _; rw [h, one_mul, Nat.mul_comm]; rfl
  | ⟨1, _⟩ => show win0_12.index t 1 * 2048 + 1 * n.val = _; rw [h, one_mul]; exact (congrArg (· + n.val) (Nat.zero_mul _)).trans (Nat.zero_add _)

theorem read_block13 (t : Fin cfg0.N) (r : Fin 256) (n : Fin 1024) :
    ((cfg0.win 13).blk t).view.read (Elt Ideal) (result13 m c) (ix2 r n) = result13 m c (ix2 (rowOf t r) n) := by
  refine congrArg (result13 m c) (a₂ := ix2 (rowOf t r) n) (funext fun a => Fin.ext ?_)
  have h := index13 t
  match a with
  | ⟨0, _⟩ => show win0_13.index t 0 * 256 + 1 * r.val = _; rw [h, one_mul, Nat.mul_comm]; rfl
  | ⟨1, _⟩ => show win0_13.index t 1 * 1024 + 1 * n.val = _; rw [h, one_mul]; exact (congrArg (· + n.val) (Nat.zero_mul _)).trans (Nat.zero_add _)

theorem flushed11_eq (t : Fin cfg0.N) : (dats m 0 c).flushed 11 t = ((cfg0.win 11).blk t).view.read (Elt Ideal) (result11 m c) := by
  funext y
  obtain ⟨r, n, rfl⟩ : ∃ (r : Fin 256) (n : Fin 2048), y = ix2 r n := ⟨y 0, y 1, eq_ix2 y⟩
  rw [read_block11, Value.flushed11]
  refine (out11_pieces (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)).trans ?_
  rw [stored_query, stored_cosine, stored_sine]
  exact query_lanes m c t r _ _

theorem flushed12_eq (t : Fin cfg0.N) : (dats m 0 c).flushed 12 t = ((cfg0.win 12).blk t).view.read (Elt Ideal) (result12 m c) := by
  funext y
  obtain ⟨r, n, rfl⟩ : ∃ (r : Fin 256) (n : Fin 2048), y = ix2 r n := ⟨y 0, y 1, eq_ix2 y⟩
  rw [read_block12, Value.flushed12]
  refine (out12_pieces (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)).trans ?_
  rw [stored_pair, stored_shared]
  exact key_lanes m c t r _ _

theorem flushed13_eq (t : Fin cfg0.N) : (dats m 0 c).flushed 13 t = ((cfg0.win 13).blk t).view.read (Elt Ideal) (result13 m c) := by
  funext y
  obtain ⟨r, n, rfl⟩ : ∃ (r : Fin 256) (n : Fin 1024), y = ix2 r n := ⟨y 0, y 1, eq_ix2 y⟩
  rw [read_block13, Value.flushed13]
  refine Eq.trans ?_ ((pair_block m c t r ⟨n.val + 1024, by omega⟩).trans (congrArg _ (value_place n)))
  exact out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r n

theorem cover11 (i : S17408x2048.Idx) : ∃ t : Fin cfg0.N, (cfg0.win 11).flush t = true ∧ i ∈ ((cfg0.win 11).blk t).view.set := by
  obtain ⟨r, n, rfl⟩ : ∃ (r : Fin 17408) (n : Fin 2048), i = ix2 r n := ⟨i 0, i 1, eq_ix2 i⟩
  have ht : r.val / 256 < cfg0.N := lt_of_lt_of_eq (by omega) N_0.symm
  refine ⟨⟨_, ht⟩, flush0_11 _, ?_⟩
  show _ ∈ ((View.whole main_v69_0).slice (win0_11.rect ⟨_, ht⟩)).set
  rw [View.set_slice_whole, Rect.mem_set_unit]
  have h := index11 ⟨_, ht⟩
  intro k
  match k with
  | ⟨0, _⟩ =>
    show win0_11.index ⟨_, ht⟩ 0 * 256 ≤ r.val ∧ r.val < win0_11.index ⟨_, ht⟩ 0 * 256 + 256
    rw [h]; dsimp only [Matrix.cons_val_zero]; omega
  | ⟨1, _⟩ =>
    show win0_11.index ⟨_, ht⟩ 1 * 2048 ≤ n.val ∧ n.val < win0_11.index ⟨_, ht⟩ 1 * 2048 + 2048
    rw [h]; dsimp only [Matrix.cons_val_one, Matrix.cons_val_zero]; omega

theorem cover12 (i : S17408x2048.Idx) : ∃ t : Fin cfg0.N, (cfg0.win 12).flush t = true ∧ i ∈ ((cfg0.win 12).blk t).view.set := by
  obtain ⟨r, n, rfl⟩ : ∃ (r : Fin 17408) (n : Fin 2048), i = ix2 r n := ⟨i 0, i 1, eq_ix2 i⟩
  have ht : r.val / 256 < cfg0.N := lt_of_lt_of_eq (by omega) N_0.symm
  refine ⟨⟨_, ht⟩, flush0_12 _, ?_⟩
  show _ ∈ ((View.whole main_v69_1).slice (win0_12.rect ⟨_, ht⟩)).set
  rw [View.set_slice_whole, Rect.mem_set_unit]
  have h := index12 ⟨_, ht⟩
  intro k
  match k with
  | ⟨0, _⟩ =>
    show win0_12.index ⟨_, ht⟩ 0 * 256 ≤ r.val ∧ r.val < win0_12.index ⟨_, ht⟩ 0 * 256 + 256
    rw [h]; dsimp only [Matrix.cons_val_zero]; omega
  | ⟨1, _⟩ =>
    show win0_12.index ⟨_, ht⟩ 1 * 2048 ≤ n.val ∧ n.val < win0_12.index ⟨_, ht⟩ 1 * 2048 + 2048
    rw [h]; dsimp only [Matrix.cons_val_one, Matrix.cons_val_zero]; omega

theorem cover13 (i : S17408x1024.Idx) : ∃ t : Fin cfg0.N, (cfg0.win 13).flush t = true ∧ i ∈ ((cfg0.win 13).blk t).view.set := by
  obtain ⟨r, n, rfl⟩ : ∃ (r : Fin 17408) (n : Fin 1024), i = ix2 r n := ⟨i 0, i 1, eq_ix2 i⟩
  have ht : r.val / 256 < cfg0.N := lt_of_lt_of_eq (by omega) N_0.symm
  refine ⟨⟨_, ht⟩, flush0_13 _, ?_⟩
  show _ ∈ ((View.whole main_v69_2).slice (win0_13.rect ⟨_, ht⟩)).set
  rw [View.set_slice_whole, Rect.mem_set_unit]
  have h := index13 ⟨_, ht⟩
  intro k
  match k with
  | ⟨0, _⟩ =>
    show win0_13.index ⟨_, ht⟩ 0 * 256 ≤ r.val ∧ r.val < win0_13.index ⟨_, ht⟩ 0 * 256 + 256
    rw [h]; dsimp only [Matrix.cons_val_zero]; omega
  | ⟨1, _⟩ =>
    show win0_13.index ⟨_, ht⟩ 1 * 1024 ≤ n.val ∧ n.val < win0_13.index ⟨_, ht⟩ 1 * 1024 + 1024
    rw [h]; dsimp only [Matrix.cons_val_one, Matrix.cons_val_zero]; omega

/-- The queries after the run, -/
theorem final11 : (dats m 0 c).arrAt 11 cfg0.N = result11 m c :=
  (dats m 0 c).arrAt_eq_of_cover 11 (result11 m c) (fun t _ => flushed11_eq m c t) cover11

/-- the keys, -/
theorem final12 : (dats m 0 c).arrAt 12 cfg0.N = result12 m c :=
  (dats m 0 c).arrAt_eq_of_cover 12 (result12 m c) (fun t _ => flushed12_eq m c t) cover12

/-- and the values. -/
theorem final13 : (dats m 0 c).arrAt 13 cfg0.N = result13 m c :=
  (dats m 0 c).arrAt_eq_of_cover 13 (result13 m c) (fun t _ => flushed13_eq m c t) cover13

end Cert.MlaProjIdeal.Projection

end
-- ==== Proof.MlaProjReference.lean ====
/-
  What the reference of the latent attention layers' projection computes: the same three arrays.
-/
module

public import proofs.«01_k».proof.Proof.MlaProjFinal
public import proofs.«01_k».proof.Proof.Gen.MlaProjRefIdeal.Run
public import Idealize.ShloMosaic.Lib.Claim

@[expose] public section

set_option maxRecDepth 16384

noncomputable section

namespace Cert.MlaProjRefIdeal.Projection

open Idealize.SL.Sem Cert.MlaProjRefIdeal Cert.MlaProjRefIdeal.Gen Cert.MlaProjRefIdeal.Value Cert.Proj.Narrow Cert.Attn Idealize.ShloMosaic Idealize.ShloMosaic.TcCoe
open Cert.Proj (other scale normed modulated contextTokens contextTokens_apply latentTokens latentTokens_apply)
open Cert.MlaProjIdeal.Projection (queryAll pairAll sharedAll)

variable (V : Valuation τ sig (Elt Ideal))

/-! ## The arguments -/

abbrev argX : FVec Ideal S17408x1024 .f32 := V (Proc.devRef .tc main_arg0)
abbrev argM : FVec Ideal S48x1x1024 .f32 := V (Proc.devRef .tc main_arg1)
abbrev argG : FVec Ideal S1024 .f32 := V (Proc.devRef .tc main_arg2)
abbrev argWq : FVec Ideal S1024x512 .f32 := V (Proc.devRef .tc main_arg3)
abbrev argGq : FVec Ideal S512 .f32 := V (Proc.devRef .tc main_arg4)
abbrev argVq : FVec Ideal S512x1536 .f32 := V (Proc.devRef .tc main_arg5)
abbrev argWk : FVec Ideal S1024x320 .f32 := V (Proc.devRef .tc main_arg6)
abbrev argGk : FVec Ideal S256 .f32 := V (Proc.devRef .tc main_arg7)
abbrev argVk : FVec Ideal S256x2048 .f32 := V (Proc.devRef .tc main_arg8)

/-! ## The columns -/

/-- The columns of a token's queries, -/
abbrev queryAt (b : Fin 4) (r : Fin 4352) : Fin 1536 → EReal := queryAll (argX V) (argM V) (argG V) (argWq V) (argGq V) (argVq V) b r

/-- of its plain keys and values, -/
abbrev pairAt (b : Fin 4) (r : Fin 4352) : Fin 2048 → EReal := pairAll (argX V) (argM V) (argG V) (argWk V) (argGk V) (argVk V) b r

/-- and of its shared keys. -/
abbrev sharedAt (b : Fin 4) (r : Fin 4352) : Fin 64 → EReal := sharedAll (argX V) (argM V) (argG V) (argWk V) b r

theorem context_tokens : res_main_v53 V = contextTokens (argX V) (argM V) (argG V) := rfl
theorem latent_tokens : res_main_v27 V = latentTokens (argX V) (argM V) (argG V) := rfl

/-! ## The columns of context tokens -/

theorem context_first_query (b : Fin 4) (r : Fin 256) (j : Fin 512) : (res_main_v73 V (ix3 b r j) : EReal)
    = column (argX V) (argM V) (argG V) (argWq V) b ⟨r.val, by omega⟩ j := by
  unfold res_main_v73
  rw [context_tokens]
  pointwise
  simp only [contextTokens_apply]
  rfl

theorem context_first_pair (b : Fin 4) (r : Fin 256) (j : Fin 320) : (res_main_v54 V (ix3 b r j) : EReal)
    = column (argX V) (argM V) (argG V) (argWk V) b ⟨r.val, by omega⟩ j := by
  unfold res_main_v54
  rw [context_tokens]
  pointwise
  simp only [contextTokens_apply]
  rfl

theorem context_low (b : Fin 4) (r : Fin 256) (j : Fin 256) : (res_main_v57 V (ix3 b r j) : EReal)
    = column (argX V) (argM V) (argG V) (argWk V) b ⟨r.val, by omega⟩ ⟨j.val, by omega⟩ := by
  unfold res_main_v57
  pointwise
  rw [context_first_pair]

theorem context_shared (b : Fin 4) (r : Fin 256) (o : Fin 1) (d : Fin 64) : (res_main_v56 V (ix4 b r o d) : EReal)
    = sharedAt V b ⟨r.val, by omega⟩ d := by
  unfold res_main_v56
  pointwise
  rw [context_first_pair]
  rfl

theorem context_query (b : Fin 4) (r : Fin 256) (h : Fin 8) (d : Fin 192) : (res_main_v88 V (ix4 b r h d) : EReal)
    = queryAt V b ⟨r.val, by omega⟩ ⟨192 * h.val + d.val, by omega⟩ := by
  unfold res_main_v88
  pointwise
  simp only [context_first_query]
  refine Eq.trans ?_ (congrArg (queryAt V b ⟨r.val, by omega⟩) (Fin.ext (congrArg (· + d.val) (Nat.mul_comm _ _)) : (⟨h.val * 192 + d.val, by omega⟩ : Fin 1536) = _))
  rfl

theorem context_query_tail (b : Fin 4) (r : Fin 256) (h : Fin 8) (d : Fin 64) : (res_main_v89 V (ix4 b r h d) : EReal)
    = queryAt V b ⟨r.val, by omega⟩ ⟨192 * h.val + 128 + d.val, by omega⟩ := by
  unfold res_main_v89
  pointwise
  rw [context_query]
  exact congrArg (queryAt V b _) (Fin.ext (Nat.add_assoc _ _ _).symm)

theorem context_pair (b : Fin 4) (r : Fin 256) (h : Fin 8) (d : Fin 256) : (res_main_v72 V (ix4 b r h d) : EReal)
    = pairAt V b ⟨r.val, by omega⟩ ⟨256 * h.val + d.val, by omega⟩ := by
  unfold res_main_v72
  pointwise
  simp only [context_low]
  refine Eq.trans ?_ (congrArg (pairAt V b ⟨r.val, by omega⟩) (Fin.ext (congrArg (· + d.val) (Nat.mul_comm _ _)) : (⟨h.val * 256 + d.val, by omega⟩ : Fin 2048) = _))
  rfl

/-! ## The columns of latent tokens -/

theorem latent_first_query (b : Fin 4) (r : Fin 4096) (j : Fin 512) : (res_main_v136 V (ix3 b r j) : EReal)
    = column (argX V) (argM V) (argG V) (argWq V) b ⟨256 + r.val, by omega⟩ j := by
  unfold res_main_v136
  rw [latent_tokens]
  pointwise
  simp only [latentTokens_apply]
  rfl

theorem latent_first_pair (b : Fin 4) (r : Fin 4096) (j : Fin 320) : (res_main_v117 V (ix3 b r j) : EReal)
    = column (argX V) (argM V) (argG V) (argWk V) b ⟨256 + r.val, by omega⟩ j := by
  unfold res_main_v117
  rw [latent_tokens]
  pointwise
  simp only [latentTokens_apply]
  rfl

theorem latent_low (b : Fin 4) (r : Fin 4096) (j : Fin 256) : (res_main_v120 V (ix3 b r j) : EReal)
    = column (argX V) (argM V) (argG V) (argWk V) b ⟨256 + r.val, by omega⟩ ⟨j.val, by omega⟩ := by
  unfold res_main_v120
  pointwise
  rw [latent_first_pair]

theorem latent_shared (b : Fin 4) (r : Fin 4096) (o : Fin 1) (d : Fin 64) : (res_main_v119 V (ix4 b r o d) : EReal)
    = sharedAt V b ⟨256 + r.val, by omega⟩ d := by
  unfold res_main_v119
  pointwise
  rw [latent_first_pair]
  rfl

theorem latent_query (b : Fin 4) (r : Fin 4096) (h : Fin 8) (d : Fin 192) : (res_main_v151 V (ix4 b r h d) : EReal)
    = queryAt V b ⟨256 + r.val, by omega⟩ ⟨192 * h.val + d.val, by omega⟩ := by
  unfold res_main_v151
  pointwise
  simp only [latent_first_query]
  refine Eq.trans ?_ (congrArg (queryAt V b ⟨256 + r.val, by omega⟩) (Fin.ext (congrArg (· + d.val) (Nat.mul_comm _ _)) : (⟨h.val * 192 + d.val, by omega⟩ : Fin 1536) = _))
  rfl

theorem latent_query_tail (b : Fin 4) (r : Fin 4096) (h : Fin 8) (d : Fin 64) : (res_main_v152 V (ix4 b r h d) : EReal)
    = queryAt V b ⟨256 + r.val, by omega⟩ ⟨192 * h.val + 128 + d.val, by omega⟩ := by
  unfold res_main_v152
  pointwise
  rw [latent_query]
  exact congrArg (queryAt V b _) (Fin.ext (Nat.add_assoc _ _ _).symm)

theorem latent_pair (b : Fin 4) (r : Fin 4096) (h : Fin 8) (d : Fin 256) : (res_main_v135 V (ix4 b r h d) : EReal)
    = pairAt V b ⟨256 + r.val, by omega⟩ ⟨256 * h.val + d.val, by omega⟩ := by
  unfold res_main_v135
  pointwise
  simp only [latent_low]
  refine Eq.trans ?_ (congrArg (pairAt V b ⟨256 + r.val, by omega⟩) (Fin.ext (congrArg (· + d.val) (Nat.mul_comm _ _)) : (⟨h.val * 256 + d.val, by omega⟩ : Fin 2048) = _))
  rfl

theorem norm_bits : Ideal.ofBits .f32 0x43400000#32 = ((192 : ℝ) : EReal) := by
  simp [Ideal.ofBits, Ideal.ieee, ← EReal.coe_mul]
  norm_num

/-! ## The rotation of the latent tokens -/

theorem query_row_angle (r : Fin 4096) (j : Fin 16) : (res_main_v172 V (ix2 r j) : EReal) = angle (r.val / 64) j := by
  unfold res_main_v172
  pointwise
  rfl

theorem query_column_angle (r : Fin 4096) (j : Fin 16) : (res_main_v206 V (ix2 r j) : EReal) = angle (r.val % 64) j := by
  unfold res_main_v206
  pointwise
  rfl

theorem key_row_angle (r : Fin 4096) (j : Fin 16) : (res_main_v248 V (ix2 r j) : EReal) = angle (r.val / 64) j := by
  unfold res_main_v248
  pointwise
  rfl

theorem key_column_angle (r : Fin 4096) (j : Fin 16) : (res_main_v282 V (ix2 r j) : EReal) = angle (r.val % 64) j := by
  unfold res_main_v282
  pointwise
  rfl

/-- Where a lane that is not a gap and the lane of the other half come from. -/
theorem lane_cases : ∀ l : Fin 128, l.val % 64 < 32 →
    (l.val < 16 ∧ (spot l).val = l.val ∧ (spot (other l)).val = l.val + 16 ∧ l.val % 16 = l.val ∧ l.val % 64 < 16)
    ∨ (16 ≤ l.val ∧ l.val < 32 ∧ (spot l).val = l.val + 16 ∧ (spot (other l)).val = l.val + 32 ∧ l.val % 16 = l.val - 16 ∧ ¬ l.val % 64 < 16)
    ∨ (64 ≤ l.val ∧ l.val < 80 ∧ (spot l).val = l.val - 48 ∧ (spot (other l)).val = l.val - 64 ∧ l.val % 16 = l.val - 64 ∧ l.val % 64 < 16)
    ∨ (80 ≤ l.val ∧ l.val < 96 ∧ (spot l).val = l.val - 32 ∧ (spot (other l)).val = l.val - 48 ∧ l.val % 16 = l.val - 80 ∧ ¬ l.val % 64 < 16) := by
  decide +kernel

theorem along_row (r : Fin 4096) (l : Fin 128) (h : l.val % 64 < 16) : r.val / 64 = along (256 + r.val - 256) l := by
  rw [Nat.add_sub_cancel_left]; exact (if_pos h).symm

theorem along_column (r : Fin 4096) (l : Fin 128) (h : ¬ l.val % 64 < 16) : r.val % 64 = along (256 + r.val - 256) l := by
  rw [Nat.add_sub_cancel_left]; exact (if_neg h).symm

/-- The rotation of the reference, by halves and quarters of a rotated part. -/
theorem rotated_eq (u : Fin 64 → EReal) (r : Fin 4096) (d : Fin 64) (l : Fin 128) (hl : l.val % 64 < 32) (hd : d.val = (spot l).val) :
    (if h1 : d.val < 32 then
      if h2 : d.val < 16 then u ⟨d.val, by omega⟩ * Ideal.cos (angle (r.val / 64) ⟨d.val, h2⟩) - u ⟨16 + d.val, by omega⟩ * Ideal.sin (angle (r.val / 64) ⟨d.val, h2⟩)
      else u ⟨d.val - 16, by omega⟩ * Ideal.sin (angle (r.val / 64) ⟨d.val - 16, by omega⟩)
        + u ⟨16 + (d.val - 16), by omega⟩ * Ideal.cos (angle (r.val / 64) ⟨d.val - 16, by omega⟩)
    else
      if h2 : d.val - 32 < 16 then u ⟨32 + (d.val - 32), by omega⟩ * Ideal.cos (angle (r.val % 64) ⟨d.val - 32, h2⟩)
        - u ⟨32 + (16 + (d.val - 32)), by omega⟩ * Ideal.sin (angle (r.val % 64) ⟨d.val - 32, h2⟩)
      else u ⟨32 + (d.val - 32 - 16), by omega⟩ * Ideal.sin (angle (r.val % 64) ⟨d.val - 32 - 16, by omega⟩)
        + u ⟨32 + (16 + (d.val - 32 - 16)), by omega⟩ * Ideal.cos (angle (r.val % 64) ⟨d.val - 32 - 16, by omega⟩))
      = turned u ⟨256 + r.val, by omega⟩ l := by
  have key := lane_cases l hl
  rcases key with ⟨k1, k2, k3, k4, k5⟩ | ⟨k0, k1, k2, k3, k4, k5⟩ | ⟨k0, k1, k2, k3, k4, k5⟩ | ⟨k0, k1, k2, k3, k4, k5⟩
  · rw [dif_pos (show d.val < 32 by omega), dif_pos (show d.val < 16 by omega)]
    exact turned_first u _ l _ _ _ _ (by dsimp only; omega) (by omega) (along_row r l k5) (by dsimp only; omega) (by dsimp only; omega) (by dsimp only; omega)
  · rw [dif_neg (show ¬ d.val < 32 by omega), dif_pos (show d.val - 32 < 16 by omega)]
    exact turned_first u _ l _ _ _ _ (by dsimp only; omega) (by omega) (along_column r l k5) (by dsimp only; omega) (by dsimp only; omega) (by dsimp only; omega)
  · rw [dif_pos (show d.val < 32 by omega), dif_neg (show ¬ d.val < 16 by omega)]
    exact turned_second u _ l _ _ _ _ (by dsimp only; omega) (by omega) (by omega) (along_row r l k5) (by dsimp only; omega) (by dsimp only; omega) (by dsimp only; omega)
  · rw [dif_neg (show ¬ d.val < 32 by omega), dif_neg (show ¬ d.val - 32 < 16 by omega)]
    exact turned_second u _ l _ _ _ _ (by dsimp only; omega) (by omega) (by omega) (along_column r l k5) (by dsimp only; omega) (by dsimp only; omega) (by dsimp only; omega)

/-- The rotated parts of the queries of latent tokens, -/
theorem latent_query_turned (b : Fin 4) (r : Fin 4096) (h : Fin 8) (d : Fin 64) (l : Fin 128) (hl : l.val % 64 < 32) (hd : d.val = (spot l).val) :
    (res_main_v228 V (ix4 b r h d) : EReal)
      = turned (fun d => queryAt V b ⟨256 + r.val, by omega⟩ ⟨192 * h.val + 128 + d.val, by omega⟩) ⟨256 + r.val, by omega⟩ l := by
  unfold res_main_v228
  pointwise [res_main_v177, res_main_v178, res_main_v211, res_main_v212, res_main_v160, res_main_v194, res_main_v174, res_main_v176, res_main_v208, res_main_v210]
  simp only [latent_query_tail, query_row_angle, query_column_angle]
  exact rotated_eq (fun d => queryAt V b ⟨256 + r.val, by omega⟩ ⟨192 * h.val + 128 + d.val, by omega⟩) r d l hl hd

/-- and of their keys. -/
theorem latent_key_turned (b : Fin 4) (r : Fin 4096) (o : Fin 1) (d : Fin 64) (l : Fin 128) (hl : l.val % 64 < 32) (hd : d.val = (spot l).val) :
    (res_main_v304 V (ix4 b r o d) : EReal) = turned (sharedAt V b ⟨256 + r.val, by omega⟩) ⟨256 + r.val, by omega⟩ l := by
  unfold res_main_v304
  pointwise [res_main_v253, res_main_v254, res_main_v287, res_main_v288, res_main_v236, res_main_v270, res_main_v250, res_main_v252, res_main_v284, res_main_v286]
  simp only [latent_shared, key_row_angle, key_column_angle]
  exact rotated_eq (sharedAt V b ⟨256 + r.val, by omega⟩) r d l hl hd

end Cert.MlaProjRefIdeal.Projection

end
-- ==== Proof.MlaProjResults.lean ====
/-
  The three results of the reference of the latent attention layers' projection are the kernel's.
-/
module

public import proofs.«01_k».proof.Proof.MlaProjReference

@[expose] public section

set_option maxRecDepth 16384

noncomputable section

namespace Cert.MlaProjRefIdeal.Projection

open Idealize.SL.Sem Cert.MlaProjRefIdeal Cert.MlaProjRefIdeal.Gen Cert.MlaProjRefIdeal.Value Cert.Proj.Narrow Cert.Attn Idealize.ShloMosaic Idealize.ShloMosaic.TcCoe
open Cert.Proj (other scale batchOf tokenOf div_div_scale)
open Cert.MlaProjIdeal.Projection (queryLane keyLane queries keys values queryAll pairAll sharedAll)

/-! ## Rotated parts in their lanes -/

/-- The rotated parts in their lanes: of the queries of context tokens, -/
def contextTurned (a : FVec Ideal S4x256x8x64 .f32) (z : FVec Ideal S4x256x8x32 .f32) : FVec Ideal S4x256x8x128 .f32 :=
  concatenate S4x256x8x128 3
    [⟨S4x256x8x16, extractStridedSlice S4x256x8x16 ![0, 0, 0, 0] a slices_S4x256x8x64_S4x256x8x16_0_0_0_0⟩,
     ⟨S4x256x8x16, extractStridedSlice S4x256x8x16 ![0, 0, 0, 32] a slices_S4x256x8x64_S4x256x8x16_0_0_0_32⟩, ⟨S4x256x8x32, z⟩,
     ⟨S4x256x8x16, extractStridedSlice S4x256x8x16 ![0, 0, 0, 16] a slices_S4x256x8x64_S4x256x8x16_0_0_0_16⟩,
     ⟨S4x256x8x16, extractStridedSlice S4x256x8x16 ![0, 0, 0, 48] a slices_S4x256x8x64_S4x256x8x16_0_0_0_48⟩, ⟨S4x256x8x32, z⟩]
    concatenates_S4x256x8x16_S4x256x8x16_S4x256x8x32_S4x256x8x16_S4x256x8x16_S4x256x8x32_S4x256x8x128_d3

/-- of latent tokens, -/
def latentTurned (a : FVec Ideal S4x4096x8x64 .f32) (z : FVec Ideal S4x4096x8x32 .f32) : FVec Ideal S4x4096x8x128 .f32 :=
  concatenate S4x4096x8x128 3
    [⟨S4x4096x8x16, extractStridedSlice S4x4096x8x16 ![0, 0, 0, 0] a slices_S4x4096x8x64_S4x4096x8x16_0_0_0_0⟩,
     ⟨S4x4096x8x16, extractStridedSlice S4x4096x8x16 ![0, 0, 0, 32] a slices_S4x4096x8x64_S4x4096x8x16_0_0_0_32⟩, ⟨S4x4096x8x32, z⟩,
     ⟨S4x4096x8x16, extractStridedSlice S4x4096x8x16 ![0, 0, 0, 16] a slices_S4x4096x8x64_S4x4096x8x16_0_0_0_16⟩,
     ⟨S4x4096x8x16, extractStridedSlice S4x4096x8x16 ![0, 0, 0, 48] a slices_S4x4096x8x64_S4x4096x8x16_0_0_0_48⟩, ⟨S4x4096x8x32, z⟩]
    concatenates_S4x4096x8x16_S4x4096x8x16_S4x4096x8x32_S4x4096x8x16_S4x4096x8x16_S4x4096x8x32_S4x4096x8x128_d3

/-- of the keys of context tokens, -/
def contextShared (a : FVec Ideal S4x256x1x64 .f32) (z : FVec Ideal S4x256x1x32 .f32) : FVec Ideal S4x256x1x128 .f32 :=
  concatenate S4x256x1x128 3
    [⟨S4x256x1x16, extractStridedSlice S4x256x1x16 ![0, 0, 0, 0] a slices_S4x256x1x64_S4x256x1x16_0_0_0_0⟩,
     ⟨S4x256x1x16, extractStridedSlice S4x256x1x16 ![0, 0, 0, 32] a slices_S4x256x1x64_S4x256x1x16_0_0_0_32⟩, ⟨S4x256x1x32, z⟩,
     ⟨S4x256x1x16, extractStridedSlice S4x256x1x16 ![0, 0, 0, 16] a slices_S4x256x1x64_S4x256x1x16_0_0_0_16⟩,
     ⟨S4x256x1x16, extractStridedSlice S4x256x1x16 ![0, 0, 0, 48] a slices_S4x256x1x64_S4x256x1x16_0_0_0_48⟩, ⟨S4x256x1x32, z⟩]
    concatenates_S4x256x1x16_S4x256x1x16_S4x256x1x32_S4x256x1x16_S4x256x1x16_S4x256x1x32_S4x256x1x128_d3

/-- and of latent tokens. -/
def latentShared (a : FVec Ideal S4x4096x1x64 .f32) (z : FVec Ideal S4x4096x1x32 .f32) : FVec Ideal S4x4096x1x128 .f32 :=
  concatenate S4x4096x1x128 3
    [⟨S4x4096x1x16, extractStridedSlice S4x4096x1x16 ![0, 0, 0, 0] a slices_S4x4096x1x64_S4x4096x1x16_0_0_0_0⟩,
     ⟨S4x4096x1x16, extractStridedSlice S4x4096x1x16 ![0, 0, 0, 32] a slices_S4x4096x1x64_S4x4096x1x16_0_0_0_32⟩, ⟨S4x4096x1x32, z⟩,
     ⟨S4x4096x1x16, extractStridedSlice S4x4096x1x16 ![0, 0, 0, 16] a slices_S4x4096x1x64_S4x4096x1x16_0_0_0_16⟩,
     ⟨S4x4096x1x16, extractStridedSlice S4x4096x1x16 ![0, 0, 0, 48] a slices_S4x4096x1x64_S4x4096x1x16_0_0_0_48⟩, ⟨S4x4096x1x32, z⟩]
    concatenates_S4x4096x1x16_S4x4096x1x16_S4x4096x1x32_S4x4096x1x16_S4x4096x1x16_S4x4096x1x32_S4x4096x1x128_d3

theorem in_order (u : Fin 64 → EReal) (z : Fin 32 → EReal) (hz : ∀ d, z d = 0) (l : Fin 128) :
    (if h1 : l.val < 16 then u ⟨l.val, by omega⟩
    else if h2 : l.val - 16 < 16 then u ⟨32 + (l.val - 16), by omega⟩
    else if h3 : l.val - 16 - 16 < 32 then z ⟨l.val - 16 - 16, h3⟩
    else if h4 : l.val - 16 - 16 - 32 < 16 then u ⟨16 + (l.val - 16 - 16 - 32), by omega⟩
    else if h5 : l.val - 16 - 16 - 32 - 16 < 16 then u ⟨48 + (l.val - 16 - 16 - 32 - 16), by omega⟩
    else z ⟨l.val - 16 - 16 - 32 - 16 - 16, by omega⟩) = padded u l := by
  have key := lane_cases l
  unfold padded
  by_cases h : l.val % 64 < 32
  · rw [if_pos h]
    have key := key h
    split
    · exact congrArg u (Fin.ext (by dsimp only at *; omega))
    · split
      · exact congrArg u (Fin.ext (by dsimp only at *; omega))
      · split
        · exact absurd h (by omega)
        · split
          · exact congrArg u (Fin.ext (by dsimp only at *; omega))
          · split
            · exact congrArg u (Fin.ext (by dsimp only at *; omega))
            · exact absurd h (by omega)
  · rw [if_neg h, dif_neg (by omega), dif_neg (by omega)]
    split
    · exact hz _
    · rw [dif_neg (by omega), dif_neg (by omega)]
      exact hz _

theorem zero_bits : Ideal.ofBits .f32 0x00000000#32 = 0 := by
  simp [Ideal.ofBits, Ideal.ieee]

theorem zeros_v100 (V : Valuation τ sig (Elt Ideal)) (i : S4x256x8x32.Idx) : (res_main_v100 V : FVec Ideal S4x256x8x32 .f32) i = (0 : EReal) := zero_bits

theorem zeros_v315 (V : Valuation τ sig (Elt Ideal)) (i : S4x4096x8x32.Idx) : (res_main_v315 V : FVec Ideal S4x4096x8x32 .f32) i = (0 : EReal) := zero_bits

theorem zeros_v90 (V : Valuation τ sig (Elt Ideal)) (i : S4x256x1x32.Idx) : (res_main_v90 V : FVec Ideal S4x256x1x32 .f32) i = (0 : EReal) := zero_bits

theorem zeros_v305 (V : Valuation τ sig (Elt Ideal)) (i : S4x4096x1x32.Idx) : (res_main_v305 V : FVec Ideal S4x4096x1x32 .f32) i = (0 : EReal) := zero_bits

theorem contextTurned_apply (a : FVec Ideal S4x256x8x64 .f32) (z : FVec Ideal S4x256x8x32 .f32) (hz : ∀ i, (z i : EReal) = 0) (b : Fin 4) (r : Fin 256) (h : Fin 8)
    (l : Fin 128) : (contextTurned a z (ix4 b r h l) : EReal) = padded (fun d => a (ix4 b r h d)) l := by
  pointwise [contextTurned]
  exact in_order (fun d => a (ix4 b r h d)) (fun d => z (ix4 b r h d)) (fun d => hz _) l

theorem latentTurned_apply (a : FVec Ideal S4x4096x8x64 .f32) (z : FVec Ideal S4x4096x8x32 .f32) (hz : ∀ i, (z i : EReal) = 0) (b : Fin 4) (r : Fin 4096) (h : Fin 8)
    (l : Fin 128) : (latentTurned a z (ix4 b r h l) : EReal) = padded (fun d => a (ix4 b r h d)) l := by
  pointwise [latentTurned]
  exact in_order (fun d => a (ix4 b r h d)) (fun d => z (ix4 b r h d)) (fun d => hz _) l

theorem contextShared_apply (a : FVec Ideal S4x256x1x64 .f32) (z : FVec Ideal S4x256x1x32 .f32) (hz : ∀ i, (z i : EReal) = 0) (b : Fin 4) (r : Fin 256)
    (l : Fin 128) : (contextShared a z (ix4 b r 0 l) : EReal) = padded (fun d => a (ix4 b r 0 d)) l := by
  pointwise [contextShared]
  exact in_order (fun d => a (ix4 b r 0 d)) (fun d => z (ix4 b r 0 d)) (fun d => hz _) l

theorem latentShared_apply (a : FVec Ideal S4x4096x1x64 .f32) (z : FVec Ideal S4x4096x1x32 .f32) (hz : ∀ i, (z i : EReal) = 0) (b : Fin 4) (r : Fin 4096)
    (l : Fin 128) : (latentShared a z (ix4 b r 0 l) : EReal) = padded (fun d => a (ix4 b r 0 d)) l := by
  pointwise [latentShared]
  exact in_order (fun d => a (ix4 b r 0 d)) (fun d => z (ix4 b r 0 d)) (fun d => hz _) l

/-! ## The heads -/

/-- The queries of context tokens from the plain parts of their heads and the rotated ones. -/
def contextQueries (a : FVec Ideal S4x256x8x192 .f32) (e : FVec Ideal S4x256x8x64 .f32) (z : FVec Ideal S4x256x8x32 .f32) : FVec Ideal S4x256x8x256 .f32 :=
  Host.divf (Host.divf (concatenate S4x256x8x256 3
    [⟨S4x256x8x128, extractStridedSlice S4x256x8x128 ![0, 0, 0, 0] a slices_S4x256x8x192_S4x256x8x128_0_0_0_0⟩, ⟨S4x256x8x128, contextTurned e z⟩]
    concatenates_S4x256x8x128_S4x256x8x128_S4x256x8x256_d3)
    (broadcastInDim S4x256x8x256 ![] bcast_S_S4x256x8x256 (Host.sqrt (constant S_ .f32 0x43400000#32))))
    (broadcastInDim S4x256x8x256 ![] bcast_S_S4x256x8x256 (Host.log (constant S_ .f32 0x40000000#32)))

/-- Their keys. -/
def contextKeys (a : FVec Ideal S4x256x8x256 .f32) (e : FVec Ideal S4x256x1x64 .f32) (z : FVec Ideal S4x256x1x32 .f32) : FVec Ideal S4x256x8x256 .f32 :=
  concatenate S4x256x8x256 3
    [⟨S4x256x8x128, extractStridedSlice S4x256x8x128 ![0, 0, 0, 0] a slices_S4x256x8x256_S4x256x8x128_0_0_0_0⟩,
     ⟨S4x256x8x128, broadcastInDim S4x256x8x128 ![0, 1, 2, 3] bcast_S4x256x1x128_S4x256x8x128_0_1_2_3 (contextShared e z)⟩]
    concatenates_S4x256x8x128_S4x256x8x128_S4x256x8x256_d3

/-- The queries of latent tokens from the plain parts of their heads and the rotated ones. -/
def latentQueries (a : FVec Ideal S4x4096x8x192 .f32) (e : FVec Ideal S4x4096x8x64 .f32) (z : FVec Ideal S4x4096x8x32 .f32) : FVec Ideal S4x4096x8x256 .f32 :=
  Host.divf (Host.divf (concatenate S4x4096x8x256 3
    [⟨S4x4096x8x128, extractStridedSlice S4x4096x8x128 ![0, 0, 0, 0] a slices_S4x4096x8x192_S4x4096x8x128_0_0_0_0⟩, ⟨S4x4096x8x128, latentTurned e z⟩]
    concatenates_S4x4096x8x128_S4x4096x8x128_S4x4096x8x256_d3)
    (broadcastInDim S4x4096x8x256 ![] bcast_S_S4x4096x8x256 (Host.sqrt (constant S_ .f32 0x43400000#32))))
    (broadcastInDim S4x4096x8x256 ![] bcast_S_S4x4096x8x256 (Host.log (constant S_ .f32 0x40000000#32)))

/-- Their keys. -/
def latentKeys (a : FVec Ideal S4x4096x8x256 .f32) (e : FVec Ideal S4x4096x1x64 .f32) (z : FVec Ideal S4x4096x1x32 .f32) : FVec Ideal S4x4096x8x256 .f32 :=
  concatenate S4x4096x8x256 3
    [⟨S4x4096x8x128, extractStridedSlice S4x4096x8x128 ![0, 0, 0, 0] a slices_S4x4096x8x256_S4x4096x8x128_0_0_0_0⟩,
     ⟨S4x4096x8x128, broadcastInDim S4x4096x8x128 ![0, 1, 2, 3] bcast_S4x4096x1x128_S4x4096x8x128_0_1_2_3 (latentShared e z)⟩]
    concatenates_S4x4096x8x128_S4x4096x8x128_S4x4096x8x256_d3

/-! ## The results -/

/-- The queries and the keys from their heads. -/
def headsOf (a : FVec Ideal S4x256x8x256 .f32) (e : FVec Ideal S4x4096x8x256 .f32) : FVec Ideal S17408x2048 .bf16 :=
  truncf .bf16 (shapeCast _ (concatenate S4x4352x2048 1
    [⟨S4x256x2048, shapeCast S4x256x2048 (a) shapeCasts_S4x256x8x256_S4x256x2048⟩,
     ⟨S4x4096x2048, shapeCast S4x4096x2048 (e) shapeCasts_S4x4096x8x256_S4x4096x2048⟩]
    concatenates_S4x256x2048_S4x4096x2048_S4x4352x2048_d1) shapeCasts_S4x4352x2048_S17408x2048) bitsLt_bf16_f32

/-- The values from the second products. -/
def valuesOf (a : FVec Ideal S4x256x8x256 .f32) (e : FVec Ideal S4x4096x8x256 .f32) : FVec Ideal S17408x1024 .bf16 :=
  truncf .bf16 (shapeCast _ (concatenate S4x4352x1024 1
    [⟨S4x256x1024, shapeCast S4x256x1024 (extractStridedSlice S4x256x8x128 ![0, 0, 0, 128] a slices_S4x256x8x256_S4x256x8x128_0_0_0_128) shapeCasts_S4x256x8x128_S4x256x1024⟩,
     ⟨S4x4096x1024, shapeCast S4x4096x1024 (extractStridedSlice S4x4096x8x128 ![0, 0, 0, 128] e slices_S4x4096x8x256_S4x4096x8x128_0_0_0_128) shapeCasts_S4x4096x8x128_S4x4096x1024⟩]
    concatenates_S4x256x1024_S4x4096x1024_S4x4352x1024_d1) shapeCasts_S4x4352x1024_S17408x1024) bitsLt_bf16_f32

variable (V : Valuation τ sig (Elt Ideal))

/-- The queries of the reference, -/
abbrev refQueries : FVec Ideal S17408x2048 .bf16 :=
  headsOf (contextQueries (res_main_v88 V) (res_main_v89 V) (res_main_v100 V)) (latentQueries (res_main_v151 V) (res_main_v228 V) (res_main_v315 V))

/-- the keys, -/
abbrev refKeys : FVec Ideal S17408x2048 .bf16 :=
  headsOf (contextKeys (res_main_v72 V) (res_main_v56 V) (res_main_v90 V)) (latentKeys (res_main_v135 V) (res_main_v304 V) (res_main_v305 V))

/-- and the values. -/
abbrev refValues : FVec Ideal S17408x1024 .bf16 := valuesOf (res_main_v72 V) (res_main_v135 V)

/-- A rotated part of a latent token is in its lanes. -/
theorem turned_padded (u v : Fin 64 → EReal) (r : Fin 4352) (l : Fin 128) (h : ∀ d : Fin 64, l.val % 64 < 32 → d.val = (spot l).val → v d = turned u r l) :
    padded v l = turned u r l := by
  by_cases hl : l.val % 64 < 32
  · exact (if_pos hl).trans (h (spot l) hl rfl)
  · exact (if_neg hl).trans (turned_gap u r l hl).symm

/-- A lane among the lanes of the head's plain part and its rotated part. -/
theorem lane_split (h : Fin 8) (d : Fin 256) : (d.val < 128 → (256 * h.val + d.val) / 128 = 2 * h.val ∧ (256 * h.val + d.val) % 128 = d.val)
    ∧ (¬ d.val < 128 → (256 * h.val + d.val) / 128 = 2 * h.val + 1 ∧ (256 * h.val + d.val) % 128 = d.val - 128) := by
  omega

theorem queryLane_plain (q : Fin 1536 → EReal) (r : Fin 4352) (h : Fin 8) (d : Fin 256) (hd : d.val < 128) (a : Fin 16) (l : Fin 128)
    (ha : a.val = 2 * h.val) (hl : l.val = d.val) : queryLane q r a l = q ⟨192 * h.val + d.val, by omega⟩ * (scale 192 : EReal) := by
  have hh : a.val / 2 = h.val := by omega
  exact (if_pos (by omega)).trans (congrArg (fun j => q j * (scale 192 : EReal)) (Fin.ext (congrArg₂ (fun x y => 192 * x + y) hh hl)))

theorem queryLane_turned (q : Fin 1536 → EReal) (r : Fin 4352) (h : Fin 8) (a : Fin 16) (l : Fin 128)
    (ha : a.val = 2 * h.val + 1) : queryLane q r a l = turned (fun d => q ⟨192 * h.val + 128 + d.val, by omega⟩) r l * (scale 192 : EReal) := by
  have hh : a.val / 2 = h.val := by omega
  exact (if_neg (by omega)).trans (congrArg (fun u => turned u r l * (scale 192 : EReal))
    (funext fun d => congrArg q (Fin.ext (congrArg (fun x => 192 * x + 128 + d.val) hh))))

theorem keyLane_plain (p : Fin 2048 → EReal) (u : Fin 64 → EReal) (r : Fin 4352) (h : Fin 8) (d : Fin 256) (hd : d.val < 128) (a : Fin 16) (l : Fin 128)
    (ha : a.val = 2 * h.val) (hl : l.val = d.val) : keyLane p u r a l = p ⟨256 * h.val + d.val, by omega⟩ := by
  have hh : a.val / 2 = h.val := by omega
  exact (if_pos (by omega)).trans (congrArg p (Fin.ext (congrArg₂ (fun x y => 256 * x + y) hh hl)))

theorem keyLane_turned (p : Fin 2048 → EReal) (u : Fin 64 → EReal) (r : Fin 4352) (h : Fin 8) (a : Fin 16) (l : Fin 128)
    (ha : a.val = 2 * h.val + 1) : keyLane p u r a l = turned u r l :=
  if_neg (by omega)

/-- The lanes of the queries of context tokens, -/
theorem contextQueries_apply (b : Fin 4) (r : Fin 256) (h : Fin 8) (d : Fin 256) (a : Fin 16) (l : Fin 128)
    (ha : a.val = (256 * h.val + d.val) / 128) (hl : l.val = (256 * h.val + d.val) % 128) :
    (contextQueries (res_main_v88 V) (res_main_v89 V) (res_main_v100 V) (ix4 b r h d) : EReal) = queryLane (queryAt V b ⟨r.val, by omega⟩) ⟨r.val, by omega⟩ a l := by
  obtain ⟨h1, h2⟩ := lane_split h d
  pointwise [contextQueries]
  refine (div_div_scale 0x43400000#32 192 norm_bits (by norm_num) _).trans ?_
  split
  · rename_i hd
    rw [queryLane_plain _ _ h d hd a l (ha.trans (h1 hd).1) (hl.trans (h1 hd).2), context_query]
  · rename_i hd
    rw [queryLane_turned _ _ h a l (ha.trans (h2 hd).1)]
    refine congrArg (· * (scale 192 : EReal)) ?_
    rw [show (⟨d.val - 128, by omega⟩ : Fin 128) = l from Fin.ext (hl.trans (h2 hd).2).symm]
    rw [contextTurned_apply _ _ (zeros_v100 V)]
    rw [funext fun e => context_query_tail V b r h e]
    exact (turned_context (fun e => queryAt V b ⟨r.val, by omega⟩ ⟨192 * h.val + 128 + e.val, by omega⟩) ⟨r.val, by omega⟩ _ r.isLt).symm

/-- and of their keys. -/
theorem contextKeys_apply (b : Fin 4) (r : Fin 256) (h : Fin 8) (d : Fin 256) (a : Fin 16) (l : Fin 128)
    (ha : a.val = (256 * h.val + d.val) / 128) (hl : l.val = (256 * h.val + d.val) % 128) :
    (contextKeys (res_main_v72 V) (res_main_v56 V) (res_main_v90 V) (ix4 b r h d) : EReal)
      = keyLane (pairAt V b ⟨r.val, by omega⟩) (sharedAt V b ⟨r.val, by omega⟩) ⟨r.val, by omega⟩ a l := by
  obtain ⟨h1, h2⟩ := lane_split h d
  pointwise [contextKeys]
  split
  · rename_i hd
    rw [keyLane_plain _ _ _ h d hd a l (ha.trans (h1 hd).1) (hl.trans (h1 hd).2), context_pair]
  · rename_i hd
    rw [keyLane_turned _ _ _ h a l (ha.trans (h2 hd).1)]
    rw [show (⟨d.val - 128, by omega⟩ : Fin 128) = l from Fin.ext (hl.trans (h2 hd).2).symm]
    rw [contextShared_apply _ _ (zeros_v90 V)]
    rw [funext fun e => context_shared V b r _ e]
    exact (turned_context (sharedAt V b ⟨r.val, by omega⟩) ⟨r.val, by omega⟩ _ r.isLt).symm

/-- The lanes of the queries of latent tokens, -/
theorem latentQueries_apply (b : Fin 4) (r : Fin 4096) (h : Fin 8) (d : Fin 256) (a : Fin 16) (l : Fin 128)
    (ha : a.val = (256 * h.val + d.val) / 128) (hl : l.val = (256 * h.val + d.val) % 128) :
    (latentQueries (res_main_v151 V) (res_main_v228 V) (res_main_v315 V) (ix4 b r h d) : EReal) = queryLane (queryAt V b ⟨256 + r.val, by omega⟩) ⟨256 + r.val, by omega⟩ a l := by
  obtain ⟨h1, h2⟩ := lane_split h d
  pointwise [latentQueries]
  refine (div_div_scale 0x43400000#32 192 norm_bits (by norm_num) _).trans ?_
  split
  · rename_i hd
    rw [queryLane_plain _ _ h d hd a l (ha.trans (h1 hd).1) (hl.trans (h1 hd).2), latent_query]
  · rename_i hd
    rw [queryLane_turned _ _ h a l (ha.trans (h2 hd).1)]
    refine congrArg (· * (scale 192 : EReal)) ?_
    rw [show (⟨d.val - 128, by omega⟩ : Fin 128) = l from Fin.ext (hl.trans (h2 hd).2).symm]
    rw [latentTurned_apply _ _ (zeros_v315 V)]
    exact turned_padded _ _ _ _ fun e hl he => latent_query_turned V b r h e _ hl he

/-- and of their keys. -/
theorem latentKeys_apply (b : Fin 4) (r : Fin 4096) (h : Fin 8) (d : Fin 256) (a : Fin 16) (l : Fin 128)
    (ha : a.val = (256 * h.val + d.val) / 128) (hl : l.val = (256 * h.val + d.val) % 128) :
    (latentKeys (res_main_v135 V) (res_main_v304 V) (res_main_v305 V) (ix4 b r h d) : EReal)
      = keyLane (pairAt V b ⟨256 + r.val, by omega⟩) (sharedAt V b ⟨256 + r.val, by omega⟩) ⟨256 + r.val, by omega⟩ a l := by
  obtain ⟨h1, h2⟩ := lane_split h d
  pointwise [latentKeys]
  split
  · rename_i hd
    rw [keyLane_plain _ _ _ h d hd a l (ha.trans (h1 hd).1) (hl.trans (h1 hd).2), latent_pair]
  · rename_i hd
    rw [keyLane_turned _ _ _ h a l (ha.trans (h2 hd).1)]
    rw [show (⟨d.val - 128, by omega⟩ : Fin 128) = l from Fin.ext (hl.trans (h2 hd).2).symm]
    rw [latentShared_apply _ _ (zeros_v305 V)]
    exact turned_padded _ _ _ _ fun e hl he => latent_key_turned V b r _ e _ hl he

/-- A token of a batch is a row of the array of all tokens. -/
theorem query_row_eq (t : Fin 17408) (b : Fin 4) (r : Fin 4352) (a : Fin 16) (l : Fin 128) (hb : b.val = t.val / 4352) (hr : r.val = t.val % 4352) :
    queryLane (queryAt V b r) r a l = queryLane (queryAt V (batchOf t) (tokenOf t)) (tokenOf t) a l := by
  obtain rfl : b = batchOf t := Fin.ext hb
  obtain rfl : r = tokenOf t := Fin.ext hr
  rfl

theorem key_row_eq (t : Fin 17408) (b : Fin 4) (r : Fin 4352) (a : Fin 16) (l : Fin 128) (hb : b.val = t.val / 4352) (hr : r.val = t.val % 4352) :
    keyLane (pairAt V b r) (sharedAt V b r) r a l = keyLane (pairAt V (batchOf t) (tokenOf t)) (sharedAt V (batchOf t) (tokenOf t)) (tokenOf t) a l := by
  obtain rfl : b = batchOf t := Fin.ext hb
  obtain rfl : r = tokenOf t := Fin.ext hr
  rfl

theorem value_row_eq (t : Fin 17408) (b : Fin 4) (r : Fin 4352) (n n' : Fin 2048) (hb : b.val = t.val / 4352) (hr : r.val = t.val % 4352)
    (hn : n.val = n'.val) : pairAt V b r n = pairAt V (batchOf t) (tokenOf t) n' := by
  obtain rfl : b = batchOf t := Fin.ext hb
  obtain rfl : r = tokenOf t := Fin.ext hr
  obtain rfl := Fin.ext hn
  rfl

theorem refQueries_eq : refQueries V = queries (argX V) (argM V) (argG V) (argWq V) (argGq V) (argVq V) := by
  funext i
  idx_vars i
  pointwise [headsOf]
  split
  · refine (contextQueries_apply V _ _ _ _ ⟨i1.val / 128, by omega⟩ ⟨i1.val % 128, by omega⟩ ?_ ?_).trans (query_row_eq V i0 _ _ _ _ rfl rfl)
    · dsimp only; omega
    · dsimp only; omega
  · refine (latentQueries_apply V _ _ _ _ ⟨i1.val / 128, by omega⟩ ⟨i1.val % 128, by omega⟩ ?_ ?_).trans (query_row_eq V i0 _ _ _ _ rfl ?_)
    · dsimp only; omega
    · dsimp only; omega
    · dsimp only; omega

theorem refKeys_eq : refKeys V = keys (argX V) (argM V) (argG V) (argWk V) (argGk V) (argVk V) := by
  funext i
  idx_vars i
  pointwise [headsOf]
  split
  · refine (contextKeys_apply V _ _ _ _ ⟨i1.val / 128, by omega⟩ ⟨i1.val % 128, by omega⟩ ?_ ?_).trans (key_row_eq V i0 _ _ _ _ rfl rfl)
    · dsimp only; omega
    · dsimp only; omega
  · refine (latentKeys_apply V _ _ _ _ ⟨i1.val / 128, by omega⟩ ⟨i1.val % 128, by omega⟩ ?_ ?_).trans (key_row_eq V i0 _ _ _ _ rfl ?_)
    · dsimp only; omega
    · dsimp only; omega
    · dsimp only; omega

theorem refValues_eq : refValues V = values (argX V) (argM V) (argG V) (argWk V) (argGk V) (argVk V) := by
  funext i
  idx_vars i
  pointwise [valuesOf]
  split
  · refine (context_pair V _ _ _ _).trans (value_row_eq V i0 _ _ _ _ rfl rfl ?_)
    show _ = 256 * (i1.val / 128) + 128 + i1.val % 128
    dsimp only
    omega
  · refine (latent_pair V _ _ _ _).trans (value_row_eq V i0 _ _ _ _ rfl ?_ ?_)
    · dsimp only; omega
    · show _ = 256 * (i1.val / 128) + 128 + i1.val % 128
      dsimp only
      omega

end Cert.MlaProjRefIdeal.Projection

end
-- ==== Proof.MlaProjClaim.lean ====
/-
  The claims about the latent attention layers' projection: the reference's frame, and kernel and reference equal.
-/
module

public import proofs.«01_k».proof.Defs
public import proofs.«01_k».proof.Proof.MlaProjFinal
public import proofs.«01_k».proof.Proof.MlaProjResults
public import Idealize.ShloMosaic.Adequacy

@[expose] public section

set_option maxRecDepth 16384

noncomputable section

namespace Cert.MlaProjIdeal.Projection

open Idealize.ShloMosaic Idealize.ShloMosaic.TcCoe Idealize.SL.Sem Idealize.ShloMosaic.StableHlo Cert.MlaProjIdeal Cert.MlaProjIdeal.Gen

/-- The reference terminates, keeps its arguments, and leaves every counter at zero. -/
theorem reference_frame : quiescent_MlaProjRefIdeal := fun m ρ _ =>
  (θ_run Cert.MlaProjRefIdeal.defs _ _).mono (fun r h => ⟨fun c => (h c).2.2.2, sem_eq_zero_of_no_sems (by decide) r.2⟩)
    (Cert.MlaProjRefIdeal.Value.run (F := Ideal) m ρ)

section Results

variable (m : (ℓ : Loc nD τ sig) → Buf (Elt Ideal) ℓ)
  (m' : (ℓ : Loc Cert.MlaProjRefIdeal.nD Cert.MlaProjRefIdeal.τ Cert.MlaProjRefIdeal.sig) → Buf (Elt Ideal) ℓ) (c : Dev nD)
  (h0 : m' (c.tc.loc Cert.MlaProjRefIdeal.main_arg0) = m (c.tc.loc main_arg0))
  (h1 : m' (c.tc.loc Cert.MlaProjRefIdeal.main_arg1) = m (c.tc.loc main_arg1))
  (h2 : m' (c.tc.loc Cert.MlaProjRefIdeal.main_arg2) = m (c.tc.loc main_arg2))
  (h3 : m' (c.tc.loc Cert.MlaProjRefIdeal.main_arg3) = m (c.tc.loc main_arg3))
  (h4 : m' (c.tc.loc Cert.MlaProjRefIdeal.main_arg4) = m (c.tc.loc main_arg4))
  (h5 : m' (c.tc.loc Cert.MlaProjRefIdeal.main_arg5) = m (c.tc.loc main_arg5))
  (h6 : m' (c.tc.loc Cert.MlaProjRefIdeal.main_arg6) = m (c.tc.loc main_arg6))
  (h7 : m' (c.tc.loc Cert.MlaProjRefIdeal.main_arg7) = m (c.tc.loc main_arg7))
  (h8 : m' (c.tc.loc Cert.MlaProjRefIdeal.main_arg8) = m (c.tc.loc main_arg8))

include h0 h1 h2

include h3 h4 h5 in
/-- From equal arguments the reference's queries are the kernel's, -/
theorem reference_result11 : Cert.MlaProjRefIdeal.Projection.refQueries (launchContents m' c) = result11 m c := by
  refine (Cert.MlaProjRefIdeal.Projection.refQueries_eq (launchContents m' c)).trans ?_
  show queries (m' (c.tc.loc Cert.MlaProjRefIdeal.main_arg0)) (m' (c.tc.loc Cert.MlaProjRefIdeal.main_arg1)) (m' (c.tc.loc Cert.MlaProjRefIdeal.main_arg2))
    (m' (c.tc.loc Cert.MlaProjRefIdeal.main_arg3)) (m' (c.tc.loc Cert.MlaProjRefIdeal.main_arg4)) (m' (c.tc.loc Cert.MlaProjRefIdeal.main_arg5)) = _
  rw [h0, h1, h2, h3, h4, h5]

include h6 h7 h8 in
/-- its keys are, -/
theorem reference_result12 : Cert.MlaProjRefIdeal.Projection.refKeys (launchContents m' c) = result12 m c := by
  refine (Cert.MlaProjRefIdeal.Projection.refKeys_eq (launchContents m' c)).trans ?_
  show keys (m' (c.tc.loc Cert.MlaProjRefIdeal.main_arg0)) (m' (c.tc.loc Cert.MlaProjRefIdeal.main_arg1)) (m' (c.tc.loc Cert.MlaProjRefIdeal.main_arg2))
    (m' (c.tc.loc Cert.MlaProjRefIdeal.main_arg6)) (m' (c.tc.loc Cert.MlaProjRefIdeal.main_arg7)) (m' (c.tc.loc Cert.MlaProjRefIdeal.main_arg8)) = _
  rw [h0, h1, h2, h6, h7, h8]

include h6 h7 h8 in
/-- and its values are. -/
theorem reference_result13 : Cert.MlaProjRefIdeal.Projection.refValues (launchContents m' c) = result13 m c := by
  refine (Cert.MlaProjRefIdeal.Projection.refValues_eq (launchContents m' c)).trans ?_
  show values (m' (c.tc.loc Cert.MlaProjRefIdeal.main_arg0)) (m' (c.tc.loc Cert.MlaProjRefIdeal.main_arg1)) (m' (c.tc.loc Cert.MlaProjRefIdeal.main_arg2))
    (m' (c.tc.loc Cert.MlaProjRefIdeal.main_arg6)) (m' (c.tc.loc Cert.MlaProjRefIdeal.main_arg7)) (m' (c.tc.loc Cert.MlaProjRefIdeal.main_arg8)) = _
  rw [h0, h1, h2, h6, h7, h8]

end Results

/-- Kernel and reference compute the same three arrays from any arguments. -/
theorem kernel_eq_reference : algebraic_MlaProjIdeal_MlaProjRefIdeal :=
  fun m ρ m' ρ' _ hag =>
  ⟨fun c => result11 m c, fun c => result12 m c, fun c => result13 m c,
    (θ_run _ _ _).mono (fun _ h c => ⟨(h c).1.trans (final11 m c), (h c).2.1.trans (final12 m c), (h c).2.2.1.trans (final13 m c), (h c).2.2.2⟩)
      (Value.run_blocks m ρ),
    (θ_run _ _ _).mono (fun _ h c =>
        ⟨(h c).1.trans (reference_result11 m m' c (hag c).1 (hag c).2.1 (hag c).2.2.1 (hag c).2.2.2.1 (hag c).2.2.2.2.1 (hag c).2.2.2.2.2.1),
        (h c).2.1.trans (reference_result12 m m' c (hag c).1 (hag c).2.1 (hag c).2.2.1 (hag c).2.2.2.2.2.2.1 (hag c).2.2.2.2.2.2.2.1 (hag c).2.2.2.2.2.2.2.2),
        (h c).2.2.1.trans (reference_result13 m m' c (hag c).1 (hag c).2.1 (hag c).2.2.1 (hag c).2.2.2.2.2.2.1 (hag c).2.2.2.2.2.2.2.1 (hag c).2.2.2.2.2.2.2.2), (h c).2.2.2⟩)
      (Cert.MlaProjRefIdeal.Value.run (F := Ideal) m' ρ')⟩

end Cert.MlaProjIdeal.Projection

end
-- ==== Proof.lean ====
module

public import proofs.«01_k».proof.Proof.Gen.ConvIdeal.Value
public import proofs.«01_k».proof.Proof.Gen.GqaProjIdeal.Value
public import proofs.«01_k».proof.Proof.Gen.GqaProjRefIdeal.Run
public import proofs.«01_k».proof.Proof.Gen.ConvRefIdeal.Run
public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.MlaIdeal.Value
public import proofs.«01_k».proof.Proof.Gen.GqaIdeal.Value
public import proofs.«01_k».proof.Proof.Gen.MlaRefIdeal.Run
public import proofs.«01_k».proof.Proof.Gen.GqaRefIdeal.Run
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.MlaClaim
public import proofs.«01_k».proof.Proof.GqaClaim
public import proofs.«01_k».proof.Proof.Gen.Conv.Frame
public import proofs.«01_k».proof.Proof.ConvClaim
public import proofs.«01_k».proof.Proof.Gen.GqaProj.Frame
public import proofs.«01_k».proof.Proof.Gen.MlaProj.Frame
public import proofs.«01_k».proof.Proof.Gen.MlaProjIdeal.Value
public import proofs.«01_k».proof.Proof.Gen.MlaProjRefIdeal.Run
public import proofs.«01_k».proof.Proof.GqaProjClaim
public import proofs.«01_k».proof.Proof.MlaProjClaim
public import Idealize.ShloMosaic.Adequacy
public import Idealize.ShloMosaic.Init

@[expose] public section

noncomputable section

namespace Cert.Proof

open Idealize.ShloMosaic Idealize.SL.Sem Cert.Mla

theorem claim : Cert.Claim :=
  ⟨Cert.Mla.Gen.facts, Cert.MlaIdeal.Gen.facts, Cert.MlaRefIdeal.Gen.facts, Cert.Gqa.Gen.facts, Cert.GqaIdeal.Gen.facts,
    Cert.GqaRefIdeal.Gen.facts, Cert.Conv.Gen.facts, Cert.ConvIdeal.Gen.facts, Cert.ConvRefIdeal.Gen.facts,
    Cert.GqaProj.Gen.facts, Cert.GqaProjIdeal.Gen.facts, Cert.GqaProjRefIdeal.Gen.facts,
    Cert.MlaProj.Gen.facts, Cert.MlaProjIdeal.Gen.facts, Cert.MlaProjRefIdeal.Gen.facts,
    Cert.MlaIdeal.Attention.finite_facts, Cert.GqaIdeal.Attention.finite_facts,
    fun m ρ _ => Cert.Mla.Gen.frame m ρ, fun m ρ _ => Cert.MlaIdeal.Gen.frame m ρ, fun m ρ _ => Cert.MlaIdeal.Gen.frame m ρ,
    Cert.MlaIdeal.Attention.reference_frame, fun m ρ _ => Cert.MlaIdeal.Attention.reference_frame m ρ trivial,
    fun m ρ _ => Cert.Gqa.Gen.frame m ρ, fun m ρ _ => Cert.GqaIdeal.Gen.frame m ρ, fun m ρ _ => Cert.GqaIdeal.Gen.frame m ρ,
    Cert.GqaIdeal.Attention.reference_frame, fun m ρ _ => Cert.GqaIdeal.Attention.reference_frame m ρ trivial,
    fun m ρ _ => Cert.Conv.Gen.frame m ρ, fun m ρ _ => Cert.ConvIdeal.Gen.frame m ρ, Cert.ConvIdeal.Projection.reference_frame,
    fun m ρ _ => Cert.GqaProj.Gen.frame m ρ, fun m ρ _ => Cert.GqaProjIdeal.Gen.frame m ρ, Cert.GqaProjIdeal.Projection.reference_frame,
    fun m ρ _ => Cert.MlaProj.Gen.frame m ρ, fun m ρ _ => Cert.MlaProjIdeal.Gen.frame m ρ, Cert.MlaProjIdeal.Projection.reference_frame,
    trivial, Cert.MlaIdeal.Attention.kernel_eq_reference, trivial, Cert.GqaIdeal.Attention.kernel_eq_reference,
    trivial, Cert.ConvIdeal.Projection.kernel_eq_reference,
    IdealRules.named_const.statement Cert.GqaProjIdeal.κ "scale" .f32 0x3E0293EE#32 _ rfl, Cert.GqaProjIdeal.Projection.kernel_eq_reference,
    IdealRules.named_const.statement Cert.MlaProjIdeal.κ "scale" .f32 0x3DD53B95#32 _ rfl, Cert.MlaProjIdeal.Projection.kernel_eq_reference⟩

end Cert.Proof

end
